-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 [hPre_planned : Cert.Pre_planned.Facts] (m : (ℓ : Loc Cert.Kernel2.nD Cert.Kernel2.τ Cert.Kernel2.sig) → Buf (Elt Bits) ℓ) : Prop :=
  ∀ c : Dev Cert.Kernel2.nD,
    (Cert.Pre_planned.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6)) (m ((c.tc : Thread Cert.Kernel2.nD Cert.Kernel2.τ).loc Cert.Kernel2.main_arg7)) (m ((c.tc : Thread Cert.Kernel2.nD Cert.Kernel2.τ).loc Cert.Kernel2.main_arg8))) = (fun _ => 1#1)

def Pre_Kernel2Ideal [hPre_planned : Cert.Pre_planned.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_planned.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_planned [hPre_planned : Cert.Pre_planned.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_planned.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] [hPre_planned : Cert.Pre_planned.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] [hPre_planned : Cert.Pre_planned.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Reference2Ideal_pre_planned [hReference2Ideal : Cert.Reference2Ideal.Facts] [hPre_planned : Cert.Pre_planned.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_planned m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def preserves_Kernel_KernelIdeal : Prop :=
  IdealRules.named_const.Statement Cert.KernelIdeal.κ "chunk_decay0" .f32 0x3C8CC36A#32 ((78396524673059168935135267129777069613296345595630703725521524943634535507969383755197623356051954795321353669855221370862828507625207993636119503453243704432660074542086103959358842624471041 / 4562440617622195218641171605700291324893228507248559930579192517899275167208677386505912811317371399778642309573594407310688704721375437998252661319722214188251994674360264950082874192246603776 : ℝ) : EReal)
  ∧ IdealRules.named_const.Statement Cert.KernelIdeal.κ "chunk_decay1" .f32 0x3E08698E#32 ((206818950539439974611426494768646509052450548467862700447621795740222426769977288960977743464810862855020740953892191788741654107464722037227942902092362014238569158361477328071348684792194146041516068394618902177421160615463608321 / 1552518092300708935148979488462502555256886017116696611139052038026050952686376886330878408828646477950487730697131073206171580044114814391444287275041181139204454976020849905550265285631598444825262999193716468750892846853816057856 : ℝ) : EReal)
  ∧ IdealRules.named_const.Statement Cert.KernelIdeal.κ "log_gamma0" .f32 0xBD020AEC#32 ((Real.log (31 / 32) : ℝ) : EReal)
  ∧ IdealRules.named_const.Statement Cert.KernelIdeal.κ "log_gamma1" .f32 0xBC8102B3#32 ((Real.log (63 / 64) : ℝ) : EReal)
  ∧ IdealRules.named_const.Statement Cert.KernelIdeal.κ "chunk_decay2" .f32 0x3EBB9DB9#32 ((193587041323456767073378744577144446238302802122755626265377701497888780029664683420821685794909561110112747584183810952248255320179325448240268888426074358932225073573129703527667374571068332710586954198407984961320402885440313498999562662298934347135846335745400750081 / 528294531135665246352339784916516606518847326036121522127960709026673902556724859474417255887657187894674394993257128678882347559502685537250538978462939576908386683999005084168731517676426441053024232908211188404148028292751561738838396898767036476489538580897737998336 : ℝ) : EReal)
  ∧ IdealRules.named_const.Statement Cert.KernelIdeal.κ "chunk_decay3" .f32 0x3F1B1EB1#32 ((108928894366787909538482854136354399894027807047938726384754988597771177118744824750036685260233948099017113922415252234011703451806056104642801051378500851854629730635169211674367174308372494347446246524392175556695189741637351359098122801357656299133935250096489309214187191088285544537939131259918212890625 / 179769313486231590772930519078902473361797697894230657273430081157732675805500963132708477322407536021120113879871393357658789768814416622492847430639474124377767893424865485276302219601246094119453082952085005768838150682342462881473913110540827237163350510684586298239947245938479716304835356329624224137216 : ℝ) : EReal)
  ∧ IdealRules.named_const.Statement Cert.KernelIdeal.κ "log_gamma2" .f32 0xBC0080AC#32 ((Real.log (127 / 128) : ℝ) : EReal)
  ∧ IdealRules.named_const.Statement Cert.KernelIdeal.κ "log_gamma3" .f32 0xBB80402B#32 ((Real.log (255 / 256) : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] [hPre_planned : Cert.Pre_planned.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v26) = v0 c
          ∧ r.2.mem ((c.tc : Thread Cert.Reference2Ideal.nD Cert.Reference2Ideal.τ).loc Cert.Reference2Ideal.main_v29) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v25) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v33) = v0 c
          ∧ r.2.mem ((c.tc : Thread Cert.Reference4Ideal.nD Cert.Reference4Ideal.τ).loc Cert.Reference4Ideal.main_v36) = v1 c
          ∧ r.2.mem ((c.tc : Thread Cert.Reference4Ideal.nD Cert.Reference4Ideal.τ).loc Cert.Reference4Ideal.main_v39) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v13) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  IdealRules.named_const.Statement Cert.Kernel6Ideal.κ "log_freq" .f32 0xBE935D8E#32 (((-(Real.log 10000)) * (1 / 32) : ℝ) : EReal)

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)) →
    ∃ (v0 : (c : Dev Cert.Kernel6Ideal.nD) → Buf (Elt Ideal) ((c.tc : Thread Cert.Kernel6Ideal.nD Cert.Kernel6Ideal.τ).loc Cert.Kernel6Ideal.main_v1_0)) (v1 : (c : Dev Cert.Kernel6Ideal.nD) → Buf (Elt Ideal) ((c.tc : Thread Cert.Kernel6Ideal.nD Cert.Kernel6Ideal.τ).loc Cert.Kernel6Ideal.main_v1_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1_0) = v0 c
          ∧ r.2.mem ((c.tc : Thread Cert.Kernel6Ideal.nD Cert.Kernel6Ideal.τ).loc Cert.Kernel6Ideal.main_v1_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v14) = v0 c
          ∧ r.2.mem ((c.tc : Thread Cert.Reference6Ideal.nD Cert.Reference6Ideal.τ).loc Cert.Reference6Ideal.main_v16) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_planned : Cert.Pre_planned.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2) (hPre_planned := hPre_planned)
    ∧ quiescent_Kernel2Ideal (hKernel2Ideal := hKernel2Ideal) (hPre_planned := hPre_planned)
    ∧ quiescent_Reference2Ideal (hReference2Ideal := hReference2Ideal)
    ∧ quiescent_Reference2Ideal_pre_planned (hReference2Ideal := hReference2Ideal) (hPre_planned := hPre_planned)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal) (hPre_planned := hPre_planned)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_planned.lean ====
abbrev S96 : Shape := ⟨1, ![96]⟩
abbrev S49152x8x128 : Shape := ⟨3, ![49152, 8, 128]⟩
abbrev S4x32x2048x1024 : Shape := ⟨4, ![4, 32, 2048, 1024]⟩
abbrev S4x32x1x512 : Shape := ⟨4, ![4, 32, 1, 512]⟩
abbrev S4x32x512x2048 : Shape := ⟨4, ![4, 32, 512, 2048]⟩
abbrev S4x32x1x2048 : Shape := ⟨4, ![4, 32, 1, 2048]⟩
abbrev S_ : Shape := ⟨0, ![]⟩
abbrev S95 : Shape := ⟨1, ![95]⟩
abbrev S1 : Shape := ⟨1, ![1]⟩

class Facts : Prop where
  bcast_S_S96 : S_.BroadcastsInDim S96 (![] : Fin 0 → Fin S96.rank)
  slices_S96_S95_1 : S96.Slices ![1] S95
  slices_S96_S95_0 : S96.Slices ![0] S95
  reducesTo_S96_S_d0 : S96.ReducesTo [0] S_
  h_S_ : 0 < S_.numel
  slices_S96_S1_0 : S96.Slices ![0] S1
  shapeCasts_S1_S_ : S1.ShapeCasts S_
  reducesTo_S95_S_d0 : S95.ReducesTo [0] S_

variable [Facts]

def fn_part1 {F : FTy → Type} [FloatOps F] (main_arg0 : IVec S96 32) (main_v3 : IVec S96 1) (main_v7 : IVec S96 1) (main_v12 : IVec S96 1) (main_v16 : IVec S95 1) (main_v17 : IVec S95 1) : IVec S_ 1 :=
  let main_v18 : IVec S95 32 := (extractStridedSlice S95 ![1] · slices_S96_S95_1) main_arg0
  let main_v19 : IVec S95 32 := (extractStridedSlice S95 ![0] · slices_S96_S95_0) main_arg0
  let main_v20 : IVec S95 1 := cmpi .eq main_v18 main_v19
  let main_v21 : IVec S95 1 := andi main_v17 main_v20
  let main_c_5 : IVec S_ 1 := constantI S_ 1 1#1
  let main_v22 : IVec S_ 1 := (fun x v => Host.reduce IntOp.andi x v reducesTo_S96_S_d0 h_S_) main_v12 main_c_5
  let main_v23 : IVec S1 1 := (extractStridedSlice S1 ![0] · slices_S96_S1_0) main_v7
  let main_v24 : IVec S_ 1 := shapeCast S_ main_v23 shapeCasts_S1_S_
  let main_v25 : IVec S1 1 := (extractStridedSlice S1 ![0] · slices_S96_S1_0) main_v3
  let main_v26 : IVec S_ 1 := shapeCast S_ main_v25 shapeCasts_S1_S_
  let main_v27 : IVec S_ 1 := noti main_v26
  let main_v28 : IVec S_ 1 := ori main_v24 main_v27
  let main_v29 : IVec S_ 1 := andi main_v22 main_v28
  let main_v30 : IVec S95 1 := ori main_v16 main_v21
  let main_c_6 : IVec S_ 1 := constantI S_ 1 1#1
  let main_v31 : IVec S_ 1 := (fun x v => Host.reduce IntOp.andi x v reducesTo_S95_S_d0 h_S_) main_v30 main_c_6
  let main_v32 : IVec S_ 1 := andi main_v29 main_v31
  main_v32

def fn {F : FTy → Type} [FloatOps F] (main_arg0 : IVec S96 32) (main_arg1 : IVec S96 32) (main_arg2 : FVec F S49152x8x128 .bf16) (main_arg3 : FVec F S49152x8x128 .bf16) (main_arg4 : FVec F S4x32x2048x1024 .f32) (main_arg5 : FVec F S4x32x1x512 .f32) (main_arg6 : FVec F S4x32x1x512 .f32) (main_arg7 : FVec F S4x32x512x2048 .f32) (main_arg8 : FVec F S4x32x1x2048 .f32) : IVec S_ 1 :=
  let main_c : IVec S_ 32 := constantI S_ 32 1#32
  let main_v0 : IVec S96 32 := broadcastInDim S96 ![] bcast_S_S96 main_c
  let main_v1 : IVec S96 32 := andi main_arg1 main_v0
  let main_c_0 : IVec S_ 32 := constantI S_ 32 0#32
  let main_v2 : IVec S96 32 := broadcastInDim S96 ![] bcast_S_S96 main_c_0
  let main_v3 : IVec S96 1 := cmpi .ne main_v1 main_v2
  let main_c_1 : IVec S_ 32 := constantI S_ 32 2#32
  let main_v4 : IVec S96 32 := broadcastInDim S96 ![] bcast_S_S96 main_c_1
  let main_v5 : IVec S96 32 := andi main_arg1 main_v4
  let main_c_2 : IVec S_ 32 := constantI S_ 32 0#32
  let main_v6 : IVec S96 32 := broadcastInDim S96 ![] bcast_S_S96 main_c_2
  let main_v7 : IVec S96 1 := cmpi .ne main_v5 main_v6
  let main_c_3 : IVec S_ 32 := constantI S_ 32 0#32
  let main_v8 : IVec S96 32 := broadcastInDim S96 ![] bcast_S_S96 main_c_3
  let main_v9 : IVec S96 1 := cmpi .sge main_arg0 main_v8
  let main_c_4 : IVec S_ 32 := constantI S_ 32 32#32
  let main_v10 : IVec S96 32 := broadcastInDim S96 ![] bcast_S_S96 main_c_4
  let main_v11 : IVec S96 1 := cmpi .slt main_arg0 main_v10
  let main_v12 : IVec S96 1 := andi main_v9 main_v11
  let main_v13 : IVec S95 1 := (extractStridedSlice S95 ![1] · slices_S96_S95_1) main_v7
  let main_v14 : IVec S95 1 := (extractStridedSlice S95 ![1] · slices_S96_S95_1) main_v3
  let main_v15 : IVec S95 1 := noti main_v14
  let main_v16 : IVec S95 1 := ori main_v13 main_v15
  let main_v17 : IVec S95 1 := (extractStridedSlice S95 ![0] · slices_S96_S95_0) main_v3
  fn_part1 (F := F) main_arg0 main_v3 main_v7 main_v12 main_v16 main_v17
-- ==== Kernel.lean ====
abbrev S8192x6144 : Shape := ⟨2, ![8192, 6144]⟩
abbrev S8192x256 : Shape := ⟨2, ![8192, 256]⟩
abbrev S8192x512 : Shape := ⟨2, ![8192, 512]⟩
abbrev S128x1536 : Shape := ⟨2, ![128, 1536]⟩
abbrev S128x256 : Shape := ⟨2, ![128, 256]⟩
abbrev S128x512 : Shape := ⟨2, ![128, 512]⟩
abbrev S2x128x128 : Shape := ⟨3, ![2, 128, 128]⟩
abbrev S128x128 : Shape := ⟨2, ![128, 128]⟩
abbrev S1x128x128 : Shape := ⟨3, ![1, 128, 128]⟩
abbrev S128 : Shape := ⟨1, ![128]⟩
abbrev S128x1 : Shape := ⟨2, ![128, 1]⟩

abbrev nBuf : Space → Nat
  | .hbm => 4
  | .vmem => 9
  | .smem => 0
  | _ => 0

abbrev bufTy : (tb : Table) → Fin (tcTables nBuf tb) → BufTy
  | .hbm, ⟨0, _⟩ => ⟨S8192x6144, .f32⟩
  | .hbm, ⟨1, _⟩ => ⟨S8192x256, .f32⟩
  | .hbm, ⟨2, _⟩ => ⟨S8192x256, .f32⟩
  | .hbm, ⟨3, _⟩ => ⟨S8192x512, .bf16⟩
  | .local _ .vmem, ⟨0, _⟩ => ⟨S128x1536, .f32⟩
  | .local _ .vmem, ⟨1, _⟩ => ⟨S128x1536, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x512, .bf16⟩
  | .local _ .vmem, ⟨7, _⟩ => ⟨S128x512, .bf16⟩
  | .local _ .vmem, ⟨8, _⟩ => ⟨S2x128x128, .f32⟩
  | _, _ => ⟨S8192x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c3_i32 : BitVec 32 := 3#32
  let c0_i32 : BitVec 32 := 0#32
  ![v1.toNat, c3_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "chunk_decay0" => some ((78396524673059168935135267129777069613296345595630703725521524943634535507969383755197623356051954795321353669855221370862828507625207993636119503453243704432660074542086103959358842624471041 / 4562440617622195218641171605700291324893228507248559930579192517899275167208677386505912811317371399778642309573594407310688704721375437998252661319722214188251994674360264950082874192246603776 : ℝ) : EReal)
  | "chunk_decay1" => some ((206818950539439974611426494768646509052450548467862700447621795740222426769977288960977743464810862855020740953892191788741654107464722037227942902092362014238569158361477328071348684792194146041516068394618902177421160615463608321 / 1552518092300708935148979488462502555256886017116696611139052038026050952686376886330878408828646477950487730697131073206171580044114814391444287275041181139204454976020849905550265285631598444825262999193716468750892846853816057856 : ℝ) : EReal)
  | "chunk_decay2" => some ((193587041323456767073378744577144446238302802122755626265377701497888780029664683420821685794909561110112747584183810952248255320179325448240268888426074358932225073573129703527667374571068332710586954198407984961320402885440313498999562662298934347135846335745400750081 / 528294531135665246352339784916516606518847326036121522127960709026673902556724859474417255887657187894674394993257128678882347559502685537250538978462939576908386683999005084168731517676426441053024232908211188404148028292751561738838396898767036476489538580897737998336 : ℝ) : EReal)
  | "chunk_decay3" => some ((108928894366787909538482854136354399894027807047938726384754988597771177118744824750036685260233948099017113922415252234011703451806056104642801051378500851854629730635169211674367174308372494347446246524392175556695189741637351359098122801357656299133935250096489309214187191088285544537939131259918212890625 / 179769313486231590772930519078902473361797697894230657273430081157732675805500963132708477322407536021120113879871393357658789768814416622492847430639474124377767893424865485276302219601246094119453082952085005768838150682342462881473913110540827237163350510684586298239947245938479716304835356329624224137216 : ℝ) : EReal)
  | "log_gamma0" => some ((Real.log (31 / 32) : ℝ) : EReal)
  | "log_gamma1" => some ((Real.log (63 / 64) : ℝ) : EReal)
  | "log_gamma2" => some ((Real.log (127 / 128) : ℝ) : EReal)
  | "log_gamma3" => some ((Real.log (255 / 256) : ℝ) : EReal)
  | _ => none
-- ==== ReferenceIdeal.lean ====
abbrev S8192x6144 : Shape := ⟨2, ![8192, 6144]⟩
abbrev S8192x256 : Shape := ⟨2, ![8192, 256]⟩
abbrev S8192x1536 : Shape := ⟨2, ![8192, 1536]⟩
abbrev S2x4096x1536 : Shape := ⟨3, ![2, 4096, 1536]⟩
abbrev S2x4096x256 : Shape := ⟨3, ![2, 4096, 256]⟩
abbrev S2x4096x4x64 : Shape := ⟨4, ![2, 4096, 4, 64]⟩
abbrev S2x4096x4x32 : Shape := ⟨4, ![2, 4096, 4, 32]⟩
abbrev S_ : Shape := ⟨0, ![]⟩
abbrev S2x4096x512 : Shape := ⟨3, ![2, 4096, 512]⟩
abbrev S2x4096x4x128 : Shape := ⟨4, ![2, 4096, 4, 128]⟩
abbrev S4 : Shape := ⟨1, ![4]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S4x1x1 : Shape := ⟨3, ![4, 1, 1]⟩
abbrev S4x128x128 : Shape := ⟨3, ![4, 128, 128]⟩
abbrev S4x1 : Shape := ⟨2, ![4, 1]⟩
abbrev S4x128 : Shape := ⟨2, ![4, 128]⟩
abbrev S2x4x64x128 : Shape := ⟨4, ![2, 4, 64, 128]⟩
abbrev S2x32x128x4x64 : Shape := ⟨5, ![2, 32, 128, 4, 64]⟩
abbrev S32x2x4x128x64 : Shape := ⟨5, ![32, 2, 4, 128, 64]⟩
abbrev S2x32x128x4x128 : Shape := ⟨5, ![2, 32, 128, 4, 128]⟩
abbrev S32x2x4x128x128 : Shape := ⟨5, ![32, 2, 4, 128, 128]⟩
abbrev S1x2x4x128x64 : Shape := ⟨5, ![1, 2, 4, 128, 64]⟩
abbrev S2x4x128x64 : Shape := ⟨4, ![2, 4, 128, 64]⟩
abbrev S1x2x4x128x128 : Shape := ⟨5, ![1, 2, 4, 128, 128]⟩
abbrev S2x4x128x128 : Shape := ⟨4, ![2, 4, 128, 128]⟩
abbrev S1x4x128x128 : Shape := ⟨4, ![1, 4, 128, 128]⟩
abbrev S4x128x1 : Shape := ⟨3, ![4, 128, 1]⟩
abbrev S1x4x128x1 : Shape := ⟨4, ![1, 4, 128, 1]⟩
abbrev S1x4x1x1 : Shape := ⟨4, ![1, 4, 1, 1]⟩
abbrev S2x4096x4 : Shape := ⟨3, ![2, 4096, 4]⟩
abbrev S2x4096x4x1 : Shape := ⟨4, ![2, 4096, 4, 1]⟩
abbrev S8192x512 : Shape := ⟨2, ![8192, 512]⟩

abbrev nBuf : Space → Nat
  | .hbm => 185
  | .vmem => 0
  | .smem => 0
  | _ => 0

abbrev hbmTy0_0 (i : Nat) : BufTy := match i % 128 with
  | 0 => ⟨S8192x6144, .f32⟩
  | 1 => ⟨S8192x256, .f32⟩
  | 2 => ⟨S8192x256, .f32⟩
  | 3 => ⟨S8192x1536, .f32⟩
  | 4 => ⟨S2x4096x1536, .f32⟩
  | 5 => ⟨S2x4096x256, .f32⟩
  | 6 => ⟨S2x4096x4x64, .f32⟩
  | 7 => ⟨S2x4096x4x64, .f32⟩
  | 8 => ⟨S2x4096x4x64, .f32⟩
  | 9 => ⟨S2x4096x4x64, .f32⟩
  | 10 => ⟨S2x4096x4x32, .f32⟩
  | 11 => ⟨S2x4096x4x32, .f32⟩
  | 12 => ⟨S2x4096x4x64, .f32⟩
  | 13 => ⟨S2x4096x4x64, .f32⟩
  | 14 => ⟨S2x4096x4x64, .f32⟩
  | 15 => ⟨S2x4096x256, .f32⟩
  | 16 => ⟨S2x4096x4x64, .f32⟩
  | 17 => ⟨S2x4096x4x64, .f32⟩
  | 18 => ⟨S2x4096x4x64, .f32⟩
  | 19 => ⟨S2x4096x4x64, .f32⟩
  | 20 => ⟨S2x4096x4x32, .f32⟩
  | 21 => ⟨S2x4096x4x32, .f32⟩
  | 22 => ⟨S2x4096x4x64, .f32⟩
  | 23 => ⟨S2x4096x4x64, .f32⟩
  | 24 => ⟨S2x4096x4x64, .f32⟩
  | 25 => ⟨S_, .f32⟩
  | 26 => ⟨S2x4096x4x64, .f32⟩
  | 27 => ⟨S2x4096x4x64, .f32⟩
  | 28 => ⟨S2x4096x512, .f32⟩
  | 29 => ⟨S2x4096x4x128, .f32⟩
  | 30 => ⟨S4, .f32⟩
  | 31 => ⟨S_, .f32⟩
  | 32 => ⟨S4, .f32⟩
  | 33 => ⟨S4, .f32⟩
  | 34 => ⟨S_, .f32⟩
  | 35 => ⟨S4, .f32⟩
  | 36 => ⟨S4, .f32⟩
  | 37 => ⟨S4, .f32⟩
  | 38 => ⟨S4, .f32⟩
  | 39 => ⟨S128, .f32⟩
  | 40 => ⟨S128x1, .f32⟩
  | 41 => ⟨S1x128, .f32⟩
  | 42 => ⟨S128x128, .f32⟩
  | 43 => ⟨S128x128, .f32⟩
  | 44 => ⟨S128x128, .f32⟩
  | 45 => ⟨S_, .f32⟩
  | 46 => ⟨S128x128, .f32⟩
  | 47 => ⟨S128x128, .i1⟩
  | 48 => ⟨S_, .f32⟩
  | 49 => ⟨S_, .f32⟩
  | 50 => ⟨S128x128, .f32⟩
  | 51 => ⟨S128x128, .f32⟩
  | 52 => ⟨S1x128x128, .f32⟩
  | 53 => ⟨S4x1x1, .f32⟩
  | 54 => ⟨S4x128x128, .f32⟩
  | 55 => ⟨S4x128x128, .f32⟩
  | 56 => ⟨S4x128x128, .f32⟩
  | 57 => ⟨S4x128x128, .f32⟩
  | 58 => ⟨S_, .f32⟩
  | 59 => ⟨S_, .f32⟩
  | 60 => ⟨S4x128x128, .i1⟩
  | 61 => ⟨S4x128x128, .f32⟩
  | 62 => ⟨S4x128x128, .f32⟩
  | 63 => ⟨S_, .f32⟩
  | 64 => ⟨S128, .f32⟩
  | 65 => ⟨S128, .f32⟩
  | 66 => ⟨S1x128, .f32⟩
  | 67 => ⟨S4x1, .f32⟩
  | 68 => ⟨S4x128, .f32⟩
  | 69 => ⟨S4x128, .f32⟩
  | 70 => ⟨S4x128, .f32⟩
  | 71 => ⟨S4x128, .f32⟩
  | 72 => ⟨S_, .f32⟩
  | 73 => ⟨S128, .f32⟩
  | 74 => ⟨S128, .f32⟩
  | 75 => ⟨S1x128, .f32⟩
  | 76 => ⟨S4x1, .f32⟩
  | 77 => ⟨S4x128, .f32⟩
  | 78 => ⟨S4x128, .f32⟩
  | 79 => ⟨S4x128, .f32⟩
  | 80 => ⟨S4x128, .f32⟩
  | 81 => ⟨S_, .f32⟩
  | 82 => ⟨S4, .f32⟩
  | 83 => ⟨S4, .f32⟩
  | 84 => ⟨S4, .f32⟩
  | 85 => ⟨S_, .f32⟩
  | 86 => ⟨S2x4x64x128, .f32⟩
  | 87 => ⟨S2x32x128x4x64, .f32⟩
  | 88 => ⟨S32x2x4x128x64, .f32⟩
  | 89 => ⟨S2x32x128x4x64, .f32⟩
  | 90 => ⟨S32x2x4x128x64, .f32⟩
  | 91 => ⟨S2x32x128x4x128, .f32⟩
  | 92 => ⟨S32x2x4x128x128, .f32⟩
  | 93 => ⟨S_, .f32⟩
  | 94 => ⟨S32x2x4x128x128, .f32⟩
  | 95 => ⟨S_, .i32⟩
  | 96 => ⟨S32x2x4x128x64, .f32⟩
  | 97 => ⟨S32x2x4x128x64, .f32⟩
  | 98 => ⟨S32x2x4x128x128, .f32⟩
  | 99 => ⟨S4x128x128, .f32⟩
  | 100 => ⟨S4x128, .f32⟩
  | 101 => ⟨S4, .f32⟩
  | 102 => ⟨S4x128, .f32⟩
  | 103 => ⟨S_, .i32⟩
  | 104 => ⟨S2x4x64x128, .f32⟩
  | 105 => ⟨S32x2x4x128x128, .f32⟩
  | 106 => ⟨S_, .i32⟩
  | 107 => ⟨S_, .i1⟩
  | 108 => ⟨S_, .i32⟩
  | 109 => ⟨S_, .i32⟩
  | 110 => ⟨S_, .i32⟩
  | 111 => ⟨S_, .i32⟩
  | 112 => ⟨S1x2x4x128x64, .f32⟩
  | 113 => ⟨S2x4x128x64, .f32⟩
  | 114 => ⟨S_, .i32⟩
  | 115 => ⟨S_, .i32⟩
  | 116 => ⟨S_, .i32⟩
  | 117 => ⟨S_, .i32⟩
  | 118 => ⟨S1x2x4x128x64, .f32⟩
  | 119 => ⟨S2x4x128x64, .f32⟩
  | 120 => ⟨S_, .i32⟩
  | 121 => ⟨S_, .i32⟩
  | 122 => ⟨S_, .i32⟩
  | 123 => ⟨S_, .i32⟩
  | 124 => ⟨S1x2x4x128x128, .f32⟩
  | 125 => ⟨S2x4x128x128, .f32⟩
  | 126 => ⟨S2x4x128x128, .f32⟩
  | 127 => ⟨S1x4x128x128, .f32⟩
  | _ => ⟨S8192x6144, .f32⟩

abbrev hbmTy0_1 (i : Nat) : BufTy := match i % 128 with
  | 0 => ⟨S2x4x128x128, .f32⟩
  | 1 => ⟨S2x4x128x128, .f32⟩
  | 2 => ⟨S2x4x128x128, .f32⟩
  | 3 => ⟨S2x4x128x128, .f32⟩
  | 4 => ⟨S4x128x1, .f32⟩
  | 5 => ⟨S1x4x128x1, .f32⟩
  | 6 => ⟨S2x4x128x128, .f32⟩
  | 7 => ⟨S2x4x128x128, .f32⟩
  | 8 => ⟨S2x4x128x128, .f32⟩
  | 9 => ⟨S4x1x1, .f32⟩
  | 10 => ⟨S1x4x1x1, .f32⟩
  | 11 => ⟨S2x4x64x128, .f32⟩
  | 12 => ⟨S2x4x64x128, .f32⟩
  | 13 => ⟨S4x128x1, .f32⟩
  | 14 => ⟨S1x4x128x1, .f32⟩
  | 15 => ⟨S2x4x128x64, .f32⟩
  | 16 => ⟨S2x4x128x64, .f32⟩
  | 17 => ⟨S2x4x64x128, .f32⟩
  | 18 => ⟨S2x4x64x128, .f32⟩
  | 19 => ⟨S1x2x4x128x128, .f32⟩
  | 20 => ⟨S_, .i32⟩
  | 21 => ⟨S_, .i32⟩
  | 22 => ⟨S_, .i32⟩
  | 23 => ⟨S_, .i32⟩
  | 24 => ⟨S32x2x4x128x128, .f32⟩
  | 25 => ⟨S_, .i32⟩
  | 26 => ⟨S_, .i32⟩
  | 27 => ⟨S2x32x128x4x128, .f32⟩
  | 28 => ⟨S2x4096x4x128, .f32⟩
  | 29 => ⟨S2x4096x4x128, .f32⟩
  | 30 => ⟨S_, .f32⟩
  | 31 => ⟨S2x4096x4, .f32⟩
  | 32 => ⟨S2x4096x4x1, .f32⟩
  | 33 => ⟨S_, .f32⟩
  | 34 => ⟨S2x4096x4x1, .f32⟩
  | 35 => ⟨S2x4096x4x1, .f32⟩
  | 36 => ⟨S_, .f32⟩
  | 37 => ⟨S2x4096x4x1, .f32⟩
  | 38 => ⟨S2x4096x4x1, .f32⟩
  | 39 => ⟨S2x4096x4x1, .f32⟩
  | 40 => ⟨S2x4096x4x128, .f32⟩
  | 41 => ⟨S2x4096x4x128, .f32⟩
  | 42 => ⟨S8192x512, .f32⟩
  | 43 => ⟨S2x4096x512, .f32⟩
  | 44 => ⟨S2x4096x512, .f32⟩
  | 45 => ⟨S2x4096x512, .f32⟩
  | 46 => ⟨S_, .f32⟩
  | 47 => ⟨S2x4096x512, .f32⟩
  | 48 => ⟨S2x4096x512, .f32⟩
  | 49 => ⟨S_, .f32⟩
  | 50 => ⟨S2x4096x512, .f32⟩
  | 51 => ⟨S2x4096x512, .f32⟩
  | 52 => ⟨S2x4096x512, .f32⟩
  | 53 => ⟨S2x4096x512, .f32⟩
  | 54 => ⟨S2x4096x512, .f32⟩
  | 55 => ⟨S8192x512, .f32⟩
  | 56 => ⟨S8192x512, .bf16⟩
  | _ => ⟨S8192x6144, .f32⟩

abbrev hbmTy (i : Nat) : BufTy := match i / 128 with
  | 0 => hbmTy0_0 i
  | 1 => hbmTy0_1 i
  | _ => ⟨S8192x6144, .f32⟩

abbrev bufTy : (tb : Table) → Fin (tcTables nBuf tb) → BufTy
  | .hbm, ⟨i, _⟩ => hbmTy i
  | _, _ => ⟨S8192x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_cst : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_cst_0 : Ref sig .tc := ⟨.hbm, 31, rfl⟩
abbrev main_v27 : Ref sig .tc := ⟨.hbm, 32, rfl⟩
abbrev main_v28 : Ref sig .tc := ⟨.hbm, 33, rfl⟩
abbrev main_cst_1 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_cst_2 : Ref sig .tc := ⟨.hbm, 45, rfl⟩
abbrev main_v39 : Ref sig .tc := ⟨.hbm, 46, rfl⟩
abbrev main_v40 : Ref sig .tc := ⟨.hbm, 47, rfl⟩
abbrev main_cst_3 : Ref sig .tc := ⟨.hbm, 48, rfl⟩
abbrev main_call0_v0 : Ref sig .tc := ⟨.hbm, 49, rfl⟩
abbrev main_call0_v1 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_cst_4 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_v48 : Ref sig .tc := ⟨.hbm, 62, rfl⟩
abbrev main_cst_5 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst_6 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_cst_7 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_cst_8 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_cst_9 : Ref sig .tc := ⟨.hbm, 93, rfl⟩
abbrev main_v75 : Ref sig .tc := ⟨.hbm, 94, rfl⟩
abbrev main_c : Ref sig .tc := ⟨.hbm, 95, rfl⟩
abbrev main_v76_0 : Ref sig .tc := ⟨.hbm, 96, rfl⟩
abbrev main_v76_1 : Ref sig .tc := ⟨.hbm, 97, rfl⟩
abbrev main_v76_2 : Ref sig .tc := ⟨.hbm, 98, rfl⟩
abbrev main_v76_3 : Ref sig .tc := ⟨.hbm, 99, rfl⟩
abbrev main_v76_4 : Ref sig .tc := ⟨.hbm, 100, rfl⟩
abbrev main_v76_5 : Ref sig .tc := ⟨.hbm, 101, rfl⟩
abbrev main_v76_6 : Ref sig .tc := ⟨.hbm, 102, rfl⟩
abbrev main_v76_7 : Ref sig .tc := ⟨.hbm, 103, rfl⟩
abbrev main_v76_8 : Ref sig .tc := ⟨.hbm, 104, rfl⟩
abbrev main_v76_9 : Ref sig .tc := ⟨.hbm, 105, rfl⟩
abbrev main_while0c_c_22 : Ref sig .tc := ⟨.hbm, 106, rfl⟩
abbrev main_while0c_v96 : Ref sig .tc := ⟨.hbm, 107, rfl⟩
abbrev main_while0b_call2_c : Ref sig .tc := ⟨.hbm, 108, rfl⟩
abbrev main_while0b_call2_c_0 : Ref sig .tc := ⟨.hbm, 109, rfl⟩
abbrev main_while0b_call2_c_1 : Ref sig .tc := ⟨.hbm, 110, rfl⟩
abbrev main_while0b_call2_c_2 : Ref sig .tc := ⟨.hbm, 111, rfl⟩
abbrev main_while0b_call2_v0 : Ref sig .tc := ⟨.hbm, 112, rfl⟩
abbrev main_while0b_v96 : Ref sig .tc := ⟨.hbm, 113, rfl⟩
abbrev main_while0b_call3_c : Ref sig .tc := ⟨.hbm, 114, rfl⟩
abbrev main_while0b_call3_c_0 : Ref sig .tc := ⟨.hbm, 115, rfl⟩
abbrev main_while0b_call3_c_1 : Ref sig .tc := ⟨.hbm, 116, rfl⟩
abbrev main_while0b_call3_c_2 : Ref sig .tc := ⟨.hbm, 117, rfl⟩
abbrev main_while0b_call3_v0 : Ref sig .tc := ⟨.hbm, 118, rfl⟩
abbrev main_while0b_v97 : Ref sig .tc := ⟨.hbm, 119, rfl⟩
abbrev main_while0b_call4_c : Ref sig .tc := ⟨.hbm, 120, rfl⟩
abbrev main_while0b_call4_c_0 : Ref sig .tc := ⟨.hbm, 121, rfl⟩
abbrev main_while0b_call4_c_1 : Ref sig .tc := ⟨.hbm, 122, rfl⟩
abbrev main_while0b_call4_c_2 : Ref sig .tc := ⟨.hbm, 123, rfl⟩
abbrev main_while0b_call4_v0 : Ref sig .tc := ⟨.hbm, 124, rfl⟩
abbrev main_while0b_v98 : Ref sig .tc := ⟨.hbm, 125, rfl⟩
abbrev main_while0b_v99 : Ref sig .tc := ⟨.hbm, 126, rfl⟩
abbrev main_while0b_v100 : Ref sig .tc := ⟨.hbm, 127, rfl⟩
abbrev main_while0b_v101 : Ref sig .tc := ⟨.hbm, 128, rfl⟩
abbrev main_while0b_v102 : Ref sig .tc := ⟨.hbm, 129, rfl⟩
abbrev main_while0b_v103 : Ref sig .tc := ⟨.hbm, 130, rfl⟩
abbrev main_while0b_v104 : Ref sig .tc := ⟨.hbm, 131, rfl⟩
abbrev main_while0b_v105 : Ref sig .tc := ⟨.hbm, 132, rfl⟩
abbrev main_while0b_v106 : Ref sig .tc := ⟨.hbm, 133, rfl⟩
abbrev main_while0b_v107 : Ref sig .tc := ⟨.hbm, 134, rfl⟩
abbrev main_while0b_v108 : Ref sig .tc := ⟨.hbm, 135, rfl⟩
abbrev main_while0b_v109 : Ref sig .tc := ⟨.hbm, 136, rfl⟩
abbrev main_while0b_v110 : Ref sig .tc := ⟨.hbm, 137, rfl⟩
abbrev main_while0b_v111 : Ref sig .tc := ⟨.hbm, 138, rfl⟩
abbrev main_while0b_v112 : Ref sig .tc := ⟨.hbm, 139, rfl⟩
abbrev main_while0b_v113 : Ref sig .tc := ⟨.hbm, 140, rfl⟩
abbrev main_while0b_v114 : Ref sig .tc := ⟨.hbm, 141, rfl⟩
abbrev main_while0b_v115 : Ref sig .tc := ⟨.hbm, 142, rfl⟩
abbrev main_while0b_v116 : Ref sig .tc := ⟨.hbm, 143, rfl⟩
abbrev main_while0b_v117 : Ref sig .tc := ⟨.hbm, 144, rfl⟩
abbrev main_while0b_v118 : Ref sig .tc := ⟨.hbm, 145, rfl⟩
abbrev main_while0b_v119 : Ref sig .tc := ⟨.hbm, 146, rfl⟩
abbrev main_while0b_call5_v0 : Ref sig .tc := ⟨.hbm, 147, rfl⟩
abbrev main_while0b_call5_c : Ref sig .tc := ⟨.hbm, 148, rfl⟩
abbrev main_while0b_call5_c_0 : Ref sig .tc := ⟨.hbm, 149, rfl⟩
abbrev main_while0b_call5_c_1 : Ref sig .tc := ⟨.hbm, 150, rfl⟩
abbrev main_while0b_call5_c_2 : Ref sig .tc := ⟨.hbm, 151, rfl⟩
abbrev main_while0b_v120 : Ref sig .tc := ⟨.hbm, 152, rfl⟩
abbrev main_while0b_c_22 : Ref sig .tc := ⟨.hbm, 153, rfl⟩
abbrev main_while0b_v121 : Ref sig .tc := ⟨.hbm, 154, rfl⟩
abbrev main_v77 : Ref sig .tc := ⟨.hbm, 155, rfl⟩
abbrev main_v78 : Ref sig .tc := ⟨.hbm, 156, rfl⟩
abbrev main_v79 : Ref sig .tc := ⟨.hbm, 157, rfl⟩
abbrev main_cst_10 : Ref sig .tc := ⟨.hbm, 158, rfl⟩
abbrev main_v80 : Ref sig .tc := ⟨.hbm, 159, rfl⟩
abbrev main_v81 : Ref sig .tc := ⟨.hbm, 160, rfl⟩
abbrev main_cst_11 : Ref sig .tc := ⟨.hbm, 161, rfl⟩
abbrev main_v82 : Ref sig .tc := ⟨.hbm, 162, rfl⟩
abbrev main_v83 : Ref sig .tc := ⟨.hbm, 163, rfl⟩
abbrev main_cst_12 : Ref sig .tc := ⟨.hbm, 164, rfl⟩
abbrev main_v84 : Ref sig .tc := ⟨.hbm, 165, rfl⟩
abbrev main_v85 : Ref sig .tc := ⟨.hbm, 166, rfl⟩
abbrev main_v86 : Ref sig .tc := ⟨.hbm, 167, rfl⟩
abbrev main_v87 : Ref sig .tc := ⟨.hbm, 168, rfl⟩
abbrev main_v88 : Ref sig .tc := ⟨.hbm, 169, rfl⟩
abbrev main_v89 : Ref sig .tc := ⟨.hbm, 170, rfl⟩
abbrev main_v90 : Ref sig .tc := ⟨.hbm, 171, rfl⟩
abbrev main_call6_v0 : Ref sig .tc := ⟨.hbm, 172, rfl⟩
abbrev main_call6_v1 : Ref sig .tc := ⟨.hbm, 173, rfl⟩
abbrev main_call6_cst : Ref sig .tc := ⟨.hbm, 174, rfl⟩
abbrev main_call6_v2 : Ref sig .tc := ⟨.hbm, 175, rfl⟩
abbrev main_call6_v3 : Ref sig .tc := ⟨.hbm, 176, rfl⟩
abbrev main_call6_cst_0 : Ref sig .tc := ⟨.hbm, 177, rfl⟩
abbrev main_call6_v4 : Ref sig .tc := ⟨.hbm, 178, rfl⟩
abbrev main_call6_v5 : Ref sig .tc := ⟨.hbm, 179, rfl⟩
abbrev main_v91 : Ref sig .tc := ⟨.hbm, 180, rfl⟩
abbrev main_v92 : Ref sig .tc := ⟨.hbm, 181, rfl⟩
abbrev main_v93 : Ref sig .tc := ⟨.hbm, 182, rfl⟩
abbrev main_v94 : Ref sig .tc := ⟨.hbm, 183, rfl⟩
abbrev main_v95 : Ref sig .tc := ⟨.hbm, 184, rfl⟩

abbrev nD : Nat := 1
abbrev τ : Topo := Topo.v7x

variable {F : FTy → Type} [FloatOps F]

abbrev main_while0_count : Scf.Loop 32 := ⟨0#32, 32#32, 1#32⟩
-- ==== Kernel2.lean ====
abbrev S96 : Shape := ⟨1, ![96]⟩
abbrev S49152x8x128 : Shape := ⟨3, ![49152, 8, 128]⟩
abbrev S4x32x2048x1024 : Shape := ⟨4, ![4, 32, 2048, 1024]⟩
abbrev S4x32x1x512 : Shape := ⟨4, ![4, 32, 1, 512]⟩
abbrev S4x32x512x2048 : Shape := ⟨4, ![4, 32, 512, 2048]⟩
abbrev S4x32x1x2048 : Shape := ⟨4, ![4, 32, 1, 2048]⟩
abbrev S512x8x128 : Shape := ⟨3, ![512, 8, 128]⟩
abbrev S1x1x2048x1024 : Shape := ⟨4, ![1, 1, 2048, 1024]⟩
abbrev S1 : Shape := ⟨1, ![1]⟩
abbrev S1x1x1x512 : Shape := ⟨4, ![1, 1, 1, 512]⟩
abbrev S1x1x512x2048 : Shape := ⟨4, ![1, 1, 512, 2048]⟩
abbrev S1x1x1x2048 : Shape := ⟨4, ![1, 1, 1, 2048]⟩
abbrev S2048x512 : Shape := ⟨2, ![2048, 512]⟩
abbrev S512x2048 : Shape := ⟨2, ![512, 2048]⟩
abbrev S256x256 : Shape := ⟨2, ![256, 256]⟩
abbrev S1x1x2048x256 : Shape := ⟨4, ![1, 1, 2048, 256]⟩
abbrev S2048x256 : Shape := ⟨2, ![2048, 256]⟩
abbrev S2048x128 : Shape := ⟨2, ![2048, 128]⟩
abbrev S8x512x128 : Shape := ⟨3, ![8, 512, 128]⟩
abbrev S1x512x128 : Shape := ⟨3, ![1, 512, 128]⟩
abbrev S512x128 : Shape := ⟨2, ![512, 128]⟩
abbrev S512x1024 : Shape := ⟨2, ![512, 1024]⟩
abbrev S512x512 : Shape := ⟨2, ![512, 512]⟩
abbrev S1x512 : Shape := ⟨2, ![1, 512]⟩
abbrev S1x2048 : Shape := ⟨2, ![1, 2048]⟩

abbrev nBuf : Space → Nat
  | .hbm => 9
  | .vmem => 21
  | .smem => 2
  | _ => 0

abbrev bufTy : (tb : Table) → Fin (tcTables nBuf tb) → BufTy
  | .hbm, ⟨0, _⟩ => ⟨S49152x8x128, .bf16⟩
  | .hbm, ⟨1, _⟩ => ⟨S49152x8x128, .bf16⟩
  | .hbm, ⟨2, _⟩ => ⟨S4x32x2048x1024, .f32⟩
  | .hbm, ⟨3, _⟩ => ⟨S4x32x1x512, .f32⟩
  | .hbm, ⟨4, _⟩ => ⟨S4x32x1x512, .f32⟩
  | .hbm, ⟨5, _⟩ => ⟨S4x32x512x2048, .f32⟩
  | .hbm, ⟨6, _⟩ => ⟨S4x32x1x2048, .f32⟩
  | .hbm, ⟨7, _⟩ => ⟨S49152x8x128, .bf16⟩
  | .hbm, ⟨8, _⟩ => ⟨S49152x8x128, .bf16⟩
  | .local _ .vmem, ⟨0, _⟩ => ⟨S512x8x128, .bf16⟩
  | .local _ .vmem, ⟨1, _⟩ => ⟨S512x8x128, .bf16⟩
  | .local _ .vmem, ⟨2, _⟩ => ⟨S512x8x128, .bf16⟩
  | .local _ .vmem, ⟨3, _⟩ => ⟨S512x8x128, .bf16⟩
  | .local _ .vmem, ⟨4, _⟩ => ⟨S1x1x2048x1024, .f32⟩
  | .local _ .vmem, ⟨5, _⟩ => ⟨S1x1x2048x1024, .f32⟩
  | .local _ .vmem, ⟨6, _⟩ => ⟨S1x1x1x512, .f32⟩
  | .local _ .vmem, ⟨7, _⟩ => ⟨S1x1x1x512, .f32⟩
  | .local _ .vmem, ⟨8, _⟩ => ⟨S1x1x1x512, .f32⟩
  | .local _ .vmem, ⟨9, _⟩ => ⟨S1x1x1x512, .f32⟩
  | .local _ .vmem, ⟨10, _⟩ => ⟨S1x1x512x2048, .f32⟩
  | .local _ .vmem, ⟨11, _⟩ => ⟨S1x1x512x2048, .f32⟩
  | .local _ .vmem, ⟨12, _⟩ => ⟨S1x1x1x2048, .f32⟩
  | .local _ .vmem, ⟨13, _⟩ => ⟨S1x1x1x2048, .f32⟩
  | .local _ .vmem, ⟨14, _⟩ => ⟨S512x8x128, .bf16⟩
  | .local _ .vmem, ⟨15, _⟩ => ⟨S512x8x128, .bf16⟩
  | .local _ .vmem, ⟨16, _⟩ => ⟨S512x8x128, .bf16⟩
  | .local _ .vmem, ⟨17, _⟩ => ⟨S512x8x128, .bf16⟩
  | .local _ .vmem, ⟨18, _⟩ => ⟨S2048x512, .bf16⟩
  | .local _ .vmem, ⟨19, _⟩ => ⟨S2048x512, .bf16⟩
  | .local _ .vmem, ⟨20, _⟩ => ⟨S512x2048, .bf16⟩
  | .local _ .smem, ⟨0, _⟩ => ⟨S96, .i32⟩
  | .local _ .smem, ⟨1, _⟩ => ⟨S96, .i32⟩
  | _, _ => ⟨S49152x8x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_arg7 : Ref sig .tc := ⟨.hbm, 5, rfl⟩
abbrev main_arg8 : Ref sig .tc := ⟨.hbm, 6, rfl⟩
abbrev main_v0_0 : Ref sig .tc := ⟨.hbm, 7, rfl⟩
abbrev main_v0_1 : Ref sig .tc := ⟨.hbm, 8, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![96], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond2 (v1 : BitVec 32) : BitVec 1 :=
  let c1_i32 : BitVec 32 := 1#32
  let v6 : BitVec 32 := Scalar.andi v1 c1_i32
  let c0_i32_1 : BitVec 32 := 0#32
  let v7 : BitVec 1 := Scalar.cmpi .ne v6 c0_i32_1
  let v8 : BitVec 32 := Scalar.extui v7
  let c0_i32_2 : BitVec 32 := 0#32
  let v9 : BitVec 1 := Scalar.cmpi .ne v8 c0_i32_2
  v9

def k0_cond3 (v1 : BitVec 32) : BitVec 1 :=
  let c1_i32_3 : BitVec 32 := 1#32
  let v10 : BitVec 32 := Scalar.andi v1 c1_i32_3
  let c0_i32_4 : BitVec 32 := 0#32
  let v11 : BitVec 1 := Scalar.cmpi .eq v10 c0_i32_4
  let v12 : BitVec 32 := Scalar.extui v11
  let c0_i32_5 : BitVec 32 := 0#32
  let v13 : BitVec 1 := Scalar.cmpi .ne v12 c0_i32_5
  v13

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (k0_off1_inb : ∀ i : grid0.Coords, ∀ a, (k0_off1 i) a + S1.size a ≤ S96.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S96) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S96.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S96) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (k0_off1_inb : ∀ i : grid0.Coords, ∀ a, (k0_off1 i) a + S1.size a ≤ S96.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S96) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_5 (k0_off1_inb : ∀ i : grid0.Coords, ∀ a, (k0_off1 i) a + S1.size a ≤ S96.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S96) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_6 (k0_off1_inb : ∀ i : grid0.Coords, ∀ a, (k0_off1 i) a + S1.size a ≤ S96.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S96) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x8x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x8x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x8x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x8x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference2Ideal.lean ====
abbrev S96 : Shape := ⟨1, ![96]⟩
abbrev S49152x8x128 : Shape := ⟨3, ![49152, 8, 128]⟩
abbrev S4x32x2048x1024 : Shape := ⟨4, ![4, 32, 2048, 1024]⟩
abbrev S4x32x1x512 : Shape := ⟨4, ![4, 32, 1, 512]⟩
abbrev S4x32x512x2048 : Shape := ⟨4, ![4, 32, 512, 2048]⟩
abbrev S4x32x1x2048 : Shape := ⟨4, ![4, 32, 1, 2048]⟩
abbrev S49152x1024 : Shape := ⟨2, ![49152, 1024]⟩
abbrev S49152x2048 : Shape := ⟨2, ![49152, 2048]⟩
abbrev S_ : Shape := ⟨0, ![]⟩
abbrev S96x512 : Shape := ⟨2, ![96, 512]⟩
abbrev S49152 : Shape := ⟨1, ![49152]⟩
abbrev S32 : Shape := ⟨1, ![32]⟩
abbrev S1x32x2048x1024 : Shape := ⟨4, ![1, 32, 2048, 1024]⟩
abbrev S32x2048x1024 : Shape := ⟨3, ![32, 2048, 1024]⟩
abbrev S1x32x1x512 : Shape := ⟨4, ![1, 32, 1, 512]⟩
abbrev S32x512 : Shape := ⟨2, ![32, 512]⟩
abbrev S1x32x512x2048 : Shape := ⟨4, ![1, 32, 512, 2048]⟩
abbrev S32x512x2048 : Shape := ⟨3, ![32, 512, 2048]⟩
abbrev S1x32x1x2048 : Shape := ⟨4, ![1, 32, 1, 2048]⟩
abbrev S32x2048 : Shape := ⟨2, ![32, 2048]⟩
abbrev S1 : Shape := ⟨1, ![1]⟩
abbrev S1x2048x1024 : Shape := ⟨3, ![1, 2048, 1024]⟩
abbrev S2048x1024 : Shape := ⟨2, ![2048, 1024]⟩
abbrev S1x512 : Shape := ⟨2, ![1, 512]⟩
abbrev S512 : Shape := ⟨1, ![512]⟩
abbrev S1x512x2048 : Shape := ⟨3, ![1, 512, 2048]⟩
abbrev S512x2048 : Shape := ⟨2, ![512, 2048]⟩
abbrev S1x2048 : Shape := ⟨2, ![1, 2048]⟩
abbrev S2048 : Shape := ⟨1, ![2048]⟩
abbrev S49152x512 : Shape := ⟨2, ![49152, 512]⟩
abbrev S49152x1 : Shape := ⟨2, ![49152, 1]⟩

abbrev nBuf : Space → Nat
  | .hbm => 127
  | .vmem => 0
  | .smem => 0
  | _ => 0

abbrev bufTy : (tb : Table) → Fin (tcTables nBuf tb) → BufTy
  | .hbm, ⟨0, _⟩ => ⟨S96, .i32⟩
  | .hbm, ⟨1, _⟩ => ⟨S96, .i32⟩
  | .hbm, ⟨2, _⟩ => ⟨S49152x8x128, .bf16⟩
  | .hbm, ⟨3, _⟩ => ⟨S49152x8x128, .bf16⟩
  | .hbm, ⟨4, _⟩ => ⟨S4x32x2048x1024, .f32⟩
  | .hbm, ⟨5, _⟩ => ⟨S4x32x1x512, .f32⟩
  | .hbm, ⟨6, _⟩ => ⟨S4x32x1x512, .f32⟩
  | .hbm, ⟨7, _⟩ => ⟨S4x32x512x2048, .f32⟩
  | .hbm, ⟨8, _⟩ => ⟨S4x32x1x2048, .f32⟩
  | .hbm, ⟨9, _⟩ => ⟨S49152x1024, .bf16⟩
  | .hbm, ⟨10, _⟩ => ⟨S49152x1024, .bf16⟩
  | .hbm, ⟨11, _⟩ => ⟨S49152x2048, .bf16⟩
  | .hbm, ⟨12, _⟩ => ⟨S49152x2048, .f32⟩
  | .hbm, ⟨13, _⟩ => ⟨S_, .i32⟩
  | .hbm, ⟨14, _⟩ => ⟨S96, .i32⟩
  | .hbm, ⟨15, _⟩ => ⟨S96, .i32⟩
  | .hbm, ⟨16, _⟩ => ⟨S_, .i32⟩
  | .hbm, ⟨17, _⟩ => ⟨S96, .i32⟩
  | .hbm, ⟨18, _⟩ => ⟨S96, .i1⟩
  | .hbm, ⟨19, _⟩ => ⟨S_, .i32⟩
  | .hbm, ⟨20, _⟩ => ⟨S_, .i32⟩
  | .hbm, ⟨21, _⟩ => ⟨S96, .i32⟩
  | .hbm, ⟨22, _⟩ => ⟨S96, .i32⟩
  | .hbm, ⟨23, _⟩ => ⟨S96x512, .i32⟩
  | .hbm, ⟨24, _⟩ => ⟨S49152, .i32⟩
  | .hbm, ⟨25, _⟩ => ⟨S_, .f32⟩
  | .hbm, ⟨26, _⟩ => ⟨S49152x2048, .f32⟩
  | .hbm, ⟨27, _⟩ => ⟨S32, .i32⟩
  | .hbm, ⟨28, _⟩ => ⟨S1x32x2048x1024, .f32⟩
  | .hbm, ⟨29, _⟩ => ⟨S32x2048x1024, .f32⟩
  | .hbm, ⟨30, _⟩ => ⟨S1x32x1x512, .f32⟩
  | .hbm, ⟨31, _⟩ => ⟨S32x512, .f32⟩
  | .hbm, ⟨32, _⟩ => ⟨S1x32x1x512, .f32⟩
  | .hbm, ⟨33, _⟩ => ⟨S32x512, .f32⟩
  | .hbm, ⟨34, _⟩ => ⟨S1x32x512x2048, .f32⟩
  | .hbm, ⟨35, _⟩ => ⟨S32x512x2048, .f32⟩
  | .hbm, ⟨36, _⟩ => ⟨S1x32x1x2048, .f32⟩
  | .hbm, ⟨37, _⟩ => ⟨S32x2048, .f32⟩
  | .hbm, ⟨38, _⟩ => ⟨S_, .i32⟩
  | .hbm, ⟨39, _⟩ => ⟨S32, .i32⟩
  | .hbm, ⟨40, _⟩ => ⟨S32x2048x1024, .f32⟩
  | .hbm, ⟨41, _⟩ => ⟨S32x512, .f32⟩
  | .hbm, ⟨42, _⟩ => ⟨S32x512, .f32⟩
  | .hbm, ⟨43, _⟩ => ⟨S32x512x2048, .f32⟩
  | .hbm, ⟨44, _⟩ => ⟨S32x2048, .f32⟩
  | .hbm, ⟨45, _⟩ => ⟨S49152x2048, .f32⟩
  | .hbm, ⟨46, _⟩ => ⟨S49152, .i32⟩
  | .hbm, ⟨47, _⟩ => ⟨S_, .i32⟩
  | .hbm, ⟨48, _⟩ => ⟨S49152x2048, .f32⟩
  | .hbm, ⟨49, _⟩ => ⟨S_, .i32⟩
  | .hbm, ⟨50, _⟩ => ⟨S_, .i1⟩
  | .hbm, ⟨51, _⟩ => ⟨S1, .i32⟩
  | .hbm, ⟨52, _⟩ => ⟨S_, .i32⟩
  | .hbm, ⟨53, _⟩ => ⟨S_, .i32⟩
  | .hbm, ⟨54, _⟩ => ⟨S_, .i32⟩
  | .hbm, ⟨55, _⟩ => ⟨S1x2048x1024, .f32⟩
  | .hbm, ⟨56, _⟩ => ⟨S2048x1024, .f32⟩
  | .hbm, ⟨57, _⟩ => ⟨S_, .i32⟩
  | .hbm, ⟨58, _⟩ => ⟨S1x512, .f32⟩
  | .hbm, ⟨59, _⟩ => ⟨S512, .f32⟩
  | .hbm, ⟨60, _⟩ => ⟨S_, .i32⟩
  | .hbm, ⟨61, _⟩ => ⟨S1x512, .f32⟩
  | .hbm, ⟨62, _⟩ => ⟨S512, .f32⟩
  | .hbm, ⟨63, _⟩ => ⟨S_, .i32⟩
  | .hbm, ⟨64, _⟩ => ⟨S_, .i32⟩
  | .hbm, ⟨65, _⟩ => ⟨S1x512x2048, .f32⟩
  | .hbm, ⟨66, _⟩ => ⟨S512x2048, .f32⟩
  | .hbm, ⟨67, _⟩ => ⟨S_, .i32⟩
  | .hbm, ⟨68, _⟩ => ⟨S1x2048, .f32⟩
  | .hbm, ⟨69, _⟩ => ⟨S2048, .f32⟩
  | .hbm, ⟨70, _⟩ => ⟨S49152x1024, .f32⟩
  | .hbm, ⟨71, _⟩ => ⟨S49152x512, .f32⟩
  | .hbm, ⟨72, _⟩ => ⟨S1x512, .f32⟩
  | .hbm, ⟨73, _⟩ => ⟨S49152x512, .f32⟩
  | .hbm, ⟨74, _⟩ => ⟨S49152x512, .f32⟩
  | .hbm, ⟨75, _⟩ => ⟨S_, .f32⟩
  | .hbm, ⟨76, _⟩ => ⟨S49152x512, .f32⟩
  | .hbm, ⟨77, _⟩ => ⟨S49152x512, .f32⟩
  | .hbm, ⟨78, _⟩ => ⟨S49152x512, .f32⟩
  | .hbm, ⟨79, _⟩ => ⟨S1x512, .f32⟩
  | .hbm, ⟨80, _⟩ => ⟨S49152x512, .f32⟩
  | .hbm, ⟨81, _⟩ => ⟨S49152x512, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S49152x512, .f32⟩
  | .hbm, ⟨86, _⟩ => ⟨S49152x512, .f32⟩
  | .hbm, ⟨87, _⟩ => ⟨S_, .f32⟩
  | .hbm, ⟨88, _⟩ => ⟨S49152x512, .f32⟩
  | .hbm, ⟨89, _⟩ => ⟨S49152x512, .f32⟩
  | .hbm, ⟨90, _⟩ => ⟨S_, .f32⟩
  | .hbm, ⟨91, _⟩ => ⟨S49152x512, .f32⟩
  | .hbm, ⟨92, _⟩ => ⟨S49152x512, .f32⟩
  | .hbm, ⟨93, _⟩ => ⟨S49152x512, .f32⟩
  | .hbm, ⟨94, _⟩ => ⟨S_, .f32⟩
  | .hbm, ⟨95, _⟩ => ⟨S49152x512, .f32⟩
  | .hbm, ⟨96, _⟩ => ⟨S49152x512, .f32⟩
  | .hbm, ⟨97, _⟩ => ⟨S49152x512, .f32⟩
  | .hbm, ⟨98, _⟩ => ⟨S49152x512, .f32⟩
  | .hbm, ⟨99, _⟩ => ⟨S_, .f32⟩
  | .hbm, ⟨100, _⟩ => ⟨S49152x512, .f32⟩
  | .hbm, ⟨101, _⟩ => ⟨S49152x512, .f32⟩
  | .hbm, ⟨102, _⟩ => ⟨S_, .f32⟩
  | .hbm, ⟨103, _⟩ => ⟨S49152x512, .f32⟩
  | .hbm, ⟨104, _⟩ => ⟨S49152x512, .f32⟩
  | .hbm, ⟨105, _⟩ => ⟨S49152x512, .f32⟩
  | .hbm, ⟨106, _⟩ => ⟨S49152, .i32⟩
  | .hbm, ⟨107, _⟩ => ⟨S49152, .i1⟩
  | .hbm, ⟨108, _⟩ => ⟨S49152x1, .i1⟩
  | .hbm, ⟨109, _⟩ => ⟨S49152x2048, .f32⟩
  | .hbm, ⟨110, _⟩ => ⟨S1x2048, .f32⟩
  | .hbm, ⟨111, _⟩ => ⟨S49152x2048, .f32⟩
  | .hbm, ⟨112, _⟩ => ⟨S49152x2048, .f32⟩
  | .hbm, ⟨113, _⟩ => ⟨S_, .f32⟩
  | .hbm, ⟨114, _⟩ => ⟨S_, .f32⟩
  | .hbm, ⟨115, _⟩ => ⟨S49152x2048, .i1⟩
  | .hbm, ⟨116, _⟩ => ⟨S49152x2048, .f32⟩
  | .hbm, ⟨117, _⟩ => ⟨S49152x2048, .f32⟩
  | .hbm, ⟨118, _⟩ => ⟨S49152x2048, .f32⟩
  | .hbm, ⟨119, _⟩ => ⟨S_, .i32⟩
  | .hbm, ⟨120, _⟩ => ⟨S_, .i32⟩
  | .hbm, ⟨121, _⟩ => ⟨S49152x1024, .f32⟩
  | .hbm, ⟨122, _⟩ => ⟨S49152x8x128, .f32⟩
  | .hbm, ⟨123, _⟩ => ⟨S49152x8x128, .bf16⟩
  | .hbm, ⟨124, _⟩ => ⟨S49152x1024, .f32⟩
  | .hbm, ⟨125, _⟩ => ⟨S49152x8x128, .f32⟩
  | .hbm, ⟨126, _⟩ => ⟨S49152x8x128, .bf16⟩
  | _, _ => ⟨S96, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_c_1 : Ref sig .tc := ⟨.hbm, 19, rfl⟩
abbrev main_call0_v0 : Ref sig .tc := ⟨.hbm, 20, rfl⟩
abbrev main_call0_v1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_2 : Ref sig .tc := ⟨.hbm, 38, rfl⟩
abbrev main_v23_0 : Ref sig .tc := ⟨.hbm, 39, rfl⟩
abbrev main_v23_1 : Ref sig .tc := ⟨.hbm, 40, rfl⟩
abbrev main_v23_2 : Ref sig .tc := ⟨.hbm, 41, rfl⟩
abbrev main_v23_3 : Ref sig .tc := ⟨.hbm, 42, rfl⟩
abbrev main_v23_4 : Ref sig .tc := ⟨.hbm, 43, rfl⟩
abbrev main_v23_5 : Ref sig .tc := ⟨.hbm, 44, rfl⟩
abbrev main_v23_6 : Ref sig .tc := ⟨.hbm, 45, rfl⟩
abbrev main_v23_7 : Ref sig .tc := ⟨.hbm, 46, rfl⟩
abbrev main_v23_8 : Ref sig .tc := ⟨.hbm, 47, rfl⟩
abbrev main_v23_9 : Ref sig .tc := ⟨.hbm, 48, rfl⟩
abbrev main_while0c_c_12 : Ref sig .tc := ⟨.hbm, 49, rfl⟩
abbrev main_while0c_v30 : Ref sig .tc := ⟨.hbm, 50, rfl⟩
abbrev main_while0b_call1_v0 : Ref sig .tc := ⟨.hbm, 51, rfl⟩
abbrev main_while0b_v30 : Ref sig .tc := ⟨.hbm, 52, rfl⟩
abbrev main_while0b_call2_c : Ref sig .tc := ⟨.hbm, 53, rfl⟩
abbrev main_while0b_call2_c_0 : Ref sig .tc := ⟨.hbm, 54, rfl⟩
abbrev main_while0b_call2_v0 : Ref sig .tc := ⟨.hbm, 55, rfl⟩
abbrev main_while0b_v31 : Ref sig .tc := ⟨.hbm, 56, rfl⟩
abbrev main_while0b_call3_c : Ref sig .tc := ⟨.hbm, 57, rfl⟩
abbrev main_while0b_call3_v0 : Ref sig .tc := ⟨.hbm, 58, rfl⟩
abbrev main_while0b_v32 : Ref sig .tc := ⟨.hbm, 59, rfl⟩
abbrev main_while0b_call4_c : Ref sig .tc := ⟨.hbm, 60, rfl⟩
abbrev main_while0b_call4_v0 : Ref sig .tc := ⟨.hbm, 61, rfl⟩
abbrev main_while0b_v33 : Ref sig .tc := ⟨.hbm, 62, rfl⟩
abbrev main_while0b_call5_c : Ref sig .tc := ⟨.hbm, 63, rfl⟩
abbrev main_while0b_call5_c_0 : Ref sig .tc := ⟨.hbm, 64, rfl⟩
abbrev main_while0b_call5_v0 : Ref sig .tc := ⟨.hbm, 65, rfl⟩
abbrev main_while0b_v34 : Ref sig .tc := ⟨.hbm, 66, rfl⟩
abbrev main_while0b_call6_c : Ref sig .tc := ⟨.hbm, 67, rfl⟩
abbrev main_while0b_call6_v0 : Ref sig .tc := ⟨.hbm, 68, rfl⟩
abbrev main_while0b_v35 : Ref sig .tc := ⟨.hbm, 69, rfl⟩
abbrev main_while0b_v36 : Ref sig .tc := ⟨.hbm, 70, rfl⟩
abbrev main_while0b_v37 : Ref sig .tc := ⟨.hbm, 71, rfl⟩
abbrev main_while0b_v38 : Ref sig .tc := ⟨.hbm, 72, rfl⟩
abbrev main_while0b_v39 : Ref sig .tc := ⟨.hbm, 73, rfl⟩
abbrev main_while0b_v40 : Ref sig .tc := ⟨.hbm, 74, rfl⟩
abbrev main_while0b_cst_12 : Ref sig .tc := ⟨.hbm, 75, rfl⟩
abbrev main_while0b_v41 : Ref sig .tc := ⟨.hbm, 76, rfl⟩
abbrev main_while0b_v42 : Ref sig .tc := ⟨.hbm, 77, rfl⟩
abbrev main_while0b_v43 : Ref sig .tc := ⟨.hbm, 78, rfl⟩
abbrev main_while0b_v44 : Ref sig .tc := ⟨.hbm, 79, rfl⟩
abbrev main_while0b_v45 : Ref sig .tc := ⟨.hbm, 80, rfl⟩
abbrev main_while0b_v46 : Ref sig .tc := ⟨.hbm, 81, rfl⟩
abbrev main_while0b_cst_13 : Ref sig .tc := ⟨.hbm, 82, rfl⟩
abbrev main_while0b_cst_14 : Ref sig .tc := ⟨.hbm, 83, rfl⟩
abbrev main_while0b_call7_v0 : Ref sig .tc := ⟨.hbm, 84, rfl⟩
abbrev main_while0b_call7_v1 : Ref sig .tc := ⟨.hbm, 85, rfl⟩
abbrev main_while0b_call7_v2 : Ref sig .tc := ⟨.hbm, 86, rfl⟩
abbrev main_while0b_call7_v3 : Ref sig .tc := ⟨.hbm, 87, rfl⟩
abbrev main_while0b_call7_v4 : Ref sig .tc := ⟨.hbm, 88, rfl⟩
abbrev main_while0b_v47 : Ref sig .tc := ⟨.hbm, 89, rfl⟩
abbrev main_while0b_cst_15 : Ref sig .tc := ⟨.hbm, 90, rfl⟩
abbrev main_while0b_v48 : Ref sig .tc := ⟨.hbm, 91, rfl⟩
abbrev main_while0b_v49 : Ref sig .tc := ⟨.hbm, 92, rfl⟩
abbrev main_while0b_v50 : Ref sig .tc := ⟨.hbm, 93, rfl⟩
abbrev main_while0b_cst_16 : Ref sig .tc := ⟨.hbm, 94, rfl⟩
abbrev main_while0b_v51 : Ref sig .tc := ⟨.hbm, 95, rfl⟩
abbrev main_while0b_v52 : Ref sig .tc := ⟨.hbm, 96, rfl⟩
abbrev main_while0b_v53 : Ref sig .tc := ⟨.hbm, 97, rfl⟩
abbrev main_while0b_v54 : Ref sig .tc := ⟨.hbm, 98, rfl⟩
abbrev main_while0b_cst_17 : Ref sig .tc := ⟨.hbm, 99, rfl⟩
abbrev main_while0b_v55 : Ref sig .tc := ⟨.hbm, 100, rfl⟩
abbrev main_while0b_v56 : Ref sig .tc := ⟨.hbm, 101, rfl⟩
abbrev main_while0b_cst_18 : Ref sig .tc := ⟨.hbm, 102, rfl⟩
abbrev main_while0b_v57 : Ref sig .tc := ⟨.hbm, 103, rfl⟩
abbrev main_while0b_v58 : Ref sig .tc := ⟨.hbm, 104, rfl⟩
abbrev main_while0b_v59 : Ref sig .tc := ⟨.hbm, 105, rfl⟩
abbrev main_while0b_v60 : Ref sig .tc := ⟨.hbm, 106, rfl⟩
abbrev main_while0b_v61 : Ref sig .tc := ⟨.hbm, 107, rfl⟩
abbrev main_while0b_v62 : Ref sig .tc := ⟨.hbm, 108, rfl⟩
abbrev main_while0b_v63 : Ref sig .tc := ⟨.hbm, 109, rfl⟩
abbrev main_while0b_v64 : Ref sig .tc := ⟨.hbm, 110, rfl⟩
abbrev main_while0b_v65 : Ref sig .tc := ⟨.hbm, 111, rfl⟩
abbrev main_while0b_v66 : Ref sig .tc := ⟨.hbm, 112, rfl⟩
abbrev main_while0b_cst_19 : Ref sig .tc := ⟨.hbm, 113, rfl⟩
abbrev main_while0b_call8_v0 : Ref sig .tc := ⟨.hbm, 114, rfl⟩
abbrev main_while0b_call8_v1 : Ref sig .tc := ⟨.hbm, 115, rfl⟩
abbrev main_while0b_call8_v2 : Ref sig .tc := ⟨.hbm, 116, rfl⟩
abbrev main_while0b_v67 : Ref sig .tc := ⟨.hbm, 117, rfl⟩
abbrev main_while0b_v68 : Ref sig .tc := ⟨.hbm, 118, rfl⟩
abbrev main_while0b_c_20 : Ref sig .tc := ⟨.hbm, 119, rfl⟩
abbrev main_while0b_v69 : Ref sig .tc := ⟨.hbm, 120, rfl⟩
abbrev main_v24 : Ref sig .tc := ⟨.hbm, 121, rfl⟩
abbrev main_v25 : Ref sig .tc := ⟨.hbm, 122, rfl⟩
abbrev main_v26 : Ref sig .tc := ⟨.hbm, 123, rfl⟩
abbrev main_v27 : Ref sig .tc := ⟨.hbm, 124, rfl⟩
abbrev main_v28 : Ref sig .tc := ⟨.hbm, 125, rfl⟩
abbrev main_v29 : Ref sig .tc := ⟨.hbm, 126, rfl⟩

abbrev nD : Nat := 1
abbrev τ : Topo := Topo.v7x

variable {F : FTy → Type} [FloatOps F]

abbrev main_while0_count : Scf.Loop 32 := ⟨0#32, 32#32, 1#32⟩
-- ==== Kernel3.lean ====
abbrev S8192x2048 : Shape := ⟨2, ![8192, 2048]⟩
abbrev S2x6x2048 : Shape := ⟨3, ![2, 6, 2048]⟩
abbrev S1x2048 : Shape := ⟨2, ![1, 2048]⟩
abbrev S2048x6144 : Shape := ⟨2, ![2048, 6144]⟩
abbrev S8192x6144 : Shape := ⟨2, ![8192, 6144]⟩
abbrev S1024x2048 : Shape := ⟨2, ![1024, 2048]⟩
abbrev S1x6x2048 : Shape := ⟨3, ![1, 6, 2048]⟩
abbrev S2048x1024 : Shape := ⟨2, ![2048, 1024]⟩
abbrev S1024x1024 : Shape := ⟨2, ![1024, 1024]⟩
abbrev S256x2048 : Shape := ⟨2, ![256, 2048]⟩
abbrev S1x1x2048 : Shape := ⟨3, ![1, 1, 2048]⟩
abbrev S256 : Shape := ⟨1, ![256]⟩
abbrev S256x1 : Shape := ⟨2, ![256, 1]⟩

abbrev nBuf : Space → Nat
  | .hbm => 5
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S2x6x2048, .f32⟩
  | .hbm, ⟨2, _⟩ => ⟨S1x2048, .f32⟩
  | .hbm, ⟨3, _⟩ => ⟨S2048x6144, .bf16⟩
  | .hbm, ⟨4, _⟩ => ⟨S8192x6144, .f32⟩
  | .local _ .vmem, ⟨0, _⟩ => ⟨S1024x2048, .f32⟩
  | .local _ .vmem, ⟨1, _⟩ => ⟨S1024x2048, .f32⟩
  | .local _ .vmem, ⟨2, _⟩ => ⟨S1x6x2048, .f32⟩
  | .local _ .vmem, ⟨3, _⟩ => ⟨S1x6x2048, .f32⟩
  | .local _ .vmem, ⟨4, _⟩ => ⟨S1x2048, .f32⟩
  | .local _ .vmem, ⟨5, _⟩ => ⟨S2048x1024, .bf16⟩
  | .local _ .vmem, ⟨6, _⟩ => ⟨S2048x1024, .bf16⟩
  | .local _ .vmem, ⟨7, _⟩ => ⟨S1024x1024, .f32⟩
  | .local _ .vmem, ⟨8, _⟩ => ⟨S1024x1024, .f32⟩
  | .local _ .vmem, ⟨9, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x6x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference3Ideal.lean ====
abbrev S8192x2048 : Shape := ⟨2, ![8192, 2048]⟩
abbrev S2x6x2048 : Shape := ⟨3, ![2, 6, 2048]⟩
abbrev S1x2048 : Shape := ⟨2, ![1, 2048]⟩
abbrev S2048x6144 : Shape := ⟨2, ![2048, 6144]⟩
abbrev S2x1x2048 : Shape := ⟨3, ![2, 1, 2048]⟩
abbrev S2x4096x2048 : Shape := ⟨3, ![2, 4096, 2048]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2x4096x6144 : Shape := ⟨3, ![2, 4096, 6144]⟩
abbrev S8192x6144 : Shape := ⟨2, ![8192, 6144]⟩

abbrev nBuf : Space → Nat
  | .hbm => 34
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2x6x2048, .f32⟩
  | .hbm, ⟨2, _⟩ => ⟨S1x2048, .f32⟩
  | .hbm, ⟨3, _⟩ => ⟨S2048x6144, .bf16⟩
  | .hbm, ⟨4, _⟩ => ⟨S2x1x2048, .f32⟩
  | .hbm, ⟨5, _⟩ => ⟨S2x1x2048, .f32⟩
  | .hbm, ⟨6, _⟩ => ⟨S2x4096x2048, .f32⟩
  | .hbm, ⟨7, _⟩ => ⟨S2048, .f32⟩
  | .hbm, ⟨8, _⟩ => ⟨S2x4096x2048, .f32⟩
  | .hbm, ⟨9, _⟩ => ⟨S_, .f32⟩
  | .hbm, ⟨10, _⟩ => ⟨S2x4096, .f32⟩
  | .hbm, ⟨11, _⟩ => ⟨S2x4096x1, .f32⟩
  | .hbm, ⟨12, _⟩ => ⟨S_, .f32⟩
  | .hbm, ⟨13, _⟩ => ⟨S2x4096x1, .f32⟩
  | .hbm, ⟨14, _⟩ => ⟨S2x4096x1, .f32⟩
  | .hbm, ⟨15, _⟩ => ⟨S_, .f32⟩
  | .hbm, ⟨16, _⟩ => ⟨S2x4096x1, .f32⟩
  | .hbm, ⟨17, _⟩ => ⟨S2x4096x1, .f32⟩
  | .hbm, ⟨18, _⟩ => ⟨S2x4096x1, .f32⟩
  | .hbm, ⟨19, _⟩ => ⟨S2x4096x2048, .f32⟩
  | .hbm, ⟨20, _⟩ => ⟨S2x4096x2048, .f32⟩
  | .hbm, ⟨21, _⟩ => ⟨S1x1x2048, .f32⟩
  | .hbm, ⟨22, _⟩ => ⟨S2x4096x2048, .f32⟩
  | .hbm, ⟨23, _⟩ => ⟨S2x4096x2048, .f32⟩
  | .hbm, ⟨24, _⟩ => ⟨S_, .f32⟩
  | .hbm, ⟨25, _⟩ => ⟨S2x1x2048, .f32⟩
  | .hbm, ⟨26, _⟩ => ⟨S2x1x2048, .f32⟩
  | .hbm, ⟨27, _⟩ => ⟨S2x4096x2048, .f32⟩
  | .hbm, ⟨28, _⟩ => ⟨S2x4096x2048, .f32⟩
  | .hbm, ⟨29, _⟩ => ⟨S2x4096x2048, .f32⟩
  | .hbm, ⟨30, _⟩ => ⟨S2x4096x2048, .f32⟩
  | .hbm, ⟨31, _⟩ => ⟨S2048x6144, .f32⟩
  | .hbm, ⟨32, _⟩ => ⟨S2x4096x6144, .f32⟩
  | .hbm, ⟨33, _⟩ => ⟨S8192x6144, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩

abbrev nD : Nat := 1
abbrev τ : Topo := Topo.v7x

variable {F : FTy → Type} [FloatOps F]
-- ==== Kernel4.lean ====
abbrev S8192x1024 : Shape := ⟨2, ![8192, 1024]⟩
abbrev S8192x512 : Shape := ⟨2, ![8192, 512]⟩
abbrev S2048x2048 : Shape := ⟨2, ![2048, 2048]⟩
abbrev S8192x2048 : Shape := ⟨2, ![8192, 2048]⟩
abbrev S2x6x2048 : Shape := ⟨3, ![2, 6, 2048]⟩
abbrev S1x2048 : Shape := ⟨2, ![1, 2048]⟩
abbrev S2048x128 : Shape := ⟨2, ![2048, 128]⟩
abbrev S1x128 : Shape := ⟨2, ![1, 128]⟩
abbrev S8192x8x128 : Shape := ⟨3, ![8192, 8, 128]⟩
abbrev S8192x128 : Shape := ⟨2, ![8192, 128]⟩
abbrev S512x1024 : Shape := ⟨2, ![512, 1024]⟩
abbrev S512x512 : Shape := ⟨2, ![512, 512]⟩
abbrev S512x2048 : Shape := ⟨2, ![512, 2048]⟩
abbrev S1x6x2048 : Shape := ⟨3, ![1, 6, 2048]⟩
abbrev S512x8x128 : Shape := ⟨3, ![512, 8, 128]⟩
abbrev S512x128 : Shape := ⟨2, ![512, 128]⟩
abbrev S1x1x2048 : Shape := ⟨3, ![1, 1, 2048]⟩
abbrev S512 : Shape := ⟨1, ![512]⟩
abbrev S512x1 : Shape := ⟨2, ![512, 1]⟩
abbrev S1x512x128 : Shape := ⟨3, ![1, 512, 128]⟩
abbrev S8x512x128 : Shape := ⟨3, ![8, 512, 128]⟩
abbrev S128 : Shape := ⟨1, ![128]⟩

abbrev nBuf : Space → Nat
  | .hbm => 14
  | .vmem => 24
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S8192x512, .bf16⟩
  | .hbm, ⟨3, _⟩ => ⟨S2048x2048, .bf16⟩
  | .hbm, ⟨4, _⟩ => ⟨S8192x2048, .f32⟩
  | .hbm, ⟨5, _⟩ => ⟨S2x6x2048, .f32⟩
  | .hbm, ⟨6, _⟩ => ⟨S1x2048, .f32⟩
  | .hbm, ⟨7, _⟩ => ⟨S2048x128, .f32⟩
  | .hbm, ⟨8, _⟩ => ⟨S1x128, .f32⟩
  | .hbm, ⟨9, _⟩ => ⟨S8192x2048, .f32⟩
  | .hbm, ⟨10, _⟩ => ⟨S8192x8x128, .bf16⟩
  | .hbm, ⟨11, _⟩ => ⟨S8192x8x128, .bf16⟩
  | .hbm, ⟨12, _⟩ => ⟨S8192x128, .f32⟩
  | .hbm, ⟨13, _⟩ => ⟨S1x128, .f32⟩
  | .local _ .vmem, ⟨0, _⟩ => ⟨S512x1024, .bf16⟩
  | .local _ .vmem, ⟨1, _⟩ => ⟨S512x1024, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S2048x2048, .bf16⟩
  | .local _ .vmem, ⟨7, _⟩ => ⟨S512x2048, .f32⟩
  | .local _ .vmem, ⟨8, _⟩ => ⟨S512x2048, .f32⟩
  | .local _ .vmem, ⟨9, _⟩ => ⟨S1x6x2048, .f32⟩
  | .local _ .vmem, ⟨10, _⟩ => ⟨S1x6x2048, .f32⟩
  | .local _ .vmem, ⟨11, _⟩ => ⟨S1x2048, .f32⟩
  | .local _ .vmem, ⟨12, _⟩ => ⟨S2048x128, .f32⟩
  | .local _ .vmem, ⟨13, _⟩ => ⟨S1x128, .f32⟩
  | .local _ .vmem, ⟨14, _⟩ => ⟨S512x2048, .f32⟩
  | .local _ .vmem, ⟨15, _⟩ => ⟨S512x2048, .f32⟩
  | .local _ .vmem, ⟨16, _⟩ => ⟨S512x8x128, .bf16⟩
  | .local _ .vmem, ⟨17, _⟩ => ⟨S512x8x128, .bf16⟩
  | .local _ .vmem, ⟨18, _⟩ => ⟨S512x8x128, .bf16⟩
  | .local _ .vmem, ⟨19, _⟩ => ⟨S512x8x128, .bf16⟩
  | .local _ .vmem, ⟨20, _⟩ => ⟨S512x128, .f32⟩
  | .local _ .vmem, ⟨21, _⟩ => ⟨S512x128, .f32⟩
  | .local _ .vmem, ⟨22, _⟩ => ⟨S1x128, .f32⟩
  | .local _ .vmem, ⟨23, _⟩ => ⟨S1x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x6x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x8x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x8x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference4Ideal.lean ====
abbrev S8192x1024 : Shape := ⟨2, ![8192, 1024]⟩
abbrev S8192x512 : Shape := ⟨2, ![8192, 512]⟩
abbrev S2048x2048 : Shape := ⟨2, ![2048, 2048]⟩
abbrev S8192x2048 : Shape := ⟨2, ![8192, 2048]⟩
abbrev S2x6x2048 : Shape := ⟨3, ![2, 6, 2048]⟩
abbrev S1x2048 : Shape := ⟨2, ![1, 2048]⟩
abbrev S2048x128 : Shape := ⟨2, ![2048, 128]⟩
abbrev S1x128 : Shape := ⟨2, ![1, 128]⟩
abbrev S2x1x2048 : Shape := ⟨3, ![2, 1, 2048]⟩
abbrev S2x4096x2048 : Shape := ⟨3, ![2, 4096, 2048]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S8192x8x128 : Shape := ⟨3, ![8192, 8, 128]⟩

abbrev nBuf : Space → Nat
  | .hbm => 53
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S8192x512, .bf16⟩
  | .hbm, ⟨3, _⟩ => ⟨S2048x2048, .bf16⟩
  | .hbm, ⟨4, _⟩ => ⟨S8192x2048, .f32⟩
  | .hbm, ⟨5, _⟩ => ⟨S2x6x2048, .f32⟩
  | .hbm, ⟨6, _⟩ => ⟨S1x2048, .f32⟩
  | .hbm, ⟨7, _⟩ => ⟨S2048x128, .f32⟩
  | .hbm, ⟨8, _⟩ => ⟨S1x128, .f32⟩
  | .hbm, ⟨9, _⟩ => ⟨S2x1x2048, .f32⟩
  | .hbm, ⟨10, _⟩ => ⟨S2x1x2048, .f32⟩
  | .hbm, ⟨11, _⟩ => ⟨S2x1x2048, .f32⟩
  | .hbm, ⟨12, _⟩ => ⟨S8192x2048, .bf16⟩
  | .hbm, ⟨13, _⟩ => ⟨S8192x2048, .f32⟩
  | .hbm, ⟨14, _⟩ => ⟨S2x4096x2048, .f32⟩
  | .hbm, ⟨15, _⟩ => ⟨S2048x2048, .f32⟩
  | .hbm, ⟨16, _⟩ => ⟨S8192x2048, .f32⟩
  | .hbm, ⟨17, _⟩ => ⟨S2x4096x2048, .f32⟩
  | .hbm, ⟨18, _⟩ => ⟨S2x4096x2048, .f32⟩
  | .hbm, ⟨19, _⟩ => ⟨S2x4096x2048, .f32⟩
  | .hbm, ⟨20, _⟩ => ⟨S2x4096x2048, .f32⟩
  | .hbm, ⟨21, _⟩ => ⟨S2048, .f32⟩
  | .hbm, ⟨22, _⟩ => ⟨S2x4096x2048, .f32⟩
  | .hbm, ⟨23, _⟩ => ⟨S_, .f32⟩
  | .hbm, ⟨24, _⟩ => ⟨S2x4096, .f32⟩
  | .hbm, ⟨25, _⟩ => ⟨S2x4096x1, .f32⟩
  | .hbm, ⟨26, _⟩ => ⟨S_, .f32⟩
  | .hbm, ⟨27, _⟩ => ⟨S2x4096x1, .f32⟩
  | .hbm, ⟨28, _⟩ => ⟨S2x4096x1, .f32⟩
  | .hbm, ⟨29, _⟩ => ⟨S_, .f32⟩
  | .hbm, ⟨30, _⟩ => ⟨S2x4096x1, .f32⟩
  | .hbm, ⟨31, _⟩ => ⟨S2x4096x1, .f32⟩
  | .hbm, ⟨32, _⟩ => ⟨S2x4096x1, .f32⟩
  | .hbm, ⟨33, _⟩ => ⟨S2x4096x2048, .f32⟩
  | .hbm, ⟨34, _⟩ => ⟨S2x4096x2048, .f32⟩
  | .hbm, ⟨35, _⟩ => ⟨S1x1x2048, .f32⟩
  | .hbm, ⟨36, _⟩ => ⟨S2x4096x2048, .f32⟩
  | .hbm, ⟨37, _⟩ => ⟨S2x4096x2048, .f32⟩
  | .hbm, ⟨38, _⟩ => ⟨S_, .f32⟩
  | .hbm, ⟨39, _⟩ => ⟨S2x1x2048, .f32⟩
  | .hbm, ⟨40, _⟩ => ⟨S2x1x2048, .f32⟩
  | .hbm, ⟨41, _⟩ => ⟨S2x4096x2048, .f32⟩
  | .hbm, ⟨42, _⟩ => ⟨S2x4096x2048, .f32⟩
  | .hbm, ⟨43, _⟩ => ⟨S2x4096x2048, .f32⟩
  | .hbm, ⟨44, _⟩ => ⟨S2x4096x2048, .f32⟩
  | .hbm, ⟨45, _⟩ => ⟨S8192x2048, .f32⟩
  | .hbm, ⟨46, _⟩ => ⟨S8192x2048, .f32⟩
  | .hbm, ⟨47, _⟩ => ⟨S8192x1024, .f32⟩
  | .hbm, ⟨48, _⟩ => ⟨S8192x8x128, .f32⟩
  | .hbm, ⟨49, _⟩ => ⟨S8192x8x128, .bf16⟩
  | .hbm, ⟨50, _⟩ => ⟨S8192x1024, .f32⟩
  | .hbm, ⟨51, _⟩ => ⟨S8192x8x128, .f32⟩
  | .hbm, ⟨52, _⟩ => ⟨S8192x8x128, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_cst_0 : Ref sig .tc := ⟨.hbm, 26, rfl⟩
abbrev main_v16 : Ref sig .tc := ⟨.hbm, 27, rfl⟩
abbrev main_v17 : Ref sig .tc := ⟨.hbm, 28, rfl⟩
abbrev main_cst_1 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_2 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Kernel5.lean ====
abbrev S8192x2048 : Shape := ⟨2, ![8192, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference5Ideal.lean ====
abbrev S8192x2048 : Shape := ⟨2, ![8192, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩

abbrev nBuf : Space → Nat
  | .hbm => 19
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel6.lean ====
abbrev S2x4096 : Shape := ⟨2, ![2, 4096]⟩
abbrev S8192x1 : Shape := ⟨2, ![8192, 1]⟩
abbrev S8192x256 : Shape := ⟨2, ![8192, 256]⟩
abbrev S1024x1 : Shape := ⟨2, ![1024, 1]⟩
abbrev S1024x256 : Shape := ⟨2, ![1024, 256]⟩
abbrev S1x256 : Shape := ⟨2, ![1, 256]⟩

abbrev nBuf : Space → Nat
  | .hbm => 4
  | .vmem => 6
  | .smem => 0
  | _ => 0

abbrev bufTy : (tb : Table) → Fin (tcTables nBuf tb) → BufTy
  | .hbm, ⟨0, _⟩ => ⟨S2x4096, .i32⟩
  | .hbm, ⟨1, _⟩ => ⟨S8192x1, .i32⟩
  | .hbm, ⟨2, _⟩ => ⟨S8192x256, .f32⟩
  | .hbm, ⟨3, _⟩ => ⟨S8192x256, .f32⟩
  | .local _ .vmem, ⟨0, _⟩ => ⟨S1024x1, .i32⟩
  | .local _ .vmem, ⟨1, _⟩ => ⟨S1024x1, .i32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | _, _ => ⟨S2x4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Kernel6Ideal.lean ====
variable {F : FTy → Type} [FloatOps F] [Named F]
def κ : String → Option EReal := fun
  | "log_freq" => some (((-(Real.log 10000)) * (1 / 32) : ℝ) : EReal)
  | _ => none
-- ==== Reference6Ideal.lean ====
abbrev S2x4096 : Shape := ⟨2, ![2, 4096]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S8192x256 : Shape := ⟨2, ![8192, 256]⟩

abbrev nBuf : Space → Nat
  | .hbm => 20
  | .vmem => 0
  | .smem => 0
  | _ => 0

abbrev bufTy : (tb : Table) → Fin (tcTables nBuf tb) → BufTy
  | .hbm, ⟨0, _⟩ => ⟨S2x4096, .i32⟩
  | .hbm, ⟨1, _⟩ => ⟨S32, .f32⟩
  | .hbm, ⟨2, _⟩ => ⟨S32, .f32⟩
  | .hbm, ⟨3, _⟩ => ⟨S_, .f32⟩
  | .hbm, ⟨4, _⟩ => ⟨S32, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S2x4096, .f32⟩
  | .hbm, ⟨10, _⟩ => ⟨S8192x1, .f32⟩
  | .hbm, ⟨11, _⟩ => ⟨S1x32, .f32⟩
  | .hbm, ⟨12, _⟩ => ⟨S8192x32, .f32⟩
  | .hbm, ⟨13, _⟩ => ⟨S8192x32, .f32⟩
  | .hbm, ⟨14, _⟩ => ⟨S8192x32, .f32⟩
  | .hbm, ⟨15, _⟩ => ⟨S8192x32, .f32⟩
  | .hbm, ⟨16, _⟩ => ⟨S8192x32, .f32⟩
  | .hbm, ⟨17, _⟩ => ⟨S8192x256, .f32⟩
  | .hbm, ⟨18, _⟩ => ⟨S8192x32, .f32⟩
  | .hbm, ⟨19, _⟩ => ⟨S8192x256, .f32⟩
  | _, _ => ⟨S2x4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩

abbrev nD : Nat := 1
abbrev τ : Topo := Topo.v7x

variable {F : FTy → Type} [FloatOps F]
-- ==== Kernel7.lean ====
abbrev S2x2048 : Shape := ⟨2, ![2, 2048]⟩
abbrev S4x2048x12288 : Shape := ⟨3, ![4, 2048, 12288]⟩
abbrev S4x12288 : Shape := ⟨2, ![4, 12288]⟩
abbrev S2x2048x1 : Shape := ⟨3, ![2, 2048, 1]⟩
abbrev S2x2048x128 : Shape := ⟨3, ![2, 2048, 128]⟩
abbrev S4x1x12288 : Shape := ⟨3, ![4, 1, 12288]⟩
abbrev S4x2x12288 : Shape := ⟨3, ![4, 2, 12288]⟩
abbrev S1x2048x1024 : Shape := ⟨3, ![1, 2048, 1024]⟩
abbrev S1x1x1024 : Shape := ⟨3, ![1, 1, 1024]⟩
abbrev S1x2x1024 : Shape := ⟨3, ![1, 2, 1024]⟩
abbrev S8x1024 : Shape := ⟨2, ![8, 1024]⟩
abbrev S1x32x128 : Shape := ⟨3, ![1, 32, 128]⟩
abbrev S32x128 : Shape := ⟨2, ![32, 128]⟩
abbrev S1x32x1024 : Shape := ⟨3, ![1, 32, 1024]⟩
abbrev S32x1024 : Shape := ⟨2, ![32, 1024]⟩
abbrev S8x128 : Shape := ⟨2, ![8, 128]⟩
abbrev S1024 : Shape := ⟨1, ![1024]⟩
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2x2048, .f32⟩
  | .hbm, ⟨1, _⟩ => ⟨S4x2048x12288, .f32⟩
  | .hbm, ⟨2, _⟩ => ⟨S4x12288, .f32⟩
  | .hbm, ⟨3, _⟩ => ⟨S2x2048x1, .f32⟩
  | .hbm, ⟨4, _⟩ => ⟨S2x2048x128, .f32⟩
  | .hbm, ⟨5, _⟩ => ⟨S4x1x12288, .f32⟩
  | .hbm, ⟨6, _⟩ => ⟨S4x2x12288, .f32⟩
  | .local _ .vmem, ⟨0, _⟩ => ⟨S2x2048x128, .f32⟩
  | .local _ .vmem, ⟨1, _⟩ => ⟨S1x2048x1024, .f32⟩
  | .local _ .vmem, ⟨2, _⟩ => ⟨S1x2048x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x2x1024, .f32⟩
  | .local _ .vmem, ⟨6, _⟩ => ⟨S1x2x1024, .f32⟩
  | _, _ => ⟨S2x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 12], ![false, false]⟩

@[reducible] def k0_t1_loop : Scf.Loop 32 :=
  let c0_i32 : BitVec 32 := 0#32
  let c64_i32 : BitVec 32 := 64#32
  let v1 : BitVec 32 := Scalar.addi c0_i32 c64_i32
  let c1_i32 : BitVec 32 := 1#32
  ⟨c0_i32, v1, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c32_i32 : BitVec 32 := 32#32
  let v22 : BitVec 32 := Scalar.muli arg6 c32_i32
  v22
def k0_off1 (k0_t1 : Fin k0_t1_loop.trips) : Fin 3 → Nat :=
  let c0_18 : Index := 0#32
  let c0_i32 : BitVec 32 := 0#32
  let c1_i32 : BitVec 32 := 1#32
  let arg6 : BitVec 32 := Scf.iv c0_i32 c1_i32 k0_t1
  let c32_i32 : BitVec 32 := 32#32
  let v22 : BitVec 32 := Scalar.muli arg6 c32_i32
  let v23 : BitVec 32 := v22
  let v24 : Index := Scalar.indexCast v23
  let c0_19 : Index := 0#32
  ![0, v24.toNat, 0]
def k0_off2 (k0_t1 : Fin k0_t1_loop.trips) : Fin 3 → Nat :=
  let c0_23 : Index := 0#32
  let c0_i32 : BitVec 32 := 0#32
  let c1_i32 : BitVec 32 := 1#32
  let arg6 : BitVec 32 := Scf.iv c0_i32 c1_i32 k0_t1
  let c32_i32 : BitVec 32 := 32#32
  let v22 : BitVec 32 := Scalar.muli arg6 c32_i32
  let v23 : BitVec 32 := v22
  let v35 : Index := Scalar.indexCast v23
  let c0_24 : Index := 0#32
  ![0, v35.toNat, 0]
@[reducible] def k0_t2_loop : Scf.Loop 32 :=
  let c0_i32_8 : BitVec 32 := 0#32
  let c64_i32_9 : BitVec 32 := 64#32
  let v12 : BitVec 32 := Scalar.addi c0_i32_8 c64_i32_9
  let c1_i32_10 : BitVec 32 := 1#32
  ⟨c0_i32_8, v12, c1_i32_10⟩
def k0_mult2 (k0_t2 : Fin k0_t2_loop.trips) : BitVec 32 :=
  let c0_i32_8 : BitVec 32 := 0#32
  let c1_i32_10 : BitVec 32 := 1#32
  let arg6 : BitVec 32 := Scf.iv c0_i32_8 c1_i32_10 k0_t2
  let c32_i32 : BitVec 32 := 32#32
  let v22 : BitVec 32 := Scalar.muli arg6 c32_i32
  v22
def k0_off3 (k0_t2 : Fin k0_t2_loop.trips) : Fin 3 → Nat :=
  let c1_18 : Index := 1#32
  let c0_i32_8 : BitVec 32 := 0#32
  let c1_i32_10 : BitVec 32 := 1#32
  let arg6 : BitVec 32 := Scf.iv c0_i32_8 c1_i32_10 k0_t2
  let c32_i32 : BitVec 32 := 32#32
  let v22 : BitVec 32 := Scalar.muli arg6 c32_i32
  let v23 : BitVec 32 := v22
  let v24 : Index := Scalar.indexCast v23
  let c0_19 : Index := 0#32
  ![1, v24.toNat, 0]
def k0_off4 (k0_t2 : Fin k0_t2_loop.trips) : Fin 3 → Nat :=
  let c0_23 : Index := 0#32
  let c0_i32_8 : BitVec 32 := 0#32
  let c1_i32_10 : BitVec 32 := 1#32
  let arg6 : BitVec 32 := Scf.iv c0_i32_8 c1_i32_10 k0_t2
  let c32_i32 : BitVec 32 := 32#32
  let v22 : BitVec 32 := Scalar.muli arg6 c32_i32
  let v23 : BitVec 32 := v22
  let v35 : Index := Scalar.indexCast v23
  let c0_24 : Index := 0#32
  ![0, v35.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S2x2048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S2x2048 : Shape := ⟨2, ![2, 2048]⟩
abbrev S4x2048x12288 : Shape := ⟨3, ![4, 2048, 12288]⟩
abbrev S4x12288 : Shape := ⟨2, ![4, 12288]⟩
abbrev S_ : Shape := ⟨0, ![]⟩
abbrev S2x4x12288 : Shape := ⟨3, ![2, 4, 12288]⟩
abbrev S4x2x12288 : Shape := ⟨3, ![4, 2, 12288]⟩
abbrev S4x1x12288 : Shape := ⟨3, ![4, 1, 12288]⟩

abbrev nBuf : Space → Nat
  | .hbm => 17
  | .vmem => 0
  | .smem => 0
  | _ => 0

abbrev bufTy : (tb : Table) → Fin (tcTables nBuf tb) → BufTy
  | .hbm, ⟨0, _⟩ => ⟨S2x2048, .f32⟩
  | .hbm, ⟨1, _⟩ => ⟨S4x2048x12288, .f32⟩
  | .hbm, ⟨2, _⟩ => ⟨S4x12288, .f32⟩
  | .hbm, ⟨3, _⟩ => ⟨S2x2048, .f32⟩
  | .hbm, ⟨4, _⟩ => ⟨S2x2048, .f32⟩
  | .hbm, ⟨5, _⟩ => ⟨S_, .f32⟩
  | .hbm, ⟨6, _⟩ => ⟨S2x2048, .f32⟩
  | .hbm, ⟨7, _⟩ => ⟨S2x2048, .f32⟩
  | .hbm, ⟨8, _⟩ => ⟨S_, .f32⟩
  | .hbm, ⟨9, _⟩ => ⟨S2x2048, .f32⟩
  | .hbm, ⟨10, _⟩ => ⟨S2x2048, .f32⟩
  | .hbm, ⟨11, _⟩ => ⟨S2x2048, .f32⟩
  | .hbm, ⟨12, _⟩ => ⟨S2x4x12288, .f32⟩
  | .hbm, ⟨13, _⟩ => ⟨S4x2x12288, .f32⟩
  | .hbm, ⟨14, _⟩ => ⟨S4x1x12288, .f32⟩
  | .hbm, ⟨15, _⟩ => ⟨S4x2x12288, .f32⟩
  | .hbm, ⟨16, _⟩ => ⟨S4x2x12288, .f32⟩
  | _, _ => ⟨S2x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Proof.Spec.lean ====
/-
  The retention over one chunk of 128 positions, in extended reals, and the sequence of chunk states: the function both the
  kernel and the reference are shown to compute. No program appears in this module.
-/
module

public import Idealize.ShloMosaic.Lib.Pointwise

@[expose] public section

set_option maxRecDepth 16384

noncomputable section

namespace Cert.Ret

open Idealize.ShloMosaic

/-- The decay of a head per position. -/
def gam (h : Fin 4) : ℝ := ![31 / 32, 63 / 64, 127 / 128, 255 / 256] h

/-- The decay between position `m` and a later (or equal) position `r` of the same chunk. -/
def inner (h : Fin 4) (r m : Fin 128) : EReal :=
  if m ≤ r then ((Real.exp (((r : ℕ) - (m : ℕ) : ℝ) * Real.log (gam h)) : ℝ) : EReal) else 0

/-- The decay from the state before the chunk to position `r`. -/
def qd (h : Fin 4) (r : Fin 128) : EReal := ((Real.exp ((((r : ℕ) : ℝ) + 1) * Real.log (gam h)) : ℝ) : EReal)

/-- The decay from position `m` to the end of the chunk. -/
def kd (h : Fin 4) (m : Fin 128) : EReal := ((Real.exp ((127 - ((m : ℕ) : ℝ)) * Real.log (gam h)) : ℝ) : EReal)

/-- The decay over a whole chunk. -/
def cd (h : Fin 4) : EReal := ((gam h ^ 128 : ℝ) : EReal)

/-- The lane a rotary lane is paired with: 32 away within the head's 64. -/
def swp (d : Fin 64) : Fin 64 := ⟨((d : ℕ) + 32) % 64, Nat.mod_lt _ (by norm_num)⟩

/-- Lane `d` of head `h` in a row of four heads of 64 lanes. -/
def ln (h : Fin 4) (d : Fin 64) : Fin 256 := ⟨64 * (h : ℕ) + (d : ℕ), by omega⟩

/-- Column `o + 64 h + d` of a row of 1536 projected columns. -/
def col (o : ℕ) (ho : o + 256 ≤ 1536) (h : Fin 4) (d : Fin 64) : Fin 1536 := ⟨o + (64 * (h : ℕ) + (d : ℕ)), by omega⟩

/-- Column `512 + 128 h + e`: lane `e` of head `h`'s values. -/
def vcol (h : Fin 4) (e : Fin 128) : Fin 1536 := ⟨512 + (128 * (h : ℕ) + (e : ℕ)), by omega⟩

/-- Column `1024 + l`: lane `l` of the gate. -/
def gcol (l : Fin 512) : Fin 1536 := ⟨1024 + (l : ℕ), by omega⟩

/-- A projected row's query lane after the rotary embedding. -/
def qR (p : Fin 1536 → EReal) (c s : Fin 256 → EReal) (h : Fin 4) (d : Fin 64) : EReal :=
  p (col 0 (by norm_num) h d) * c (ln h d) + p (col 0 (by norm_num) h (swp d)) * s (ln h d)

/-- A projected row's key lane after the rotary embedding and the scale `1 / 8`. -/
def kR (p : Fin 1536 → EReal) (c s : Fin 256 → EReal) (h : Fin 4) (d : Fin 64) : EReal :=
  (p (col 256 (by norm_num) h d) * c (ln h d) + p (col 256 (by norm_num) h (swp d)) * s (ln h d)) *
    Ideal.ofBits .f32 0x3E000000#32

/-- A projected row's value lane. -/
def vR (p : Fin 1536 → EReal) (h : Fin 4) (e : Fin 128) : EReal := p (vcol h e)

/-- One head's output at position `r` of a chunk: what the positions of the chunk give it, and what the state gives it. -/
def chunkOut (h : Fin 4) (q k : Fin 128 → Fin 64 → EReal) (v : Fin 128 → Fin 128 → EReal) (s : Fin 64 → Fin 128 → EReal)
    (r e : Fin 128) : EReal :=
  (∑ m, (∑ d, q r d * k m d) * inner h r m * v m e) + (∑ d, q r d * s d e) * qd h r

/-- One head's state after a chunk. -/
def chunkState (h : Fin 4) (k : Fin 128 → Fin 64 → EReal) (v : Fin 128 → Fin 128 → EReal) (s : Fin 64 → Fin 128 → EReal)
    (d : Fin 64) (e : Fin 128) : EReal :=
  s d e * cd h + ∑ m, k m d * kd h m * v m e

/-- A row of 128 lanes over the root of its mean square. -/
def nrm (y : Fin 128 → EReal) (e : Fin 128) : EReal :=
  y e * Ideal.rsqrt (Ideal.div (∑ j, y j * y j) (Ideal.ofBits .f32 0x43000000#32) + Ideal.ofBits .f32 0x3727C5AC#32)

/-- The gate `g / (1 + e^(-g))`. -/
def gate (g : EReal) : EReal := g * Ideal.div 1 (1 + Ideal.exp (-g))

/-- A chunk's rows: 128 rows of projected columns and of the two rotary tables. -/
structure Rows where
  /-- the projected columns -/
  p : Fin 128 → Fin 1536 → EReal
  /-- the cosines -/
  c : Fin 128 → Fin 256 → EReal
  /-- the signed sines -/
  s : Fin 128 → Fin 256 → EReal

/-- The queries of a head in a chunk. -/
def Rows.q (X : Rows) (h : Fin 4) (r : Fin 128) (d : Fin 64) : EReal := qR (X.p r) (X.c r) (X.s r) h d
/-- The keys of a head in a chunk. -/
def Rows.k (X : Rows) (h : Fin 4) (r : Fin 128) (d : Fin 64) : EReal := kR (X.p r) (X.c r) (X.s r) h d
/-- The values of a head in a chunk. -/
def Rows.v (X : Rows) (h : Fin 4) (r e : Fin 128) : EReal := vR (X.p r) h e

/-- A head's output in a chunk whose state before it is `st`. -/
def Rows.out (X : Rows) (st : Fin 4 → Fin 64 → Fin 128 → EReal) (h : Fin 4) (r e : Fin 128) : EReal :=
  chunkOut h (X.q h) (X.k h) (X.v h) (st h) r e

/-- The states after a chunk. -/
def Rows.next (X : Rows) (st : Fin 4 → Fin 64 → Fin 128 → EReal) (h : Fin 4) (d : Fin 64) (e : Fin 128) : EReal :=
  chunkState h (X.k h) (X.v h) (st h) d e

/-- The head a result lane belongs to. -/
def hd (l : Fin 512) : Fin 4 := ⟨(l : ℕ) / 128, by omega⟩
/-- The lane within its head. -/
def lo (l : Fin 512) : Fin 128 := ⟨(l : ℕ) % 128, by omega⟩

/-- A chunk's result: each head's output, normalised over its 128 lanes and gated. -/
def Rows.res (X : Rows) (st : Fin 4 → Fin 64 → Fin 128 → EReal) (r : Fin 128) (l : Fin 512) : EReal :=
  nrm (X.out st (hd l) r) (lo l) * gate (X.p r (gcol l))

/-- Chunk `n` of the two tables and the projection: rows `128 n … 128 n + 127`, columns `4608 …` of the projection. -/
def rowsAt (P : FVec Ideal ⟨2, ![8192, 6144]⟩ .f32) (C S : FVec Ideal ⟨2, ![8192, 256]⟩ .f32) (n : Fin 64) : Rows where
  p r j := P (ix2 ⟨(n : ℕ) * 128 + (r : ℕ), by omega⟩ ⟨4608 + (j : ℕ), by omega⟩)
  c r j := C (ix2 ⟨(n : ℕ) * 128 + (r : ℕ), by omega⟩ j)
  s r j := S (ix2 ⟨(n : ℕ) * 128 + (r : ℕ), by omega⟩ j)

/-- The states before chunk `n` of a sequence of chunks, from zero. -/
def stateN (X : ℕ → Rows) : ℕ → Fin 4 → Fin 64 → Fin 128 → EReal
  | 0 => fun _ _ _ => 0
  | n + 1 => (X n).next (stateN X n)

/-- Chunk `n` of batch row `b` (32 chunks each). -/
def chunk (P : FVec Ideal ⟨2, ![8192, 6144]⟩ .f32) (C S : FVec Ideal ⟨2, ![8192, 256]⟩ .f32) (b : Fin 2) (n : ℕ) : Rows :=
  rowsAt P C S ⟨(b : ℕ) * 32 + n % 32, by omega⟩

/-- THE RESULT: row `i`, lane `l` — batch row `i / 4096`, chunk `(i / 128) mod 32`, position `i mod 128`. -/
def result (P : FVec Ideal ⟨2, ![8192, 6144]⟩ .f32) (C S : FVec Ideal ⟨2, ![8192, 256]⟩ .f32) (i : Fin 8192) (l : Fin 512) : EReal :=
  (chunk P C S ⟨(i : ℕ) / 4096, by omega⟩ ((i : ℕ) / 128 % 32)).res
    (stateN (chunk P C S ⟨(i : ℕ) / 4096, by omega⟩) ((i : ℕ) / 128 % 32)) ⟨(i : ℕ) % 128, by omega⟩ l

/-! ## Decays and masks as the programs spell them -/

/-- An integer difference of two positions, read as a real. -/
theorem diff_real (r m : Fin 128) :
    (((IntOp.subi (BitVec.ofNat 32 (r : ℕ)) (BitVec.ofNat 32 (m : ℕ))).toInt : ℝ)) = ((r : ℕ) : ℝ) - ((m : ℕ) : ℝ) := by
  have h : (IntOp.subi (BitVec.ofNat 32 (r : ℕ)) (BitVec.ofNat 32 (m : ℕ))).toInt = ((r : ℕ) : ℤ) - ((m : ℕ) : ℤ) := by
    revert r m; decide +kernel
  rw [h]; push_cast; rfl

/-- A position, read as a real. -/
theorem pos_real (r : Fin 128) : (((BitVec.ofNat 32 (r : ℕ)).toInt : ℝ)) = ((r : ℕ) : ℝ) := by
  have h : (BitVec.ofNat 32 (r : ℕ)).toInt = ((r : ℕ) : ℤ) := by revert r; decide +kernel
  rw [h]; push_cast; rfl

/-- Lanes below 64, selected. -/
theorem sel_lt {α : Type} (x : Fin 128) (a b : α) :
    Scalar.select (IntOp.cmpi CmpIPredicate.slt (BitVec.ofNat 32 (x : ℕ)) 64#32) a b = if (x : ℕ) < 64 then a else b := by
  have h : (IntOp.cmpi CmpIPredicate.slt (BitVec.ofNat 32 (x : ℕ)) 64#32 = 1) ↔ (x : ℕ) < 64 := by revert x; decide +kernel
  simp only [Scalar.select, h]

/-- Lanes from 64, selected. -/
theorem sel_ge {α : Type} (x : Fin 128) (a b : α) :
    Scalar.select (IntOp.cmpi CmpIPredicate.sge (BitVec.ofNat 32 (x : ℕ)) 64#32) a b = if (x : ℕ) < 64 then b else a := by
  have h : (IntOp.cmpi CmpIPredicate.sge (BitVec.ofNat 32 (x : ℕ)) 64#32 = 1) ↔ ¬ (x : ℕ) < 64 := by revert x; decide +kernel
  simp only [Scalar.select, h, ite_not]

/-- The first half of each head's 64 lanes, selected. -/
theorem sel_half {α : Type} (x : Fin 256) (a b : α) :
    Scalar.select (IntOp.cmpi CmpIPredicate.slt (IntOp.andi (BitVec.ofNat 32 (x : ℕ)) 63#32) 32#32) a b
      = if (x : ℕ) % 64 < 32 then a else b := by
  have h : (IntOp.cmpi CmpIPredicate.slt (IntOp.andi (BitVec.ofNat 32 (x : ℕ)) 63#32) 32#32 = 1) ↔ (x : ℕ) % 64 < 32 := by
    revert x; decide +kernel
  simp only [Scalar.select, h]

/-- A sum over 128 lanes of which only the first 64 count. -/
theorem sum_lo (f : Fin 128 → EReal) :
    (∑ x : Fin 128, if (x : ℕ) < 64 then f x else 0) = ∑ d : Fin 64, f ⟨(d : ℕ), by omega⟩ := by
  rw [show (∑ x : Fin 128, if (x : ℕ) < 64 then f x else 0) = ∑ x : Fin (64 + 64), if (x : ℕ) < 64 then f x else 0 from rfl,
    Fin.sum_univ_add]
  simp only [Fin.val_castAdd, Fin.val_natAdd, Fin.is_lt, ↓reduceIte, show ∀ i : Fin 64, ¬ 64 + (i : ℕ) < 64 from fun i => by omega,
    Finset.sum_const_zero, add_zero]
  rfl

/-- A sum over 128 lanes of which only the last 64 count. -/
theorem sum_hi (f : Fin 128 → EReal) :
    (∑ x : Fin 128, if (x : ℕ) < 64 then 0 else f x) = ∑ d : Fin 64, f ⟨64 + (d : ℕ), by omega⟩ := by
  rw [show (∑ x : Fin 128, if (x : ℕ) < 64 then 0 else f x) = ∑ x : Fin (64 + 64), if (x : ℕ) < 64 then 0 else f x from rfl,
    Fin.sum_univ_add]
  simp only [Fin.val_castAdd, Fin.val_natAdd, Fin.is_lt, ↓reduceIte, show ∀ i : Fin 64, ¬ 64 + (i : ℕ) < 64 from fun i => by omega,
    Finset.sum_const_zero, zero_add]
  rfl

/-- The decay within a chunk as the kernel computes it. -/
theorem inner_eq (h : Fin 4) (r m : Fin 128) (L : EReal) (hL : L = ((Real.log (gam h) : ℝ) : EReal)) :
    (if (0 : EReal) ≤ ((((r : ℕ) : ℝ) - ((m : ℕ) : ℝ) : ℝ) : EReal) then
      Ideal.exp (max ((((r : ℕ) : ℝ) - ((m : ℕ) : ℝ) : ℝ) : EReal) 0 * L) else 0) = inner h r m := by
  subst hL
  have hc : ((0 : EReal) ≤ ((((r : ℕ) : ℝ) - ((m : ℕ) : ℝ) : ℝ) : EReal)) ↔ m ≤ r := by
    rw [EReal.coe_nonneg, sub_nonneg, Nat.cast_le, Fin.le_def]
  unfold inner
  by_cases h' : m ≤ r
  · rw [if_pos (hc.2 h'), if_pos h', max_eq_left (hc.2 h'), ← EReal.coe_mul, Ideal.exp_coe]
  · rw [if_neg (mt hc.1 h'), if_neg h']

/-- One is the real one. -/
theorem one_real : (1 : EReal) = ((1 : ℝ) : EReal) := rfl

/-- `127.0` denotes 127. -/
theorem ofBits_127 : Ideal.ofBits .f32 0x42FE0000#32 = ((127 : ℝ) : EReal) := by
  simp [Ideal.ofBits, Ideal.ieee, -EReal.coe_mul]; norm_num

/-- `128.0` denotes 128. -/
theorem ofBits_128 : Ideal.ofBits .f32 0x43000000#32 = ((128 : ℝ) : EReal) := by
  simp [Ideal.ofBits, Ideal.ieee, -EReal.coe_mul]; norm_num

/-- The decay from the state as the kernel computes it. -/
theorem qd_eq (h : Fin 4) (r : Fin 128) (L : EReal) (hL : L = ((Real.log (gam h) : ℝ) : EReal)) :
    Ideal.exp (((((r : ℕ) : ℝ) : EReal) + 1) * L) = qd h r := by
  subst hL
  rw [one_real, ← EReal.coe_add, ← EReal.coe_mul, Ideal.exp_coe]; rfl

/-- The decay to the end of the chunk as the kernel computes it. -/
theorem kd_eq (h : Fin 4) (r : Fin 128) (L : EReal) (hL : L = ((Real.log (gam h) : ℝ) : EReal)) :
    Ideal.exp ((Ideal.ofBits .f32 0x42FE0000#32 - (((r : ℕ) : ℝ) : EReal)) * L) = kd h r := by
  subst hL
  rw [ofBits_127, ← EReal.coe_sub, ← EReal.coe_mul, Ideal.exp_coe]; rfl

end Cert.Ret

end
-- ==== Proof.Heads.lean ====
/-
  What the retention kernel's body computes from a chunk's rows and the carried states: each stored payload, read at an index,
  is the function of Proof/Spec.lean. The kernel packs two heads into one tile of 128 lanes and masks the other head's lanes
  to zero; a masked sum over 128 lanes is the head's sum over its own 64.
-/
module

public import proofs.«01_k».proof.Proof.Gen.KernelIdeal.Value
public import proofs.«01_k».proof.Proof.Spec
public import Idealize.ShloMosaic.Lib.Pipeline.ValueKit
public import Idealize.ShloMosaic.Lib.Pointwise

@[expose] public section

set_option maxRecDepth 16384

noncomputable section

namespace Cert.KernelIdeal.Ret

open Cert.KernelIdeal Cert.KernelIdeal.Gen Idealize.ShloMosaic Idealize.ShloMosaic.TcCoe Idealize.SL.Sem
open Cert.Ret

/-! ## The named constants -/

/-- The first head's logarithm. -/
theorem lg0 : Named.named (F := Ideal) κ "log_gamma0" (φ := .f32) 3171027692#32 = ((Real.log (gam 0) : ℝ) : EReal) :=
  IdealRules.named_const.ideal_named_scalar _ _ _ _ rfl
/-- The second head's logarithm. -/
theorem lg1 : Named.named (F := Ideal) κ "log_gamma1" (φ := .f32) 3162571443#32 = ((Real.log (gam 1) : ℝ) : EReal) :=
  IdealRules.named_const.ideal_named_scalar _ _ _ _ rfl
/-- The third head's logarithm. -/
theorem lg2 : Named.named (F := Ideal) κ "log_gamma2" (φ := .f32) 0xBC0080AC#32 = ((Real.log (gam 2) : ℝ) : EReal) :=
  IdealRules.named_const.ideal_named_scalar _ _ _ _ rfl
/-- The fourth head's logarithm. -/
theorem lg3 : Named.named (F := Ideal) κ "log_gamma3" (φ := .f32) 0xBB80402B#32 = ((Real.log (gam 3) : ℝ) : EReal) :=
  IdealRules.named_const.ideal_named_scalar _ _ _ _ rfl

/-- The first head's decay over a chunk. -/
theorem cd0 : Named.named (F := Ideal) κ "chunk_decay0" (φ := .f32) 0x3C8CC36A#32 = cd 0 :=
  (IdealRules.named_const.ideal_named_scalar _ _ _ _ rfl).trans (by
    simp only [cd, gam, Matrix.cons_val]; congr 1; norm_num)
/-- The second head's decay over a chunk. -/
theorem cd1 : Named.named (F := Ideal) κ "chunk_decay1" (φ := .f32) 0x3E08698E#32 = cd 1 :=
  (IdealRules.named_const.ideal_named_scalar _ _ _ _ rfl).trans (by
    simp only [cd, gam, Matrix.cons_val]; congr 1; norm_num)
/-- The third head's decay over a chunk. -/
theorem cd2 : Named.named (F := Ideal) κ "chunk_decay2" (φ := .f32) 0x3EBB9DB9#32 = cd 2 :=
  (IdealRules.named_const.ideal_named_scalar _ _ _ _ rfl).trans (by
    simp only [cd, gam, Matrix.cons_val]; congr 1; norm_num)
/-- The fourth head's decay over a chunk. -/
theorem cd3 : Named.named (F := Ideal) κ "chunk_decay3" (φ := .f32) 0x3F1B1EB1#32 = cd 3 :=
  (IdealRules.named_const.ideal_named_scalar _ _ _ _ rfl).trans (by
    simp only [cd, gam, Matrix.cons_val]; congr 1; norm_num)

/-! ## Two heads in one tile -/

/-- Lane `d` of the first head of a pair. -/
def la (d : Fin 64) : Fin 128 := ⟨(d : ℕ), by omega⟩
/-- Lane `d` of the second head of a pair. -/
def lb (d : Fin 64) : Fin 128 := ⟨64 + (d : ℕ), by omega⟩

/-- The states of a pair of heads, as the kernel stacks them: 64 rows of the first, 64 of the second. -/
def pairSt (st : Fin 4 → Fin 64 → Fin 128 → EReal) (p : Fin 2) (x e : Fin 128) : EReal :=
  st ⟨2 * (p : ℕ) + (x : ℕ) / 64, by omega⟩ ⟨(x : ℕ) % 64, by omega⟩ e

variable (q k : FVec Ideal S128x128 .f32) (kb : FVec Ideal S128x128 .bf16) (s : Vec Ideal S1x128x128 .f32) (sb : FVec Ideal S128x128 .bf16)
  (v : Vec Ideal S128x128 .f32) (r e d : Fin 128)

/-- The lane index of a 128-lane tile. -/
abbrev io1 : IVec S128x128 32 := iota .tc S128x128 32 [1] iota_S128x128_d1_w32
/-- The row index of a 128-row tile. -/
abbrev io0 : IVec S128x128 32 := iota .tc S128x128 32 [0] iota_S128x128_d0_w32

/-- An integer read as a float at the ideal instance is that integer. -/
theorem sitofp_at {w : ℕ} (b : BitVec w) : FloatOps.sitofp (F := Ideal) FTy.f32 b = ((b.toInt : ℝ) : EReal) := rfl

/-- The first head's output. -/
theorem out0_eq : k0_pay17 (F := Ideal) k0_pay7 k0_pay8 io1 q kb s v (ix2 r e)
    = chunkOut 0 (fun r d => q (ix2 r (la d))) (fun m d => kb (ix2 m (la d))) (fun m e => v (ix2 m e))
        (fun d e => s (ix3 0 (la d) e)) r e := by
  pointwise [k0_pay17, k0_pay7, k0_pay8, k0_pay15, k0_pay16, k0_pay13, k0_pay12]
  simp only [sel_lt, sum_lo, sitofp_at, diff_real, pos_real, inner_eq 0 _ _ _ lg0, qd_eq 0 _ _ lg0, chunkOut, la]

/-- The first head's output, normalised. -/
theorem nrm0_eq : k0_pay20 (F := Ideal) (k0_pay17 k0_pay7 k0_pay8 io1 q kb s v) (ix2 r e)
    = nrm (chunkOut 0 (fun r d => q (ix2 r (la d))) (fun m d => kb (ix2 m (la d))) (fun m e => v (ix2 m e))
        (fun d e => s (ix3 0 (la d) e)) r) e := by
  pointwise [k0_pay20]
  simp only [out0_eq, nrm]

/-- The second head's output, normalised. -/
theorem nrm1_eq : k0_pay27 (F := Ideal) (k0_pay24 k0_pay7 io1 q kb v) (k0_pay25 io1 q sb) (k0_pay26 k0_pay8)
      (Named.named κ "log_gamma1" 3162571443#32) (ix2 r e)
    = nrm (chunkOut 1 (fun r d => q (ix2 r (lb d))) (fun m d => kb (ix2 m (lb d))) (fun m e => v (ix2 m e))
        (fun d e => sb (ix2 (lb d) e)) r) e := by
  pointwise [k0_pay27, k0_pay24, k0_pay25, k0_pay26, k0_pay7, k0_pay8, k0_pay21, k0_pay22, k0_pay23]
  simp only [sel_ge, sum_hi, sitofp_at, diff_real, pos_real, inner_eq 1 _ _ _ lg1, qd_eq 1 _ _ lg1, chunkOut, lb, nrm]

/-- The third head's output. -/
theorem out2_eq : k0_pay38 (F := Ideal) k0_pay7 k0_pay8 io1 q kb sb k0_pay35 v (ix2 r e)
    = chunkOut 2 (fun r d => q (ix2 r (la d))) (fun m d => kb (ix2 m (la d))) (fun m e => v (ix2 m e))
        (fun d e => sb (ix2 (la d) e)) r e := by
  pointwise [k0_pay38, k0_pay7, k0_pay8, k0_pay35, k0_pay36, k0_pay37]
  simp only [sel_lt, sum_lo, sitofp_at, diff_real, pos_real, inner_eq 2 _ _ _ lg2, qd_eq 2 _ _ lg2, chunkOut, la]

/-- The third head's output, normalised. -/
theorem nrm2_eq : k0_pay42 (F := Ideal) (k0_pay38 k0_pay7 k0_pay8 io1 q kb sb k0_pay35 v) (k0_pay40 k0_pay7 k0_pay8 io1 q kb sb k0_pay35 v)
      k0_pay41 (ix2 r e)
    = nrm (chunkOut 2 (fun r d => q (ix2 r (la d))) (fun m d => kb (ix2 m (la d))) (fun m e => v (ix2 m e))
        (fun d e => sb (ix2 (la d) e)) r) e := by
  pointwise [k0_pay42, k0_pay40, k0_pay41]
  simp only [out2_eq, nrm]

/-- The fourth head's output. -/
theorem out3_eq : k0_pay45 (F := Ideal) k0_pay7 k0_pay8 io1 q kb sb v (ix2 r e)
    = chunkOut 3 (fun r d => q (ix2 r (lb d))) (fun m d => kb (ix2 m (lb d))) (fun m e => v (ix2 m e))
        (fun d e => sb (ix2 (lb d) e)) r e := by
  pointwise [k0_pay45, k0_pay7, k0_pay8, k0_pay43, k0_pay44]
  simp only [sel_ge, sum_hi, sitofp_at, diff_real, pos_real, inner_eq 3 _ _ _ lg3, qd_eq 3 _ _ lg3, chunkOut, lb]

/-- A masked sum whose mask does not depend on the summed index. -/
theorem sum_ite_const {n : ℕ} (c : Prop) [Decidable c] (f : Fin n → EReal) :
    (∑ x, if c then f x else 0) = if c then ∑ x, f x else 0 := by
  split <;> simp

/-- The same with the branches exchanged. -/
theorem sum_ite_const' {n : ℕ} (c : Prop) [Decidable c] (f : Fin n → EReal) :
    (∑ x, if c then 0 else f x) = if c then 0 else ∑ x, f x := by
  split <;> simp

/-- The first pair's new states. -/
theorem st0_eq (va vb : Vec Ideal S128x128 .f32) (x : Fin 128) :
    k0_pay28 (F := Ideal) k0_pay8 k (k0_pay19 k0_pay8 (k0_pay14 io0 s) (k0_pay16 va) (k0_pay18 io1 k) (FloatOps.ofBits .f32 1123942400#32))
      (k0_pay21 io1) (k0_pay23 vb) (ix3 0 x e)
    = if (x : ℕ) < 64 then s (ix3 0 x e) * cd 0 + ∑ m, k (ix2 m x) * kd 0 m * va (ix2 m e)
      else s (ix3 0 x e) * cd 1 + ∑ m, k (ix2 m x) * kd 1 m * vb (ix2 m e) := by
  pointwise [k0_pay28, k0_pay19, k0_pay14, k0_pay12, k0_pay8, k0_pay15, k0_pay16, k0_pay18, k0_pay21, k0_pay23]
  simp only [sel_lt, sel_ge, sum_ite_const, sum_ite_const', sitofp_at, pos_real, kd_eq 0 _ _ lg0, kd_eq 1 _ _ lg1, cd0, cd1]
  by_cases h : (x : ℕ) < 64
  · simp only [if_pos h, add_zero]
  · simp only [if_neg h, add_zero]

/-- The second pair's new states. -/
theorem st1_eq (va vb : Vec Ideal S128x128 .f32) (x : Fin 128) (kk : FVec Ideal S128x256 .f32) :
    k0_pay1 (F := Ideal) (k0_pay39 k0_pay8 io1 (k0_pay30 kk) (k0_pay34 io0 s) k0_pay35 va) (k0_pay44 vb) (k0_pay46 k0_pay8 io1 (k0_pay30 kk)) (ix3 0 x e)
    = if (x : ℕ) < 64 then s (ix3 0 x e) * cd 2 + ∑ m, k0_pay30 kk (ix2 m x) * kd 2 m * va (ix2 m e)
      else s (ix3 0 x e) * cd 3 + ∑ m, k0_pay30 kk (ix2 m x) * kd 3 m * vb (ix2 m e) := by
  pointwise [k0_pay1, k0_pay39, k0_pay34, k0_pay32, k0_pay8, k0_pay35, k0_pay36, k0_pay37, k0_pay44, k0_pay46, k0_pay43]
  simp only [sel_lt, sel_ge, sum_ite_const, sum_ite_const', sitofp_at, pos_real, kd_eq 2 _ _ lg2, kd_eq 3 _ _ lg3, cd2, cd3]
  by_cases h : (x : ℕ) < 64
  · simp only [if_pos h, add_zero]
  · simp only [if_neg h, add_zero]

/-- The rotary embedding, its partner lane picked by two rotations of the whole row. -/
theorem rot_eq (x c s : Vec Ideal S128x256 .f32) (h : Fin 4) (d : Fin 64) :
    k0_pay5 (F := Ideal) x c s (ix2 r (ln h d))
      = x (ix2 r (ln h d)) * c (ix2 r (ln h d)) + x (ix2 r (ln h (swp d))) * s (ix2 r (ln h d)) := by
  pointwise [k0_pay5, k0_pay4]
  simp only [sel_half]
  have hm : ((ln h d : Fin 256) : ℕ) % 64 = (d : ℕ) := by simp only [ln]; omega
  rw [hm]
  by_cases hd : (d : ℕ) < 32
  · rw [if_pos hd]
    congr 3
    exact congrArg (ix2 r) (Fin.ext (by simp only [ln, swp]; omega))
  · rw [if_neg hd]
    congr 3
    exact congrArg (ix2 r) (Fin.ext (by simp only [ln, swp]; omega))

/-- The keys' rotary embedding is the queries', scaled. -/
theorem rotk_eq (x c s : Vec Ideal S128x256 .f32) (h : Fin 4) (d : Fin 64) :
    k0_pay6 (F := Ideal) x c s (ix2 r (ln h d))
      = (x (ix2 r (ln h d)) * c (ix2 r (ln h d)) + x (ix2 r (ln h (swp d))) * s (ix2 r (ln h d))) * Ideal.ofBits .f32 0x3E000000#32 := by
  rw [← rot_eq]
  pointwise [k0_pay6, k0_pay5]

end Cert.KernelIdeal.Ret

end
-- ==== Proof.Point.lean ====
/-
  One grid point of the retention kernel: from the blocks it loads and the states carried to it, the result block and the
  states it leaves, as functions of Proof/Spec.lean.
-/
module

public import proofs.«01_k».proof.Proof.Heads
public import Idealize.ShloMosaic.Lib.Pipeline.ReadBack

@[expose] public section

set_option maxRecDepth 16384

noncomputable section

namespace Cert.KernelIdeal.Ret

open Cert.KernelIdeal Cert.KernelIdeal.Gen Idealize.ShloMosaic Idealize.ShloMosaic.TcCoe Idealize.SL.Sem
open Cert.Ret

/-- The rows of a point's three input blocks. -/
def blkRows (x0 : Vec Ideal S128x1536 .f32) (x1 x2 : Vec Ideal S128x256 .f32) : Rows where
  p r j := x0 (ix2 r j)
  c r j := x1 (ix2 r j)
  s r j := x2 (ix2 r j)

variable (x0 : Vec Ideal S128x1536 .f32) (v3 v4 x1 x2 : Vec Ideal S128x256 .f32) (v5 : Vec Ideal S128x512 .f32)
  (sa sb : Vec Ideal S1x128x128 .f32) (va vb vc vd : Vec Ideal S128x128 .f32) (st : Fin 4 → Fin 64 → Fin 128 → EReal)

/-- The queries as the blocks' rows give them. -/
theorem q_at (h3 : ∀ (r : Fin 128) (l : Fin 256), v3 (ix2 r l) = x0 (ix2 r (⟨(l : ℕ), by omega⟩ : Fin 1536)))
    (r : Fin 128) (h : Fin 4) (d : Fin 64) :
    k0_pay5 (F := Ideal) v3 x1 x2 (ix2 r (ln h d)) = (blkRows x0 x1 x2).q h r d := by
  rw [rot_eq, h3, h3]
  simp only [blkRows, Rows.q, qR, col, ln, zero_add]

/-- The keys as the blocks' rows give them. -/
theorem k_at (h4 : ∀ (r : Fin 128) (l : Fin 256), v4 (ix2 r l) = x0 (ix2 r (⟨256 + (l : ℕ), by omega⟩ : Fin 1536)))
    (r : Fin 128) (h : Fin 4) (d : Fin 64) :
    k0_pay6 (F := Ideal) v4 x1 x2 (ix2 r (ln h d)) = (blkRows x0 x1 x2).k h r d := by
  rw [rotk_eq, h4, h4]
  simp only [blkRows, Rows.k, kR, col, ln]

/-- First head's lanes of the first 128. -/
theorem q0_at (r : Fin 128) (d : Fin 64) : k0_pay9 (F := Ideal) v3 x1 x2 (ix2 r (la d)) = k0_pay5 (F := Ideal) v3 x1 x2 (ix2 r (ln 0 d)) := by
  pointwise [k0_pay9]
  exact congrArg _ (congrArg (ix2 r) (Fin.ext (by simp only [la, ln]; simp)))
/-- Second head's lanes of the first 128. -/
theorem q1_at (r : Fin 128) (d : Fin 64) : k0_pay9 (F := Ideal) v3 x1 x2 (ix2 r (lb d)) = k0_pay5 (F := Ideal) v3 x1 x2 (ix2 r (ln 1 d)) := by
  pointwise [k0_pay9]
  exact congrArg _ (congrArg (ix2 r) (Fin.ext (by simp only [lb, ln]; simp)))
/-- Third head's lanes: the first of the last 128. -/
theorem q2_at (w : FVec Ideal S128x256 .f32) (r : Fin 128) (d : Fin 64) : k0_pay29 (F := Ideal) w (ix2 r (la d)) = w (ix2 r (ln 2 d)) := by
  pointwise [k0_pay29]
  exact congrArg _ (congrArg (ix2 r) (Fin.ext (by simp only [la, ln]; simp)))
/-- Fourth head's lanes: the last of the last 128. -/
theorem q3_at (w : FVec Ideal S128x256 .f32) (r : Fin 128) (d : Fin 64) : k0_pay29 (F := Ideal) w (ix2 r (lb d)) = w (ix2 r (ln 3 d)) := by
  pointwise [k0_pay29]
  exact congrArg _ (congrArg (ix2 r) (Fin.ext (by simp only [lb, ln]; simp; omega)))
/-- The keys' first 128 lanes, first head. -/
theorem k0_at (r : Fin 128) (d : Fin 64) : k0_pay10 (F := Ideal) v4 x1 x2 (ix2 r (la d)) = k0_pay6 (F := Ideal) v4 x1 x2 (ix2 r (ln 0 d)) := by
  pointwise [k0_pay10]
  exact congrArg _ (congrArg (ix2 r) (Fin.ext (by simp only [la, ln]; simp)))
/-- The keys' first 128 lanes, second head. -/
theorem k1_at (r : Fin 128) (d : Fin 64) : k0_pay10 (F := Ideal) v4 x1 x2 (ix2 r (lb d)) = k0_pay6 (F := Ideal) v4 x1 x2 (ix2 r (ln 1 d)) := by
  pointwise [k0_pay10]
  exact congrArg _ (congrArg (ix2 r) (Fin.ext (by simp only [lb, ln]; simp)))
/-- The keys' last 128 lanes, third head. -/
theorem k2_at (w : FVec Ideal S128x256 .f32) (r : Fin 128) (d : Fin 64) : k0_pay30 (F := Ideal) w (ix2 r (la d)) = w (ix2 r (ln 2 d)) := by
  pointwise [k0_pay30]
  exact congrArg _ (congrArg (ix2 r) (Fin.ext (by simp only [la, ln]; simp)))
/-- The keys' last 128 lanes, fourth head. -/
theorem k3_at (w : FVec Ideal S128x256 .f32) (r : Fin 128) (d : Fin 64) : k0_pay30 (F := Ideal) w (ix2 r (lb d)) = w (ix2 r (ln 3 d)) := by
  pointwise [k0_pay30]
  exact congrArg _ (congrArg (ix2 r) (Fin.ext (by simp only [lb, ln]; simp; omega)))
/-- Rounding the keys changes nothing here. -/
theorem k11_at (r l : Fin 128) : k0_pay11 (F := Ideal) v4 x1 x2 (ix2 r l) = k0_pay10 (F := Ideal) v4 x1 x2 (ix2 r l) := by
  pointwise [k0_pay11]
/-- The same of the second pair. -/
theorem k31_at (w : FVec Ideal S128x256 .f32) (r l : Fin 128) : k0_pay31 (F := Ideal) w (ix2 r l) = k0_pay30 (F := Ideal) w (ix2 r l) := by
  pointwise [k0_pay31]
/-- A pair's state, without its unit axis. -/
theorem s13_at (x e : Fin 128) : k0_pay13 (F := Ideal) sa (ix2 x e) = sa (ix3 0 x e) := by
  pointwise [k0_pay13, k0_pay12]
/-- The same of the second pair. -/
theorem s33_at (x e : Fin 128) : k0_pay33 (F := Ideal) sa (ix2 x e) = sa (ix3 0 x e) := by
  pointwise [k0_pay33, k0_pay32]

/-- A pair's stacked states, the first head's rows. -/
theorem pair_la (p : Fin 2) (d : Fin 64) (e : Fin 128) : pairSt st p (la d) e = st ⟨2 * (p : ℕ), by omega⟩ d e := by
  have h1 : ((la d : Fin 128) : ℕ) / 64 = 0 := by simp only [la]; omega
  have h2 : ((la d : Fin 128) : ℕ) % 64 = (d : ℕ) := by simp only [la]; omega
  simp only [pairSt, h1, h2, add_zero]
/-- A pair's stacked states, the second head's rows. -/
theorem pair_lb (p : Fin 2) (d : Fin 64) (e : Fin 128) : pairSt st p (lb d) e = st ⟨2 * (p : ℕ) + 1, by omega⟩ d e := by
  have h1 : ((lb d : Fin 128) : ℕ) / 64 = 1 := by simp only [lb]; omega
  have h2 : ((lb d : Fin 128) : ℕ) % 64 = (d : ℕ) := by simp only [lb]; omega
  simp only [pairSt, h1, h2]

/-- THE RESULT BLOCK as the body writes it, read at an index. -/
theorem pay_out (h3 : ∀ (r : Fin 128) (l : Fin 256), v3 (ix2 r l) = x0 (ix2 r (⟨(l : ℕ), by omega⟩ : Fin 1536)))
    (h4 : ∀ (r : Fin 128) (l : Fin 256), v4 (ix2 r l) = x0 (ix2 r (⟨256 + (l : ℕ), by omega⟩ : Fin 1536)))
    (h5 : ∀ (r : Fin 128) (l : Fin 512), v5 (ix2 r l) = x0 (ix2 r (gcol l)))
    (ha : ∀ r e : Fin 128, va (ix2 r e) = x0 (ix2 r (vcol 0 e))) (hb : ∀ r e : Fin 128, vb (ix2 r e) = x0 (ix2 r (vcol 1 e)))
    (hc : ∀ r e : Fin 128, vc (ix2 r e) = x0 (ix2 r (vcol 2 e))) (hd' : ∀ r e : Fin 128, vd (ix2 r e) = x0 (ix2 r (vcol 3 e)))
    (hsa : ∀ x e : Fin 128, sa (ix3 0 x e) = pairSt st 0 x e) (hsb : ∀ x e : Fin 128, sb (ix3 0 x e) = pairSt st 1 x e)
    (r : Fin 128) (l : Fin 512) :
    k0_pay2 (F := Ideal) v5
      (k0_pay20 (k0_pay17 k0_pay7 k0_pay8 io1 (k0_pay9 v3 x1 x2) (k0_pay11 v4 x1 x2) sa va))
      (k0_pay27 (k0_pay24 k0_pay7 io1 (k0_pay9 v3 x1 x2) (k0_pay11 v4 x1 x2) vb) (k0_pay25 io1 (k0_pay9 v3 x1 x2) (k0_pay13 sa))
        (k0_pay26 k0_pay8) (Named.named κ "log_gamma1" 3162571443#32))
      (k0_pay42 (k0_pay38 k0_pay7 k0_pay8 io1 (k0_pay29 (k0_pay5 v3 x1 x2)) (k0_pay31 (k0_pay6 v4 x1 x2)) (k0_pay33 sb) k0_pay35 vc)
        (k0_pay40 k0_pay7 k0_pay8 io1 (k0_pay29 (k0_pay5 v3 x1 x2)) (k0_pay31 (k0_pay6 v4 x1 x2)) (k0_pay33 sb) k0_pay35 vc) k0_pay41)
      (k0_pay45 k0_pay7 k0_pay8 io1 (k0_pay29 (k0_pay5 v3 x1 x2)) (k0_pay31 (k0_pay6 v4 x1 x2)) (k0_pay33 sb) vd)
      (ix2 r l) = (blkRows x0 x1 x2).res st r l := by
  have e0 : ∀ e, k0_pay20 (F := Ideal) (k0_pay17 k0_pay7 k0_pay8 io1 (k0_pay9 v3 x1 x2) (k0_pay11 v4 x1 x2) sa va) (ix2 r e)
      = nrm ((blkRows x0 x1 x2).out st 0 r) e := fun e => by
    rw [nrm0_eq]
    simp only [k11_at, q0_at, k0_at, q_at x0 v3 x1 x2 h3, k_at x0 v4 x1 x2 h4, ha, hsa, pair_la]; rfl
  have e1 : ∀ e, k0_pay27 (F := Ideal) (k0_pay24 k0_pay7 io1 (k0_pay9 v3 x1 x2) (k0_pay11 v4 x1 x2) vb) (k0_pay25 io1 (k0_pay9 v3 x1 x2) (k0_pay13 sa))
        (k0_pay26 k0_pay8) (Named.named κ "log_gamma1" 3162571443#32) (ix2 r e)
      = nrm ((blkRows x0 x1 x2).out st 1 r) e := fun e => by
    rw [nrm1_eq]
    simp only [k11_at, q1_at, k1_at, q_at x0 v3 x1 x2 h3, k_at x0 v4 x1 x2 h4, hb, s13_at, hsa, pair_lb]; rfl
  have e2 : ∀ e, k0_pay42 (F := Ideal) (k0_pay38 k0_pay7 k0_pay8 io1 (k0_pay29 (k0_pay5 v3 x1 x2)) (k0_pay31 (k0_pay6 v4 x1 x2)) (k0_pay33 sb) k0_pay35 vc)
        (k0_pay40 k0_pay7 k0_pay8 io1 (k0_pay29 (k0_pay5 v3 x1 x2)) (k0_pay31 (k0_pay6 v4 x1 x2)) (k0_pay33 sb) k0_pay35 vc) k0_pay41 (ix2 r e)
      = nrm ((blkRows x0 x1 x2).out st 2 r) e := fun e => by
    rw [nrm2_eq]
    simp only [k31_at, q2_at, k2_at, q_at x0 v3 x1 x2 h3, k_at x0 v4 x1 x2 h4, hc, s33_at, hsb, pair_la]; rfl
  have e3 : ∀ e, k0_pay45 (F := Ideal) k0_pay7 k0_pay8 io1 (k0_pay29 (k0_pay5 v3 x1 x2)) (k0_pay31 (k0_pay6 v4 x1 x2)) (k0_pay33 sb) vd (ix2 r e)
      = (blkRows x0 x1 x2).out st 3 r e := fun e => by
    rw [out3_eq]
    simp only [k31_at, q3_at, k3_at, q_at x0 v3 x1 x2 h3, k_at x0 v4 x1 x2 h4, hd', s33_at, hsb, pair_lb]; rfl
  pointwise [k0_pay2]
  simp only [e0, e1, e2, e3, h5, zero_sub]
  unfold Rows.res gate
  refine Ideal.mul_congr ?_ rfl
  by_cases c0 : (l : ℕ) < 128
  · rw [dif_pos c0, show hd l = 0 from Fin.ext (by simp only [hd]; exact Nat.div_eq_of_lt c0)]
    exact congrArg _ (Fin.ext (Nat.mod_eq_of_lt c0).symm)
  rw [dif_neg c0]
  by_cases c1 : (l : ℕ) - 128 < 128
  · rw [dif_pos c1, show hd l = 1 from Fin.ext (by simp only [hd]; show (l : ℕ) / 128 = 1; omega)]
    exact congrArg _ (Fin.ext (by simp only [lo]; omega))
  rw [dif_neg c1]
  by_cases c2 : (l : ℕ) - 128 - 128 < 128
  · rw [dif_pos c2, show hd l = 2 from Fin.ext (by simp only [hd]; show (l : ℕ) / 128 = 2; omega)]
    exact congrArg _ (Fin.ext (by simp only [lo]; omega))
  rw [dif_neg c2, show hd l = 3 from Fin.ext (by simp only [hd]; show (l : ℕ) / 128 = 3; omega)]
  have hl : lo l = ⟨(l : ℕ) - 128 - 128 - 128, by omega⟩ := Fin.ext (by simp only [lo]; omega)
  rw [hl]; rfl

/-- The first pair's new states, as the body writes them. -/
theorem pay_st0 (h4 : ∀ (r : Fin 128) (l : Fin 256), v4 (ix2 r l) = x0 (ix2 r (⟨256 + (l : ℕ), by omega⟩ : Fin 1536)))
    (ha : ∀ r e : Fin 128, va (ix2 r e) = x0 (ix2 r (vcol 0 e))) (hb : ∀ r e : Fin 128, vb (ix2 r e) = x0 (ix2 r (vcol 1 e)))
    (hsa : ∀ x e : Fin 128, sa (ix3 0 x e) = pairSt st 0 x e) (x e : Fin 128) :
    k0_pay28 (F := Ideal) k0_pay8 (k0_pay10 v4 x1 x2) (k0_pay19 k0_pay8 (k0_pay14 io0 sa) (k0_pay16 va) (k0_pay18 io1 (k0_pay10 v4 x1 x2))
      (FloatOps.ofBits .f32 1123942400#32)) (k0_pay21 io1) (k0_pay23 vb) (ix3 0 x e) = pairSt ((blkRows x0 x1 x2).next st) 0 x e := by
  rw [st0_eq, hsa]
  by_cases h : (x : ℕ) < 64
  · rw [if_pos h]
    obtain ⟨d, rfl⟩ : ∃ d : Fin 64, x = la d := ⟨⟨x, h⟩, rfl⟩
    simp only [k0_at, k_at x0 v4 x1 x2 h4, ha, pair_la]; rfl
  · rw [if_neg h]
    obtain ⟨d, rfl⟩ : ∃ d : Fin 64, x = lb d := ⟨⟨(x : ℕ) - 64, by omega⟩, Fin.ext (by simp only [lb]; omega)⟩
    simp only [k1_at, k_at x0 v4 x1 x2 h4, hb, pair_lb]; rfl

/-- The second pair's new states, as the body writes them. -/
theorem pay_st1 (h4 : ∀ (r : Fin 128) (l : Fin 256), v4 (ix2 r l) = x0 (ix2 r (⟨256 + (l : ℕ), by omega⟩ : Fin 1536)))
    (hc : ∀ r e : Fin 128, vc (ix2 r e) = x0 (ix2 r (vcol 2 e))) (hd' : ∀ r e : Fin 128, vd (ix2 r e) = x0 (ix2 r (vcol 3 e)))
    (hsb : ∀ x e : Fin 128, sb (ix3 0 x e) = pairSt st 1 x e) (x e : Fin 128) :
    k0_pay1 (F := Ideal) (k0_pay39 k0_pay8 io1 (k0_pay30 (k0_pay6 v4 x1 x2)) (k0_pay34 io0 sb) k0_pay35 vc) (k0_pay44 vd)
      (k0_pay46 k0_pay8 io1 (k0_pay30 (k0_pay6 v4 x1 x2))) (ix3 0 x e) = pairSt ((blkRows x0 x1 x2).next st) 1 x e := by
  rw [st1_eq, hsb]
  by_cases h : (x : ℕ) < 64
  · rw [if_pos h]
    obtain ⟨d, rfl⟩ : ∃ d : Fin 64, x = la d := ⟨⟨x, h⟩, rfl⟩
    simp only [k2_at, k_at x0 v4 x1 x2 h4, hc, pair_la]; rfl
  · rw [if_neg h]
    obtain ⟨d, rfl⟩ : ∃ d : Fin 64, x = lb d := ⟨⟨(x : ℕ) - 64, by omega⟩, Fin.ext (by simp only [lb]; omega)⟩
    simp only [k3_at, k_at x0 v4 x1 x2 h4, hd', pair_lb]; rfl

/-! ## The four outputs of a grid point -/

/-- Columns of the staged block that a load of part of it reads, settled. -/
theorem fin_congr {n : ℕ} {a b : ℕ} (ha : a < n) (hb : b < n) (h : a = b) : (⟨a, ha⟩ : Fin n) = ⟨b, hb⟩ := Fin.ext h

/-- A point that carries states on: its result block. -/
theorem out_B (c : Dev nD) (i : grid0.Coords) (arg2 : Memref sig .tc .vmem S128x1536 .f32) (harg2 : arg2.IsWhole) (arg3 : Memref sig .tc .vmem S128x256 .f32)
    (harg3 : arg3.IsWhole) (arg4 : Memref sig .tc .vmem S128x256 .f32) (harg4 : arg4.IsWhole) (arg5 : Memref sig .tc .vmem S128x512 .bf16)
    (harg5 : arg5.IsWhole) (arg6 : Memref sig .tc .vmem S2x128x128 .f32) (harg6 : arg6.IsWhole) (hc0 : ¬cond0_0 i) (xs0 : Vec Ideal S2x128x128 .f32)
    (hs : ∀ (p : Fin 2) (x e : Fin 128), xs0 (ix3 p x e) = pairSt st p x e) (r : Fin 128) (l : Fin 512) :
    out0_B_3 c i arg2 harg2 arg3 harg3 arg4 harg4 arg5 harg5 arg6 harg6 hc0 x0 x1 x2 xs0 (ix2 r l) = (blkRows x0 x1 x2).res st r l := by
  frame_out
  refine pay_out x0 _ _ x1 x2 _ _ _ _ _ _ _ st ?_ ?_ ?_ ?_ ?_ ?_ ?_ ?_ ?_ r l
  all_goals intro a b; pointwise [gcol, vcol, hs]
  all_goals exact congrArg _ (congrArg (ix2 a) (Fin.ext (by simp only []; omega)))

/-- A point that carries states on: the states it leaves. -/
theorem sout_B (c : Dev nD) (i : grid0.Coords) (arg2 : Memref sig .tc .vmem S128x1536 .f32) (harg2 : arg2.IsWhole) (arg3 : Memref sig .tc .vmem S128x256 .f32)
    (harg3 : arg3.IsWhole) (arg4 : Memref sig .tc .vmem S128x256 .f32) (harg4 : arg4.IsWhole) (arg5 : Memref sig .tc .vmem S128x512 .bf16)
    (harg5 : arg5.IsWhole) (arg6 : Memref sig .tc .vmem S2x128x128 .f32) (harg6 : arg6.IsWhole) (hc0 : ¬cond0_0 i) (xs0 : Vec Ideal S2x128x128 .f32)
    (hs : ∀ (p : Fin 2) (x e : Fin 128), xs0 (ix3 p x e) = pairSt st p x e) (p : Fin 2) (x e : Fin 128) :
    sout0_B_0 c i arg2 harg2 arg3 harg3 arg4 harg4 arg5 harg5 arg6 harg6 hc0 x0 x1 x2 xs0 (ix3 p x e) = pairSt ((blkRows x0 x1 x2).next st) p x e := by
  frame_out
  canon_tiles y h
  · idx_vars y
    obtain rfl : p = 1 := Fin.ext (by rw [h0]; omega)
    obtain rfl : x = y1 := Fin.ext h1
    obtain rfl : e = y2 := Fin.ext h2
    obtain rfl : y0 = 0 := Subsingleton.elim _ _
    refine pay_st1 x0 _ x1 x2 _ _ _ st ?_ ?_ ?_ ?_ x e
    all_goals intro a b; pointwise [vcol, hs]
    all_goals exact congrArg _ (congrArg (ix2 a) (Fin.ext (by simp only []; omega)))
  · idx_vars y
    obtain rfl : y0 = 0 := Subsingleton.elim _ _
    obtain rfl : p = 0 := Fin.ext h0
    obtain rfl : x = y1 := Fin.ext h1
    obtain rfl : e = y2 := Fin.ext h2
    refine pay_st0 x0 _ x1 x2 _ _ _ st ?_ ?_ ?_ ?_ x e
    all_goals intro a b; pointwise [vcol, hs]
    all_goals exact congrArg _ (congrArg (ix2 a) (Fin.ext (by simp only []; omega)))

/-- The origin of a whole three-axis buffer. -/
theorem zero3 : ∀ a : Fin S2x128x128.rank, (![0, 0, 0] : Fin 3 → ℕ) a = 0 := by decide

/-- A point that starts a batch row: its result block. -/
theorem out_A (c : Dev nD) (i : grid0.Coords) (arg2 : Memref sig .tc .vmem S128x1536 .f32) (harg2 : arg2.IsWhole) (arg3 : Memref sig .tc .vmem S128x256 .f32)
    (harg3 : arg3.IsWhole) (arg4 : Memref sig .tc .vmem S128x256 .f32) (harg4 : arg4.IsWhole) (arg5 : Memref sig .tc .vmem S128x512 .bf16)
    (harg5 : arg5.IsWhole) (arg6 : Memref sig .tc .vmem S2x128x128 .f32) (harg6 : arg6.IsWhole) (hc0 : cond0_0 i) (r : Fin 128) (l : Fin 512) :
    out0_A_3 c i arg2 harg2 arg3 harg3 arg4 harg4 arg5 harg5 arg6 harg6 hc0 x0 x1 x2 (ix2 r l) = (blkRows x0 x1 x2).res (fun _ _ _ => 0) r l := by
  frame_out
  rw [View.readCov_fill _ _ _ _ _ zero3, View.readCov_skip, View.readCov_fill _ _ _ _ _ zero3]
  · refine pay_out x0 _ _ x1 x2 _ _ _ _ _ _ _ (fun _ _ _ => 0) ?_ ?_ ?_ ?_ ?_ ?_ ?_ ?_ ?_ r l
    all_goals intro a b; pointwise [gcol, vcol, k0_pay3, pairSt]
    all_goals exact congrArg _ (congrArg (ix2 a) (Fin.ext (by simp only []; omega)))
  · decide +kernel

/-- A point that starts a batch row: the states it leaves. -/
theorem sout_A (c : Dev nD) (i : grid0.Coords) (arg2 : Memref sig .tc .vmem S128x1536 .f32) (harg2 : arg2.IsWhole) (arg3 : Memref sig .tc .vmem S128x256 .f32)
    (harg3 : arg3.IsWhole) (arg4 : Memref sig .tc .vmem S128x256 .f32) (harg4 : arg4.IsWhole) (arg5 : Memref sig .tc .vmem S128x512 .bf16)
    (harg5 : arg5.IsWhole) (arg6 : Memref sig .tc .vmem S2x128x128 .f32) (harg6 : arg6.IsWhole) (hc0 : cond0_0 i) (p : Fin 2) (x e : Fin 128) :
    sout0_A_0 c i arg2 harg2 arg3 harg3 arg4 harg4 arg5 harg5 arg6 harg6 hc0 x0 x1 x2 (ix3 p x e) = pairSt ((blkRows x0 x1 x2).next (fun _ _ _ => 0)) p x e := by
  frame_out
  rw [View.readCov_fill _ _ _ _ _ zero3, View.readCov_skip, View.readCov_fill _ _ _ _ _ zero3]
  · have hy0 : ∀ x e : Fin 128, (ix3 0 x e : S2x128x128.Idx) = (Rect.unit ![0, 0, 0] ![1, 128, 128] inb_S2x128x128_S1x128x128_0_0_0).emb (ix3 0 x e) := by
      intro x e; refine (Rect.emb_eq_of_coords _ _ _ fun a => ?_).symm; fin_cases a <;> simp [Rect.unit]
    have hy1 : ∀ x e : Fin 128, (ix3 1 x e : S2x128x128.Idx) = (Rect.unit ![1, 0, 0] ![1, 128, 128] inb_S2x128x128_S1x128x128_1_0_0).emb (ix3 0 x e) := by
      intro x e; refine (Rect.emb_eq_of_coords _ _ _ fun a => ?_).symm; fin_cases a <;> simp [Rect.unit]
    fin_vals p with hp
    · obtain rfl : p = 0 := Fin.ext hp
      rw [View.canon_cons_of_not_mem, hy0, View.canon_cons_emb]
      · refine pay_st0 x0 _ x1 x2 _ _ _ (fun _ _ _ => 0) ?_ ?_ ?_ ?_ x e
        all_goals intro a b; pointwise [vcol, k0_pay3, pairSt]
        all_goals exact congrArg _ (congrArg (ix2 a) (Fin.ext (by simp only []; omega)))
      · exact Rect.not_mem_set_of_axis _ _ 0 1 1 rfl rfl rfl (Or.inl Nat.zero_lt_one)
    · obtain rfl : p = 1 := Fin.ext hp
      rw [hy1, View.canon_cons_emb]
      refine pay_st1 x0 _ x1 x2 _ _ _ (fun _ _ _ => 0) ?_ ?_ ?_ ?_ x e
      all_goals intro a b; pointwise [vcol, k0_pay3, pairSt]
      all_goals exact congrArg _ (congrArg (ix2 a) (Fin.ext (by simp only []; omega)))
  · decide +kernel

end Cert.KernelIdeal.Ret

end
-- ==== Proof.Final.lean ====
/-
  The retention kernel's result array: by induction over the grid, every point leaves the states of the chunk after its own and
  writes the result block of its own chunk, so the array is `Cert.Ret.result` of the three arguments.
-/
module

public import proofs.«01_k».proof.Proof.Point
public import proofs.«01_k».proof.Proof.Gen.KernelIdeal.Value

@[expose] public section

set_option maxRecDepth 16384

noncomputable section

namespace Cert.KernelIdeal.Ret

open Cert.KernelIdeal Cert.KernelIdeal.Gen Idealize.ShloMosaic Idealize.ShloMosaic.TcCoe Idealize.SL.Sem
open Idealize.ShloMosaic.Pipeline
open Cert.Ret

variable (m : (l : Loc nD τ sig) → Buf (Elt Ideal) l)

/-- The windows' block indices: point `t` takes row block `t` of every array. -/
theorem idx : ∀ t : Fin cfg0.N, win0_0.index t = ![t.val, 3] ∧ win0_1.index t = ![t.val, 0] ∧ win0_2.index t = ![t.val, 0]
    ∧ win0_3.index t = ![t.val, 0] :=
  (by decide +kernel : ∀ t : Fin grid0.N, _)

/-- The three arguments, as arrays of extended reals. -/
abbrev aP (c : Dev nD) : FVec Ideal ⟨2, ![8192, 6144]⟩ .f32 := m ((c : Thread nD τ).loc main_arg0)
/-- The cosines. -/
abbrev aC (c : Dev nD) : FVec Ideal ⟨2, ![8192, 256]⟩ .f32 := m ((c : Thread nD τ).loc main_arg1)
/-- The sines. -/
abbrev aS (c : Dev nD) : FVec Ideal ⟨2, ![8192, 256]⟩ .f32 := m ((c : Thread nD τ).loc main_arg2)

/-- The chunk of point `t`. -/
theorem blkRows_eq (c : Dev nD) (t : Fin cfg0.N) :
    blkRows (iblk m c 0 t) (iblk m c 1 t) (iblk m c 2 t) = rowsAt (aP m c) (aC m c) (aS m c) ⟨t.val, t.isLt⟩ := by
  unfold blkRows rowsAt
  congr 1
  · funext r j
    blk_ext [iblk, V, idx t]
  · funext r j
    blk_ext [iblk, V, idx t]
  · funext r j
    blk_ext [iblk, V, idx t]

/-- The chunks of the batch row of point `t`. -/
abbrev X (c : Dev nD) (n : ℕ) (hn : n < cfg0.N) : ℕ → Rows :=
  chunk (aP m c) (aC m c) (aS m c) ⟨n / 32, Nat.div_lt_of_lt_mul hn⟩

/-- The chunk of point `t` is number `t mod 32` of its batch row. -/
theorem blkRows_chunk (c : Dev nD) (t : Fin cfg0.N) :
    blkRows (iblk m c 0 t) (iblk m c 1 t) (iblk m c 2 t) = X m c t.val t.isLt (t.val % 32) := by
  rw [blkRows_eq]
  unfold X chunk
  congr 1
  apply Fin.ext
  show t.val = t.val / 32 * 32 + t.val % 32 % 32
  omega

/-- A point that starts a batch row. -/
theorem outs_A (c : Dev nD) (t : Fin cfg0.N) (h0 : t.val % 32 = 0) :
    (∀ (r : Fin 128) (l : Fin 512), (outsAt0 m c t.val t.isLt).1 (ix2 r l)
      = (blkRows (iblk m c 0 t) (iblk m c 1 t) (iblk m c 2 t)).res (fun _ _ _ => 0) r l)
    ∧ ∀ (p : Fin 2) (x e : Fin 128), (outsAt0 m c t.val t.isLt).2 (ix3 p x e)
      = pairSt ((blkRows (iblk m c 0 t) (iblk m c 1 t) (iblk m c 2 t)).next (fun _ _ _ => 0)) p x e := by
  have hA := outsAt0_A m c t h0
  refine ⟨fun r l => ?_, fun p x e => ?_⟩
  · refine (congrFun (congrArg Prod.fst hA) (ix2 r l)).trans ?_
    dsimp only
    exact out_A ..
  · refine (congrFun (congrArg Prod.snd hA) (ix3 p x e)).trans ?_
    dsimp only
    exact sout_A ..

/-- A point that carries states on. -/
theorem outs_B (c : Dev nD) (t : Fin cfg0.N) (h0 : ¬t.val % 32 = 0) (st : Fin 4 → Fin 64 → Fin 128 → EReal)
    (hs : ∀ (p : Fin 2) (x e : Fin 128), (outsAt0 m c (t.val - 1) (Nat.lt_of_le_of_lt (Nat.sub_le _ _) t.isLt)).2 (ix3 p x e) = pairSt st p x e) :
    (∀ (r : Fin 128) (l : Fin 512), (outsAt0 m c t.val t.isLt).1 (ix2 r l)
      = (blkRows (iblk m c 0 t) (iblk m c 1 t) (iblk m c 2 t)).res st r l)
    ∧ ∀ (p : Fin 2) (x e : Fin 128), (outsAt0 m c t.val t.isLt).2 (ix3 p x e)
      = pairSt ((blkRows (iblk m c 0 t) (iblk m c 1 t) (iblk m c 2 t)).next st) p x e := by
  have hB := outsAt0_B m c t h0
  refine ⟨fun r l => ?_, fun p x e => ?_⟩
  · refine (congrFun (congrArg Prod.fst hB) (ix2 r l)).trans ?_
    dsimp only
    exact out_B (hs := hs) ..
  · refine (congrFun (congrArg Prod.snd hB) (ix3 p x e)).trans ?_
    dsimp only
    exact sout_B (hs := hs) ..

/-- What point `t` leaves: the states after its chunk, and its chunk's result. -/
theorem outs (c : Dev nD) : ∀ (n : ℕ) (hn : n < cfg0.N),
    (∀ (r : Fin 128) (l : Fin 512), (outsAt0 m c n hn).1 (ix2 r l) = (X m c n hn (n % 32)).res (stateN (X m c n hn) (n % 32)) r l)
    ∧ ∀ (p : Fin 2) (x e : Fin 128), (outsAt0 m c n hn).2 (ix3 p x e) = pairSt (stateN (X m c n hn) (n % 32 + 1)) p x e := by
  intro n
  induction n with
  | zero =>
    intro hn
    obtain ⟨ha, hb⟩ := outs_A m c ⟨0, hn⟩ rfl
    have hX := blkRows_chunk m c ⟨0, hn⟩
    rw [hX] at ha hb
    exact ⟨ha, hb⟩
  | succ n ih =>
    intro hn
    have hX := blkRows_chunk m c ⟨n + 1, hn⟩
    by_cases h0 : (n + 1) % 32 = 0
    · obtain ⟨ha, hb⟩ := outs_A m c ⟨n + 1, hn⟩ h0
      rw [hX] at ha hb
      simp only [h0] at ha hb ⊢
      exact ⟨ha, hb⟩
    · have hm : (n + 1) % 32 = n % 32 + 1 := by omega
      have hd : (n + 1) / 32 = n / 32 := by omega
      have hXX : X m c n (Nat.lt_of_succ_lt hn) = X m c (n + 1) hn := by
        unfold X; congr 1; exact Fin.ext hd.symm
      have ihs := (ih (Nat.lt_of_succ_lt hn)).2
      rw [hXX] at ihs
      obtain ⟨ha, hb⟩ := outs_B m c ⟨n + 1, hn⟩ h0 (stateN (X m c (n + 1) hn) (n % 32 + 1)) ihs
      rw [hX] at ha hb
      simp only [hm] at ha hb ⊢
      exact ⟨ha, hb⟩

/-- The result at a point's rows. -/
theorem result_at (P : FVec Ideal ⟨2, ![8192, 6144]⟩ .f32) (C S : FVec Ideal ⟨2, ![8192, 256]⟩ .f32) (t : ℕ) (ht : t < 64)
    (r : Fin 128) (l : Fin 512) (i : Fin 8192) (j : Fin 512) (hi : (i : ℕ) = t * 128 + (r : ℕ)) (hj : (j : ℕ) = (l : ℕ)) :
    (chunk P C S ⟨t / 32, by omega⟩ (t % 32)).res (stateN (chunk P C S ⟨t / 32, by omega⟩) (t % 32)) r l = result P C S i j := by
  obtain rfl : j = l := Fin.ext hj
  unfold result
  have h1 : (i : ℕ) / 4096 = t / 32 := by omega
  have h2 : (i : ℕ) / 128 % 32 = t % 32 := by omega
  have h3 : (i : ℕ) % 128 = (r : ℕ) := by omega
  simp only [h1, h2, h3]

/-- THE ARRAY after the run. -/
theorem final (c : Dev nD) : (dats m 0 c).arrAt 3 cfg0.N = fun i : S8192x512.Idx => result (aP m c) (aC m c) (aS m c) (i 0) (i 1) := by
  refine (dats m 0 c).arrAt_eq_of_covers 3 _ (by decide +kernel) fun t hf y => ?_
  blk_simp
  rw [after0_3]
  have hy : y = ix2 (y 0) (y 1) := by funext a; fin_cases a <;> rfl
  refine (congrArg (outsAt0 m c t.val t.isLt).1 hy).trans (((outs m c t.val t.isLt).1 (y 0) (y 1)).trans ?_)
  refine result_at _ _ _ t.val t.isLt (y 0) (y 1) _ _ ?_ ?_
  · blk_simp [idx t]
  · blk_simp [idx t]

end Cert.KernelIdeal.Ret

end
-- ==== Proof.RefPure.lean ====
/-
  The arrays the reference makes of its arguments before its loop over chunks, as terms over variables, read at an index: the
  queries, keys and values of each chunk and the decays, as functions of Proof/Spec.lean.
-/
module

public import proofs.«01_k».proof.Proof.Spec
public import proofs.«01_k».proof.Proof.Gen.ReferenceIdeal
public import Idealize.ShloMosaic.Lib.Pointwise

@[expose] public section

set_option maxRecDepth 16384

noncomputable section

namespace Cert.ReferenceIdeal.Ret

open Cert.ReferenceIdeal Cert.ReferenceIdeal.Gen
open Idealize.ShloMosaic Idealize.ShloMosaic.TcCoe Idealize.SL.Sem
open Cert.Ret

/-- The retention's columns of the projection, by batch row. -/
def pT (P : FVec Ideal S8192x6144 .f32) : FVec Ideal S2x4096x1536 .f32 :=
  shapeCast S2x4096x1536 (extractStridedSlice S8192x1536 ![0, 4608] P slices_S8192x6144_S8192x1536_0_4608) shapeCasts_S8192x1536_S2x4096x1536

/-- The rotary embedding of the heads `x`. -/
def rotT (x : FVec Ideal S2x4096x4x64 .f32) (C S : FVec Ideal S8192x256 .f32) : FVec Ideal S2x4096x4x64 .f32 :=
  addf (mulf x (shapeCast S2x4096x4x64 C shapeCasts_S8192x256_S2x4096x4x64))
    (mulf (concatenate S2x4096x4x64 3
      [⟨S2x4096x4x32, extractStridedSlice S2x4096x4x32 ![0, 0, 0, 32] x slices_S2x4096x4x64_S2x4096x4x32_0_0_0_32⟩,
       ⟨S2x4096x4x32, extractStridedSlice S2x4096x4x32 ![0, 0, 0, 0] x slices_S2x4096x4x64_S2x4096x4x32_0_0_0_0⟩]
      concatenates_S2x4096x4x32_S2x4096x4x32_S2x4096x4x64_d3)
      (shapeCast S2x4096x4x64 S shapeCasts_S8192x256_S2x4096x4x64))

/-- The queries' heads before the rotary embedding. -/
def q0T (P : FVec Ideal S8192x6144 .f32) : FVec Ideal S2x4096x4x64 .f32 :=
  shapeCast S2x4096x4x64 (extractStridedSlice S2x4096x256 ![0, 0, 0] (pT P) slices_S2x4096x1536_S2x4096x256_0_0_0) shapeCasts_S2x4096x256_S2x4096x4x64

/-- The keys' heads before the rotary embedding. -/
def k0T (P : FVec Ideal S8192x6144 .f32) : FVec Ideal S2x4096x4x64 .f32 :=
  shapeCast S2x4096x4x64 (extractStridedSlice S2x4096x256 ![0, 0, 256] (pT P) slices_S2x4096x1536_S2x4096x256_0_0_256) shapeCasts_S2x4096x256_S2x4096x4x64

/-- The queries by chunk. -/
def qT (P : FVec Ideal S8192x6144 .f32) (C S : FVec Ideal S8192x256 .f32) : FVec Ideal S32x2x4x128x64 .f32 :=
  transpose S32x2x4x128x64 [1, 0, 3, 2, 4] (shapeCast S2x32x128x4x64 (rotT (q0T P) C S) shapeCasts_S2x4096x4x64_S2x32x128x4x64)
    transposes_S2x32x128x4x64_S32x2x4x128x64_1_0_3_2_4

/-- The keys by chunk. -/
def kT (P : FVec Ideal S8192x6144 .f32) (C S : FVec Ideal S8192x256 .f32) : FVec Ideal S32x2x4x128x64 .f32 :=
  transpose S32x2x4x128x64 [1, 0, 3, 2, 4] (shapeCast S2x32x128x4x64
      (mulf (rotT (k0T P) C S) (broadcastInDim S2x4096x4x64 ![] bcast_S_S2x4096x4x64 (constant S_ .f32 0x3E000000#32)))
      shapeCasts_S2x4096x4x64_S2x32x128x4x64)
    transposes_S2x32x128x4x64_S32x2x4x128x64_1_0_3_2_4

/-- The values by chunk. -/
def vT (P : FVec Ideal S8192x6144 .f32) : FVec Ideal S32x2x4x128x128 .f32 :=
  transpose S32x2x4x128x128 [1, 0, 3, 2, 4] (shapeCast S2x32x128x4x128
      (shapeCast S2x4096x4x128 (extractStridedSlice S2x4096x512 ![0, 0, 512] (pT P) slices_S2x4096x1536_S2x4096x512_0_0_512)
        shapeCasts_S2x4096x512_S2x4096x4x128) shapeCasts_S2x4096x4x128_S2x32x128x4x128)
    transposes_S2x32x128x4x128_S32x2x4x128x128_1_0_3_2_4

/-- Row `t` of batch row `b`. -/
def rw4 (b : Fin 2) (t : Fin 4096) : Fin 8192 := ⟨(b : ℕ) * 4096 + (t : ℕ), by omega⟩

/-- The retention's columns, read. -/
theorem pT_at (P : FVec Ideal S8192x6144 .f32) (b : Fin 2) (t : Fin 4096) (j : Fin 1536) :
    pT P (ix3 b t j) = P (ix2 (rw4 b t) ⟨4608 + (j : ℕ), by omega⟩) := by
  unfold rw4
  pointwise [pT]

/-- The queries' heads, read. -/
theorem q0T_at (P : FVec Ideal S8192x6144 .f32) (b : Fin 2) (t : Fin 4096) (h : Fin 4) (d : Fin 64) :
    q0T P (ix4 b t h d) = P (ix2 (rw4 b t) ⟨4608 + (col 0 (by norm_num) h d : ℕ), by omega⟩) := by
  pointwise [q0T, pT_at]
  exact congrArg P (congrArg (ix2 _) (Fin.ext (by simp only [col]; omega)))

/-- The keys' heads, read. -/
theorem k0T_at (P : FVec Ideal S8192x6144 .f32) (b : Fin 2) (t : Fin 4096) (h : Fin 4) (d : Fin 64) :
    k0T P (ix4 b t h d) = P (ix2 (rw4 b t) ⟨4608 + (col 256 (by norm_num) h d : ℕ), by omega⟩) := by
  pointwise [k0T, pT_at]
  exact congrArg P (congrArg (ix2 _) (Fin.ext (by simp only [col]; omega)))

/-- A table by heads, read. -/
theorem tab_at (C : FVec Ideal S8192x256 .f32) (b : Fin 2) (t : Fin 4096) (h : Fin 4) (d : Fin 64) :
    shapeCast S2x4096x4x64 C shapeCasts_S8192x256_S2x4096x4x64 (ix4 b t h d) = C (ix2 (rw4 b t) (ln h d)) := by
  unfold rw4
  pointwise []
  exact congrArg C (congrArg (ix2 _) (Fin.ext (by simp only [ln]; omega)))

/-- The paired lanes: the halves of each head exchanged. -/
theorem swap_at (x : FVec Ideal S2x4096x4x64 .f32) (b : Fin 2) (t : Fin 4096) (h : Fin 4) (d : Fin 64) :
    concatenate S2x4096x4x64 3
      [⟨S2x4096x4x32, extractStridedSlice S2x4096x4x32 ![0, 0, 0, 32] x slices_S2x4096x4x64_S2x4096x4x32_0_0_0_32⟩,
       ⟨S2x4096x4x32, extractStridedSlice S2x4096x4x32 ![0, 0, 0, 0] x slices_S2x4096x4x64_S2x4096x4x32_0_0_0_0⟩]
      concatenates_S2x4096x4x32_S2x4096x4x32_S2x4096x4x64_d3 (ix4 b t h d) = x (ix4 b t h (swp d)) := by
  pointwise []
  by_cases hd : (d : ℕ) < 32
  · rw [dif_pos hd]
    exact congrArg x (congrArg (ix4 b t h) (Fin.ext (by simp only [swp]; omega)))
  · rw [dif_neg hd]
    exact congrArg x (congrArg (ix4 b t h) (Fin.ext (by simp only [swp]; omega)))

/-- The rotary embedding, read. -/
theorem rotT_at (x : FVec Ideal S2x4096x4x64 .f32) (C S : FVec Ideal S8192x256 .f32) (b : Fin 2) (t : Fin 4096) (h : Fin 4) (d : Fin 64) :
    rotT x C S (ix4 b t h d) = x (ix4 b t h d) * C (ix2 (rw4 b t) (ln h d)) + x (ix4 b t h (swp d)) * S (ix2 (rw4 b t) (ln h d)) := by
  have hC := tab_at C b t h d
  have hS := tab_at S b t h d
  have hx := swap_at x b t h d
  show _ * _ + _ * _ = _
  rw [hC, hS, hx]

/-- Position `r` of chunk `n`. -/
def cpos (n : Fin 32) (r : Fin 128) : Fin 4096 := ⟨(n : ℕ) * 128 + (r : ℕ), by omega⟩

/-- Heads laid out by chunk, read. -/
theorem chunked64_at (x : FVec Ideal S2x4096x4x64 .f32) (n : Fin 32) (b : Fin 2) (h : Fin 4) (r : Fin 128) (d : Fin 64) :
    transpose S32x2x4x128x64 [1, 0, 3, 2, 4] (shapeCast S2x32x128x4x64 x shapeCasts_S2x4096x4x64_S2x32x128x4x64)
      transposes_S2x32x128x4x64_S32x2x4x128x64_1_0_3_2_4 (ix5 n b h r d) = x (ix4 b (cpos n r) h d) := by
  unfold cpos
  pointwise []

/-- Heads of 128 lanes laid out by chunk, read. -/
theorem chunked128_at (x : FVec Ideal S2x4096x4x128 .f32) (n : Fin 32) (b : Fin 2) (h : Fin 4) (r : Fin 128) (e : Fin 128) :
    transpose S32x2x4x128x128 [1, 0, 3, 2, 4] (shapeCast S2x32x128x4x128 x shapeCasts_S2x4096x4x128_S2x32x128x4x128)
      transposes_S2x32x128x4x128_S32x2x4x128x128_1_0_3_2_4 (ix5 n b h r e) = x (ix4 b (cpos n r) h e) := by
  unfold cpos
  pointwise []

/-- The row of a chunk's position. -/
theorem rw4_cpos (n : Fin 32) (b : Fin 2) (r : Fin 128) :
    rw4 b (cpos n r) = ⟨((⟨(b : ℕ) * 32 + (n : ℕ) % 32, by omega⟩ : Fin 64) : ℕ) * 128 + (r : ℕ), by simp only []; omega⟩ :=
  Fin.ext (by simp only [rw4, cpos]; omega)

/-- The queries of a chunk. -/
theorem qT_at (P : FVec Ideal S8192x6144 .f32) (C S : FVec Ideal S8192x256 .f32) (n : Fin 32) (b : Fin 2) (h : Fin 4) (r : Fin 128) (d : Fin 64) :
    qT P C S (ix5 n b h r d) = (chunk P C S b (n : ℕ)).q h r d := by
  unfold qT Rows.q qR chunk rowsAt
  rw [chunked64_at, rotT_at, q0T_at, q0T_at, rw4_cpos]

/-- The keys of a chunk. -/
theorem kT_at (P : FVec Ideal S8192x6144 .f32) (C S : FVec Ideal S8192x256 .f32) (n : Fin 32) (b : Fin 2) (h : Fin 4) (r : Fin 128) (d : Fin 64) :
    kT P C S (ix5 n b h r d) = (chunk P C S b (n : ℕ)).k h r d := by
  unfold kT Rows.k kR chunk rowsAt
  rw [chunked64_at]
  refine Ideal.mul_congr ((rotT_at _ _ _ _ _ _ _).trans ?_) rfl
  rw [k0T_at, k0T_at, rw4_cpos]

/-- The values of a chunk. -/
theorem vT_at (P : FVec Ideal S8192x6144 .f32) (C S : FVec Ideal S8192x256 .f32) (n : Fin 32) (b : Fin 2) (h : Fin 4) (r e : Fin 128) :
    vT P (ix5 n b h r e) = (chunk P C S b (n : ℕ)).v h r e := by
  unfold vT Rows.v vR chunk rowsAt
  rw [chunked128_at]
  pointwise [pT_at]
  rw [rw4_cpos]
  exact congrArg P (congrArg (ix2 _) (Fin.ext (by simp only [vcol]; omega)))

end Cert.ReferenceIdeal.Ret

end
-- ==== Proof.RefDecay.lean ====
/-
  The reference's decays, which it makes before its loop over chunks, as terms, and read at an index.
-/
module

public import proofs.«01_k».proof.Proof.Spec
public import proofs.«01_k».proof.Proof.Gen.ReferenceIdeal
public import Idealize.ShloMosaic.Lib.Pointwise

@[expose] public section

set_option maxRecDepth 16384

noncomputable section

namespace Cert.ReferenceIdeal.Ret

open Cert.ReferenceIdeal Cert.ReferenceIdeal.Gen
open Idealize.ShloMosaic Idealize.ShloMosaic.TcCoe Idealize.SL.Sem
open Cert.Ret

/-- The logarithms of the decays. -/
def lgT : FVec Ideal S4 .f32 :=
  Host.log1p (Host.negf (Host.powf (broadcastInDim S4 ![] bcast_S_S4 (constant S_ .f32 0x40000000#32))
    (subf (broadcastInDim S4 ![] bcast_S_S4 (constant S_ .f32 0xC0A00000#32)) (sitofp .f32 (iotaInDim S4 32 0)))))

/-- The distance of two positions of a chunk. -/
def relT : FVec Ideal S128x128 .f32 :=
  subf (broadcastInDim S128x128 ![0, 1] bcast_S128x1_S128x128_0_1 (broadcastInDim S128x1 ![0] bcast_S128_S128x1_0 (sitofp .f32 (iotaInDim S128 32 0))))
    (broadcastInDim S128x128 ![0, 1] bcast_S1x128_S128x128_0_1 (broadcastInDim S1x128 ![1] bcast_S128_S1x128_1 (sitofp .f32 (iotaInDim S128 32 0))))

/-- Where the distance is not negative. -/
def causalT : Vec Ideal S128x128 .i1 :=
  cmpf .oge relT (broadcastInDim S128x128 ![] bcast_S_S128x128 (constant S_ .f32 0x00000000#32))

/-- The decays within a chunk. -/
def innerT : FVec Ideal S4x128x128 .f32 :=
  select (broadcastInDim S4x128x128 ![1, 2] bcast_S128x128_S4x128x128_1_2 causalT)
    (Host.exp (mulf (broadcastInDim S4x128x128 ![0, 1, 2] bcast_S1x128x128_S4x128x128_0_1_2 (broadcastInDim S1x128x128 ![1, 2] bcast_S128x128_S1x128x128_1_2
        (select causalT relT (broadcastInDim S128x128 ![] bcast_S_S128x128 (id (constant S_ .f32 0x00000000#32))))))
      (broadcastInDim S4x128x128 ![0, 1, 2] bcast_S4x1x1_S4x128x128_0_1_2 (broadcastInDim S4x1x1 ![0] bcast_S4_S4x1x1_0 lgT))))
    (broadcastInDim S4x128x128 ![] bcast_S_S4x128x128 (id (constant S_ .f32 0x00000000#32)))

/-- The decays from the state to a position. -/
def qdT : FVec Ideal S4x128 .f32 :=
  Host.exp (mulf (broadcastInDim S4x128 ![0, 1] bcast_S1x128_S4x128_0_1 (broadcastInDim S1x128 ![1] bcast_S128_S1x128_1
      (addf (sitofp .f32 (iotaInDim S128 32 0)) (broadcastInDim S128 ![] bcast_S_S128 (constant S_ .f32 0x3F800000#32)))))
    (broadcastInDim S4x128 ![0, 1] bcast_S4x1_S4x128_0_1 (broadcastInDim S4x1 ![0] bcast_S4_S4x1_0 lgT)))

/-- The decays from a position to the chunk's end. -/
def kdT : FVec Ideal S4x128 .f32 :=
  Host.exp (mulf (broadcastInDim S4x128 ![0, 1] bcast_S1x128_S4x128_0_1 (broadcastInDim S1x128 ![1] bcast_S128_S1x128_1
      (subf (broadcastInDim S128 ![] bcast_S_S128 (constant S_ .f32 0x42FE0000#32)) (sitofp .f32 (iotaInDim S128 32 0)))))
    (broadcastInDim S4x128 ![0, 1] bcast_S4x1_S4x128_0_1 (broadcastInDim S4x1 ![0] bcast_S4_S4x1_0 lgT)))

/-- The decays over a chunk. -/
def cdT : FVec Ideal S4 .f32 :=
  Host.exp (mulf (broadcastInDim S4 ![] bcast_S_S4 (constant S_ .f32 0x43000000#32)) lgT)

/-- A converted integer. -/
theorem sitofp_at (b : BitVec 32) : FloatOps.sitofp (F := Ideal) .f32 b = ((b.toInt : ℝ) : EReal) := rfl

/-- `2.0` denotes 2. -/
theorem ofBits_2 : Ideal.ofBits .f32 0x40000000#32 = ((2 : ℝ) : EReal) := by
  simp [Ideal.ofBits, Ideal.ieee, -EReal.coe_mul]; norm_num

/-- `-5.0` denotes -5. -/
theorem ofBits_m5 : Ideal.ofBits .f32 0xC0A00000#32 = ((-5 : ℝ) : EReal) := by
  simp [Ideal.ofBits, Ideal.ieee, -EReal.coe_mul]; norm_num

/-- The power of two in a head's decay. -/
theorem pow_gam (h : Fin 4) : 1 + -(Real.rpow 2 (-5 - ((h : ℕ) : ℝ))) = gam h := by
  have e : (-5 - ((h : ℕ) : ℝ)) = -(((5 + (h : ℕ) : ℕ)) : ℝ) := by push_cast; ring
  have hp : Real.rpow 2 (-5 - ((h : ℕ) : ℝ)) = ((2 : ℝ) ^ (5 + (h : ℕ)))⁻¹ := by
    rw [e]; show (2 : ℝ) ^ (-(((5 + (h : ℕ) : ℕ)) : ℝ)) = _
    rw [Real.rpow_neg (by norm_num), Real.rpow_natCast]
  rw [hp]
  fin_cases h <;> simp [gam] <;> norm_num

/-- A head's decay is positive. -/
theorem gam_pos (h : Fin 4) : 0 < gam h := by fin_cases h <;> simp [gam] <;> norm_num

/-- The logarithm of a head's decay. -/
theorem lgT_at (h : Fin 4) : lgT (ix1 h) = ((Real.log (gam h) : ℝ) : EReal) := by
  have hi : (((BitVec.ofNat 32 (h : ℕ)).toInt : ℝ)) = ((h : ℕ) : ℝ) := by
    have : (BitVec.ofNat 32 (h : ℕ)).toInt = ((h : ℕ) : ℤ) := by revert h; decide +kernel
    rw [this]; push_cast; rfl
  pointwise [lgT, sitofp_at]
  rw [hi, ofBits_2, ofBits_m5, ← EReal.coe_sub, Ideal.pow_coe_coe, ← EReal.coe_neg]
  show Ideal.log (1 + _) = _
  rw [one_real, ← EReal.coe_add, pow_gam, Ideal.log_coe, if_neg (not_le.2 (gam_pos h))]

/-- The decays within a chunk, read. -/
theorem innerT_at (h : Fin 4) (r m : Fin 128) : innerT (ix3 h r m) = inner h r m := by
  rw [← inner_eq h r m _ (lgT_at h)]
  pointwise [innerT, causalT, relT, sitofp_at, id_eq]
  rw [pos_real, pos_real, ← EReal.coe_sub]
  by_cases hr : (0 : EReal) ≤ ((((r : ℕ) : ℝ) - ((m : ℕ) : ℝ) : ℝ) : EReal)
  · rw [if_pos hr, if_pos hr, if_pos hr, max_eq_left hr]
  · rw [if_neg hr, if_neg hr]

/-- The decays from the state, read. -/
theorem qdT_at (h : Fin 4) (r : Fin 128) : qdT (ix2 h r) = qd h r := by
  rw [← qd_eq h r _ (lgT_at h)]
  pointwise [qdT, sitofp_at, pos_real]

/-- The decays to the chunk's end, read. -/
theorem kdT_at (h : Fin 4) (r : Fin 128) : kdT (ix2 h r) = kd h r := by
  rw [← kd_eq h r _ (lgT_at h)]
  pointwise [kdT, sitofp_at, pos_real]

/-- The decays over a chunk, read. -/
theorem cdT_at (h : Fin 4) : cdT (ix1 h) = cd h := by
  pointwise [cdT, lgT_at]
  rw [ofBits_128, ← EReal.coe_mul, Ideal.exp_coe]
  unfold cd
  congr 1
  rw [mul_comm, Real.exp_mul, Real.exp_log (gam_pos h)]
  norm_num

end Cert.ReferenceIdeal.Ret

end
-- ==== Proof.RefEntry.lean ====
/-
  The reference before its loop over chunks: the queries, keys and values it lays out by chunk, and its decays, as functions of
  Proof/Spec.lean.
-/
module

public import proofs.«01_k».proof.Proof.RefPure
public import proofs.«01_k».proof.Proof.RefDecay
public import proofs.«01_k».proof.Proof.Gen.ReferenceIdeal.Run
public import Idealize.ShloMosaic.Lib.Pointwise

@[expose] public section

set_option maxRecDepth 16384

noncomputable section

namespace Cert.ReferenceIdeal.Ret

open Cert.ReferenceIdeal Cert.ReferenceIdeal.Gen Cert.ReferenceIdeal.Value
open Idealize.ShloMosaic Idealize.ShloMosaic.TcCoe Idealize.ShloMosaic.Tactic Idealize.SL.Sem Idealize.ShloMosaic.StableHlo
open Cert.Ret

variable (m : (l : Loc nD τ sig) → Buf (Elt Ideal) l)

/-- The three arguments, as arrays of extended reals. -/
abbrev aP (c : Dev nD) : FVec Ideal ⟨2, ![8192, 6144]⟩ .f32 := m ((c : Thread nD τ).loc main_arg0)
/-- The cosines. -/
abbrev aC (c : Dev nD) : FVec Ideal ⟨2, ![8192, 256]⟩ .f32 := m ((c : Thread nD τ).loc main_arg1)
/-- The sines. -/
abbrev aS (c : Dev nD) : FVec Ideal ⟨2, ![8192, 256]⟩ .f32 := m ((c : Thread nD τ).loc main_arg2)

/-- The contents at the loop's entry. -/
abbrev E0 (c : Dev nD) := entryContents (preI (F := Ideal)) m c

/-- The queries at the loop's entry. -/
theorem entry_0 (c : Dev nD) : E0 m c (Proc.devRef .tc main_v76_0) = qT (aP m c) (aC m c) (aS m c) := by
  simp only [E0, entryContents, preI, afterL_cons, afterL_nil]
  after_reads_simp
  rfl

/-- The keys at the loop's entry. -/
theorem entry_1 (c : Dev nD) : E0 m c (Proc.devRef .tc main_v76_1) = kT (aP m c) (aC m c) (aS m c) := by
  simp only [E0, entryContents, preI, afterL_cons, afterL_nil]
  after_reads_simp
  rfl

/-- The values at the loop's entry. -/
theorem entry_2 (c : Dev nD) : E0 m c (Proc.devRef .tc main_v76_2) = vT (aP m c) := by
  simp only [E0, entryContents, preI, afterL_cons, afterL_nil]
  after_reads_simp
  rfl

/-- The decays within a chunk at the loop's entry. -/
theorem entry_3 (c : Dev nD) : E0 m c (Proc.devRef .tc main_v76_3) = innerT := by
  simp only [E0, entryContents, preI, afterL_cons, afterL_nil]
  after_reads_simp
  rfl

/-- The decays from the state. -/
theorem entry_4 (c : Dev nD) : E0 m c (Proc.devRef .tc main_v76_4) = qdT := by
  simp only [E0, entryContents, preI, afterL_cons, afterL_nil]
  after_reads_simp
  rfl

/-- The decays over a chunk. -/
theorem entry_5 (c : Dev nD) : E0 m c (Proc.devRef .tc main_v76_5) = cdT := by
  simp only [E0, entryContents, preI, afterL_cons, afterL_nil]
  after_reads_simp
  rfl

/-- The decays to the chunk's end. -/
theorem entry_6 (c : Dev nD) : E0 m c (Proc.devRef .tc main_v76_6) = kdT := by
  simp only [E0, entryContents, preI, afterL_cons, afterL_nil]
  after_reads_simp
  rfl

/-- The states start at zero. -/
theorem entry_8 (c : Dev nD) : E0 m c (Proc.devRef .tc main_v76_8) = broadcastInDim S2x4x64x128 ![] bcast_S_S2x4x64x128 (constant (F := Ideal) S_ .f32 0x00000000#32) := by
  simp only [E0, entryContents, preI, afterL_cons, afterL_nil]
  after_reads_simp
  rfl

/-- The outputs start at zero. -/
theorem entry_9 (c : Dev nD) : E0 m c (Proc.devRef .tc main_v76_9) = broadcastInDim S32x2x4x128x128 ![] bcast_S_S32x2x4x128x128 (constant (F := Ideal) S_ .f32 0x00000000#32) := by
  simp only [E0, entryContents, preI, afterL_cons, afterL_nil]
  after_reads_simp
  rfl

end Cert.ReferenceIdeal.Ret

end
-- ==== Proof.RefTrip.lean ====
/-
  One trip of the reference's loop over chunks, over variables: the chunk it takes, the outputs it writes and the states it leaves.
-/
module

public import proofs.«01_k».proof.Proof.Spec
public import proofs.«01_k».proof.Proof.Gen.ReferenceIdeal
public import Idealize.ShloMosaic.Lib.Pointwise

@[expose] public section

set_option maxRecDepth 16384

noncomputable section

namespace Cert.ReferenceIdeal.Ret

open Cert.ReferenceIdeal Cert.ReferenceIdeal.Gen
open Idealize.ShloMosaic Idealize.ShloMosaic.TcCoe Idealize.SL.Sem
open Cert.Ret

/-- Where a trip's slices start: at the counter on the first axis. -/
def startT (k : Vec Ideal S_ .i32) : Fin 5 → ℤ :=
  fun j => ((![k, constantI S_ 32 0#32, constantI S_ 32 0#32, constantI S_ 32 0#32, constantI S_ 32 0#32] : Fin 5 → Vec Ideal S_ .i32) j (Shape.Idx.first h_S_)).toInt

/-- The chunk of the queries or keys at the counter. -/
def slice64 (x : FVec Ideal S32x2x4x128x64 .f32) (k : Vec Ideal S_ .i32) : FVec Ideal S2x4x128x64 .f32 :=
  shapeCast S2x4x128x64 (Host.dynamicSlice S1x2x4x128x64 x (startT k) sliceFits_S32x2x4x128x64_S1x2x4x128x64) shapeCasts_S1x2x4x128x64_S2x4x128x64

/-- The chunk of the values at the counter. -/
def slice128 (x : FVec Ideal S32x2x4x128x128 .f32) (k : Vec Ideal S_ .i32) : FVec Ideal S2x4x128x128 .f32 :=
  shapeCast S2x4x128x128 (Host.dynamicSlice S1x2x4x128x128 x (startT k) sliceFits_S32x2x4x128x128_S1x2x4x128x128) shapeCasts_S1x2x4x128x128_S2x4x128x128

/-- The counter after `n` trips. -/
def ctr (n : Fin 32) : Vec Ideal S_ .i32 := fun _ => BitVec.ofNat 32 (n : ℕ)

/-- The starts at a counter. -/
theorem startT_ctr (n : Fin 32) : startT (ctr n) = ![((n : ℕ) : ℤ), 0, 0, 0, 0] := by
  have hn : (BitVec.ofNat 32 (n : ℕ)).toInt = ((n : ℕ) : ℤ) := by revert n; decide +kernel
  funext j
  fin_cases j
  · exact hn
  · rfl
  · rfl
  · rfl
  · rfl

/-- The clamped starts at counter `n`: the counter itself, then zeros. -/
theorem clamped64_0 (n : Fin 32) : Host.clampedStart S32x2x4x128x64 S1x2x4x128x64 rfl ![((n : ℕ) : ℤ), 0, 0, 0, 0] 0 = (n : ℕ) := by
  have hn := n.2
  show (min (max ((n : ℕ) : ℤ) 0) ((31 : ℕ) : ℤ)).toNat = (n : ℕ)
  omega
/-- The clamped start on axis 1. -/
theorem clamped64_1 (n : Fin 32) : Host.clampedStart S32x2x4x128x64 S1x2x4x128x64 rfl ![((n : ℕ) : ℤ), 0, 0, 0, 0] 1 = 0 := rfl
/-- The clamped start on axis 2. -/
theorem clamped64_2 (n : Fin 32) : Host.clampedStart S32x2x4x128x64 S1x2x4x128x64 rfl ![((n : ℕ) : ℤ), 0, 0, 0, 0] 2 = 0 := rfl
/-- The clamped start on axis 3. -/
theorem clamped64_3 (n : Fin 32) : Host.clampedStart S32x2x4x128x64 S1x2x4x128x64 rfl ![((n : ℕ) : ℤ), 0, 0, 0, 0] 3 = 0 := rfl
/-- The clamped start on axis 4. -/
theorem clamped64_4 (n : Fin 32) : Host.clampedStart S32x2x4x128x64 S1x2x4x128x64 rfl ![((n : ℕ) : ℤ), 0, 0, 0, 0] 4 = 0 := rfl
/-- The clamped starts at counter `n`: the counter itself, then zeros. -/
theorem clamped128_0 (n : Fin 32) : Host.clampedStart S32x2x4x128x128 S1x2x4x128x128 rfl ![((n : ℕ) : ℤ), 0, 0, 0, 0] 0 = (n : ℕ) := by
  have hn := n.2
  show (min (max ((n : ℕ) : ℤ) 0) ((31 : ℕ) : ℤ)).toNat = (n : ℕ)
  omega
/-- The clamped start on axis 1. -/
theorem clamped128_1 (n : Fin 32) : Host.clampedStart S32x2x4x128x128 S1x2x4x128x128 rfl ![((n : ℕ) : ℤ), 0, 0, 0, 0] 1 = 0 := rfl
/-- The clamped start on axis 2. -/
theorem clamped128_2 (n : Fin 32) : Host.clampedStart S32x2x4x128x128 S1x2x4x128x128 rfl ![((n : ℕ) : ℤ), 0, 0, 0, 0] 2 = 0 := rfl
/-- The clamped start on axis 3. -/
theorem clamped128_3 (n : Fin 32) : Host.clampedStart S32x2x4x128x128 S1x2x4x128x128 rfl ![((n : ℕ) : ℤ), 0, 0, 0, 0] 3 = 0 := rfl
/-- The clamped start on axis 4. -/
theorem clamped128_4 (n : Fin 32) : Host.clampedStart S32x2x4x128x128 S1x2x4x128x128 rfl ![((n : ℕ) : ℤ), 0, 0, 0, 0] 4 = 0 := rfl

/-- The chunk at counter `n`. -/
theorem slice64_at (x : FVec Ideal S32x2x4x128x64 .f32) (n : Fin 32) (b : Fin 2) (h : Fin 4) (r : Fin 128) (d : Fin 64) :
    slice64 x (ctr n) (ix4 b h r d) = x (ix5 n b h r d) := by
  unfold slice64
  rw [startT_ctr]
  pointwise []
  refine congrArg x ?_
  congr 1
  · exact Fin.ext (clamped64_0 n)
  · exact Fin.ext ((congrArg (· + (b : ℕ)) (clamped64_1 n)).trans (Nat.zero_add _))
  · exact Fin.ext ((congrArg (· + (h : ℕ)) (clamped64_2 n)).trans (Nat.zero_add _))
  · exact Fin.ext ((congrArg (· + (r : ℕ)) (clamped64_3 n)).trans (Nat.zero_add _))
  · exact Fin.ext ((congrArg (· + (d : ℕ)) (clamped64_4 n)).trans (Nat.zero_add _))

/-- The chunk at counter `n`. -/
theorem slice128_at (x : FVec Ideal S32x2x4x128x128 .f32) (n : Fin 32) (b : Fin 2) (h : Fin 4) (r : Fin 128) (e : Fin 128) :
    slice128 x (ctr n) (ix4 b h r e) = x (ix5 n b h r e) := by
  unfold slice128
  rw [startT_ctr]
  pointwise []
  refine congrArg x ?_
  congr 1
  · exact Fin.ext (clamped128_0 n)
  · exact Fin.ext ((congrArg (· + (b : ℕ)) (clamped128_1 n)).trans (Nat.zero_add _))
  · exact Fin.ext ((congrArg (· + (h : ℕ)) (clamped128_2 n)).trans (Nat.zero_add _))
  · exact Fin.ext ((congrArg (· + (r : ℕ)) (clamped128_3 n)).trans (Nat.zero_add _))
  · exact Fin.ext ((congrArg (· + (e : ℕ)) (clamped128_4 n)).trans (Nat.zero_add _))

/-- The outputs of a trip. -/
def outT (q k : FVec Ideal S2x4x128x64 .f32) (v : FVec Ideal S2x4x128x128 .f32) (iD : FVec Ideal S4x128x128 .f32) (qD : FVec Ideal S4x128 .f32)
    (s : FVec Ideal S2x4x64x128 .f32) : FVec Ideal S2x4x128x128 .f32 :=
  addf (Host.dotGeneral dot_S2x4x128x128_S2x4x128x128_S2x4x128x128_3_2_2_3_01_01 none
      (mulf (Host.dotGeneral dot_S2x4x128x64_S2x4x128x64_S2x4x128x128_3_3_2_2_01_01 none q k)
        (broadcastInDim S2x4x128x128 ![0, 1, 2, 3] bcast_S1x4x128x128_S2x4x128x128_0_1_2_3 (broadcastInDim S1x4x128x128 ![1, 2, 3] bcast_S4x128x128_S1x4x128x128_1_2_3 iD))) v)
    (mulf (Host.dotGeneral dot_S2x4x128x64_S2x4x64x128_S2x4x128x128_3_2_2_3_01_01 none q s)
      (broadcastInDim S2x4x128x128 ![0, 1, 2, 3] bcast_S1x4x128x1_S2x4x128x128_0_1_2_3 (broadcastInDim S1x4x128x1 ![1, 2, 3] bcast_S4x128x1_S1x4x128x1_1_2_3
        (broadcastInDim S4x128x1 ![0, 1] bcast_S4x128_S4x128x1_0_1 qD))))

/-- The states after a trip. -/
def stT (k : FVec Ideal S2x4x128x64 .f32) (v : FVec Ideal S2x4x128x128 .f32) (cD : FVec Ideal S4 .f32) (kD : FVec Ideal S4x128 .f32)
    (s : FVec Ideal S2x4x64x128 .f32) : FVec Ideal S2x4x64x128 .f32 :=
  addf (mulf s (broadcastInDim S2x4x64x128 ![0, 1, 2, 3] bcast_S1x4x1x1_S2x4x64x128_0_1_2_3 (broadcastInDim S1x4x1x1 ![1, 2, 3] bcast_S4x1x1_S1x4x1x1_1_2_3
      (broadcastInDim S4x1x1 ![0] bcast_S4_S4x1x1_0 cD))))
    (Host.dotGeneral dot_S2x4x128x64_S2x4x128x128_S2x4x64x128_2_2_3_3_01_01 none
      (mulf k (broadcastInDim S2x4x128x64 ![0, 1, 2, 3] bcast_S1x4x128x1_S2x4x128x64_0_1_2_3 (broadcastInDim S1x4x128x1 ![1, 2, 3] bcast_S4x128x1_S1x4x128x1_1_2_3
        (broadcastInDim S4x128x1 ![0, 1] bcast_S4x128_S4x128x1_0_1 kD)))) v)

/-- A trip's outputs, read. -/
theorem outT_at (q k : FVec Ideal S2x4x128x64 .f32) (v : FVec Ideal S2x4x128x128 .f32) (iD : FVec Ideal S4x128x128 .f32) (qD : FVec Ideal S4x128 .f32)
    (s : FVec Ideal S2x4x64x128 .f32) (b : Fin 2) (h : Fin 4) (r e : Fin 128) :
    outT q k v iD qD s (ix4 b h r e)
      = (∑ m, (∑ d, q (ix4 b h r d) * k (ix4 b h m d)) * iD (ix3 h r m) * v (ix4 b h m e)) + (∑ d, q (ix4 b h r d) * s (ix4 b h d e)) * qD (ix2 h r) := by
  pointwise [outT]

/-- A trip's states, read. -/
theorem stT_at (k : FVec Ideal S2x4x128x64 .f32) (v : FVec Ideal S2x4x128x128 .f32) (cD : FVec Ideal S4 .f32) (kD : FVec Ideal S4x128 .f32)
    (s : FVec Ideal S2x4x64x128 .f32) (b : Fin 2) (h : Fin 4) (d : Fin 64) (e : Fin 128) :
    stT k v cD kD s (ix4 b h d e) = s (ix4 b h d e) * cD (ix1 h) + ∑ m, k (ix4 b h m d) * kD (ix2 h m) * v (ix4 b h m e) := by
  pointwise [stT]

/-- The outputs with a trip's written at the counter. -/
def putT (x : FVec Ideal S32x2x4x128x128 .f32) (y : FVec Ideal S2x4x128x128 .f32) (k : Vec Ideal S_ .i32) : FVec Ideal S32x2x4x128x128 .f32 :=
  Host.dynamicUpdateSlice x (broadcastInDim S1x2x4x128x128 ![1, 2, 3, 4] bcast_S2x4x128x128_S1x2x4x128x128_1_2_3_4 y) (startT k)
    updateFits_S32x2x4x128x128_S1x2x4x128x128

/-- What the outputs hold after the write at counter `n`. -/
theorem putT_at (x : FVec Ideal S32x2x4x128x128 .f32) (y : FVec Ideal S2x4x128x128 .f32) (n n' : Fin 32) (b : Fin 2) (h : Fin 4) (r e : Fin 128) :
    putT x y (ctr n) (ix5 n' b h r e) = if n' = n then y (ix4 b h r e) else x (ix5 n' b h r e) := by
  unfold putT
  rw [startT_ctr]
  pointwise []
  by_cases hn : n' = n
  · subst hn
    rw [if_pos rfl]
    have h0 := clamped128_0 n'
    have h1 := clamped128_1 n'
    have h2 := clamped128_2 n'
    have h3 := clamped128_3 n'
    have h4 := clamped128_4 n'
    rw [dif_pos ⟨⟨h0.le, Nat.lt_succ_of_le h0.ge⟩, h1.le.trans (Nat.zero_le _), h2.le.trans (Nat.zero_le _), h3.le.trans (Nat.zero_le _), h4.le.trans (Nat.zero_le _)⟩]
    rfl
  · rw [if_neg hn, dif_neg]
    intro hh
    have h0 := clamped128_0 n
    have h1 := hh.1.1
    have h2 := hh.1.2
    exact hn (Fin.ext (Nat.le_antisymm (Nat.le_of_lt_succ (lt_of_lt_of_eq h2 (congrArg (· + 1) h0))) (h0.ge.trans h1)))

end Cert.ReferenceIdeal.Ret

end
-- ==== Proof.RefLoop.lean ====
/-
  The reference's loop over chunks: after `k` trips the states are those of `stateN` and the outputs of the first `k` chunks are
  written.
-/
module

public import proofs.«01_k».proof.Proof.RefEntry
public import proofs.«01_k».proof.Proof.RefTrip

@[expose] public section

set_option maxRecDepth 16384

noncomputable section

namespace Cert.ReferenceIdeal.Ret

open Cert.ReferenceIdeal Cert.ReferenceIdeal.Gen Cert.ReferenceIdeal.Value
open Idealize.ShloMosaic Idealize.ShloMosaic.TcCoe Idealize.ShloMosaic.Tactic Idealize.SL.Sem Idealize.ShloMosaic.StableHlo
open Cert.Ret

/-- What holds of the carried arrays after `k` trips, for arguments `P`, `C`, `S`. -/
structure Inv (P : FVec Ideal ⟨2, ![8192, 6144]⟩ .f32) (C S : FVec Ideal ⟨2, ![8192, 256]⟩ .f32) (k : ℕ) (V : Valuation τ sig (Elt Ideal)) : Prop where
  a0 : V (Proc.devRef .tc main_v76_0) = qT P C S
  a1 : V (Proc.devRef .tc main_v76_1) = kT P C S
  a2 : V (Proc.devRef .tc main_v76_2) = vT P
  a3 : V (Proc.devRef .tc main_v76_3) = innerT
  a4 : V (Proc.devRef .tc main_v76_4) = qdT
  a5 : V (Proc.devRef .tc main_v76_5) = cdT
  a6 : V (Proc.devRef .tc main_v76_6) = kdT
  ctr : V (Proc.devRef .tc main_v76_7) = fun _ => BitVec.ofNat 32 k
  st : ∀ (b : Fin 2) (h : Fin 4) (d : Fin 64) (e : Fin 128),
    (V (Proc.devRef .tc main_v76_8) : FVec Ideal S2x4x64x128 .f32) (ix4 b h d e) = stateN (chunk P C S b) k h d e
  out : ∀ (n : Fin 32) (b : Fin 2) (h : Fin 4) (r e : Fin 128), (n : ℕ) < k →
    (V (Proc.devRef .tc main_v76_9) : FVec Ideal S32x2x4x128x128 .f32) (ix5 n b h r e)
      = (chunk P C S b (n : ℕ)).out (stateN (chunk P C S b) (n : ℕ)) h r e

variable {P : FVec Ideal ⟨2, ![8192, 6144]⟩ .f32} {C S : FVec Ideal ⟨2, ![8192, 256]⟩ .f32} {V : Valuation τ sig (Elt Ideal)}

/-- A trip's states, of the carried arrays. -/
theorem step_8_eq (n : Fin 32) (I : Inv P C S (n : ℕ) V) :
    (step_main_v76_8 V : FVec Ideal S2x4x64x128 .f32)
      = stT (slice64 (kT P C S) (ctr n)) (slice128 (vT P) (ctr n)) cdT kdT (V (Proc.devRef .tc main_v76_8)) := by
  unfold step_main_v76_8 res_main_while0b_v97 res_main_while0b_v98
  rw [I.a1, I.a2, I.a5, I.a6, I.ctr]
  rfl

/-- A trip's outputs, of the carried arrays. -/
theorem step_9_eq (n : Fin 32) (I : Inv P C S (n : ℕ) V) :
    (step_main_v76_9 V : FVec Ideal S32x2x4x128x128 .f32)
      = putT (V (Proc.devRef .tc main_v76_9)) (outT (slice64 (qT P C S) (ctr n)) (slice64 (kT P C S) (ctr n)) (slice128 (vT P) (ctr n)) innerT qdT
          (V (Proc.devRef .tc main_v76_8))) (ctr n) := by
  unfold step_main_v76_9 res_main_while0b_v96 res_main_while0b_v97 res_main_while0b_v98
  rw [I.a0, I.a1, I.a2, I.a3, I.a4, I.ctr]
  rfl

/-- The counter after a trip. -/
theorem step_7_eq (n : Fin 32) (I : Inv P C S (n : ℕ) V) :
    (step_main_v76_7 V : Vec Ideal S_ .i32) = fun _ => BitVec.ofNat 32 ((n : ℕ) + 1) := by
  unfold step_main_v76_7
  rw [I.ctr]
  funext i
  show BitVec.ofNat 32 (n : ℕ) + 1#32 = BitVec.ofNat 32 ((n : ℕ) + 1)
  rw [BitVec.ofNat_add]

/-- One trip keeps the invariant. -/
theorem Inv.step (n : Fin 32) (I : Inv P C S (n : ℕ) V) : Inv P C S ((n : ℕ) + 1) (STEP V) where
  a0 := (STEP_main_v76_0 V).trans I.a0
  a1 := (STEP_main_v76_1 V).trans I.a1
  a2 := (STEP_main_v76_2 V).trans I.a2
  a3 := (STEP_main_v76_3 V).trans I.a3
  a4 := (STEP_main_v76_4 V).trans I.a4
  a5 := (STEP_main_v76_5 V).trans I.a5
  a6 := (STEP_main_v76_6 V).trans I.a6
  ctr := (STEP_main_v76_7 V).trans (step_7_eq n I)
  st b h d e := by
    refine (congrFun ((STEP_main_v76_8 V).trans (step_8_eq n I)) _).trans ((stT_at _ _ _ _ _ b h d e).trans ?_)
    rw [I.st, cdT_at]
    simp only [slice64_at, slice128_at, kdT_at, kT_at, vT_at P C S]
    rfl
  out n' b h r e hn' := by
    refine (congrFun ((STEP_main_v76_9 V).trans (step_9_eq n I)) _).trans ((putT_at _ _ n n' b h r e).trans ?_)
    by_cases hn : n' = n
    · subst hn
      rw [if_pos rfl, outT_at]
      simp only [slice64_at, slice128_at, qdT_at, innerT_at, qT_at, kT_at, vT_at P C S, I.st]
      rfl
    · rw [if_neg hn]
      exact I.out n' b h r e (lt_of_le_of_ne (Nat.le_of_lt_succ hn') fun h => hn (Fin.ext h))

variable (m : (l : Loc nD τ sig) → Buf (Elt Ideal) l)

/-- The invariant at the loop's entry. -/
theorem inv_zero (c : Dev nD) : Inv (aP m c) (aC m c) (aS m c) 0 (E0 m c) where
  a0 := entry_0 m c
  a1 := entry_1 m c
  a2 := entry_2 m c
  a3 := entry_3 m c
  a4 := entry_4 m c
  a5 := entry_5 m c
  a6 := entry_6 m c
  ctr := ctr_entry m c
  st b h d e := by
    refine (congrFun (entry_8 m c) _).trans ?_
    pointwise []
    rfl
  out n b h r e hn := absurd hn (Nat.not_lt_zero _)

/-- The invariant after `k` trips. -/
theorem inv_iter (c : Dev nD) : ∀ k, k ≤ 32 → Inv (aP m c) (aC m c) (aS m c) k (STEP^[k] (E0 m c))
  | 0, _ => inv_zero m c
  | k + 1, hk => by
    rw [Function.iterate_succ_apply']
    exact Inv.step ⟨k, hk⟩ (inv_iter c k (Nat.le_of_succ_le hk))

end Cert.ReferenceIdeal.Ret

end
-- ==== Proof.RefFinal.lean ====
/-
  The reference's end: the rms norm over each head's lanes and the gate, read at an index, and the reference's result as the
  `result` of Proof/Spec.lean.
-/
module

public import proofs.«01_k».proof.Proof.RefLoop
public import Idealize.ShloMosaic.Lib.Pointwise

@[expose] public section

set_option maxRecDepth 16384

noncomputable section

namespace Cert.ReferenceIdeal.Ret

open Cert.ReferenceIdeal Cert.ReferenceIdeal.Gen Cert.ReferenceIdeal.Value
open Idealize.ShloMosaic Idealize.ShloMosaic.TcCoe Idealize.ShloMosaic.Tactic Idealize.SL.Sem Idealize.ShloMosaic.StableHlo
open Cert.Ret

/-- The retention's outputs, back in the order of the tokens. -/
def retT (O : FVec Ideal S32x2x4x128x128 .f32) : FVec Ideal S2x4096x4x128 .f32 :=
  shapeCast _ (transpose S2x32x128x4x128 [1, 0, 3, 2, 4] O transposes_S32x2x4x128x128_S2x32x128x4x128_1_0_3_2_4) shapeCasts_S2x32x128x4x128_S2x4096x4x128

/-- The gate's columns. -/
def gateT (P : FVec Ideal S8192x6144 .f32) : FVec Ideal S2x4096x512 .f32 :=
  shapeCast _ (extractStridedSlice S8192x512 ![0, 5632] P slices_S8192x6144_S8192x512_0_5632) shapeCasts_S8192x512_S2x4096x512

/-- The rms norm over a head's lanes. -/
def normT (y : FVec Ideal S2x4096x4x128 .f32) : FVec Ideal S2x4096x512 .f32 :=
  shapeCast _ (mulf y (broadcastInDim S2x4096x4x128 ![0, 1, 2, 3] bcast_S2x4096x4x1_S2x4096x4x128_0_1_2_3 (Host.rsqrt (addf (Host.divf (broadcastInDim S2x4096x4x1 ![0, 1, 2] bcast_S2x4096x4_S2x4096x4x1_0_1_2 (Host.reduceAdd (mulf y y) (constant S_ .f32 0x00000000#32) reducesTo_S2x4096x4x128_S2x4096x4_d3 h_S_)) (broadcastInDim S2x4096x4x1 ![] bcast_S_S2x4096x4x1 (constant S_ .f32 0x43000000#32))) (broadcastInDim S2x4096x4x1 ![] bcast_S_S2x4096x4x1 (constant S_ .f32 0x3727C5AC#32)))))) shapeCasts_S2x4096x4x128_S2x4096x512

/-- The gate's sigmoid product. -/
def siluT (g : FVec Ideal S2x4096x512 .f32) : FVec Ideal S2x4096x512 .f32 :=
  mulf g (Host.divf (broadcastInDim S2x4096x512 ![] bcast_S_S2x4096x512 (constant S_ .f32 0x3F800000#32)) (addf (broadcastInDim S2x4096x512 ![] bcast_S_S2x4096x512 (constant S_ .f32 0x3F800000#32)) (Host.exp (Host.negf g))))

/-- The reference's result, of the projections and the retention's outputs. -/
def outR (P : FVec Ideal S8192x6144 .f32) (O : FVec Ideal S32x2x4x128x128 .f32) : FVec Ideal S8192x512 .bf16 :=
  truncf .bf16 (shapeCast _ (mulf (siluT (gateT P)) (normT (retT O))) shapeCasts_S2x4096x512_S8192x512) bitsLt_bf16_f32

/-- The outputs at a token: its chunk and its row in it. -/
theorem retT_at (O : FVec Ideal S32x2x4x128x128 .f32) (b : Fin 2) (t : Fin 4096) (h : Fin 4) (e : Fin 128) :
    retT O (ix4 b t h e) = O (ix5 (⟨(t : ℕ) / 128, by omega⟩ : Fin 32) b h (⟨(t : ℕ) % 128, by omega⟩ : Fin 128) e) := by
  pointwise [retT]

/-- The gate at a token. -/
theorem gateT_at (P : FVec Ideal S8192x6144 .f32) (b : Fin 2) (t : Fin 4096) (l : Fin 512) :
    gateT P (ix3 b t l) = P (ix2 (⟨(b : ℕ) * 4096 + (t : ℕ), by omega⟩ : Fin 8192) (⟨5632 + (l : ℕ), by omega⟩ : Fin 6144)) := by
  pointwise [gateT]

/-- The norm, read. -/
theorem normT_at (y : FVec Ideal S2x4096x4x128 .f32) (b : Fin 2) (t : Fin 4096) (l : Fin 512) :
    normT y (ix3 b t l) = nrm (fun e => y (ix4 b t (hd l) e)) (lo l) := by
  pointwise [normT]
  rfl

/-- The gate's product, read. -/
theorem siluT_at (g : FVec Ideal S2x4096x512 .f32) (b : Fin 2) (t : Fin 4096) (l : Fin 512) :
    siluT g (ix3 b t l) = gate (g (ix3 b t l)) := by
  pointwise [siluT]
  rfl

/-- The result, read. -/
theorem outR_at (P : FVec Ideal S8192x6144 .f32) (O : FVec Ideal S32x2x4x128x128 .f32) (i : Fin 8192) (l : Fin 512) :
    outR P O (ix2 i l) = siluT (gateT P) (ix3 (⟨(i : ℕ) / 4096, by omega⟩ : Fin 2) (⟨(i : ℕ) % 4096, by omega⟩ : Fin 4096) l)
      * normT (retT O) (ix3 (⟨(i : ℕ) / 4096, by omega⟩ : Fin 2) (⟨(i : ℕ) % 4096, by omega⟩ : Fin 4096) l) := by
  pointwise [outR]

variable (m : (l : Loc nD τ sig) → Buf (Elt Ideal) l)

/-- The gate's column of the whole projection is its column of the retention's slice. -/
theorem gate_col (P : FVec Ideal S8192x6144 .f32) (i : Fin 8192) (l : Fin 512) (hi : (i : ℕ) / 4096 * 4096 + (i : ℕ) % 4096 < 8192) (hl : 5632 + (l : ℕ) < 6144)
    (hi' : ((i : ℕ) / 4096 * 32 + (i : ℕ) / 128 % 32 % 32) * 128 + (i : ℕ) % 128 < 8192) (hl' : 4608 + (1024 + (l : ℕ)) < 6144) :
    P (ix2 (⟨(i : ℕ) / 4096 * 4096 + (i : ℕ) % 4096, hi⟩ : Fin 8192) (⟨5632 + (l : ℕ), hl⟩ : Fin 6144))
      = P (ix2 (⟨((i : ℕ) / 4096 * 32 + (i : ℕ) / 128 % 32 % 32) * 128 + (i : ℕ) % 128, hi'⟩ : Fin 8192) (⟨4608 + (1024 + (l : ℕ)), hl'⟩ : Fin 6144)) := by
  have h1 : (i : ℕ) / 4096 * 4096 + (i : ℕ) % 4096 = ((i : ℕ) / 4096 * 32 + (i : ℕ) / 128 % 32 % 32) * 128 + (i : ℕ) % 128 := by omega
  have h2 : 5632 + (l : ℕ) = 4608 + (1024 + (l : ℕ)) := by omega
  simp only [h1, h2]

/-- A token's chunk and row, of its position in its batch row. -/
theorem token_eq (i : Fin 8192) : (i : ℕ) % 4096 / 128 = (i : ℕ) / 128 % 32 ∧ (i : ℕ) % 4096 % 128 = (i : ℕ) % 128 := by omega

/-- THE REFERENCE'S RESULT, read at an index. -/
theorem final_at (c : Dev nD) (i : Fin 8192) (l : Fin 512) :
    (out_main_v95 (STEP^[32] (E0 m c)) : FVec Ideal S8192x512 .bf16) (ix2 i l) = result (aP m c) (aC m c) (aS m c) i l := by
  have I := inv_iter m c 32 le_rfl
  have h0 : (out_main_v95 (STEP^[32] (E0 m c)) : FVec Ideal S8192x512 .bf16)
      = outR (aP m c) ((STEP^[32] (E0 m c)) (Proc.devRef .tc main_v76_9)) := by
    unfold out_main_v95
    rw [iter_main_arg0 m c 32]
    rfl
  rw [h0, outR_at, siluT_at, normT_at, gateT_at]
  simp only [retT_at]
  refine (mul_comm (_ : EReal) _).trans ?_
  unfold result Rows.res
  refine congrArg₂ (· * ·) (congrArg (fun f => nrm f (lo l)) (funext fun e => ?_)) (congrArg gate ?_)
  · refine (I.out _ _ _ _ _ (by omega)).trans ?_
    simp only [(token_eq i).1, (token_eq i).2]
  · exact gate_col (aP m c) i l _ _ _ _

/-- THE REFERENCE'S RESULT as a whole array. -/
theorem final (c : Dev nD) :
    (out_main_v95 (STEP^[32] (E0 m c)) : FVec Ideal S8192x512 .bf16) = fun i : S8192x512.Idx => result (aP m c) (aC m c) (aS m c) (i 0) (i 1) := by
  funext i
  rw [show i = ix2 (i 0) (i 1) from by funext j; fin_cases j <;> rfl]
  exact final_at m c (i 0) (i 1)

end Cert.ReferenceIdeal.Ret

end
-- ==== Proof.Retention.lean ====
/-
  The retention's claims: the frames, the named constants, and the value claim of the kernel against the reference, both of which
  compute `Cert.Ret.result`.
-/
module

public import proofs.«01_k».proof.Defs
public import proofs.«01_k».proof.Proof.Final
public import proofs.«01_k».proof.Proof.RefFinal
public import proofs.«01_k».proof.Proof.Gen.Kernel.Frame
public import Idealize.ShloMosaic.Lib.Quiescent

@[expose] public section

set_option maxRecDepth 16384

noncomputable section

namespace Cert.Proof.Retention

open Idealize.ShloMosaic Idealize.SL.Sem

/-- The kernel runs from every memory. -/
theorem frameK : Cert.quiescent_Kernel (hKernel := Cert.Kernel.Gen.facts) :=
  fun m ρ _ => Cert.Kernel.Gen.frame m ρ

/-- The kernel at exact arithmetic runs from every memory. -/
theorem frameKI : Cert.quiescent_KernelIdeal (hKernelIdeal := Cert.KernelIdeal.Gen.facts) :=
  fun m ρ _ => Cert.KernelIdeal.Gen.frame m ρ

/-- The reference at exact arithmetic runs from every memory. -/
theorem frameRI : Cert.quiescent_ReferenceIdeal (hReferenceIdeal := Cert.ReferenceIdeal.Gen.facts) :=
  fun m ρ _ => (θ_run Cert.ReferenceIdeal.defs _ _).mono
    (fun r h => ⟨fun c => (h c).2, Idealize.ShloMosaic.sem_eq_zero_of_no_sems (by decide) r.2⟩) (Cert.ReferenceIdeal.Value.run (F := Ideal) m ρ)

/-- The named constants are the printed ones. -/
theorem named : Cert.preserves_Kernel_KernelIdeal :=
  ⟨IdealRules.named_const.statement Cert.KernelIdeal.κ "chunk_decay0" .f32 _ _ rfl,
   IdealRules.named_const.statement Cert.KernelIdeal.κ "chunk_decay1" .f32 _ _ rfl,
   IdealRules.named_const.statement Cert.KernelIdeal.κ "log_gamma0" .f32 _ _ rfl,
   IdealRules.named_const.statement Cert.KernelIdeal.κ "log_gamma1" .f32 _ _ rfl,
   IdealRules.named_const.statement Cert.KernelIdeal.κ "chunk_decay2" .f32 _ _ rfl,
   IdealRules.named_const.statement Cert.KernelIdeal.κ "chunk_decay3" .f32 _ _ rfl,
   IdealRules.named_const.statement Cert.KernelIdeal.κ "log_gamma2" .f32 _ _ rfl,
   IdealRules.named_const.statement Cert.KernelIdeal.κ "log_gamma3" .f32 _ _ rfl⟩

/-- THE VALUE CLAIM: the kernel and the reference end with the same result. -/
theorem value : Cert.algebraic_KernelIdeal_ReferenceIdeal (hKernelIdeal := Cert.KernelIdeal.Gen.facts) (hReferenceIdeal := Cert.ReferenceIdeal.Gen.facts) := by
  intro m ρ m' ρ' _ hagree
  refine ⟨_, Cert.KernelIdeal.Value.run_blocks (F := Ideal) m ρ, ?_⟩
  refine (θ_run Cert.ReferenceIdeal.defs _ _).mono (fun _ h c => ⟨(h c).1.trans ?_, (h c).2⟩) (Cert.ReferenceIdeal.Value.run (F := Ideal) m' ρ')
  refine (Cert.ReferenceIdeal.Ret.final m' c).trans ?_
  refine Eq.trans ?_ (Cert.KernelIdeal.Ret.final m c).symm
  have h0 := (hagree c).1
  have h1 := (hagree c).2.1
  have h2 := (hagree c).2.2
  unfold Cert.ReferenceIdeal.Ret.aP Cert.ReferenceIdeal.Ret.aC Cert.ReferenceIdeal.Ret.aS
  rw [h0, h1, h2]

end Cert.Proof.Retention

end
-- ==== Proof.ExpPre.lean ====
/-
  What the precondition says of the plan's two tables: experts are in range, and a tile in use either takes up its
  expert's weights or follows a tile in use of the same expert.
-/
module

public import proofs.«01_k».proof.Defs
public import Idealize.ShloMosaic.Lib.ReduceAll
public import Idealize.ShloMosaic.Lib.Affine
public import Idealize.ShloMosaic.Lib.WordCmp
public import Idealize.ShloMosaic.Lib.ValueIdx
public import Idealize.ShloMosaic.Lib.Pointwise

@[expose] public section

set_option maxRecDepth 16384

noncomputable section

namespace Cert.Exp

open Cert.Pre_planned Cert.Pre_planned.Facts Idealize.ShloMosaic

/-- Word `i` of a table of 96. -/
def word (x : IVec S96 32) (i : ℕ) : BitVec 32 := if h : i < 96 then x (ix1 (⟨i, h⟩ : Fin 96)) else 0#32

/-- A tile in use. -/
def On (fl : IVec S96 32) (i : ℕ) : Prop := IntOp.andi (word fl i) 1#32 ≠ 0#32
/-- A tile at which an expert's weights are taken up. -/
def New (fl : IVec S96 32) (i : ℕ) : Prop := IntOp.andi (word fl i) 2#32 ≠ 0#32

/-- A plan the kernel can follow. -/
structure Planned (te fl : IVec S96 32) : Prop where
  /-- experts are in range -/
  range : ∀ i, i < 96 → (word te i).toNat < 32
  /-- the first tile takes up its expert or is not in use -/
  first : New fl 0 ∨ ¬On fl 0
  /-- a later tile takes up its expert, is not in use, or follows a tile in use of the same expert -/
  next : ∀ i, i + 1 < 96 → New fl (i + 1) ∨ ¬On fl (i + 1) ∨ (On fl i ∧ word te (i + 1) = word te i)

/-- The negation of a bit is one where the bit is not. -/
theorem noti_one (c : BitVec 1) : ~~~c = 1#1 ↔ ¬c = 1#1 := by revert c; decide

/-- The same of an array of bits at an index. -/
theorem noti_at {s : Shape} (X : IVec s 1) (i : s.Idx) (h : noti X i = 1#1) : ¬X i = 1#1 := (noti_one (X i)).1 h

/-- An inequality of words is one where they differ. -/
theorem ne_one (x y : BitVec 32) : IntOp.cmpi .ne x y = 1#1 ↔ x ≠ y := by
  rw [WordCmp.cmpi_ne_eq]; by_cases h : x = y <;> simp [h]
/-- An equality of words is one where they agree. -/
theorem eq_one (x y : BitVec 32) : IntOp.cmpi .eq x y = 1#1 ↔ x = y := by
  rw [WordCmp.cmpi_eq_eq]; by_cases h : x = y <;> simp [h]

variable {F : FTy → Type} [FloatOps F] [Cert.Pre_planned.Facts]

/-- The precondition read out. -/
theorem planned_of (te fl : IVec S96 32) (a2 a3 : FVec F S49152x8x128 .bf16) (a4 : FVec F S4x32x2048x1024 .f32)
    (a5 a6 : FVec F S4x32x1x512 .f32) (a7 : FVec F S4x32x512x2048 .f32) (a8 : FVec F S4x32x1x2048 .f32)
    (h : Cert.Pre_planned.fn (F := F) te fl a2 a3 a4 a5 a6 a7 a8 = fun _ => 1#1) : Planned te fl := by
  have h0 := congrFun h ix0
  simp only [Cert.Pre_planned.fn, Cert.Pre_planned.fn_part1] at h0
  obtain ⟨h1, hnext⟩ := IntOp.andi_eq_one.1 h0
  obtain ⟨hrange, hfirst⟩ := IntOp.andi_eq_one.1 h1
  have hsub : Subsingleton S_.Idx := ⟨fun a b => funext fun k => k.elim0⟩
  have hr := Host.reduce_andi_all _ _ _ _ _ hrange
  have hn := Host.reduce_andi_all _ _ _ _ _ hnext
  have e1 : ∀ {α : Type} (X : S96.Idx → α) (i : ℕ) (hi : i + 1 < 96),
      extractStridedSlice S95 ![1] X slices_S96_S95_1 (ix1 (⟨i, by omega⟩ : Fin 95)) = X (ix1 (⟨i + 1, hi⟩ : Fin 96)) :=
    fun X i hi => congrArg X (funext fun a => by fin_cases a; exact Fin.ext (Nat.add_comm 1 i))
  have e0 : ∀ {α : Type} (X : S96.Idx → α) (i : ℕ) (hi : i + 1 < 96),
      extractStridedSlice S95 ![0] X slices_S96_S95_0 (ix1 (⟨i, by omega⟩ : Fin 95)) = X (ix1 (⟨i, by omega⟩ : Fin 96)) :=
    fun X i hi => congrArg X (funext fun a => by fin_cases a; exact Fin.ext (Nat.zero_add i))
  have es : ∀ {α : Type} (X : S96.Idx → α),
      shapeCast S_ (extractStridedSlice S1 ![0] X slices_S96_S1_0) shapeCasts_S1_S_ ix0 = X (ix1 (⟨0, by omega⟩ : Fin 96)) :=
    fun X => by
      show X _ = X _
      refine congrArg X (funext fun a => ?_)
      fin_cases a
      refine Fin.ext ?_
      have : ∀ k : Fin 1, k.val = 0 := fun k => by omega
      exact (Nat.zero_add _).trans (this _)
  refine ⟨fun i hi => ?_, ?_, fun i hi => ?_⟩
  · have := hr (ix1 (⟨i, hi⟩ : Fin 96))
    obtain ⟨ha, hb⟩ := IntOp.andi_eq_one.1 this
    unfold word; rw [dif_pos hi]
    have ha' : IntOp.cmpi .sge (te (ix1 (⟨i, hi⟩ : Fin 96))) 0#32 = 1#1 := ha
    have hb' : IntOp.cmpi .slt (te (ix1 (⟨i, hi⟩ : Fin 96))) 32#32 = 1#1 := hb
    rw [WordCmp.cmpi_sge_zero] at ha'
    rw [WordCmp.cmpi_slt_eq] at hb'
    generalize te (ix1 (⟨i, hi⟩ : Fin 96)) = w at ha' hb'
    have hw : w.toNat < 2 ^ (32 - 1) := by
      by_contra hc; rw [decide_eq_false hc] at ha'; exact absurd ha' (by decide)
    have hw2 := WordCmp.toInt_eq_toNat_of_lt_half hw
    have : w.toInt < 32 := by
      by_contra hc
      rw [decide_eq_false (by simpa using hc)] at hb'
      exact absurd hb' (by decide)
    omega
  · unfold New On word
    rw [dif_pos (by omega)]
    rcases IntOp.ori_eq_one.1 hfirst with hf | hf
    · rw [es] at hf
      exact Or.inl ((ne_one _ _).1 hf)
    · refine Or.inr fun hc => noti_at _ _ hf ?_
      rw [es]
      exact (ne_one _ _).2 hc
  · have := hn (ix1 (⟨i, by omega⟩ : Fin 95))
    have w1 : ∀ x : IVec S96 32, word x (i + 1) = x (ix1 (⟨i + 1, hi⟩ : Fin 96)) := fun x => dif_pos hi
    have w0 : ∀ x : IVec S96 32, word x i = x (ix1 (⟨i, by omega⟩ : Fin 96)) := fun x => dif_pos (by omega)
    unfold New On
    rw [w1 fl, w1 te, w0 fl, w0 te]
    rcases IntOp.ori_eq_one.1 this with hf | hf
    · rcases IntOp.ori_eq_one.1 hf with hg | hg
      · rw [e1 _ i hi] at hg
        exact Or.inl ((ne_one _ _).1 hg)
      · refine Or.inr (Or.inl fun hc => noti_at _ _ hg ?_)
        rw [e1 _ i hi]
        exact (ne_one _ _).2 hc
    · obtain ⟨hg, hh⟩ := IntOp.andi_eq_one.1 hf
      rw [e0 _ i hi] at hg
      have hh' := (eq_one _ _).1 hh
      rw [e1 _ i hi, e0 _ i hi] at hh'
      exact Or.inr (Or.inr ⟨(ne_one _ _).1 hg, hh'⟩)

end Cert.Exp

end
-- ==== Proof.ExpSpec.lean ====
/-
  What the experts compute, in plain sums: a row's tokens through its tile's expert, a SwiGLU layer with clipped gate and up parts.
-/
module

public import proofs.«01_k».proof.Proof.ExpPre

@[expose] public section

set_option maxRecDepth 16384

noncomputable section

namespace Cert.Exp

open Idealize.ShloMosaic Idealize.ShloMosaic.TcCoe Idealize.SL.Sem

/-- The hidden activation of a gate and an up part: `(clip up + 1) · min gate 7 · sigmoid (α · min gate 7)`. -/
def act (g u : EReal) : EReal :=
  (min (Ideal.ofBits .f32 0x40E00000#32) (max (Ideal.ofBits .f32 0xC0E00000#32) u) + 1) * min g (Ideal.ofBits .f32 0x40E00000#32)
    * Ideal.div 1 (1 + Ideal.exp (-(min g (Ideal.ofBits .f32 0x40E00000#32) * Ideal.ofBits .f32 0x3FD9DB23#32)))

/-- The gate's column of hidden unit `j`. -/
def even (j : Fin 512) : Fin 1024 := ⟨2 * (j : ℕ), by omega⟩
/-- The up part's column of hidden unit `j`. -/
def odd (j : Fin 512) : Fin 1024 := ⟨2 * (j : ℕ) + 1, by omega⟩

/-- A token's hidden units in one expert: gate and up columns interleaved. -/
def hidden (x : Fin 2048 → EReal) (W : Fin 2048 → Fin 1024 → EReal) (bg bu : Fin 512 → EReal) (j : Fin 512) : EReal :=
  act ((∑ d, x d * W d (even j)) + bg j) ((∑ d, x d * W d (odd j)) + bu j)

/-- One expert of one token. -/
def expert (x : Fin 2048 → EReal) (W : Fin 2048 → Fin 1024 → EReal) (bg bu : Fin 512 → EReal) (D : Fin 512 → Fin 2048 → EReal)
    (bd : Fin 2048 → EReal) (n : Fin 2048) : EReal :=
  (∑ j, hidden x W bg bu j * D j n) + bd n

/-- A row's tokens: its 8 sublanes of 128 lanes, first of the low half, then of the high half. -/
def tok {k : ℕ} (lo hi : Fin k → Fin 8 → Fin 128 → EReal) (r : Fin k) (d : Fin 2048) : EReal :=
  if h : (d : ℕ) < 1024 then lo r ⟨(d : ℕ) / 128, by omega⟩ ⟨(d : ℕ) % 128, by omega⟩
  else hi r ⟨((d : ℕ) - 1024) / 128, by omega⟩ ⟨((d : ℕ) - 1024) % 128, by omega⟩

/-- The column of sublane `s`, lane `l` of the low half. -/
def loCol (s : Fin 8) (l : Fin 128) : Fin 2048 := ⟨128 * (s : ℕ) + (l : ℕ), by omega⟩
/-- The column of sublane `s`, lane `l` of the high half. -/
def hiCol (s : Fin 8) (l : Fin 128) : Fin 2048 := ⟨1024 + (128 * (s : ℕ) + (l : ℕ)), by omega⟩

variable (te fl : IVec ⟨1, ![96]⟩ 32) (lo hi : FVec Ideal ⟨3, ![49152, 8, 128]⟩ .bf16) (W : FVec Ideal ⟨4, ![4, 32, 2048, 1024]⟩ .f32)
  (bg bu : FVec Ideal ⟨4, ![4, 32, 1, 512]⟩ .f32) (D : FVec Ideal ⟨4, ![4, 32, 512, 2048]⟩ .f32) (bd : FVec Ideal ⟨4, ![4, 32, 1, 2048]⟩ .f32)

/-- Expert `e` of the first layer, of row `r`. -/
def rowExpert (e : Fin 32) (r : Fin 49152) (n : Fin 2048) : EReal :=
  expert (tok (fun r s l => lo (ix3 r s l)) (fun r s l => hi (ix3 r s l)) r) (fun d j => W (ix4 0 e d j)) (fun j => bg (ix4 0 e 0 j))
    (fun j => bu (ix4 0 e 0 j)) (fun j n => D (ix4 0 e j n)) (fun n => bd (ix4 0 e 0 n)) n

open Classical in
/-- THE RESULT: a row of a tile in use goes through the tile's expert; the other rows are zero. -/
def result (r : Fin 49152) (n : Fin 2048) : EReal :=
  if On fl ((r : ℕ) / 512) then rowExpert lo hi W bg bu D bd ⟨(word te ((r : ℕ) / 512)).toNat % 32, by omega⟩ r n else 0

end Cert.Exp

end
-- ==== Proof.ExpKit.lean ====
/-
  The experts call's frame kit: the buffers and tables as the region finds them, the windows' blocks, the staging and scratch
  buffers, and the body at a point. Everything holds at any reading of the floats.
-/
module

public import proofs.«01_k».proof.Proof.Gen.Kernel2Ideal.Launch
public import proofs.«01_k».proof.Proof.Gen.Kernel2Ideal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel2Ideal.Exp

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Output window 7 is written back at every point: its index map reads no table. -/
theorem flush0_7 (a : (pcfg0 (F := F)).Adm) : ∀ t : Fin (cfg0 a).N, ((cfg0 a).win 7).flush t = true :=
  (fun t => (Pipeline.Window.flushOf_reads cc0_transform_7 reads0_7 hreads0_7 0 (by decide) (by decide) (Pipeline.Window.sep_of_coord cc0_transform_7 0 0 (fun _ => rfl) (by decide)) (P := 1) (m := 0) (by decide) rfl t).mpr (Nat.mod_one _) : ∀ t : Fin grid0.N, Pipeline.Window.flushOf grid0 true cc0_transform_7 t = true)
/-- Output window 8 is written back at every point: its index map reads no table. -/
theorem flush0_8 (a : (pcfg0 (F := F)).Adm) : ∀ t : Fin (cfg0 a).N, ((cfg0 a).win 8).flush t = true :=
  (fun t => (Pipeline.Window.flushOf_reads cc0_transform_8 reads0_8 hreads0_8 0 (by decide) (by decide) (Pipeline.Window.sep_of_coord cc0_transform_8 0 0 (fun _ => rfl) (by decide)) (P := 1) (m := 0) (by decide) rfl t).mpr (Nat.mod_one _) : ∀ t : Fin grid0.N, Pipeline.Window.flushOf grid0 true cc0_transform_8 t = true)

/-- The kernel body at point `t`, on the current staging buffer of each window. -/
abbrev bodyAt0 (a : (pcfg0 (F := F)).Adm) (t : Fin (cfg0 a).N) : Prog (TpuEff nD τ sig (Elt F) Λ₀ .tc) PUnit :=
  cc0_moe_experts (grid0.coords t) (Memref.whole main_arg0) (Memref.isWhole_whole _) (Memref.whole main_arg1) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (Memref.whole cc0_scratch0) (Memref.isWhole_whole _) (Memref.whole cc0_scratch1) (Memref.isWhole_whole _) (Memref.whole cc0_scratch2) (Memref.isWhole_whole _)

variable (m : (ℓ : Loc nD τ sig) → Buf (Elt F) ℓ) (ρ : Dev nD → PrngReg)

/-- The buffers as the region finds them: as launched. -/
abbrev V (c : Dev nD) (b : Ref sig .tc) : Buf (Elt F) ((c : Thread nD τ).loc b) := m ((c : Thread nD τ).loc b)

set_option maxHeartbeats 800000 in
/-- The program up to the region is the region alone. -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl
theorem V_main_arg7 (c : Dev nD) : V m c main_arg7 = m ((c : Thread nD τ).loc main_arg7) := rfl
theorem V_main_arg8 (c : Dev nD) : V m c main_arg8 = m ((c : Thread nD τ).loc main_arg8) := rfl

/-- The two prefetched tables, read off the launch memory. -/
def tbl : pre0.Contents (Elt F) := fun j => V m (0 : Dev nD) (pre0.ref j)
/-- On every device the tables hold those contents. -/
theorem V_pre (c : Dev nD) (j : Fin 2) : V m c (pre0.ref j) = tbl m j := by
  obtain rfl : c = 0 := Subsingleton.elim _ _; rfl
/-- Every block named by a table lies inside its array. -/
abbrev Ok : Prop := ok0 (F := F) (tbl m)
/-- The tables as admissible contents. -/
abbrev adm (hO : Ok m) : (pcfg0 (F := F)).Adm := ⟨tbl m, hO⟩
/-- The pipeline at them. -/
abbrev cfgM (hO : Ok m) : Pipeline.Cfg sig Λ₀ := cfg0 (adm m hO)

/-- The tables as the body is handed them. -/
abbrev tbM0_0 : Memref sig .tc .smem S96 .i32 := Memref.whole main_arg0
abbrev htbM0_0 : tbM0_0.IsWhole := Memref.isWhole_whole _
abbrev tbM0_1 : Memref sig .tc .smem S96 .i32 := Memref.whole main_arg1
abbrev htbM0_1 : tbM0_1.IsWhole := Memref.isWhole_whole _

/-- The type of a table buffer. -/
abbrev TbBuf0 (c : Dev nD) {S : Shape} {e : EltTy} (M : Memref sig .tc .smem S e) : Type := Buf (Elt F) (M.view.loc (c : Thread nD τ))
/-- Half the share of a table buffer, for reading. -/
abbrev tbPt0 (c : Dev nD) {S : Shape} {e : EltTy} (M : Memref sig .tc .smem S e) (f : TbBuf0 (F := F) c M) : sProp 𝕄 :=
  M.view.loc (c : Thread nD τ) ↦{fullShare.right} f

/-- The halves of the tables, one by one. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-- A window's block at a point, read off its array as launched. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- An input buffer holds its block at every point, fetched there or not. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- The arguments end unchanged, from a run to the pipeline’s post. -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).1 0).trans (((dats 0 c).arrAt_in 0 rfl _).trans ((hA c 0).trans (V_main_arg2 m c))),
      ((h c).1 1).trans (((dats 0 c).arrAt_in 1 rfl _).trans ((hA c 1).trans (V_main_arg3 m c))),
      ((h c).1 2).trans (((dats 0 c).arrAt_in 2 rfl _).trans ((hA c 2).trans (V_main_arg4 m c))),
      ((h c).1 3).trans (((dats 0 c).arrAt_in 3 rfl _).trans ((hA c 3).trans (V_main_arg5 m c))),
      ((h c).1 4).trans (((dats 0 c).arrAt_in 4 rfl _).trans ((hA c 4).trans (V_main_arg6 m c))),
      ((h c).1 5).trans (((dats 0 c).arrAt_in 5 rfl _).trans ((hA c 5).trans (V_main_arg7 m c))),
      ((h c).1 6).trans (((dats 0 c).arrAt_in 6 rfl _).trans ((hA c 6).trans (V_main_arg8 m c)))⟩) h

/-- Each window's current staging buffer at a point. -/
abbrev ms0_0 (hO : Ok m) (t : Fin (cfgM m hO).N) : Memref sig .tc .vmem S512x8x128 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S512x8x128 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1x2048x1024 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1x1x512 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1x1x512 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x1x512x2048 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x1x1x2048 .f32 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S512x8x128 .bf16 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S512x8x128 .bf16 := spec0_8.stage ((cfgM m hO).slots t 8)
abbrev hs0_8 (hO : Ok m) (t : Fin (cfgM m hO).N) : (ms0_8 m hO t).IsWhole := hstage0_8 (((cfgM m hO).slots t 8).cast nbuf0_8)
/-- The three scratch buffers: gate, up and down weights. -/
abbrev scM0_0 : Memref sig .tc .vmem S2048x512 .bf16 := Memref.whole cc0_scratch0
abbrev scM0_1 : Memref sig .tc .vmem S2048x512 .bf16 := Memref.whole cc0_scratch1
abbrev scM0_2 : Memref sig .tc .vmem S512x2048 .bf16 := Memref.whole cc0_scratch2

/-- The class invariant with the scratch buffers one by one. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel2Ideal.Exp

end
-- ==== Proof.ExpStage.lean ====
/-
  The experts kernel's body in three stages: taking up an expert's weights, running a tile, zeroing an idle tile. For each the
  buffers it fills, as functions of what it reads.
-/
module

public import proofs.«01_k».proof.Proof.ExpKit

@[expose] public section

set_option maxRecDepth 16384

noncomputable section

namespace Cert.Kernel2Ideal.Exp

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The stages, each before a continuation -/

/-- Taking up an expert's weights, where the flag word says so. -/
noncomputable def stageW (i : grid0.Coords) (arg1 : Memref sig .tc .smem S96 .i32) (harg1 : arg1.IsWhole) (arg2 : Memref sig .tc .smem S96 .i32) (harg2 : arg2.IsWhole) (arg3 : Memref sig .tc .vmem S512x8x128 .bf16) (harg3 : arg3.IsWhole) (arg4 : Memref sig .tc .vmem S512x8x128 .bf16) (harg4 : arg4.IsWhole) (arg5 : Memref sig .tc .vmem S1x1x2048x1024 .f32) (harg5 : arg5.IsWhole) (arg6 : Memref sig .tc .vmem S1x1x1x512 .f32) (harg6 : arg6.IsWhole) (arg7 : Memref sig .tc .vmem S1x1x1x512 .f32) (harg7 : arg7.IsWhole) (arg8 : Memref sig .tc .vmem S1x1x512x2048 .f32) (harg8 : arg8.IsWhole) (arg9 : Memref sig .tc .vmem S1x1x1x2048 .f32) (harg9 : arg9.IsWhole) (arg10 : Memref sig .tc .vmem S512x8x128 .bf16) (harg10 : arg10.IsWhole) (arg11 : Memref sig .tc .vmem S512x8x128 .bf16) (harg11 : arg11.IsWhole) (arg12 : Memref sig .tc .vmem S2048x512 .bf16) (harg12 : arg12.IsWhole) (arg13 : Memref sig .tc .vmem S2048x512 .bf16) (harg13 : arg13.IsWhole) (arg14 : Memref sig .tc .vmem S512x2048 .bf16) (harg14 : arg14.IsWhole) (v1 : BitVec 32) (k : Prog (TpuEff nD τ sig (Elt F) Λ₀ .tc) PUnit) :
    Prog (TpuEff nD τ sig (Elt F) Λ₀ .tc) PUnit :=
  let v2 : BitVec 32 := Scalar.andi v1 2#32
  let v3 : BitVec 1 := Scalar.cmpi .ne v2 0#32
  let v4 : BitVec 32 := Scalar.extui v3
  let v5 : BitVec 1 := Scalar.cmpi .ne v4 0#32
  if v5 = 1#1 then do
    let ⟨v31, v49, v50⟩ : Σ' (v31 : FVec F S256x256 .bf16) (v49 : FVec F S2048x256 .f32), FVec F S2048x128 .f32 ← k0_part1 i arg1 harg1 arg2 harg2 arg3 harg3 arg4 harg4 arg5 harg5 arg6 harg6 arg7 harg7 arg8 harg8 arg9 harg9 arg10 harg10 arg11 harg11 arg12 harg12 arg13 harg13 arg14 harg14
    let v84 : FVec F S2048x128 .bf16 ← k0_part2 i arg1 harg1 arg2 harg2 arg3 harg3 arg4 harg4 arg5 harg5 arg6 harg6 arg7 harg7 arg8 harg8 arg9 harg9 arg10 harg10 arg11 harg11 arg12 harg12 arg13 harg13 arg14 harg14 v31 v49 v50
    let v85 : Vec F S2048x128 .bf16 ← Prog.lift (.load arg13 (Rect.unit (s := S2048x512) ![0, 384] S2048x128.size inb_S2048x512_S2048x128_0_384).toLoadRect (View.loadsAt_vmem h_S2048x128))
    Prog.lift (.store arg13 (Rect.unit (s := S2048x512) ![0, 384] S2048x128.size inb_S2048x512_S2048x128_0_384) (k0_pay1 v84) Finset.univ (View.stores_vmem h_S2048x128 (harg13.storeExact_slice rfl _ packedbf16_S2048x512_S2048x128_0_384) (fun _ => rfl)) (.inl rfl))
    let v88 : Vec F S1x1x512x2048 .f32 ← Prog.lift (.load arg8 (Rect.unit (s := S1x1x512x2048) ![0, 0, 0, 0] S1x1x512x2048.size inb_S1x1x512x2048_S1x1x512x2048_0_0_0_0).toLoadRect (View.loadsAt_vmem h_S1x1x512x2048))
    let v91 : Vec F S512x2048 .bf16 ← Prog.lift (.load arg14 (Rect.unit (s := S512x2048) ![0, 0] S512x2048.size inb_S512x2048_S512x2048_0_0).toLoadRect (View.loadsAt_vmem h_S512x2048))
    Prog.lift (.store arg14 (Rect.unit (s := S512x2048) ![0, 0] S512x2048.size inb_S512x2048_S512x2048_0_0) (k0_pay2 v88) Finset.univ (View.stores_vmem h_S512x2048 (harg14.storeExact_slice rfl _ packedbf16_S512x2048_S512x2048_0_0) (fun _ => rfl)) (.inl rfl))
    k
  else k

/-- Running a tile, where the flag word says it is in use. -/
noncomputable def stageT (i : grid0.Coords) (arg1 : Memref sig .tc .smem S96 .i32) (harg1 : arg1.IsWhole) (arg2 : Memref sig .tc .smem S96 .i32) (harg2 : arg2.IsWhole) (arg3 : Memref sig .tc .vmem S512x8x128 .bf16) (harg3 : arg3.IsWhole) (arg4 : Memref sig .tc .vmem S512x8x128 .bf16) (harg4 : arg4.IsWhole) (arg5 : Memref sig .tc .vmem S1x1x2048x1024 .f32) (harg5 : arg5.IsWhole) (arg6 : Memref sig .tc .vmem S1x1x1x512 .f32) (harg6 : arg6.IsWhole) (arg7 : Memref sig .tc .vmem S1x1x1x512 .f32) (harg7 : arg7.IsWhole) (arg8 : Memref sig .tc .vmem S1x1x512x2048 .f32) (harg8 : arg8.IsWhole) (arg9 : Memref sig .tc .vmem S1x1x1x2048 .f32) (harg9 : arg9.IsWhole) (arg10 : Memref sig .tc .vmem S512x8x128 .bf16) (harg10 : arg10.IsWhole) (arg11 : Memref sig .tc .vmem S512x8x128 .bf16) (harg11 : arg11.IsWhole) (arg12 : Memref sig .tc .vmem S2048x512 .bf16) (harg12 : arg12.IsWhole) (arg13 : Memref sig .tc .vmem S2048x512 .bf16) (harg13 : arg13.IsWhole) (arg14 : Memref sig .tc .vmem S512x2048 .bf16) (harg14 : arg14.IsWhole) (v1 : BitVec 32) (k : Prog (TpuEff nD τ sig (Elt F) Λ₀ .tc) PUnit) :
    Prog (TpuEff nD τ sig (Elt F) Λ₀ .tc) PUnit :=
  if k0_h2 : k0_cond2 v1 = 1#1 then do
    let ⟨v56, v58, v60⟩ : Σ' (v56 : FVec F S512x2048 .bf16) (v58 : FVec F S512x512 .f32), FVec F S1x512 .f32 ← k0_part3 i arg1 harg1 arg2 harg2 arg3 harg3 arg4 harg4 arg5 harg5 arg6 harg6 arg7 harg7 arg8 harg8 arg9 harg9 arg10 harg10 arg11 harg11 arg12 harg12 arg13 harg13 arg14 harg14
    let ⟨v94, v96, v97, v98⟩ : Σ' (v94 : FVec F S512x2048 .f32) (v96 : FVec F S512x1024 .bf16) (v97 : FVec F S512x128 .bf16), FVec F S512x128 .bf16 ← k0_part4 i arg1 harg1 arg2 harg2 arg3 harg3 arg4 harg4 arg5 harg5 arg6 harg6 arg7 harg7 arg8 harg8 arg9 harg9 arg10 harg10 arg11 harg11 arg12 harg12 arg13 harg13 arg14 harg14 v56 v58 v60
    let v115 : Vec F S512x8x128 .bf16 ← Prog.lift (.load arg10 (Rect.unit (s := S512x8x128) ![0, 0, 0] S512x8x128.size inb_S512x8x128_S512x8x128_0_0_0).toLoadRect (View.loadsAt_vmem h_S512x8x128))
    Prog.lift (.store arg10 (Rect.unit (s := S512x8x128) ![0, 0, 0] S512x8x128.size inb_S512x8x128_S512x8x128_0_0_0) (k0_pay3 v96 v97 v98) Finset.univ (View.stores_vmem h_S512x8x128 (harg10.storeExact_slice rfl _ packedbf16_S512x8x128_S512x8x128_0_0_0) (fun _ => rfl)) (.inl rfl))
    let v136 : Vec F S512x8x128 .bf16 ← Prog.lift (.load arg11 (Rect.unit (s := S512x8x128) ![0, 0, 0] S512x8x128.size inb_S512x8x128_S512x8x128_0_0_0).toLoadRect (View.loadsAt_vmem h_S512x8x128))
    Prog.lift (.store arg11 (Rect.unit (s := S512x8x128) ![0, 0, 0] S512x8x128.size inb_S512x8x128_S512x8x128_0_0_0) (k0_pay4 v94) Finset.univ (View.stores_vmem h_S512x8x128 (harg11.storeExact_slice rfl _ packedbf16_S512x8x128_S512x8x128_0_0_0) (fun _ => rfl)) (.inl rfl))
    k
  else k

/-- Zeroing an idle tile. -/
noncomputable def stageZ (i : grid0.Coords) (arg1 : Memref sig .tc .smem S96 .i32) (harg1 : arg1.IsWhole) (arg2 : Memref sig .tc .smem S96 .i32) (harg2 : arg2.IsWhole) (arg3 : Memref sig .tc .vmem S512x8x128 .bf16) (harg3 : arg3.IsWhole) (arg4 : Memref sig .tc .vmem S512x8x128 .bf16) (harg4 : arg4.IsWhole) (arg5 : Memref sig .tc .vmem S1x1x2048x1024 .f32) (harg5 : arg5.IsWhole) (arg6 : Memref sig .tc .vmem S1x1x1x512 .f32) (harg6 : arg6.IsWhole) (arg7 : Memref sig .tc .vmem S1x1x1x512 .f32) (harg7 : arg7.IsWhole) (arg8 : Memref sig .tc .vmem S1x1x512x2048 .f32) (harg8 : arg8.IsWhole) (arg9 : Memref sig .tc .vmem S1x1x1x2048 .f32) (harg9 : arg9.IsWhole) (arg10 : Memref sig .tc .vmem S512x8x128 .bf16) (harg10 : arg10.IsWhole) (arg11 : Memref sig .tc .vmem S512x8x128 .bf16) (harg11 : arg11.IsWhole) (arg12 : Memref sig .tc .vmem S2048x512 .bf16) (harg12 : arg12.IsWhole) (arg13 : Memref sig .tc .vmem S2048x512 .bf16) (harg13 : arg13.IsWhole) (arg14 : Memref sig .tc .vmem S512x2048 .bf16) (harg14 : arg14.IsWhole) (v1 : BitVec 32) (k : Prog (TpuEff nD τ sig (Elt F) Λ₀ .tc) PUnit) :
    Prog (TpuEff nD τ sig (Elt F) Λ₀ .tc) PUnit :=
  if k0_h3 : k0_cond3 v1 = 1#1 then do
    let v15 : Vec F S512x8x128 .bf16 ← Prog.lift (.load arg10 (Rect.unit (s := S512x8x128) ![0, 0, 0] S512x8x128.size inb_S512x8x128_S512x8x128_0_0_0).toLoadRect (View.loadsAt_vmem h_S512x8x128))
    Prog.lift (.store arg10 (Rect.unit (s := S512x8x128) ![0, 0, 0] S512x8x128.size inb_S512x8x128_S512x8x128_0_0_0) (k0_pay5 (F := F)) Finset.univ (View.stores_vmem h_S512x8x128 (harg10.storeExact_slice rfl _ packedbf16_S512x8x128_S512x8x128_0_0_0) (fun _ => rfl)) (.inl rfl))
    let v17 : Vec F S512x8x128 .bf16 ← Prog.lift (.load arg11 (Rect.unit (s := S512x8x128) ![0, 0, 0] S512x8x128.size inb_S512x8x128_S512x8x128_0_0_0).toLoadRect (View.loadsAt_vmem h_S512x8x128))
    Prog.lift (.store arg11 (Rect.unit (s := S512x8x128) ![0, 0, 0] S512x8x128.size inb_S512x8x128_S512x8x128_0_0_0) (k0_pay6 (F := F)) Finset.univ (View.stores_vmem h_S512x8x128 (harg11.storeExact_slice rfl _ packedbf16_S512x8x128_S512x8x128_0_0_0) (fun _ => rfl)) (.inl rfl))
    k
  else k

set_option maxRecDepth 65536 in
/-- The body is the flag word's load and the three stages. -/
theorem body_eq (i : grid0.Coords) (arg1 : Memref sig .tc .smem S96 .i32) (harg1 : arg1.IsWhole) (arg2 : Memref sig .tc .smem S96 .i32) (harg2 : arg2.IsWhole) (arg3 : Memref sig .tc .vmem S512x8x128 .bf16) (harg3 : arg3.IsWhole) (arg4 : Memref sig .tc .vmem S512x8x128 .bf16) (harg4 : arg4.IsWhole) (arg5 : Memref sig .tc .vmem S1x1x2048x1024 .f32) (harg5 : arg5.IsWhole) (arg6 : Memref sig .tc .vmem S1x1x1x512 .f32) (harg6 : arg6.IsWhole) (arg7 : Memref sig .tc .vmem S1x1x1x512 .f32) (harg7 : arg7.IsWhole) (arg8 : Memref sig .tc .vmem S1x1x512x2048 .f32) (harg8 : arg8.IsWhole) (arg9 : Memref sig .tc .vmem S1x1x1x2048 .f32) (harg9 : arg9.IsWhole) (arg10 : Memref sig .tc .vmem S512x8x128 .bf16) (harg10 : arg10.IsWhole) (arg11 : Memref sig .tc .vmem S512x8x128 .bf16) (harg11 : arg11.IsWhole) (arg12 : Memref sig .tc .vmem S2048x512 .bf16) (harg12 : arg12.IsWhole) (arg13 : Memref sig .tc .vmem S2048x512 .bf16) (harg13 : arg13.IsWhole) (arg14 : Memref sig .tc .vmem S512x2048 .bf16) (harg14 : arg14.IsWhole) :
    cc0_moe_experts (F := F) i arg1 harg1 arg2 harg2 arg3 harg3 arg4 harg4 arg5 harg5 arg6 harg6 arg7 harg7 arg8 harg8 arg9 harg9 arg10 harg10 arg11 harg11 arg12 harg12 arg13 harg13 arg14 harg14 = (do
      let v1 : Elt F .i32 ← smemLoad arg2 (Rect.unit (s := S96) (k0_off1 i) S1.size (k0_off1_inb i)) numel1_S1 rfl
      stageW i arg1 harg1 arg2 harg2 arg3 harg3 arg4 harg4 arg5 harg5 arg6 harg6 arg7 harg7 arg8 harg8 arg9 harg9 arg10 harg10 arg11 harg11 arg12 harg12 arg13 harg13 arg14 harg14 v1 (stageT i arg1 harg1 arg2 harg2 arg3 harg3 arg4 harg4 arg5 harg5 arg6 harg6 arg7 harg7 arg8 harg8 arg9 harg9 arg10 harg10 arg11 harg11 arg12 harg12 arg13 harg13 arg14 harg14 v1 (stageZ i arg1 harg1 arg2 harg2 arg3 harg3 arg4 harg4 arg5 harg5 arg6 harg6 arg7 harg7 arg8 harg8 arg9 harg9 arg10 harg10 arg11 harg11 arg12 harg12 arg13 harg13 arg14 harg14 v1 (pure ⟨⟩)))) := rfl

/-! ## What each stage leaves -/

/-- The gate weights a load of the expert's block leaves: the even columns, chunk by chunk. -/
def newG (x2 : Vec F S1x1x2048x1024 .f32) : Vec F S2048x512 .bf16 :=
  View.canon [⟨Rect.unit (s := S2048x512) ![0, 384] S2048x128.size inb_S2048x512_S2048x128_0_384, k0_pay19 k0_pay7 (View.ld x2 (Rect.unit (s := S1x1x2048x1024) ![0, 0, 0, 768] S1x1x2048x256.size inb_S1x1x2048x1024_S1x1x2048x256_0_0_0_768))⟩,
    ⟨Rect.unit (s := S2048x512) ![0, 256] S2048x128.size inb_S2048x512_S2048x128_0_256, k0_pay16 k0_pay7 (View.ld x2 (Rect.unit (s := S1x1x2048x1024) ![0, 0, 0, 512] S1x1x2048x256.size inb_S1x1x2048x1024_S1x1x2048x256_0_0_0_512))⟩,
    ⟨Rect.unit (s := S2048x512) ![0, 128] S2048x128.size inb_S2048x512_S2048x128_0_128, k0_pay13 (k0_pay12 (View.ld x2 (Rect.unit (s := S1x1x2048x1024) ![0, 0, 0, 256] S1x1x2048x256.size inb_S1x1x2048x1024_S1x1x2048x256_0_0_0_256)))⟩,
    ⟨Rect.unit (s := S2048x512) ![0, 0] S2048x128.size inb_S2048x512_S2048x128_0_0, k0_pay9 (View.ld x2 (Rect.unit (s := S1x1x2048x1024) ![0, 0, 0, 0] S1x1x2048x256.size inb_S1x1x2048x1024_S1x1x2048x256_0_0_0_0))⟩]

/-- The up weights: the odd columns. -/
def newU (x2 : Vec F S1x1x2048x1024 .f32) : Vec F S2048x512 .bf16 :=
  View.canon [⟨Rect.unit (s := S2048x512) ![0, 384] S2048x128.size inb_S2048x512_S2048x128_0_384, k0_pay1 (k0_pay20 k0_pay7 (View.ld x2 (Rect.unit (s := S1x1x2048x1024) ![0, 0, 0, 768] S1x1x2048x256.size inb_S1x1x2048x1024_S1x1x2048x256_0_0_0_768)))⟩,
    ⟨Rect.unit (s := S2048x512) ![0, 256] S2048x128.size inb_S2048x512_S2048x128_0_256, k0_pay17 k0_pay7 (View.ld x2 (Rect.unit (s := S1x1x2048x1024) ![0, 0, 0, 512] S1x1x2048x256.size inb_S1x1x2048x1024_S1x1x2048x256_0_0_0_512))⟩,
    ⟨Rect.unit (s := S2048x512) ![0, 128] S2048x128.size inb_S2048x512_S2048x128_0_128, k0_pay14 (k0_pay11 (View.ld x2 (Rect.unit (s := S1x1x2048x1024) ![0, 0, 0, 256] S1x1x2048x256.size inb_S1x1x2048x1024_S1x1x2048x256_0_0_0_256)))⟩,
    ⟨Rect.unit (s := S2048x512) ![0, 0] S2048x128.size inb_S2048x512_S2048x128_0_0, k0_pay10 (View.ld x2 (Rect.unit (s := S1x1x2048x1024) ![0, 0, 0, 0] S1x1x2048x256.size inb_S1x1x2048x1024_S1x1x2048x256_0_0_0_0))⟩]

/-- The down weights. -/
def newD (x5 : Vec F S1x1x512x2048 .f32) : Vec F S512x2048 .bf16 :=
  View.canon [⟨Rect.unit (s := S512x2048) ![0, 0] S512x2048.size inb_S512x2048_S512x2048_0_0, k0_pay2 (View.ld x5 (Rect.unit (s := S1x1x512x2048) ![0, 0, 0, 0] S1x1x512x2048.size inb_S1x1x512x2048_S1x1x512x2048_0_0_0_0))⟩]

/-- A tile's lower half from its rows, the weights held and the biases. -/
def outLo (x0 x1 : Vec F S512x8x128 .bf16) (g u : Vec F S2048x512 .bf16) (d : Vec F S512x2048 .bf16) (x3 x4 : Vec F S1x1x1x512 .f32) (x6 : Vec F S1x1x1x2048 .f32) : Vec F S512x8x128 .bf16 :=
  View.canon [⟨Rect.unit (s := S512x8x128) ![0, 0, 0] S512x8x128.size inb_S512x8x128_S512x8x128_0_0_0, k0_pay3 (k0_pay25 (k0_pay21 (View.ld x0 (Rect.unit (s := S512x8x128) ![0, 0, 0] S512x8x128.size inb_S512x8x128_S512x8x128_0_0_0)) (View.ld x1 (Rect.unit (s := S512x8x128) ![0, 0, 0] S512x8x128.size inb_S512x8x128_S512x8x128_0_0_0))) (k0_pay22 (View.ld x0 (Rect.unit (s := S512x8x128) ![0, 0, 0] S512x8x128.size inb_S512x8x128_S512x8x128_0_0_0)) (View.ld x1 (Rect.unit (s := S512x8x128) ![0, 0, 0] S512x8x128.size inb_S512x8x128_S512x8x128_0_0_0)) (View.ld g (Rect.unit (s := S2048x512) ![0, 0] S2048x512.size inb_S2048x512_S2048x512_0_0))) (k0_pay23 (View.ld x3 (Rect.unit (s := S1x1x1x512) ![0, 0, 0, 0] S1x1x1x512.size inb_S1x1x1x512_S1x1x1x512_0_0_0_0))) (View.ld u (Rect.unit (s := S2048x512) ![0, 0] S2048x512.size inb_S2048x512_S2048x512_0_0)) (View.ld x4 (Rect.unit (s := S1x1x1x512) ![0, 0, 0, 0] S1x1x1x512.size inb_S1x1x1x512_S1x1x1x512_0_0_0_0)) (View.ld d (Rect.unit (s := S512x2048) ![0, 0] S512x2048.size inb_S512x2048_S512x2048_0_0)) (View.ld x6 (Rect.unit (s := S1x1x1x2048) ![0, 0, 0, 0] S1x1x1x2048.size inb_S1x1x1x2048_S1x1x1x2048_0_0_0_0))) (k0_pay26 (k0_pay21 (View.ld x0 (Rect.unit (s := S512x8x128) ![0, 0, 0] S512x8x128.size inb_S512x8x128_S512x8x128_0_0_0)) (View.ld x1 (Rect.unit (s := S512x8x128) ![0, 0, 0] S512x8x128.size inb_S512x8x128_S512x8x128_0_0_0))) (k0_pay22 (View.ld x0 (Rect.unit (s := S512x8x128) ![0, 0, 0] S512x8x128.size inb_S512x8x128_S512x8x128_0_0_0)) (View.ld x1 (Rect.unit (s := S512x8x128) ![0, 0, 0] S512x8x128.size inb_S512x8x128_S512x8x128_0_0_0)) (View.ld g (Rect.unit (s := S2048x512) ![0, 0] S2048x512.size inb_S2048x512_S2048x512_0_0))) (k0_pay23 (View.ld x3 (Rect.unit (s := S1x1x1x512) ![0, 0, 0, 0] S1x1x1x512.size inb_S1x1x1x512_S1x1x1x512_0_0_0_0))) (View.ld u (Rect.unit (s := S2048x512) ![0, 0] S2048x512.size inb_S2048x512_S2048x512_0_0)) (View.ld x4 (Rect.unit (s := S1x1x1x512) ![0, 0, 0, 0] S1x1x1x512.size inb_S1x1x1x512_S1x1x1x512_0_0_0_0)) (View.ld d (Rect.unit (s := S512x2048) ![0, 0] S512x2048.size inb_S512x2048_S512x2048_0_0)) (View.ld x6 (Rect.unit (s := S1x1x1x2048) ![0, 0, 0, 0] S1x1x1x2048.size inb_S1x1x1x2048_S1x1x1x2048_0_0_0_0))) (k0_pay27 (k0_pay21 (View.ld x0 (Rect.unit (s := S512x8x128) ![0, 0, 0] S512x8x128.size inb_S512x8x128_S512x8x128_0_0_0)) (View.ld x1 (Rect.unit (s := S512x8x128) ![0, 0, 0] S512x8x128.size inb_S512x8x128_S512x8x128_0_0_0))) (k0_pay22 (View.ld x0 (Rect.unit (s := S512x8x128) ![0, 0, 0] S512x8x128.size inb_S512x8x128_S512x8x128_0_0_0)) (View.ld x1 (Rect.unit (s := S512x8x128) ![0, 0, 0] S512x8x128.size inb_S512x8x128_S512x8x128_0_0_0)) (View.ld g (Rect.unit (s := S2048x512) ![0, 0] S2048x512.size inb_S2048x512_S2048x512_0_0))) (k0_pay23 (View.ld x3 (Rect.unit (s := S1x1x1x512) ![0, 0, 0, 0] S1x1x1x512.size inb_S1x1x1x512_S1x1x1x512_0_0_0_0))) (View.ld u (Rect.unit (s := S2048x512) ![0, 0] S2048x512.size inb_S2048x512_S2048x512_0_0)) (View.ld x4 (Rect.unit (s := S1x1x1x512) ![0, 0, 0, 0] S1x1x1x512.size inb_S1x1x1x512_S1x1x1x512_0_0_0_0)) (View.ld d (Rect.unit (s := S512x2048) ![0, 0] S512x2048.size inb_S512x2048_S512x2048_0_0)) (View.ld x6 (Rect.unit (s := S1x1x1x2048) ![0, 0, 0, 0] S1x1x1x2048.size inb_S1x1x1x2048_S1x1x1x2048_0_0_0_0)))⟩]

/-- A tile's upper half. -/
def outHi (x0 x1 : Vec F S512x8x128 .bf16) (g u : Vec F S2048x512 .bf16) (d : Vec F S512x2048 .bf16) (x3 x4 : Vec F S1x1x1x512 .f32) (x6 : Vec F S1x1x1x2048 .f32) : Vec F S512x8x128 .bf16 :=
  View.canon [⟨Rect.unit (s := S512x8x128) ![0, 0, 0] S512x8x128.size inb_S512x8x128_S512x8x128_0_0_0, k0_pay4 (k0_pay24 (k0_pay21 (View.ld x0 (Rect.unit (s := S512x8x128) ![0, 0, 0] S512x8x128.size inb_S512x8x128_S512x8x128_0_0_0)) (View.ld x1 (Rect.unit (s := S512x8x128) ![0, 0, 0] S512x8x128.size inb_S512x8x128_S512x8x128_0_0_0))) (k0_pay22 (View.ld x0 (Rect.unit (s := S512x8x128) ![0, 0, 0] S512x8x128.size inb_S512x8x128_S512x8x128_0_0_0)) (View.ld x1 (Rect.unit (s := S512x8x128) ![0, 0, 0] S512x8x128.size inb_S512x8x128_S512x8x128_0_0_0)) (View.ld g (Rect.unit (s := S2048x512) ![0, 0] S2048x512.size inb_S2048x512_S2048x512_0_0))) (k0_pay23 (View.ld x3 (Rect.unit (s := S1x1x1x512) ![0, 0, 0, 0] S1x1x1x512.size inb_S1x1x1x512_S1x1x1x512_0_0_0_0))) (View.ld u (Rect.unit (s := S2048x512) ![0, 0] S2048x512.size inb_S2048x512_S2048x512_0_0)) (View.ld x4 (Rect.unit (s := S1x1x1x512) ![0, 0, 0, 0] S1x1x1x512.size inb_S1x1x1x512_S1x1x1x512_0_0_0_0)) (View.ld d (Rect.unit (s := S512x2048) ![0, 0] S512x2048.size inb_S512x2048_S512x2048_0_0)) (View.ld x6 (Rect.unit (s := S1x1x1x2048) ![0, 0, 0, 0] S1x1x1x2048.size inb_S1x1x1x2048_S1x1x1x2048_0_0_0_0)))⟩]

/-- An idle tile's lower half. -/
def zeroLo : Vec F S512x8x128 .bf16 := View.canon [⟨Rect.unit (s := S512x8x128) ![0, 0, 0] S512x8x128.size inb_S512x8x128_S512x8x128_0_0_0, k0_pay5⟩]
/-- An idle tile's upper half. -/
def zeroHi : Vec F S512x8x128 .bf16 := View.canon [⟨Rect.unit (s := S512x8x128) ![0, 0, 0] S512x8x128.size inb_S512x8x128_S512x8x128_0_0_0, k0_pay6⟩]

end Cert.Kernel2Ideal.Exp

end
-- ==== Proof.ExpPay.lean ====
/-
  What the experts body computes, read at an index over extended reals: the de-interleaving by a permutation product, the tokens'
  rows, the hidden units and the output.
-/
module

public import proofs.«01_k».proof.Proof.ExpSpec
public import proofs.«01_k».proof.Proof.ExpStage
public import Idealize.ShloMosaic.Lib.Pointwise
public import Idealize.ShloMosaic.Lib.ValueIdx

@[expose] public section

set_option maxRecDepth 16384

noncomputable section

namespace Cert.Kernel2Ideal.Exp

open Cert.Kernel2Ideal Cert.Kernel2Ideal.Gen Idealize.ShloMosaic Idealize.ShloMosaic.TcCoe Idealize.SL.Sem
open Cert.Exp

/-- The permutation's row of a column: even columns first, then odd ones. -/
def perm (c : Fin 256) : Fin 256 := if h : (c : ℕ) < 128 then ⟨2 * (c : ℕ), by omega⟩ else ⟨2 * ((c : ℕ) - 128) + 1, by omega⟩

/-- The permutation's position as the words compute it. -/
theorem perm_word : ∀ c : Fin 256, Scalar.select (IntOp.cmpi .slt (BitVec.ofNat 32 (c : ℕ)) 128#32) (IntOp.muli 2#32 (BitVec.ofNat 32 (c : ℕ)))
    (IntOp.addi (IntOp.muli 2#32 (IntOp.subi (BitVec.ofNat 32 (c : ℕ)) 128#32)) 1#32) = BitVec.ofNat 32 (perm c : ℕ) := by
  decide +kernel

/-- Positions are equal exactly as their words are. -/
theorem word_eq (r c : Fin 256) : (IntOp.cmpi .eq (BitVec.ofNat 32 (r : ℕ)) (BitVec.ofNat 32 (c : ℕ)) = 1#1) ↔ r = c := by
  rw [eq_one]
  constructor
  · intro h
    have h2 := congrArg BitVec.toNat h
    rw [BitVec.toNat_ofNat, BitVec.toNat_ofNat, Nat.mod_eq_of_lt (by omega), Nat.mod_eq_of_lt (by omega)] at h2
    exact Fin.ext h2
  · rintro rfl; rfl

/-- The permutation matrix, read. -/
theorem pay7_at (r c : Fin 256) : k0_pay7 (F := Ideal) (ix2 r c) = if r = perm c then 1 else 0 := by
  pointwise [k0_pay7]
  rw [perm_word]
  by_cases h : r = perm c
  · rw [(word_eq r (perm c)).2 h, if_pos h]; rfl
  · rw [if_neg h]
    exact if_neg fun h2 => h ((word_eq r (perm c)).1 h2)

/-- A row times the permutation's column. -/
theorem sum_perm (f : Fin 256 → EReal) (c : Fin 256) : (∑ k, f k * (if k = c then 1 else 0)) = f c := by
  simp only [mul_ite, mul_one, mul_zero, Finset.sum_ite_eq', Finset.mem_univ, if_true]

variable (x : Vec Ideal S1x1x2048x256 .f32) (d : Fin 2048) (c : Fin 128)

/-- Column `2 c` of a chunk. -/
def evenC (c : Fin 128) : Fin 256 := ⟨2 * (c : ℕ), by omega⟩
/-- Column `2 c + 1` of a chunk. -/
def oddC (c : Fin 128) : Fin 256 := ⟨2 * (c : ℕ) + 1, by omega⟩
/-- A low column of the permutation. -/
theorem perm_lo (h : (c : ℕ) < 256) : perm ⟨(c : ℕ), h⟩ = evenC c := dif_pos c.isLt
/-- A high column of the permutation. -/
theorem perm_hi (h : 128 + (c : ℕ) < 256) : perm ⟨128 + (c : ℕ), h⟩ = oddC c :=
  (dif_neg (by show ¬128 + (c : ℕ) < 128; omega)).trans (Fin.ext (by show 2 * (128 + (c : ℕ) - 128) + 1 = 2 * (c : ℕ) + 1; omega))

/-- A chunk's gate columns. -/
theorem pay9_at : k0_pay9 (F := Ideal) x (ix2 d c) = x (ix4 0 0 d (evenC c)) := by
  pointwise [k0_pay9, k0_pay8]
  simp only [pay7_at, perm_lo]
  exact sum_perm (fun k => x (ix4 0 0 d k)) _

/-- A chunk's up columns. -/
theorem pay10_at : k0_pay10 (F := Ideal) x (ix2 d c) = x (ix4 0 0 d (oddC c)) := by
  pointwise [k0_pay10, k0_pay8]
  simp only [pay7_at, perm_hi]
  exact sum_perm (fun k => x (ix4 0 0 d k)) _

/-- A chunk's gate columns. -/
theorem pay13_at : k0_pay13 (F := Ideal) (k0_pay12 x) (ix2 d c) = x (ix4 0 0 d (evenC c)) := by
  pointwise [k0_pay13, k0_pay12, k0_pay11]
  simp only [pay7_at, perm_lo]
  exact sum_perm (fun k => x (ix4 0 0 d k)) _

/-- A chunk's up columns. -/
theorem pay14_at : k0_pay14 (F := Ideal) (k0_pay11 x) (ix2 d c) = x (ix4 0 0 d (oddC c)) := by
  pointwise [k0_pay14, k0_pay11]
  simp only [pay7_at, perm_hi]
  exact sum_perm (fun k => x (ix4 0 0 d k)) _

/-- A chunk's gate columns. -/
theorem pay16_at : k0_pay16 (F := Ideal) k0_pay7 x (ix2 d c) = x (ix4 0 0 d (evenC c)) := by
  pointwise [k0_pay16, k0_pay15]
  simp only [pay7_at, perm_lo]
  exact sum_perm (fun k => x (ix4 0 0 d k)) _

/-- A chunk's up columns. -/
theorem pay17_at : k0_pay17 (F := Ideal) k0_pay7 x (ix2 d c) = x (ix4 0 0 d (oddC c)) := by
  pointwise [k0_pay17, k0_pay15]
  simp only [pay7_at, perm_hi]
  exact sum_perm (fun k => x (ix4 0 0 d k)) _

/-- A chunk's gate columns. -/
theorem pay19_at : k0_pay19 (F := Ideal) k0_pay7 x (ix2 d c) = x (ix4 0 0 d (evenC c)) := by
  pointwise [k0_pay19, k0_pay18]
  simp only [pay7_at, perm_lo]
  exact sum_perm (fun k => x (ix4 0 0 d k)) _

/-- A chunk's up columns. -/
theorem pay20_at : k0_pay1 (F := Ideal) (k0_pay20 k0_pay7 x) (ix2 d c) = x (ix4 0 0 d (oddC c)) := by
  pointwise [k0_pay1, k0_pay20, k0_pay18]
  simp only [pay7_at, perm_hi]
  exact sum_perm (fun k => x (ix4 0 0 d k)) _

/-- The down weights, without their unit axes. -/
theorem pay2_at (x : Vec Ideal S1x1x512x2048 .f32) (j : Fin 512) (n : Fin 2048) : k0_pay2 (F := Ideal) x (ix2 j n) = x (ix4 0 0 j n) := by
  pointwise [k0_pay2]

set_option maxHeartbeats 1000000 in
/-- The tokens' rows, put together of their sublanes. -/
theorem pay21_at (a b : Vec Ideal S512x8x128 .bf16) (r : Fin 512) (d : Fin 2048) :
    k0_pay21 (F := Ideal) a b (ix2 r d) = tok (fun r s l => a (ix3 r s l)) (fun r s l => b (ix3 r s l)) r d := by
  pointwise [k0_pay21]
  unfold tok
  have hd := d.isLt
  by_cases h : (d : ℕ) < 1024
  · refine (dif_pos h).trans (Eq.trans ?_ (dif_pos h).symm)
    have hq : (d : ℕ) / 128 = 0 ∨ (d : ℕ) / 128 = 1 ∨ (d : ℕ) / 128 = 2 ∨ (d : ℕ) / 128 = 3 ∨ (d : ℕ) / 128 = 4 ∨ (d : ℕ) / 128 = 5 ∨ (d : ℕ) / 128 = 6 ∨ (d : ℕ) / 128 = 7 := by omega
    rcases hq with hq | hq | hq | hq | hq | hq | hq | hq
    · refine (dif_pos (by omega)).trans ?_
      exact congrArg a (congrArg₂ (ix3 r) (Fin.ext (by show (0 : ℕ) = (d : ℕ) / 128; omega)) (Fin.ext (by show (d : ℕ) = (d : ℕ) % 128; omega)))
    · refine (dif_neg (by omega)).trans ((dif_pos (by omega)).trans ?_)
      exact congrArg a (congrArg₂ (ix3 r) (Fin.ext (by show (1 : ℕ) = (d : ℕ) / 128; omega)) (Fin.ext (by show (d : ℕ) - 128 = (d : ℕ) % 128; omega)))
    · refine (dif_neg (by omega)).trans ((dif_neg (by omega)).trans ((dif_pos (by omega)).trans ?_))
      exact congrArg a (congrArg₂ (ix3 r) (Fin.ext (by show (2 : ℕ) = (d : ℕ) / 128; omega)) (Fin.ext (by show (d : ℕ) - 128 - 128 = (d : ℕ) % 128; omega)))
    · refine (dif_neg (by omega)).trans ((dif_neg (by omega)).trans ((dif_neg (by omega)).trans ((dif_pos (by omega)).trans ?_)))
      exact congrArg a (congrArg₂ (ix3 r) (Fin.ext (by show (3 : ℕ) = (d : ℕ) / 128; omega)) (Fin.ext (by show (d : ℕ) - 128 - 128 - 128 = (d : ℕ) % 128; omega)))
    · refine (dif_neg (by omega)).trans ((dif_neg (by omega)).trans ((dif_neg (by omega)).trans ((dif_neg (by omega)).trans ((dif_pos (by omega)).trans ?_))))
      exact congrArg a (congrArg₂ (ix3 r) (Fin.ext (by show (4 : ℕ) = (d : ℕ) / 128; omega)) (Fin.ext (by show (d : ℕ) - 128 - 128 - 128 - 128 = (d : ℕ) % 128; omega)))
    · refine (dif_neg (by omega)).trans ((dif_neg (by omega)).trans ((dif_neg (by omega)).trans ((dif_neg (by omega)).trans ((dif_neg (by omega)).trans ((dif_pos (by omega)).trans ?_)))))
      exact congrArg a (congrArg₂ (ix3 r) (Fin.ext (by show (5 : ℕ) = (d : ℕ) / 128; omega)) (Fin.ext (by show (d : ℕ) - 128 - 128 - 128 - 128 - 128 = (d : ℕ) % 128; omega)))
    · refine (dif_neg (by omega)).trans ((dif_neg (by omega)).trans ((dif_neg (by omega)).trans ((dif_neg (by omega)).trans ((dif_neg (by omega)).trans ((dif_neg (by omega)).trans ((dif_pos (by omega)).trans ?_))))))
      exact congrArg a (congrArg₂ (ix3 r) (Fin.ext (by show (6 : ℕ) = (d : ℕ) / 128; omega)) (Fin.ext (by show (d : ℕ) - 128 - 128 - 128 - 128 - 128 - 128 = (d : ℕ) % 128; omega)))
    · refine (dif_neg (by omega)).trans ((dif_neg (by omega)).trans ((dif_neg (by omega)).trans ((dif_neg (by omega)).trans ((dif_neg (by omega)).trans ((dif_neg (by omega)).trans ((dif_neg (by omega)).trans (?_)))))))
      exact congrArg a (congrArg₂ (ix3 r) (Fin.ext (by show (7 : ℕ) = (d : ℕ) / 128; omega)) (Fin.ext (by show (d : ℕ) - 128 - 128 - 128 - 128 - 128 - 128 - 128 = (d : ℕ) % 128; omega)))
  · refine (dif_neg h).trans (Eq.trans ?_ (dif_neg h).symm)
    have hq : ((d : ℕ) - 1024) / 128 = 0 ∨ ((d : ℕ) - 1024) / 128 = 1 ∨ ((d : ℕ) - 1024) / 128 = 2 ∨ ((d : ℕ) - 1024) / 128 = 3 ∨ ((d : ℕ) - 1024) / 128 = 4 ∨ ((d : ℕ) - 1024) / 128 = 5 ∨ ((d : ℕ) - 1024) / 128 = 6 ∨ ((d : ℕ) - 1024) / 128 = 7 := by omega
    rcases hq with hq | hq | hq | hq | hq | hq | hq | hq
    · refine (dif_pos (by omega)).trans ?_
      exact congrArg b (congrArg₂ (ix3 r) (Fin.ext (by show (0 : ℕ) = ((d : ℕ) - 1024) / 128; omega)) (Fin.ext (by show ((d : ℕ) - 1024) = ((d : ℕ) - 1024) % 128; omega)))
    · refine (dif_neg (by omega)).trans ((dif_pos (by omega)).trans ?_)
      exact congrArg b (congrArg₂ (ix3 r) (Fin.ext (by show (1 : ℕ) = ((d : ℕ) - 1024) / 128; omega)) (Fin.ext (by show ((d : ℕ) - 1024) - 128 = ((d : ℕ) - 1024) % 128; omega)))
    · refine (dif_neg (by omega)).trans ((dif_neg (by omega)).trans ((dif_pos (by omega)).trans ?_))
      exact congrArg b (congrArg₂ (ix3 r) (Fin.ext (by show (2 : ℕ) = ((d : ℕ) - 1024) / 128; omega)) (Fin.ext (by show ((d : ℕ) - 1024) - 128 - 128 = ((d : ℕ) - 1024) % 128; omega)))
    · refine (dif_neg (by omega)).trans ((dif_neg (by omega)).trans ((dif_neg (by omega)).trans ((dif_pos (by omega)).trans ?_)))
      exact congrArg b (congrArg₂ (ix3 r) (Fin.ext (by show (3 : ℕ) = ((d : ℕ) - 1024) / 128; omega)) (Fin.ext (by show ((d : ℕ) - 1024) - 128 - 128 - 128 = ((d : ℕ) - 1024) % 128; omega)))
    · refine (dif_neg (by omega)).trans ((dif_neg (by omega)).trans ((dif_neg (by omega)).trans ((dif_neg (by omega)).trans ((dif_pos (by omega)).trans ?_))))
      exact congrArg b (congrArg₂ (ix3 r) (Fin.ext (by show (4 : ℕ) = ((d : ℕ) - 1024) / 128; omega)) (Fin.ext (by show ((d : ℕ) - 1024) - 128 - 128 - 128 - 128 = ((d : ℕ) - 1024) % 128; omega)))
    · refine (dif_neg (by omega)).trans ((dif_neg (by omega)).trans ((dif_neg (by omega)).trans ((dif_neg (by omega)).trans ((dif_neg (by omega)).trans ((dif_pos (by omega)).trans ?_)))))
      exact congrArg b (congrArg₂ (ix3 r) (Fin.ext (by show (5 : ℕ) = ((d : ℕ) - 1024) / 128; omega)) (Fin.ext (by show ((d : ℕ) - 1024) - 128 - 128 - 128 - 128 - 128 = ((d : ℕ) - 1024) % 128; omega)))
    · refine (dif_neg (by omega)).trans ((dif_neg (by omega)).trans ((dif_neg (by omega)).trans ((dif_neg (by omega)).trans ((dif_neg (by omega)).trans ((dif_neg (by omega)).trans ((dif_pos (by omega)).trans ?_))))))
      exact congrArg b (congrArg₂ (ix3 r) (Fin.ext (by show (6 : ℕ) = ((d : ℕ) - 1024) / 128; omega)) (Fin.ext (by show ((d : ℕ) - 1024) - 128 - 128 - 128 - 128 - 128 - 128 = ((d : ℕ) - 1024) % 128; omega)))
    · refine (dif_neg (by omega)).trans ((dif_neg (by omega)).trans ((dif_neg (by omega)).trans ((dif_neg (by omega)).trans ((dif_neg (by omega)).trans ((dif_neg (by omega)).trans ((dif_neg (by omega)).trans (?_)))))))
      exact congrArg b (congrArg₂ (ix3 r) (Fin.ext (by show (7 : ℕ) = ((d : ℕ) - 1024) / 128; omega)) (Fin.ext (by show ((d : ℕ) - 1024) - 128 - 128 - 128 - 128 - 128 - 128 - 128 = ((d : ℕ) - 1024) % 128; omega)))

/-- The gate parts before their bias. -/
theorem pay22_at (a b : Vec Ideal S512x8x128 .bf16) (g : Vec Ideal S2048x512 .bf16) (r j : Fin 512) :
    k0_pay22 (F := Ideal) a b g (ix2 r j) = ∑ d, tok (fun r s l => a (ix3 r s l)) (fun r s l => b (ix3 r s l)) r d * g (ix2 d j) := by
  pointwise [k0_pay22]
  simp only [pay21_at]

/-- The gate's bias, without its unit axes. -/
theorem pay23_at (x : Vec Ideal S1x1x1x512 .f32) (j : Fin 512) : k0_pay23 (F := Ideal) x (ix2 0 j) = x (ix4 0 0 0 j) := by
  pointwise [k0_pay23]

/-- The output before it is rounded and cut into sublanes. -/
theorem pay24_at (x : FVec Ideal S512x2048 .bf16) (v58 : FVec Ideal S512x512 .f32) (v60 : FVec Ideal S1x512 .f32) (v65 : Vec Ideal S2048x512 .bf16) (v67 : Vec Ideal S1x1x1x512 .f32) (v89 : Vec Ideal S512x2048 .bf16) (v91 : Vec Ideal S1x1x1x2048 .f32) (r : Fin 512) (n : Fin 2048) :
    k0_pay24 (F := Ideal) x v58 v60 v65 v67 v89 v91 (ix2 r n)
      = (∑ j, act (v58 (ix2 r j) + v60 (ix2 0 j)) ((∑ d, x (ix2 r d) * v65 (ix2 d j)) + v67 (ix4 0 0 0 j)) * v89 (ix2 j n)) + v91 (ix4 0 0 0 n) := by
  pointwise [k0_pay24]
  simp only [act, zero_sub]

/-- The high half's sublanes. -/
theorem pay4_at (y : FVec Ideal S512x2048 .f32) (r : Fin 512) (s : Fin 8) (l : Fin 128) :
    k0_pay4 (F := Ideal) y (ix3 r s l) = y (ix2 r (hiCol s l)) := by
  unfold hiCol
  pointwise [k0_pay4]
  have hq : (s : ℕ) = 0 ∨ (s : ℕ) = 1 ∨ (s : ℕ) = 2 ∨ (s : ℕ) = 3 ∨ (s : ℕ) = 4 ∨ (s : ℕ) = 5 ∨ (s : ℕ) = 6 ∨ (s : ℕ) = 7 := by omega
  rcases hq with hq | hq | hq | hq | hq | hq | hq | hq
  · refine (dif_pos (by omega)).trans ?_
    exact congrArg y (congrArg (ix2 r) (Fin.ext (by simp only []; omega)))
  · refine (dif_neg (by omega)).trans ((dif_pos (by omega)).trans ?_)
    exact congrArg y (congrArg (ix2 r) (Fin.ext (by simp only []; omega)))
  · refine (dif_neg (by omega)).trans ((dif_neg (by omega)).trans ((dif_pos (by omega)).trans ?_))
    exact congrArg y (congrArg (ix2 r) (Fin.ext (by simp only []; omega)))
  · refine (dif_neg (by omega)).trans ((dif_neg (by omega)).trans ((dif_neg (by omega)).trans ((dif_pos (by omega)).trans ?_)))
    exact congrArg y (congrArg (ix2 r) (Fin.ext (by simp only []; omega)))
  · refine (dif_neg (by omega)).trans ((dif_neg (by omega)).trans ((dif_neg (by omega)).trans ((dif_neg (by omega)).trans ((dif_pos (by omega)).trans ?_))))
    exact congrArg y (congrArg (ix2 r) (Fin.ext (by simp only []; omega)))
  · refine (dif_neg (by omega)).trans ((dif_neg (by omega)).trans ((dif_neg (by omega)).trans ((dif_neg (by omega)).trans ((dif_neg (by omega)).trans ((dif_pos (by omega)).trans ?_)))))
    exact congrArg y (congrArg (ix2 r) (Fin.ext (by simp only []; omega)))
  · refine (dif_neg (by omega)).trans ((dif_neg (by omega)).trans ((dif_neg (by omega)).trans ((dif_neg (by omega)).trans ((dif_neg (by omega)).trans ((dif_neg (by omega)).trans ((dif_pos (by omega)).trans ?_))))))
    exact congrArg y (congrArg (ix2 r) (Fin.ext (by simp only []; omega)))
  · refine (dif_neg (by omega)).trans ((dif_neg (by omega)).trans ((dif_neg (by omega)).trans ((dif_neg (by omega)).trans ((dif_neg (by omega)).trans ((dif_neg (by omega)).trans ((dif_neg (by omega)).trans (?_)))))))
    exact congrArg y (congrArg (ix2 r) (Fin.ext (by simp only []; omega)))

/-- The low half's sublanes. -/
theorem pay3_at (y : FVec Ideal S512x1024 .bf16) (v97 v98 : FVec Ideal S512x128 .bf16) (h0 : ∀ (r : Fin 512) (l : Fin 128), v97 (ix2 r l) = y (ix2 r (⟨(l : ℕ), by omega⟩ : Fin 1024)))
    (h1 : ∀ (r : Fin 512) (l : Fin 128), v98 (ix2 r l) = y (ix2 r (⟨128 + (l : ℕ), by omega⟩ : Fin 1024))) (r : Fin 512) (s : Fin 8) (l : Fin 128) :
    k0_pay3 (F := Ideal) y v97 v98 (ix3 r s l) = y (ix2 r (⟨128 * (s : ℕ) + (l : ℕ), by omega⟩ : Fin 1024)) := by
  pointwise [k0_pay3]
  simp only [h0, h1]
  have hq : (s : ℕ) = 0 ∨ (s : ℕ) = 1 ∨ (s : ℕ) = 2 ∨ (s : ℕ) = 3 ∨ (s : ℕ) = 4 ∨ (s : ℕ) = 5 ∨ (s : ℕ) = 6 ∨ (s : ℕ) = 7 := by omega
  rcases hq with hq | hq | hq | hq | hq | hq | hq | hq
  · refine (dif_pos (by omega)).trans ?_
    exact congrArg y (congrArg (ix2 r) (Fin.ext (by simp only []; omega)))
  · refine (dif_neg (by omega)).trans ((dif_pos (by omega)).trans ?_)
    exact congrArg y (congrArg (ix2 r) (Fin.ext (by simp only []; omega)))
  · refine (dif_neg (by omega)).trans ((dif_neg (by omega)).trans ((dif_pos (by omega)).trans ?_))
    exact congrArg y (congrArg (ix2 r) (Fin.ext (by simp only []; omega)))
  · refine (dif_neg (by omega)).trans ((dif_neg (by omega)).trans ((dif_neg (by omega)).trans ((dif_pos (by omega)).trans ?_)))
    exact congrArg y (congrArg (ix2 r) (Fin.ext (by simp only []; omega)))
  · refine (dif_neg (by omega)).trans ((dif_neg (by omega)).trans ((dif_neg (by omega)).trans ((dif_neg (by omega)).trans ((dif_pos (by omega)).trans ?_))))
    exact congrArg y (congrArg (ix2 r) (Fin.ext (by simp only []; omega)))
  · refine (dif_neg (by omega)).trans ((dif_neg (by omega)).trans ((dif_neg (by omega)).trans ((dif_neg (by omega)).trans ((dif_neg (by omega)).trans ((dif_pos (by omega)).trans ?_)))))
    exact congrArg y (congrArg (ix2 r) (Fin.ext (by simp only []; omega)))
  · refine (dif_neg (by omega)).trans ((dif_neg (by omega)).trans ((dif_neg (by omega)).trans ((dif_neg (by omega)).trans ((dif_neg (by omega)).trans ((dif_neg (by omega)).trans ((dif_pos (by omega)).trans ?_))))))
    exact congrArg y (congrArg (ix2 r) (Fin.ext (by simp only []; omega)))
  · refine (dif_neg (by omega)).trans ((dif_neg (by omega)).trans ((dif_neg (by omega)).trans ((dif_neg (by omega)).trans ((dif_neg (by omega)).trans ((dif_neg (by omega)).trans ((dif_neg (by omega)).trans (?_)))))))
    exact congrArg y (congrArg (ix2 r) (Fin.ext (by simp only []; omega)))

/-- The low half, of the output. -/
theorem pay25_at (x : FVec Ideal S512x2048 .bf16) (v58 : FVec Ideal S512x512 .f32) (v60 : FVec Ideal S1x512 .f32) (v65 : Vec Ideal S2048x512 .bf16) (v67 : Vec Ideal S1x1x1x512 .f32) (v89 : Vec Ideal S512x2048 .bf16) (v91 : Vec Ideal S1x1x1x2048 .f32) (r : Fin 512) (n : Fin 1024) :
    k0_pay25 (F := Ideal) x v58 v60 v65 v67 v89 v91 (ix2 r n) = k0_pay24 (F := Ideal) x v58 v60 v65 v67 v89 v91 (ix2 r (⟨(n : ℕ), by omega⟩ : Fin 2048)) := by
  pointwise [k0_pay25]
/-- Its first 128 lanes. -/
theorem pay26_at (x : FVec Ideal S512x2048 .bf16) (v58 : FVec Ideal S512x512 .f32) (v60 : FVec Ideal S1x512 .f32) (v65 : Vec Ideal S2048x512 .bf16) (v67 : Vec Ideal S1x1x1x512 .f32) (v89 : Vec Ideal S512x2048 .bf16) (v91 : Vec Ideal S1x1x1x2048 .f32) (r : Fin 512) (l : Fin 128) :
    k0_pay26 (F := Ideal) x v58 v60 v65 v67 v89 v91 (ix2 r l) = k0_pay25 (F := Ideal) x v58 v60 v65 v67 v89 v91 (ix2 r (⟨(l : ℕ), by omega⟩ : Fin 1024)) := by
  pointwise [k0_pay26]
/-- Its next 128 lanes. -/
theorem pay27_at (x : FVec Ideal S512x2048 .bf16) (v58 : FVec Ideal S512x512 .f32) (v60 : FVec Ideal S1x512 .f32) (v65 : Vec Ideal S2048x512 .bf16) (v67 : Vec Ideal S1x1x1x512 .f32) (v89 : Vec Ideal S512x2048 .bf16) (v91 : Vec Ideal S1x1x1x2048 .f32) (r : Fin 512) (l : Fin 128) :
    k0_pay27 (F := Ideal) x v58 v60 v65 v67 v89 v91 (ix2 r l) = k0_pay25 (F := Ideal) x v58 v60 v65 v67 v89 v91 (ix2 r (⟨128 + (l : ℕ), by omega⟩ : Fin 1024)) := by
  pointwise [k0_pay27]

end Cert.Kernel2Ideal.Exp

end
-- ==== Proof.ExpOut.lean ====
/-
  What the experts body leaves, read at an index: the de-interleaved weights it keeps, and a tile's two output blocks as `expert`
  of the tile's rows.
-/
module

public import proofs.«01_k».proof.Proof.ExpPay
public import Idealize.ShloMosaic.Lib.Pipeline.ValueKit

@[expose] public section

set_option maxRecDepth 16384

noncomputable section

namespace Cert.Kernel2Ideal.Exp

open Cert.Kernel2Ideal Cert.Kernel2Ideal.Gen Idealize.ShloMosaic Idealize.ShloMosaic.TcCoe Idealize.SL.Sem
open Cert.Exp

/-- An index of the kept weights, by its coordinates. -/
theorem idx2_eq {a b : ℕ} (x : (⟨2, ![a, b]⟩ : Shape).Idx) : x = ix2 (x 0) (x 1) := by funext j; fin_cases j <;> rfl
/-- An index of a block of rows, by its coordinates. -/
theorem idx3_eq {a b c : ℕ} (x : (⟨3, ![a, b, c]⟩ : Shape).Idx) : x = ix3 (x 0) (x 1) (x 2) := by funext j; fin_cases j <;> rfl

/-- The kept gate weights: the even columns. -/
theorem newG_at (x2 : Vec Ideal S1x1x2048x1024 .f32) (y : S2048x512.Idx) : newG x2 y = x2 (ix4 0 0 (y 0) (even (y 1))) := by
  unfold newG
  canon_tiles x h
  · refine (congrArg _ (idx2_eq x)).trans ((pay19_at _ (x 0) (x 1)).trans ?_)
    refine View.ld_unit_apply_of x2 _ _ _ _ _ fun (a : Fin 4) => ?_
    fin_cases a
    · rfl
    · rfl
    · show (y 0).val = 0 + (x 0).val
      omega
    · show 2 * (y 1).val = 768 + 2 * (x 1).val
      omega
  · refine (congrArg _ (idx2_eq x)).trans ((pay16_at _ (x 0) (x 1)).trans ?_)
    refine View.ld_unit_apply_of x2 _ _ _ _ _ fun (a : Fin 4) => ?_
    fin_cases a
    · rfl
    · rfl
    · show (y 0).val = 0 + (x 0).val
      omega
    · show 2 * (y 1).val = 512 + 2 * (x 1).val
      omega
  · refine (congrArg _ (idx2_eq x)).trans ((pay13_at _ (x 0) (x 1)).trans ?_)
    refine View.ld_unit_apply_of x2 _ _ _ _ _ fun (a : Fin 4) => ?_
    fin_cases a
    · rfl
    · rfl
    · show (y 0).val = 0 + (x 0).val
      omega
    · show 2 * (y 1).val = 256 + 2 * (x 1).val
      omega
  · refine (congrArg _ (idx2_eq x)).trans ((pay9_at _ (x 0) (x 1)).trans ?_)
    refine View.ld_unit_apply_of x2 _ _ _ _ _ fun (a : Fin 4) => ?_
    fin_cases a
    · rfl
    · rfl
    · show (y 0).val = 0 + (x 0).val
      omega
    · show 2 * (y 1).val = 0 + 2 * (x 1).val
      omega

/-- The kept up weights: the odd columns. -/
theorem newU_at (x2 : Vec Ideal S1x1x2048x1024 .f32) (y : S2048x512.Idx) : newU x2 y = x2 (ix4 0 0 (y 0) (odd (y 1))) := by
  unfold newU
  canon_tiles x h
  · refine (congrArg _ (idx2_eq x)).trans ((pay20_at _ (x 0) (x 1)).trans ?_)
    refine View.ld_unit_apply_of x2 _ _ _ _ _ fun (a : Fin 4) => ?_
    fin_cases a
    · rfl
    · rfl
    · show (y 0).val = 0 + (x 0).val
      omega
    · show 2 * (y 1).val + 1 = 768 + (2 * (x 1).val + 1)
      omega
  · refine (congrArg _ (idx2_eq x)).trans ((pay17_at _ (x 0) (x 1)).trans ?_)
    refine View.ld_unit_apply_of x2 _ _ _ _ _ fun (a : Fin 4) => ?_
    fin_cases a
    · rfl
    · rfl
    · show (y 0).val = 0 + (x 0).val
      omega
    · show 2 * (y 1).val + 1 = 512 + (2 * (x 1).val + 1)
      omega
  · refine (congrArg _ (idx2_eq x)).trans ((pay14_at _ (x 0) (x 1)).trans ?_)
    refine View.ld_unit_apply_of x2 _ _ _ _ _ fun (a : Fin 4) => ?_
    fin_cases a
    · rfl
    · rfl
    · show (y 0).val = 0 + (x 0).val
      omega
    · show 2 * (y 1).val + 1 = 256 + (2 * (x 1).val + 1)
      omega
  · refine (congrArg _ (idx2_eq x)).trans ((pay10_at _ (x 0) (x 1)).trans ?_)
    refine View.ld_unit_apply_of x2 _ _ _ _ _ fun (a : Fin 4) => ?_
    fin_cases a
    · rfl
    · rfl
    · show (y 0).val = 0 + (x 0).val
      omega
    · show 2 * (y 1).val + 1 = 0 + (2 * (x 1).val + 1)
      omega

/-- Zero offsets of a matrix. -/
theorem off2 : ∀ a, (![0, 0] : Fin 2 → ℕ) a = 0 := by decide
/-- Zero offsets of a block of rows. -/
theorem off3 : ∀ a, (![0, 0, 0] : Fin 3 → ℕ) a = 0 := by decide
/-- Zero offsets of a block of weights. -/
theorem off4 : ∀ a, (![0, 0, 0, 0] : Fin 4 → ℕ) a = 0 := by decide

/-- The kept down weights. -/
theorem newD_at (x5 : Vec Ideal S1x1x512x2048 .f32) (j : Fin 512) (n : Fin 2048) : newD x5 (ix2 j n) = x5 (ix4 0 0 j n) := by
  have e1 : newD x5 = k0_pay2 x5 := by
    unfold newD
    refine (View.canon_cons_unit_lit _ _ _ off2).trans ?_
    rw [View.ld_unit_lit (S := S1x1x512x2048) inb_S1x1x512x2048_S1x1x512x2048_0_0_0_0 x5 off4]
  rw [e1]
  exact pay2_at x5 j n

variable (x0 x1 : Vec Ideal S512x8x128 .bf16) (g u : Vec Ideal S2048x512 .bf16) (d : Vec Ideal S512x2048 .bf16) (x3 x4 : Vec Ideal S1x1x1x512 .f32) (x6 : Vec Ideal S1x1x1x2048 .f32)

/-- The high half's block, with its loads read. -/
theorem outHi_eq : outHi x0 x1 g u d x3 x4 x6 = k0_pay4 (k0_pay24 (k0_pay21 x0 x1) (k0_pay22 x0 x1 g) (k0_pay23 x3) u x4 d x6) := by
  unfold outHi
  refine (View.canon_cons_unit_lit _ _ _ off3).trans ?_
  rw [View.ld_unit_lit (S := S512x8x128) inb_S512x8x128_S512x8x128_0_0_0 x0 off3, View.ld_unit_lit (S := S512x8x128) inb_S512x8x128_S512x8x128_0_0_0 x1 off3,
    View.ld_unit_lit (S := S2048x512) inb_S2048x512_S2048x512_0_0 g off2, View.ld_unit_lit (S := S2048x512) inb_S2048x512_S2048x512_0_0 u off2,
    View.ld_unit_lit (S := S512x2048) inb_S512x2048_S512x2048_0_0 d off2,
    View.ld_unit_lit (S := S1x1x1x512) inb_S1x1x1x512_S1x1x1x512_0_0_0_0 x3 off4, View.ld_unit_lit (S := S1x1x1x512) inb_S1x1x1x512_S1x1x1x512_0_0_0_0 x4 off4,
    View.ld_unit_lit (S := S1x1x1x2048) inb_S1x1x1x2048_S1x1x1x2048_0_0_0_0 x6 off4]

/-- The low half's block, with its loads read. -/
theorem outLo_eq : outLo x0 x1 g u d x3 x4 x6 = k0_pay3 (k0_pay25 (k0_pay21 x0 x1) (k0_pay22 x0 x1 g) (k0_pay23 x3) u x4 d x6)
    (k0_pay26 (k0_pay21 x0 x1) (k0_pay22 x0 x1 g) (k0_pay23 x3) u x4 d x6) (k0_pay27 (k0_pay21 x0 x1) (k0_pay22 x0 x1 g) (k0_pay23 x3) u x4 d x6) := by
  unfold outLo
  refine (View.canon_cons_unit_lit _ _ _ off3).trans ?_
  rw [View.ld_unit_lit (S := S512x8x128) inb_S512x8x128_S512x8x128_0_0_0 x0 off3, View.ld_unit_lit (S := S512x8x128) inb_S512x8x128_S512x8x128_0_0_0 x1 off3,
    View.ld_unit_lit (S := S2048x512) inb_S2048x512_S2048x512_0_0 g off2, View.ld_unit_lit (S := S2048x512) inb_S2048x512_S2048x512_0_0 u off2,
    View.ld_unit_lit (S := S512x2048) inb_S512x2048_S512x2048_0_0 d off2,
    View.ld_unit_lit (S := S1x1x1x512) inb_S1x1x1x512_S1x1x1x512_0_0_0_0 x3 off4, View.ld_unit_lit (S := S1x1x1x512) inb_S1x1x1x512_S1x1x1x512_0_0_0_0 x4 off4,
    View.ld_unit_lit (S := S1x1x1x2048) inb_S1x1x1x2048_S1x1x1x2048_0_0_0_0 x6 off4]

variable (W : Fin 2048 → Fin 1024 → EReal) (D : Fin 512 → Fin 2048 → EReal)
  (hg : ∀ (k : Fin 2048) (j : Fin 512), g (ix2 k j) = W k (even j)) (hu : ∀ (k : Fin 2048) (j : Fin 512), u (ix2 k j) = W k (odd j))
  (hD : ∀ (j : Fin 512) (n : Fin 2048), d (ix2 j n) = D j n)

include hg hu hD in
/-- The output of a tile's row. -/
theorem y_at (r : Fin 512) (n : Fin 2048) : k0_pay24 (F := Ideal) (k0_pay21 x0 x1) (k0_pay22 x0 x1 g) (k0_pay23 x3) u x4 d x6 (ix2 r n)
    = expert (tok (fun r s l => x0 (ix3 r s l)) (fun r s l => x1 (ix3 r s l)) r) W (fun j => x3 (ix4 0 0 0 j)) (fun j => x4 (ix4 0 0 0 j)) D
        (fun n => x6 (ix4 0 0 0 n)) n := by
  rw [pay24_at]
  simp only [pay22_at, pay21_at, pay23_at, hg, hu, hD]
  rfl

include hg hu hD in
/-- The high half of a tile's row. -/
theorem outHi_at (r : Fin 512) (s : Fin 8) (l : Fin 128) : outHi x0 x1 g u d x3 x4 x6 (ix3 r s l)
    = expert (tok (fun r s l => x0 (ix3 r s l)) (fun r s l => x1 (ix3 r s l)) r) W (fun j => x3 (ix4 0 0 0 j)) (fun j => x4 (ix4 0 0 0 j)) D
        (fun n => x6 (ix4 0 0 0 n)) (hiCol s l) := by
  rw [outHi_eq, pay4_at, y_at x0 x1 g u d x3 x4 x6 W D hg hu hD]

include hg hu hD in
/-- The low half of a tile's row. -/
theorem outLo_at (r : Fin 512) (s : Fin 8) (l : Fin 128) : outLo x0 x1 g u d x3 x4 x6 (ix3 r s l)
    = expert (tok (fun r s l => x0 (ix3 r s l)) (fun r s l => x1 (ix3 r s l)) r) W (fun j => x3 (ix4 0 0 0 j)) (fun j => x4 (ix4 0 0 0 j)) D
        (fun n => x6 (ix4 0 0 0 n)) (loCol s l) := by
  rw [outLo_eq, pay3_at _ _ _ (fun r l => pay26_at _ _ _ _ _ _ _ r l) (fun r l => pay27_at _ _ _ _ _ _ _ r l), pay25_at]
  exact y_at x0 x1 g u d x3 x4 x6 W D hg hu hD r (loCol s l)

/-- The low half of an unused tile. -/
theorem zeroLo_at (y : S512x8x128.Idx) : zeroLo (F := Ideal) y = 0 := by
  have e1 : (zeroLo (F := Ideal)) = k0_pay5 (F := Ideal) := by
    unfold zeroLo
    exact View.canon_cons_unit_lit _ _ _ off3
  rw [e1, idx3_eq y]
  pointwise [k0_pay5]

/-- The high half of an unused tile. -/
theorem zeroHi_at (y : S512x8x128.Idx) : zeroHi (F := Ideal) y = 0 := by
  have e1 : (zeroHi (F := Ideal)) = k0_pay6 (F := Ideal) := by
    unfold zeroHi
    exact View.canon_cons_unit_lit _ _ _ off3
  rw [e1, idx3_eq y]
  pointwise [k0_pay6]

end Cert.Kernel2Ideal.Exp

end
-- ==== Proof.ExpBlk.lean ====
/-
  The blocks the experts call reads at a tile: rows 512·t onward of the two halves, and the weights and biases of the tile's
  expert.
-/
module

public import proofs.«01_k».proof.Proof.ExpKit
public import proofs.«01_k».proof.Proof.ExpPre
public import Idealize.ShloMosaic.Lib.ValueIdx

@[expose] public section

set_option maxRecDepth 16384

noncomputable section

namespace Cert.Kernel2Ideal.Exp

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Exp

variable (m : (ℓ : Loc nD τ sig) → Buf (Elt F) ℓ)

/-- The expert table as launched. -/
def tabE : IVec S96 32 := m (((0 : Dev nD).tc : Thread nD τ).loc main_arg0)
/-- The flag table as launched. -/
def tabF : IVec S96 32 := m (((0 : Dev nD).tc : Thread nD τ).loc main_arg1)

/-- The tile a grid point runs. -/
theorem point_lt (i : grid0.Coords) : (i 0).val < 96 := (i 0).isLt

/-- The offset of a point's words. -/
theorem off1_val (i : grid0.Coords) (a : Fin 1) : k0_off1 i a = (i 0).val := by
  obtain rfl : a = 0 := Subsingleton.elim _ _
  have := point_lt i
  show (BitVec.ofNat 32 (i 0).val).toNat = _
  rw [BitVec.toNat_ofNat]
  exact Nat.mod_eq_of_lt (by omega)

/-- The expert word a point's index maps read. -/
theorem at0_word (i : grid0.Coords) : ((tbl m).at 0 (Rect.unit (s := S96) (k0_off1 i) S1.size (k0_off1_inb i)) numel1_S1 : BitVec 32) = word (tabE m) (i 0).val := by
  unfold word
  rw [dif_pos (point_lt i)]
  show tabE m _ = tabE m _
  exact congrArg (tabE m) (funext fun (a : Fin 1) => by
    obtain rfl : a = 0 := Subsingleton.elim _ _
    exact Fin.ext (off1_val i 0))

/-- The coordinate of a point of the one-axis grid. -/
theorem coords_all : ∀ t : Fin grid0.N, ((grid0.coords t) 0).val = t.val := by decide +kernel
/-- The same at the pipeline's points. -/
theorem coords_val (hO : Ok m) (t : Fin (cfgM m hO).N) : ((grid0.coords t) 0).val = t.val := coords_all t

/-- The expert a point runs, as an index. -/
def expOf (hP : Planned (tabE m) (tabF m)) (hO : Ok m) (t : Fin (cfgM m hO).N) : Fin 32 :=
  ⟨(word (tabE m) t.val).toNat, hP.range t.val t.isLt⟩

/-- The block of rows at a point, one half of them. -/
theorem iblk0 (hO : Ok m) (c : Dev nD) (t : Fin (cfgM m hO).N) (x : S512x8x128.Idx) :
    iblk m hO c 0 t x = (m ((c.tc : Thread nD τ).loc main_arg2) : Vec F S49152x8x128 .bf16)
      (ix3 (⟨t.val * 512 + (x 0).val, by have h : (x 0).val < 512 := (x 0).isLt; have h2 : t.val < 96 := t.isLt; omega⟩ : Fin 49152) (x 1) (x 2)) := by
  show (m ((c.tc : Thread nD τ).loc main_arg2) : Vec F S49152x8x128 .bf16) _ = (m ((c.tc : Thread nD τ).loc main_arg2) : Vec F S49152x8x128 .bf16) _
  refine congrArg _ (funext fun (a : Fin 3) => Fin.ext ?_)
  refine (Pipeline.Window.rect_emb_val ((cfgM m hO).win 0) t x a rfl).trans ?_
  have ht : (BitVec.ofNat 32 ((grid0.coords t) 0).val).toNat = t.val := by
    rw [coords_val m hO t, BitVec.toNat_ofNat]
    have h2 : t.val < 96 := t.isLt
    exact Nat.mod_eq_of_lt (by omega)
  fin_cases a
  · show (BitVec.ofNat 32 ((grid0.coords t) 0).val).toNat * 512 + (x 0).val = t.val * 512 + (x 0).val
    rw [ht]
  · show 0 * 8 + (x 1).val = (x 1).val
    omega
  · show 0 * 128 + (x 2).val = (x 2).val
    omega

/-- The block of rows at a point, one half of them. -/
theorem iblk1 (hO : Ok m) (c : Dev nD) (t : Fin (cfgM m hO).N) (x : S512x8x128.Idx) :
    iblk m hO c 1 t x = (m ((c.tc : Thread nD τ).loc main_arg3) : Vec F S49152x8x128 .bf16)
      (ix3 (⟨t.val * 512 + (x 0).val, by have h : (x 0).val < 512 := (x 0).isLt; have h2 : t.val < 96 := t.isLt; omega⟩ : Fin 49152) (x 1) (x 2)) := by
  show (m ((c.tc : Thread nD τ).loc main_arg3) : Vec F S49152x8x128 .bf16) _ = (m ((c.tc : Thread nD τ).loc main_arg3) : Vec F S49152x8x128 .bf16) _
  refine congrArg _ (funext fun (a : Fin 3) => Fin.ext ?_)
  refine (Pipeline.Window.rect_emb_val ((cfgM m hO).win 1) t x a rfl).trans ?_
  have ht : (BitVec.ofNat 32 ((grid0.coords t) 0).val).toNat = t.val := by
    rw [coords_val m hO t, BitVec.toNat_ofNat]
    have h2 : t.val < 96 := t.isLt
    exact Nat.mod_eq_of_lt (by omega)
  fin_cases a
  · show (BitVec.ofNat 32 ((grid0.coords t) 0).val).toNat * 512 + (x 0).val = t.val * 512 + (x 0).val
    rw [ht]
  · show 0 * 8 + (x 1).val = (x 1).val
    omega
  · show 0 * 128 + (x 2).val = (x 2).val
    omega

/-- The block of gate and up weights at a point. -/
theorem iblk2 (hP : Planned (tabE m) (tabF m)) (hO : Ok m) (c : Dev nD) (t : Fin (cfgM m hO).N) (x : S1x1x2048x1024.Idx) :
    iblk m hO c 2 t x = (m ((c.tc : Thread nD τ).loc main_arg4) : Vec F S4x32x2048x1024 .f32) (ix4 0 (expOf m hP hO t) (x 2) (x 3)) := by
  have hw := at0_word (F := F) m (grid0.coords t)
  rw [coords_val m hO t] at hw
  show (m ((c.tc : Thread nD τ).loc main_arg4) : Vec F S4x32x2048x1024 .f32) _ = (m ((c.tc : Thread nD τ).loc main_arg4) : Vec F S4x32x2048x1024 .f32) _
  refine congrArg _ (funext fun (a : Fin 4) => Fin.ext ?_)
  refine (Pipeline.Window.rect_emb_val ((cfgM m hO).win 2) t x a rfl).trans ?_
  have h0 : (x 0).val = 0 := by have h : (x 0).val < 1 := (x 0).isLt; omega
  have h1 : (x 1).val = 0 := by have h : (x 1).val < 1 := (x 1).isLt; omega
  fin_cases a
  · show 0 * 1 + (x 0).val = 0
    omega
  · show (((tbl m).at 0 (Rect.unit (s := S96) (k0_off1 (grid0.coords t)) S1.size (k0_off1_inb (grid0.coords t))) numel1_S1 : BitVec 32)).toNat * 1 + (x 1).val = (word (tabE m) t.val).toNat
    rw [hw]; omega
  · show 0 * 2048 + (x 2).val = (x 2).val
    omega
  · show 0 * 1024 + (x 3).val = (x 3).val
    omega

/-- The block of gate biases. -/
theorem iblk3 (hP : Planned (tabE m) (tabF m)) (hO : Ok m) (c : Dev nD) (t : Fin (cfgM m hO).N) (x : S1x1x1x512.Idx) :
    iblk m hO c 3 t x = (m ((c.tc : Thread nD τ).loc main_arg5) : Vec F S4x32x1x512 .f32) (ix4 0 (expOf m hP hO t) (x 2) (x 3)) := by
  have hw := at0_word (F := F) m (grid0.coords t)
  rw [coords_val m hO t] at hw
  show (m ((c.tc : Thread nD τ).loc main_arg5) : Vec F S4x32x1x512 .f32) _ = (m ((c.tc : Thread nD τ).loc main_arg5) : Vec F S4x32x1x512 .f32) _
  refine congrArg _ (funext fun (a : Fin 4) => Fin.ext ?_)
  refine (Pipeline.Window.rect_emb_val ((cfgM m hO).win 3) t x a rfl).trans ?_
  have h0 : (x 0).val = 0 := by have h : (x 0).val < 1 := (x 0).isLt; omega
  have h1 : (x 1).val = 0 := by have h : (x 1).val < 1 := (x 1).isLt; omega
  fin_cases a
  · show 0 * 1 + (x 0).val = 0
    omega
  · show (((tbl m).at 0 (Rect.unit (s := S96) (k0_off1 (grid0.coords t)) S1.size (k0_off1_inb (grid0.coords t))) numel1_S1 : BitVec 32)).toNat * 1 + (x 1).val = (word (tabE m) t.val).toNat
    rw [hw]; omega
  · show 0 * 1 + (x 2).val = (x 2).val
    omega
  · show 0 * 512 + (x 3).val = (x 3).val
    omega

/-- The block of up biases. -/
theorem iblk4 (hP : Planned (tabE m) (tabF m)) (hO : Ok m) (c : Dev nD) (t : Fin (cfgM m hO).N) (x : S1x1x1x512.Idx) :
    iblk m hO c 4 t x = (m ((c.tc : Thread nD τ).loc main_arg6) : Vec F S4x32x1x512 .f32) (ix4 0 (expOf m hP hO t) (x 2) (x 3)) := by
  have hw := at0_word (F := F) m (grid0.coords t)
  rw [coords_val m hO t] at hw
  show (m ((c.tc : Thread nD τ).loc main_arg6) : Vec F S4x32x1x512 .f32) _ = (m ((c.tc : Thread nD τ).loc main_arg6) : Vec F S4x32x1x512 .f32) _
  refine congrArg _ (funext fun (a : Fin 4) => Fin.ext ?_)
  refine (Pipeline.Window.rect_emb_val ((cfgM m hO).win 4) t x a rfl).trans ?_
  have h0 : (x 0).val = 0 := by have h : (x 0).val < 1 := (x 0).isLt; omega
  have h1 : (x 1).val = 0 := by have h : (x 1).val < 1 := (x 1).isLt; omega
  fin_cases a
  · show 0 * 1 + (x 0).val = 0
    omega
  · show (((tbl m).at 0 (Rect.unit (s := S96) (k0_off1 (grid0.coords t)) S1.size (k0_off1_inb (grid0.coords t))) numel1_S1 : BitVec 32)).toNat * 1 + (x 1).val = (word (tabE m) t.val).toNat
    rw [hw]; omega
  · show 0 * 1 + (x 2).val = (x 2).val
    omega
  · show 0 * 512 + (x 3).val = (x 3).val
    omega

/-- The block of down weights. -/
theorem iblk5 (hP : Planned (tabE m) (tabF m)) (hO : Ok m) (c : Dev nD) (t : Fin (cfgM m hO).N) (x : S1x1x512x2048.Idx) :
    iblk m hO c 5 t x = (m ((c.tc : Thread nD τ).loc main_arg7) : Vec F S4x32x512x2048 .f32) (ix4 0 (expOf m hP hO t) (x 2) (x 3)) := by
  have hw := at0_word (F := F) m (grid0.coords t)
  rw [coords_val m hO t] at hw
  show (m ((c.tc : Thread nD τ).loc main_arg7) : Vec F S4x32x512x2048 .f32) _ = (m ((c.tc : Thread nD τ).loc main_arg7) : Vec F S4x32x512x2048 .f32) _
  refine congrArg _ (funext fun (a : Fin 4) => Fin.ext ?_)
  refine (Pipeline.Window.rect_emb_val ((cfgM m hO).win 5) t x a rfl).trans ?_
  have h0 : (x 0).val = 0 := by have h : (x 0).val < 1 := (x 0).isLt; omega
  have h1 : (x 1).val = 0 := by have h : (x 1).val < 1 := (x 1).isLt; omega
  fin_cases a
  · show 0 * 1 + (x 0).val = 0
    omega
  · show (((tbl m).at 0 (Rect.unit (s := S96) (k0_off1 (grid0.coords t)) S1.size (k0_off1_inb (grid0.coords t))) numel1_S1 : BitVec 32)).toNat * 1 + (x 1).val = (word (tabE m) t.val).toNat
    rw [hw]; omega
  · show 0 * 512 + (x 2).val = (x 2).val
    omega
  · show 0 * 2048 + (x 3).val = (x 3).val
    omega

/-- The block of output biases. -/
theorem iblk6 (hP : Planned (tabE m) (tabF m)) (hO : Ok m) (c : Dev nD) (t : Fin (cfgM m hO).N) (x : S1x1x1x2048.Idx) :
    iblk m hO c 6 t x = (m ((c.tc : Thread nD τ).loc main_arg8) : Vec F S4x32x1x2048 .f32) (ix4 0 (expOf m hP hO t) (x 2) (x 3)) := by
  have hw := at0_word (F := F) m (grid0.coords t)
  rw [coords_val m hO t] at hw
  show (m ((c.tc : Thread nD τ).loc main_arg8) : Vec F S4x32x1x2048 .f32) _ = (m ((c.tc : Thread nD τ).loc main_arg8) : Vec F S4x32x1x2048 .f32) _
  refine congrArg _ (funext fun (a : Fin 4) => Fin.ext ?_)
  refine (Pipeline.Window.rect_emb_val ((cfgM m hO).win 6) t x a rfl).trans ?_
  have h0 : (x 0).val = 0 := by have h : (x 0).val < 1 := (x 0).isLt; omega
  have h1 : (x 1).val = 0 := by have h : (x 1).val < 1 := (x 1).isLt; omega
  fin_cases a
  · show 0 * 1 + (x 0).val = 0
    omega
  · show (((tbl m).at 0 (Rect.unit (s := S96) (k0_off1 (grid0.coords t)) S1.size (k0_off1_inb (grid0.coords t))) numel1_S1 : BitVec 32)).toNat * 1 + (x 1).val = (word (tabE m) t.val).toNat
    rw [hw]; omega
  · show 0 * 1 + (x 2).val = (x 2).val
    omega
  · show 0 * 2048 + (x 3).val = (x 3).val
    omega

/-- The words of two points agree, hence their experts. -/
theorem expOf_congr (hP : Planned (tabE m) (tabF m)) (hO : Ok m) (t t' : Fin (cfgM m hO).N) (h : word (tabE m) t.val = word (tabE m) t'.val) :
    expOf m hP hO t = expOf m hP hO t' := Fin.ext (by show (word (tabE m) t.val).toNat = (word (tabE m) t'.val).toNat; rw [h])

/-- Two points of the same expert read the same weights. -/
theorem iblk2_congr (hP : Planned (tabE m) (tabF m)) (hO : Ok m) (c : Dev nD) (t t' : Fin (cfgM m hO).N) (h : word (tabE m) t.val = word (tabE m) t'.val) :
    (iblk m hO c 2 t : Vec F S1x1x2048x1024 .f32) = iblk m hO c 2 t' :=
  funext fun x => (iblk2 m hP hO c t x).trans (Eq.trans (by rw [expOf_congr m hP hO t t' h]) (iblk2 m hP hO c t' x).symm)
/-- … and the same down weights. -/
theorem iblk5_congr (hP : Planned (tabE m) (tabF m)) (hO : Ok m) (c : Dev nD) (t t' : Fin (cfgM m hO).N) (h : word (tabE m) t.val = word (tabE m) t'.val) :
    (iblk m hO c 5 t : Vec F S1x1x512x2048 .f32) = iblk m hO c 5 t' :=
  funext fun x => (iblk5 m hP hO c t x).trans (Eq.trans (by rw [expOf_congr m hP hO t t' h]) (iblk5 m hP hO c t' x).symm)

/-- The flag word a point's body reads. -/
theorem at1_word (i : grid0.Coords) : ((tbl m).at 1 (Rect.unit (s := S96) (k0_off1 i) S1.size (k0_off1_inb i)) numel1_S1 : BitVec 32) = word (tabF m) (i 0).val := by
  unfold word
  rw [dif_pos (point_lt i)]
  show tabF m _ = tabF m _
  exact congrArg (tabF m) (funext fun (a : Fin 1) => by
    obtain rfl : a = 0 := Subsingleton.elim _ _
    exact Fin.ext (off1_val i 0))

/-- A block at an expert in range lies inside its array. -/
theorem fits {w : ℕ} (h : w < 32) (p q : ℕ) (a : Fin 4) : ((![0, w, 0, 0] : Fin 4 → ℕ) a + 1) * (![1, 1, p, q] : Fin 4 → ℕ) a ≤ (![4, 32, p, q] : Fin 4 → ℕ) a := by
  fin_cases a
  · show (0 + 1) * 1 ≤ 4; omega
  · show (w + 1) * 1 ≤ 32; omega
  · show (0 + 1) * p ≤ p; omega
  · show (0 + 1) * q ≤ q; omega

/-- A plan that can be followed names blocks inside their arrays. -/
theorem ok_of (hP : Planned (tabE m) (tabF m)) : Ok m := by
  have key : ∀ i : grid0.Coords, (((tbl m).at 0 (Rect.unit (s := S96) (k0_off1 i) S1.size (k0_off1_inb i)) numel1_S1 : BitVec 32)).toNat < 32 := fun i => by
    rw [at0_word]; exact hP.range _ (point_lt i)
  exact ⟨fun i => ⟨fits (key i) 2048 1024, Or.inl rfl⟩, fun i => ⟨fits (key i) 1 512, Or.inl rfl⟩, fun i => ⟨fits (key i) 1 512, Or.inl rfl⟩,
    fun i => ⟨fits (key i) 512 2048, Or.inl rfl⟩, fun i => ⟨fits (key i) 1 2048, Or.inl rfl⟩⟩

end Cert.Kernel2Ideal.Exp

end
-- ==== Proof.ExpRunW.lean ====
/-
  Taking up an expert's weights: the stage's run.
-/
module

public import proofs.«01_k».proof.Proof.ExpStage

@[expose] public section

set_option maxRecDepth 16384

noncomputable section

namespace Cert.Kernel2Ideal.Exp

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Whether the flag word asks for an expert's weights to be taken up. -/
def condW (v1 : BitVec 32) : BitVec 1 :=
  Scalar.cmpi .ne (Scalar.extui (Scalar.cmpi .ne (Scalar.andi v1 2#32) 0#32) : BitVec 32) 0#32

set_option maxHeartbeats 1000000 in
/-- Taking up an expert's weights leaves the scratch buffers at the expert's gate, up and down weights. -/
theorem stageW_on (c : Dev nD) (i : grid0.Coords) (arg1 : Memref sig .tc .smem S96 .i32) (harg1 : arg1.IsWhole) (arg2 : Memref sig .tc .smem S96 .i32) (harg2 : arg2.IsWhole) (arg3 : Memref sig .tc .vmem S512x8x128 .bf16) (harg3 : arg3.IsWhole) (arg4 : Memref sig .tc .vmem S512x8x128 .bf16) (harg4 : arg4.IsWhole) (arg5 : Memref sig .tc .vmem S1x1x2048x1024 .f32) (harg5 : arg5.IsWhole) (arg6 : Memref sig .tc .vmem S1x1x1x512 .f32) (harg6 : arg6.IsWhole) (arg7 : Memref sig .tc .vmem S1x1x1x512 .f32) (harg7 : arg7.IsWhole) (arg8 : Memref sig .tc .vmem S1x1x512x2048 .f32) (harg8 : arg8.IsWhole) (arg9 : Memref sig .tc .vmem S1x1x1x2048 .f32) (harg9 : arg9.IsWhole) (arg10 : Memref sig .tc .vmem S512x8x128 .bf16) (harg10 : arg10.IsWhole) (arg11 : Memref sig .tc .vmem S512x8x128 .bf16) (harg11 : arg11.IsWhole) (arg12 : Memref sig .tc .vmem S2048x512 .bf16) (harg12 : arg12.IsWhole) (arg13 : Memref sig .tc .vmem S2048x512 .bf16) (harg13 : arg13.IsWhole) (arg14 : Memref sig .tc .vmem S512x2048 .bf16) (harg14 : arg14.IsWhole) (v1 : BitVec 32) (h : condW v1 = 1#1) (k : Prog (TpuEff nD τ sig (Elt F) Λ₀ .tc) PUnit)
    (x2 : Vec F S1x1x2048x1024 .f32) (x5 : Vec F S1x1x512x2048 .f32) (E : Set ℕ) (K : PUnit → sProp 𝕄) :
    iprop(owns (c : Thread nD τ) arg5 fullShare x2 ∗ owns (c : Thread nD τ) arg8 fullShare x5 ∗ (∃ d, owns (c : Thread nD τ) arg12 fullShare d) ∗ (∃ d, owns (c : Thread nD τ) arg13 fullShare d) ∗ (∃ d, owns (c : Thread nD τ) arg14 fullShare d)
      ∗ (iprop(owns (c : Thread nD τ) arg5 fullShare x2 ∗ owns (c : Thread nD τ) arg8 fullShare x5 ∗ owns (c : Thread nD τ) arg12 fullShare (newG x2) ∗ owns (c : Thread nD τ) arg13 fullShare (newU x2) ∗ owns (c : Thread nD τ) arg14 fullShare (newD x5)) -∗ wp frame (wpE (defs₀ (F := F)) Variants.none c none) E k K))
    ⊢ wp frame (wpE (defs₀ (F := F)) Variants.none c none) E (stageW i arg1 harg1 arg2 harg2 arg3 harg3 arg4 harg4 arg5 harg5 arg6 harg6 arg7 harg7 arg8 harg8 arg9 harg9 arg10 harg10 arg11 harg11 arg12 harg12 arg13 harg13 arg14 harg14 v1 k) K := by
  have h5 : ∀ r : Rect S1x1x2048x1024, View.readAt (Elt F) arg5.view r.toLoadRect (harg5.unread x2) = View.ld x2 r :=
    fun r => funext fun x => congrFun (harg5.read_unread x2) _
  have h8 : ∀ r : Rect S1x1x512x2048, View.readAt (Elt F) arg8.view r.toLoadRect (harg8.unread x5) = View.ld x5 r :=
    fun r => funext fun x => congrFun (harg8.read_unread x5) _
  unfold condW at h
  unfold stageW
  simp only [k0_part1_eq_skeleton, k0_part2_eq_skeleton]
  unfold owns
  iintro ⟨⟨%f2, %hf2, H2⟩, ⟨%f5, %hf5, H5⟩, ⟨%d12, %f12, -, H12⟩, ⟨%d13, %f13, -, H13⟩, ⟨%d14, %f14, -, H14⟩, Hk⟩
  obtain rfl := harg5.eq_unread hf2
  obtain rfl := harg8.eq_unread hf5
  sl_exec (disch := first | sl_exact h)
  iapply Hk
  isplitl [H2]
  · iexists _; isplitr; · ipureintro; exact harg5.read_unread _
    iexact H2
  isplitl [H5]
  · iexists _; isplitr; · ipureintro; exact harg8.read_unread _
    iexact H5
  isplitl [H12]
  · iexists _; isplitr; swap; · iexact H12
    ipureintro
    refine (View.read_writes_eq_canon (Val := Elt F) arg12.view f12 _ ?_).trans ?_
    · exact View.cover_of_tiledL _ S2048x128.size (by sl_kernel_rfl)
    rfl
  isplitl [H13]
  · iexists _; isplitr; swap; · iexact H13
    ipureintro
    refine (View.read_writes_eq_canon (Val := Elt F) arg13.view f13 _ ?_).trans ?_
    · exact View.cover_of_tiledL _ S2048x128.size (by sl_kernel_rfl)
    rfl
  · iexists _; isplitr; swap; · iexact H14
    ipureintro
    refine (View.read_writes_eq_canon (Val := Elt F) arg14.view f14 _ ?_).trans ?_
    · exact View.cover_of_tiledL _ S512x2048.size (by sl_kernel_rfl)
    rfl

/-- Without that bit the stage does nothing. -/
theorem stageW_off (i : grid0.Coords) (arg1 : Memref sig .tc .smem S96 .i32) (harg1 : arg1.IsWhole) (arg2 : Memref sig .tc .smem S96 .i32) (harg2 : arg2.IsWhole) (arg3 : Memref sig .tc .vmem S512x8x128 .bf16) (harg3 : arg3.IsWhole) (arg4 : Memref sig .tc .vmem S512x8x128 .bf16) (harg4 : arg4.IsWhole) (arg5 : Memref sig .tc .vmem S1x1x2048x1024 .f32) (harg5 : arg5.IsWhole) (arg6 : Memref sig .tc .vmem S1x1x1x512 .f32) (harg6 : arg6.IsWhole) (arg7 : Memref sig .tc .vmem S1x1x1x512 .f32) (harg7 : arg7.IsWhole) (arg8 : Memref sig .tc .vmem S1x1x512x2048 .f32) (harg8 : arg8.IsWhole) (arg9 : Memref sig .tc .vmem S1x1x1x2048 .f32) (harg9 : arg9.IsWhole) (arg10 : Memref sig .tc .vmem S512x8x128 .bf16) (harg10 : arg10.IsWhole) (arg11 : Memref sig .tc .vmem S512x8x128 .bf16) (harg11 : arg11.IsWhole) (arg12 : Memref sig .tc .vmem S2048x512 .bf16) (harg12 : arg12.IsWhole) (arg13 : Memref sig .tc .vmem S2048x512 .bf16) (harg13 : arg13.IsWhole) (arg14 : Memref sig .tc .vmem S512x2048 .bf16) (harg14 : arg14.IsWhole) (v1 : BitVec 32) (h : ¬condW v1 = 1#1) (k : Prog (TpuEff nD τ sig (Elt F) Λ₀ .tc) PUnit) :
    stageW i arg1 harg1 arg2 harg2 arg3 harg3 arg4 harg4 arg5 harg5 arg6 harg6 arg7 harg7 arg8 harg8 arg9 harg9 arg10 harg10 arg11 harg11 arg12 harg12 arg13 harg13 arg14 harg14 v1 k = k := by
  unfold condW at h
  unfold stageW
  exact if_neg h

end Cert.Kernel2Ideal.Exp

end
-- ==== Proof.ExpRunT.lean ====
/-
  Running a tile and zeroing an idle one: the stages' runs.
-/
module

public import proofs.«01_k».proof.Proof.ExpRunW

@[expose] public section

set_option maxRecDepth 16384

noncomputable section

namespace Cert.Kernel2Ideal.Exp

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Running a tile leaves the result buffers at the tile's halves, from the weights held. -/
theorem stageT_on (c : Dev nD) (i : grid0.Coords) (arg1 : Memref sig .tc .smem S96 .i32) (harg1 : arg1.IsWhole) (arg2 : Memref sig .tc .smem S96 .i32) (harg2 : arg2.IsWhole) (arg3 : Memref sig .tc .vmem S512x8x128 .bf16) (harg3 : arg3.IsWhole) (arg4 : Memref sig .tc .vmem S512x8x128 .bf16) (harg4 : arg4.IsWhole) (arg5 : Memref sig .tc .vmem S1x1x2048x1024 .f32) (harg5 : arg5.IsWhole) (arg6 : Memref sig .tc .vmem S1x1x1x512 .f32) (harg6 : arg6.IsWhole) (arg7 : Memref sig .tc .vmem S1x1x1x512 .f32) (harg7 : arg7.IsWhole) (arg8 : Memref sig .tc .vmem S1x1x512x2048 .f32) (harg8 : arg8.IsWhole) (arg9 : Memref sig .tc .vmem S1x1x1x2048 .f32) (harg9 : arg9.IsWhole) (arg10 : Memref sig .tc .vmem S512x8x128 .bf16) (harg10 : arg10.IsWhole) (arg11 : Memref sig .tc .vmem S512x8x128 .bf16) (harg11 : arg11.IsWhole) (arg12 : Memref sig .tc .vmem S2048x512 .bf16) (harg12 : arg12.IsWhole) (arg13 : Memref sig .tc .vmem S2048x512 .bf16) (harg13 : arg13.IsWhole) (arg14 : Memref sig .tc .vmem S512x2048 .bf16) (harg14 : arg14.IsWhole) (v1 : BitVec 32) (h : k0_cond2 v1 = 1#1) (k : Prog (TpuEff nD τ sig (Elt F) Λ₀ .tc) PUnit)
    (x0 x1 : Vec F S512x8x128 .bf16) (g u : Vec F S2048x512 .bf16) (d : Vec F S512x2048 .bf16) (x3 x4 : Vec F S1x1x1x512 .f32) (x6 : Vec F S1x1x1x2048 .f32) (E : Set ℕ) (K : PUnit → sProp 𝕄) :
    iprop(owns (c : Thread nD τ) arg3 fullShare x0 ∗ owns (c : Thread nD τ) arg4 fullShare x1 ∗ owns (c : Thread nD τ) arg6 fullShare x3 ∗ owns (c : Thread nD τ) arg7 fullShare x4 ∗ owns (c : Thread nD τ) arg9 fullShare x6 ∗ owns (c : Thread nD τ) arg12 fullShare g ∗ owns (c : Thread nD τ) arg13 fullShare u ∗ owns (c : Thread nD τ) arg14 fullShare d ∗ (∃ d, owns (c : Thread nD τ) arg10 fullShare d) ∗ (∃ d, owns (c : Thread nD τ) arg11 fullShare d)
      ∗ (iprop(owns (c : Thread nD τ) arg3 fullShare x0 ∗ owns (c : Thread nD τ) arg4 fullShare x1 ∗ owns (c : Thread nD τ) arg6 fullShare x3 ∗ owns (c : Thread nD τ) arg7 fullShare x4 ∗ owns (c : Thread nD τ) arg9 fullShare x6 ∗ owns (c : Thread nD τ) arg12 fullShare g ∗ owns (c : Thread nD τ) arg13 fullShare u ∗ owns (c : Thread nD τ) arg14 fullShare d ∗ owns (c : Thread nD τ) arg10 fullShare (outLo x0 x1 g u d x3 x4 x6) ∗ owns (c : Thread nD τ) arg11 fullShare (outHi x0 x1 g u d x3 x4 x6)) -∗ wp frame (wpE (defs₀ (F := F)) Variants.none c none) E k K))
    ⊢ wp frame (wpE (defs₀ (F := F)) Variants.none c none) E (stageT i arg1 harg1 arg2 harg2 arg3 harg3 arg4 harg4 arg5 harg5 arg6 harg6 arg7 harg7 arg8 harg8 arg9 harg9 arg10 harg10 arg11 harg11 arg12 harg12 arg13 harg13 arg14 harg14 v1 k) K := by
  have h3 : ∀ r : Rect S512x8x128, View.readAt (Elt F) arg3.view r.toLoadRect (harg3.unread x0) = View.ld x0 r :=
    fun r => funext fun x => congrFun (harg3.read_unread x0) _
  have h4 : ∀ r : Rect S512x8x128, View.readAt (Elt F) arg4.view r.toLoadRect (harg4.unread x1) = View.ld x1 r :=
    fun r => funext fun x => congrFun (harg4.read_unread x1) _
  have h6 : ∀ r : Rect S1x1x1x512, View.readAt (Elt F) arg6.view r.toLoadRect (harg6.unread x3) = View.ld x3 r :=
    fun r => funext fun x => congrFun (harg6.read_unread x3) _
  have h7 : ∀ r : Rect S1x1x1x512, View.readAt (Elt F) arg7.view r.toLoadRect (harg7.unread x4) = View.ld x4 r :=
    fun r => funext fun x => congrFun (harg7.read_unread x4) _
  have h9 : ∀ r : Rect S1x1x1x2048, View.readAt (Elt F) arg9.view r.toLoadRect (harg9.unread x6) = View.ld x6 r :=
    fun r => funext fun x => congrFun (harg9.read_unread x6) _
  have h12 : ∀ r : Rect S2048x512, View.readAt (Elt F) arg12.view r.toLoadRect (harg12.unread g) = View.ld g r :=
    fun r => funext fun x => congrFun (harg12.read_unread g) _
  have h13 : ∀ r : Rect S2048x512, View.readAt (Elt F) arg13.view r.toLoadRect (harg13.unread u) = View.ld u r :=
    fun r => funext fun x => congrFun (harg13.read_unread u) _
  have h14 : ∀ r : Rect S512x2048, View.readAt (Elt F) arg14.view r.toLoadRect (harg14.unread d) = View.ld d r :=
    fun r => funext fun x => congrFun (harg14.read_unread d) _
  unfold stageT
  simp only [k0_part3_eq_skeleton, k0_part4_eq_skeleton]
  unfold owns
  iintro ⟨⟨%f3, %hf3, H3⟩, ⟨%f4, %hf4, H4⟩, ⟨%f6, %hf6, H6⟩, ⟨%f7, %hf7, H7⟩, ⟨%f9, %hf9, H9⟩, ⟨%f12, %hf12, H12⟩, ⟨%f13, %hf13, H13⟩, ⟨%f14, %hf14, H14⟩, ⟨%d10, %f10, -, H10⟩, ⟨%d11, %f11, -, H11⟩, Hk⟩
  obtain rfl := harg3.eq_unread hf3
  obtain rfl := harg4.eq_unread hf4
  obtain rfl := harg6.eq_unread hf6
  obtain rfl := harg7.eq_unread hf7
  obtain rfl := harg9.eq_unread hf9
  obtain rfl := harg12.eq_unread hf12
  obtain rfl := harg13.eq_unread hf13
  obtain rfl := harg14.eq_unread hf14
  sl_exec (disch := first | sl_exact h)
  iapply Hk
  isplitl [H3]
  · iexists _; isplitr; · ipureintro; exact harg3.read_unread _
    iexact H3
  isplitl [H4]
  · iexists _; isplitr; · ipureintro; exact harg4.read_unread _
    iexact H4
  isplitl [H6]
  · iexists _; isplitr; · ipureintro; exact harg6.read_unread _
    iexact H6
  isplitl [H7]
  · iexists _; isplitr; · ipureintro; exact harg7.read_unread _
    iexact H7
  isplitl [H9]
  · iexists _; isplitr; · ipureintro; exact harg9.read_unread _
    iexact H9
  isplitl [H12]
  · iexists _; isplitr; · ipureintro; exact harg12.read_unread _
    iexact H12
  isplitl [H13]
  · iexists _; isplitr; · ipureintro; exact harg13.read_unread _
    iexact H13
  isplitl [H14]
  · iexists _; isplitr; · ipureintro; exact harg14.read_unread _
    iexact H14
  isplitl [H10]
  · iexists _; isplitr; swap; · iexact H10
    ipureintro
    refine (View.read_writes_eq_canon (Val := Elt F) arg10.view f10 _ ?_).trans ?_
    · exact View.cover_of_tiledL _ S512x8x128.size (by sl_kernel_rfl)
    rfl
  · iexists _; isplitr; swap; · iexact H11
    ipureintro
    refine (View.read_writes_eq_canon (Val := Elt F) arg11.view f11 _ ?_).trans ?_
    · exact View.cover_of_tiledL _ S512x8x128.size (by sl_kernel_rfl)
    rfl

/-- A tile not in use is not run. -/
theorem stageT_off (i : grid0.Coords) (arg1 : Memref sig .tc .smem S96 .i32) (harg1 : arg1.IsWhole) (arg2 : Memref sig .tc .smem S96 .i32) (harg2 : arg2.IsWhole) (arg3 : Memref sig .tc .vmem S512x8x128 .bf16) (harg3 : arg3.IsWhole) (arg4 : Memref sig .tc .vmem S512x8x128 .bf16) (harg4 : arg4.IsWhole) (arg5 : Memref sig .tc .vmem S1x1x2048x1024 .f32) (harg5 : arg5.IsWhole) (arg6 : Memref sig .tc .vmem S1x1x1x512 .f32) (harg6 : arg6.IsWhole) (arg7 : Memref sig .tc .vmem S1x1x1x512 .f32) (harg7 : arg7.IsWhole) (arg8 : Memref sig .tc .vmem S1x1x512x2048 .f32) (harg8 : arg8.IsWhole) (arg9 : Memref sig .tc .vmem S1x1x1x2048 .f32) (harg9 : arg9.IsWhole) (arg10 : Memref sig .tc .vmem S512x8x128 .bf16) (harg10 : arg10.IsWhole) (arg11 : Memref sig .tc .vmem S512x8x128 .bf16) (harg11 : arg11.IsWhole) (arg12 : Memref sig .tc .vmem S2048x512 .bf16) (harg12 : arg12.IsWhole) (arg13 : Memref sig .tc .vmem S2048x512 .bf16) (harg13 : arg13.IsWhole) (arg14 : Memref sig .tc .vmem S512x2048 .bf16) (harg14 : arg14.IsWhole) (v1 : BitVec 32) (h : ¬k0_cond2 v1 = 1#1) (k : Prog (TpuEff nD τ sig (Elt F) Λ₀ .tc) PUnit) :
    stageT i arg1 harg1 arg2 harg2 arg3 harg3 arg4 harg4 arg5 harg5 arg6 harg6 arg7 harg7 arg8 harg8 arg9 harg9 arg10 harg10 arg11 harg11 arg12 harg12 arg13 harg13 arg14 harg14 v1 k = k := by
  unfold stageT
  exact dif_neg h

set_option maxHeartbeats 1000000 in
/-- A tile not in use gets zeros. -/
theorem stageZ_on (c : Dev nD) (i : grid0.Coords) (arg1 : Memref sig .tc .smem S96 .i32) (harg1 : arg1.IsWhole) (arg2 : Memref sig .tc .smem S96 .i32) (harg2 : arg2.IsWhole) (arg3 : Memref sig .tc .vmem S512x8x128 .bf16) (harg3 : arg3.IsWhole) (arg4 : Memref sig .tc .vmem S512x8x128 .bf16) (harg4 : arg4.IsWhole) (arg5 : Memref sig .tc .vmem S1x1x2048x1024 .f32) (harg5 : arg5.IsWhole) (arg6 : Memref sig .tc .vmem S1x1x1x512 .f32) (harg6 : arg6.IsWhole) (arg7 : Memref sig .tc .vmem S1x1x1x512 .f32) (harg7 : arg7.IsWhole) (arg8 : Memref sig .tc .vmem S1x1x512x2048 .f32) (harg8 : arg8.IsWhole) (arg9 : Memref sig .tc .vmem S1x1x1x2048 .f32) (harg9 : arg9.IsWhole) (arg10 : Memref sig .tc .vmem S512x8x128 .bf16) (harg10 : arg10.IsWhole) (arg11 : Memref sig .tc .vmem S512x8x128 .bf16) (harg11 : arg11.IsWhole) (arg12 : Memref sig .tc .vmem S2048x512 .bf16) (harg12 : arg12.IsWhole) (arg13 : Memref sig .tc .vmem S2048x512 .bf16) (harg13 : arg13.IsWhole) (arg14 : Memref sig .tc .vmem S512x2048 .bf16) (harg14 : arg14.IsWhole) (v1 : BitVec 32) (h : k0_cond3 v1 = 1#1) (k : Prog (TpuEff nD τ sig (Elt F) Λ₀ .tc) PUnit)
    (E : Set ℕ) (K : PUnit → sProp 𝕄) :
    iprop((∃ d, owns (c : Thread nD τ) arg10 fullShare d) ∗ (∃ d, owns (c : Thread nD τ) arg11 fullShare d)
      ∗ (iprop(owns (c : Thread nD τ) arg10 fullShare zeroLo ∗ owns (c : Thread nD τ) arg11 fullShare zeroHi) -∗ wp frame (wpE (defs₀ (F := F)) Variants.none c none) E k K))
    ⊢ wp frame (wpE (defs₀ (F := F)) Variants.none c none) E (stageZ i arg1 harg1 arg2 harg2 arg3 harg3 arg4 harg4 arg5 harg5 arg6 harg6 arg7 harg7 arg8 harg8 arg9 harg9 arg10 harg10 arg11 harg11 arg12 harg12 arg13 harg13 arg14 harg14 v1 k) K := by
  unfold stageZ
  unfold owns
  iintro ⟨⟨%d10, %f10, -, H10⟩, ⟨%d11, %f11, -, H11⟩, Hk⟩
  sl_exec (disch := first | sl_exact h)
  iapply Hk
  isplitl [H10]
  · iexists _; isplitr; swap; · iexact H10
    ipureintro
    refine (View.read_writes_eq_canon (Val := Elt F) arg10.view f10 _ ?_).trans ?_
    · exact View.cover_of_tiledL _ S512x8x128.size (by sl_kernel_rfl)
    rfl
  · iexists _; isplitr; swap; · iexact H11
    ipureintro
    refine (View.read_writes_eq_canon (Val := Elt F) arg11.view f11 _ ?_).trans ?_
    · exact View.cover_of_tiledL _ S512x8x128.size (by sl_kernel_rfl)
    rfl

/-- A tile in use is not zeroed. -/
theorem stageZ_off (i : grid0.Coords) (arg1 : Memref sig .tc .smem S96 .i32) (harg1 : arg1.IsWhole) (arg2 : Memref sig .tc .smem S96 .i32) (harg2 : arg2.IsWhole) (arg3 : Memref sig .tc .vmem S512x8x128 .bf16) (harg3 : arg3.IsWhole) (arg4 : Memref sig .tc .vmem S512x8x128 .bf16) (harg4 : arg4.IsWhole) (arg5 : Memref sig .tc .vmem S1x1x2048x1024 .f32) (harg5 : arg5.IsWhole) (arg6 : Memref sig .tc .vmem S1x1x1x512 .f32) (harg6 : arg6.IsWhole) (arg7 : Memref sig .tc .vmem S1x1x1x512 .f32) (harg7 : arg7.IsWhole) (arg8 : Memref sig .tc .vmem S1x1x512x2048 .f32) (harg8 : arg8.IsWhole) (arg9 : Memref sig .tc .vmem S1x1x1x2048 .f32) (harg9 : arg9.IsWhole) (arg10 : Memref sig .tc .vmem S512x8x128 .bf16) (harg10 : arg10.IsWhole) (arg11 : Memref sig .tc .vmem S512x8x128 .bf16) (harg11 : arg11.IsWhole) (arg12 : Memref sig .tc .vmem S2048x512 .bf16) (harg12 : arg12.IsWhole) (arg13 : Memref sig .tc .vmem S2048x512 .bf16) (harg13 : arg13.IsWhole) (arg14 : Memref sig .tc .vmem S512x2048 .bf16) (harg14 : arg14.IsWhole) (v1 : BitVec 32) (h : ¬k0_cond3 v1 = 1#1) (k : Prog (TpuEff nD τ sig (Elt F) Λ₀ .tc) PUnit) :
    stageZ i arg1 harg1 arg2 harg2 arg3 harg3 arg4 harg4 arg5 harg5 arg6 harg6 arg7 harg7 arg8 harg8 arg9 harg9 arg10 harg10 arg11 harg11 arg12 harg12 arg13 harg13 arg14 harg14 v1 k = k := by
  unfold stageZ
  exact dif_neg h

/-- The weights are taken up exactly where the flag word's second bit is set. -/
theorem condW_iff (v1 : BitVec 32) : condW v1 = 1#1 ↔ IntOp.andi v1 2#32 ≠ 0#32 := by
  unfold condW
  simp only [Scalar.andi, Scalar.cmpi, Scalar.extui, WordCmp.cmpi_ne_eq, WordCmp.cmpi_eq_eq]
  by_cases h : IntOp.andi v1 2#32 = 0#32 <;> simp [h]

/-- A tile is run exactly where its first bit is. -/
theorem cond2_iff (v1 : BitVec 32) : k0_cond2 v1 = 1#1 ↔ IntOp.andi v1 1#32 ≠ 0#32 := by
  unfold k0_cond2
  simp only [Scalar.andi, Scalar.cmpi, Scalar.extui, WordCmp.cmpi_ne_eq, WordCmp.cmpi_eq_eq]
  by_cases h : IntOp.andi v1 1#32 = 0#32 <;> simp [h]

/-- A tile is zeroed exactly where it is not run. -/
theorem cond3_iff (v1 : BitVec 32) : k0_cond3 v1 = 1#1 ↔ ¬k0_cond2 v1 = 1#1 := by
  rw [cond2_iff]
  unfold k0_cond3
  simp only [Scalar.andi, Scalar.cmpi, Scalar.extui, WordCmp.cmpi_ne_eq, WordCmp.cmpi_eq_eq]
  by_cases h : IntOp.andi v1 1#32 = 0#32 <;> simp [h]

end Cert.Kernel2Ideal.Exp

end
-- ==== Proof.ExpFrame.lean ====
/-
  The experts call run: what its buffers hold after every tile, and the frame.  Between tiles the scratch buffers hold the
  weights of the last tile's expert whenever that tile was in use.
-/
module

public import proofs.«01_k».proof.Proof.ExpBlk
public import proofs.«01_k».proof.Proof.ExpRunT
public import Idealize.ShloMosaic.Lib.Claim

@[expose] public section

set_option maxRecDepth 16384

noncomputable section

namespace Cert.Kernel2Ideal.Exp

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Exp

variable (m : (ℓ : Loc nD τ sig) → Buf (Elt F) ℓ) (ρ : Dev nD → PrngReg)

/-- The lower half of a tile. -/
def tileLo (hO : Ok m) (c : Dev nD) (t : Fin (cfgM m hO).N) : Vec F S512x8x128 .bf16 :=
  outLo (iblk m hO c 0 t) (iblk m hO c 1 t) (newG (iblk m hO c 2 t)) (newU (iblk m hO c 2 t)) (newD (iblk m hO c 5 t)) (iblk m hO c 3 t) (iblk m hO c 4 t) (iblk m hO c 6 t)
/-- The upper half. -/
def tileHi (hO : Ok m) (c : Dev nD) (t : Fin (cfgM m hO).N) : Vec F S512x8x128 .bf16 :=
  outHi (iblk m hO c 0 t) (iblk m hO c 1 t) (newG (iblk m hO c 2 t)) (newU (iblk m hO c 2 t)) (newD (iblk m hO c 5 t)) (iblk m hO c 3 t) (iblk m hO c 4 t) (iblk m hO c 6 t)

/-- What the lower output's buffer holds after a tile. -/
def leftLo (hO : Ok m) (c : Dev nD) (t : Fin (cfgM m hO).N) : Vec F S512x8x128 .bf16 :=
  if k0_cond2 (word (tabF m) t.val) = 1#1 then tileLo m hO c t else zeroLo
/-- What the upper output's buffer holds after a tile. -/
def leftHi (hO : Ok m) (c : Dev nD) (t : Fin (cfgM m hO).N) : Vec F S512x8x128 .bf16 :=
  if k0_cond2 (word (tabF m) t.val) = 1#1 then tileHi m hO c t else zeroHi

/-- The scratch buffers before point `n`: at the weights of the tile before, where that tile was in use. -/
def Held (hO : Ok m) (c : Dev nD) (n : ℕ) (g u : Vec F S2048x512 .bf16) (d : Vec F S512x2048 .bf16) : Prop :=
  ∀ t : Fin (cfgM m hO).N, t.val + 1 = n → k0_cond2 (word (tabF m) t.val) = 1#1 →
    g = newG (iblk m hO c 2 t) ∧ u = newU (iblk m hO c 2 t) ∧ d = newD (iblk m hO c 5 t)

/-- The invariant between points. -/
def inv (hO : Ok m) (c : Dev nD) (n : ℕ) : sProp 𝕄 :=
  iprop((∃ g u d, ⌜Held m hO c n g u d⌝ ∗ owns (c : Thread nD τ) scM0_0 fullShare g ∗ owns (c : Thread nD τ) scM0_1 fullShare u ∗ owns (c : Thread nD τ) scM0_2 fullShare d)
    ∗ (∃ r, prngReg c r) ∗ Pipeline.ΦT pre0 (tbl m) c)

/-- The proof data of the pipeline on core `c`. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => leftLo m hO c t
    | ⟨8, _⟩ => leftHi m hO c t
  Φ n := inv m hO c n.val
  q _ := fullShare
  owed _ := 0

/-- The data's arrays are the arrays as launched. -/
theorem A_eq (hO : Ok m) (c : Dev nD) (w : Fin (cfgM m hO).W) : (dats m hO 0 c).A w = V m c (Pipeline.arrRef spec0 w) := by
  dsimp only [dats]

/-- What the body leaves, window by window. -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = leftLo m hO c t := by dsimp only [dats]; try rfl
theorem after0_8 (hO : Ok m) (c : Dev nD) (t : Fin (cfgM m hO).N) : (dats m hO 0 c).after 8 t = leftHi m hO c t := by dsimp only [dats]; try rfl

/-- Each input's buffer holds its block at every point. -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d

/-- What the body is handed at a point. -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d)))

/-- What it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t)
    ∗ owns (c : Thread nD τ) (ms0_8 m hO t) fullShare ((dats m hO 0 c).after 8 t))

/-- The buffers after the last stage of a tile. -/
def bufs (hO : Ok m) (c : Dev nD) (t : Fin (cfgM m hO).N) (g u : Vec F S2048x512 .bf16) (d : Vec F S512x2048 .bf16) (y z : sProp 𝕄) : sProp 𝕄 :=
  iprop(owns (c : Thread nD τ) (ms0_0 m hO t) fullShare (iblk m hO c 0 t) ∗ owns (c : Thread nD τ) (ms0_1 m hO t) fullShare (iblk m hO c 1 t) ∗ owns (c : Thread nD τ) (ms0_3 m hO t) fullShare (iblk m hO c 3 t) ∗ owns (c : Thread nD τ) (ms0_4 m hO t) fullShare (iblk m hO c 4 t) ∗ owns (c : Thread nD τ) (ms0_6 m hO t) fullShare (iblk m hO c 6 t)
    ∗ owns (c : Thread nD τ) scM0_0 fullShare g ∗ owns (c : Thread nD τ) scM0_1 fullShare u ∗ owns (c : Thread nD τ) scM0_2 fullShare d ∗ y ∗ z)

set_option maxHeartbeats 1000000 in
/-- Running a tile or zeroing it: from the weights held, where it is in use, the two halves of its output. -/
theorem tile_run (hO : Ok m) (c : Dev nD) (t : Fin (cfgM m hO).N) (g u : Vec F S2048x512 .bf16) (d : Vec F S512x2048 .bf16)
    (hw : k0_cond2 (word (tabF m) t.val) = 1#1 → g = newG (iblk m hO c 2 t) ∧ u = newU (iblk m hO c 2 t) ∧ d = newD (iblk m hO c 5 t)) (K : PUnit → sProp 𝕄) :
    iprop(bufs m hO c t g u d iprop(∃ d, owns (c : Thread nD τ) (ms0_7 m hO t) fullShare d) iprop(∃ d, owns (c : Thread nD τ) (ms0_8 m hO t) fullShare d)
      ∗ (bufs m hO c t g u d (owns (c : Thread nD τ) (ms0_7 m hO t) fullShare (leftLo m hO c t)) (owns (c : Thread nD τ) (ms0_8 m hO t) fullShare (leftHi m hO c t)) -∗ K ⟨⟩))
    ⊢ wp frame (wpE (defs₀ (F := F)) Variants.none c none) Set.univ (stageT (grid0.coords t) tbM0_0 htbM0_0 tbM0_1 htbM0_1 (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) scM0_2 (Memref.isWhole_whole _) (word (tabF m) t.val) (stageZ (grid0.coords t) tbM0_0 htbM0_0 tbM0_1 htbM0_1 (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) scM0_2 (Memref.isWhole_whole _) (word (tabF m) t.val) (pure ⟨⟩))) K := by
  unfold bufs leftLo leftHi
  by_cases h : k0_cond2 (word (tabF m) t.val) = 1#1
  · obtain ⟨rfl, rfl, rfl⟩ := hw h
    rw [if_pos h, if_pos h]
    unfold tileLo tileHi
    iintro ⟨⟨H0, H1, H3, H4, H6, Hg, Hu, Hd, H7, H8⟩, Hk⟩
    iapply (stageT_on c (grid0.coords t) tbM0_0 htbM0_0 tbM0_1 htbM0_1 (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) scM0_2 (Memref.isWhole_whole _) (word (tabF m) t.val) h _ (iblk m hO c 0 t) (iblk m hO c 1 t) _ _ _ (iblk m hO c 3 t) (iblk m hO c 4 t) (iblk m hO c 6 t) Set.univ K)
    isplitl [H0]; · iexact H0
    isplitl [H1]; · iexact H1
    isplitl [H3]; · iexact H3
    isplitl [H4]; · iexact H4
    isplitl [H6]; · iexact H6
    isplitl [Hg]; · iexact Hg
    isplitl [Hu]; · iexact Hu
    isplitl [Hd]; · iexact Hd
    isplitl [H7]; · iexact H7
    isplitl [H8]; · iexact H8
    iintro ⟨H0, H1, H3, H4, H6, Hg, Hu, Hd, H7, H8⟩
    rw [stageZ_off _ _ _ _ _ _ _ _ _ _ _ _ _ _ _ _ _ _ _ _ _ _ _ _ _ _ _ _ _ _ (fun hz => (cond3_iff _).1 hz h)]
    rw [wp_pure]; iapply fupd_intro
    iapply Hk
    isplitl [H0]; · iexact H0
    isplitl [H1]; · iexact H1
    isplitl [H3]; · iexact H3
    isplitl [H4]; · iexact H4
    isplitl [H6]; · iexact H6
    isplitl [Hg]; · iexact Hg
    isplitl [Hu]; · iexact Hu
    isplitl [Hd]; · iexact Hd
    isplitl [H7]; · iexact H7
    iexact H8
  · rw [if_neg h, if_neg h]
    rw [stageT_off _ _ _ _ _ _ _ _ _ _ _ _ _ _ _ _ _ _ _ _ _ _ _ _ _ _ _ _ _ _ h]
    iintro ⟨⟨H0, H1, H3, H4, H6, Hg, Hu, Hd, H7, H8⟩, Hk⟩
    iapply (stageZ_on c (grid0.coords t) tbM0_0 htbM0_0 tbM0_1 htbM0_1 (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) scM0_2 (Memref.isWhole_whole _) (word (tabF m) t.val) ((cond3_iff _).2 h) _ Set.univ K)
    isplitl [H7]; · iexact H7
    isplitl [H8]; · iexact H8
    iintro ⟨H7, H8⟩
    rw [wp_pure]; iapply fupd_intro
    iapply Hk
    isplitl [H0]; · iexact H0
    isplitl [H1]; · iexact H1
    isplitl [H3]; · iexact H3
    isplitl [H4]; · iexact H4
    isplitl [H6]; · iexact H6
    isplitl [Hg]; · iexact Hg
    isplitl [Hu]; · iexact Hu
    isplitl [Hd]; · iexact Hd
    isplitl [H7]; · iexact H7
    iexact H8

set_option maxHeartbeats 1000000 in
/-- The body at a point, from the weights the scratch buffers hold. -/
theorem body_run (hP : Planned (tabE m) (tabF m)) (hO : Ok m) (c : Dev nD) (t : Fin (cfgM m hO).N) (g u : Vec F S2048x512 .bf16) (d : Vec F S512x2048 .bf16)
    (hH : Held m hO c t.val g u d) (K : PUnit → sProp 𝕄) :
    iprop(owns (c : Thread nD τ) (ms0_2 m hO t) fullShare (iblk m hO c 2 t) ∗ owns (c : Thread nD τ) (ms0_5 m hO t) fullShare (iblk m hO c 5 t)
      ∗ bufs m hO c t g u d iprop(∃ d, owns (c : Thread nD τ) (ms0_7 m hO t) fullShare d) iprop(∃ d, owns (c : Thread nD τ) (ms0_8 m hO t) fullShare d)
      ∗ (∀ g' u' d', ⌜Held m hO c (t.val + 1) g' u' d'⌝ -∗ owns (c : Thread nD τ) (ms0_2 m hO t) fullShare (iblk m hO c 2 t) -∗ owns (c : Thread nD τ) (ms0_5 m hO t) fullShare (iblk m hO c 5 t) -∗ bufs m hO c t g' u' d' (owns (c : Thread nD τ) (ms0_7 m hO t) fullShare (leftLo m hO c t)) (owns (c : Thread nD τ) (ms0_8 m hO t) fullShare (leftHi m hO c t)) -∗ K ⟨⟩))
    ⊢ wp frame (wpE (defs₀ (F := F)) Variants.none c none) Set.univ (stageW (grid0.coords t) tbM0_0 htbM0_0 tbM0_1 htbM0_1 (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) scM0_2 (Memref.isWhole_whole _) (word (tabF m) t.val) (stageT (grid0.coords t) tbM0_0 htbM0_0 tbM0_1 htbM0_1 (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) scM0_2 (Memref.isWhole_whole _) (word (tabF m) t.val) (stageZ (grid0.coords t) tbM0_0 htbM0_0 tbM0_1 htbM0_1 (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) scM0_2 (Memref.isWhole_whole _) (word (tabF m) t.val) (pure ⟨⟩)))) K := by
  have held_new : Held m hO c (t.val + 1) (newG (iblk m hO c 2 t)) (newU (iblk m hO c 2 t)) (newD (iblk m hO c 5 t)) := fun t' e _ => by
    obtain rfl : t' = t := Fin.ext (by omega)
    exact ⟨rfl, rfl, rfl⟩
  by_cases h : condW (word (tabF m) t.val) = 1#1
  · unfold bufs
    iintro ⟨H2, H5, ⟨H0, H1, H3, H4, H6, Hg, Hu, Hd, H7, H8⟩, Hk⟩
    iapply (stageW_on c (grid0.coords t) tbM0_0 htbM0_0 tbM0_1 htbM0_1 (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) scM0_2 (Memref.isWhole_whole _) (word (tabF m) t.val) h _ (iblk m hO c 2 t) (iblk m hO c 5 t) Set.univ K)
    isplitl [H2]; · iexact H2
    isplitl [H5]; · iexact H5
    isplitl [Hg]; · iexists _; iexact Hg
    isplitl [Hu]; · iexists _; iexact Hu
    isplitl [Hd]; · iexists _; iexact Hd
    iintro ⟨H2, H5, Hg, Hu, Hd⟩
    iapply (tile_run m hO c t (newG (iblk m hO c 2 t)) (newU (iblk m hO c 2 t)) (newD (iblk m hO c 5 t)) (fun _ => ⟨rfl, rfl, rfl⟩) K)
    unfold bufs
    isplitl [H0 H1 H3 H4 H6 Hg Hu Hd H7 H8]
    · isplitl [H0]; · iexact H0
      isplitl [H1]; · iexact H1
      isplitl [H3]; · iexact H3
      isplitl [H4]; · iexact H4
      isplitl [H6]; · iexact H6
      isplitl [Hg]; · iexact Hg
      isplitl [Hu]; · iexact Hu
      isplitl [Hd]; · iexact Hd
      isplitl [H7]; · iexact H7
      iexact H8
    iintro HB
    iapply Hk $$ %(newG (iblk m hO c 2 t)) %(newU (iblk m hO c 2 t)) %(newD (iblk m hO c 5 t)) %held_new H2 H5 HB
  · rw [stageW_off _ _ _ _ _ _ _ _ _ _ _ _ _ _ _ _ _ _ _ _ _ _ _ _ _ _ _ _ _ _ h]
    have hw : k0_cond2 (word (tabF m) t.val) = 1#1 → g = newG (iblk m hO c 2 t) ∧ u = newU (iblk m hO c 2 t) ∧ d = newD (iblk m hO c 5 t) := fun hon => by
      have hnew : ¬New (tabF m) t.val := fun hn => h ((condW_iff _).2 hn)
      have hOn : On (tabF m) t.val := (cond2_iff _).1 hon
      have hlt : t.val < 96 := t.isLt
      rcases Nat.eq_zero_or_pos t.val with h0 | h0
      · rcases hP.first with hf | hf
        · exact absurd (by rw [h0]; exact hf) hnew
        · exact absurd (by rw [h0] at hOn; exact hOn) hf
      · have hn := hP.next (t.val - 1) (by omega)
        rw [show t.val - 1 + 1 = t.val by omega] at hn
        rcases hn with hf | hf | ⟨hf, he⟩
        · exact absurd hf hnew
        · exact absurd hOn hf
        · have t'lt : t.val - 1 < (cfgM m hO).N := lt_of_le_of_lt (Nat.sub_le _ _) t.isLt
          obtain ⟨e1, e2, e3⟩ := hH ⟨t.val - 1, t'lt⟩ (by show t.val - 1 + 1 = t.val; omega) ((cond2_iff _).2 hf)
          have hb2 := iblk2_congr m hP hO c t ⟨t.val - 1, t'lt⟩ he
          have hb5 := iblk5_congr m hP hO c t ⟨t.val - 1, t'lt⟩ he
          refine ⟨e1.trans (congrArg newG hb2.symm), e2.trans (congrArg newU hb2.symm), e3.trans (congrArg newD hb5.symm)⟩
    have held_old : Held m hO c (t.val + 1) g u d := fun t' e hon => by
      obtain rfl : t' = t := Fin.ext (by omega)
      exact hw hon
    iintro ⟨H2, H5, HB, Hk⟩
    iapply (tile_run m hO c t g u d hw K)
    isplitl [HB]; · iexact HB
    iintro HB
    iapply Hk $$ %g %u %d %held_old H2 H5 HB

set_option maxHeartbeats 1000000 in
/-- The body from its flag word on. -/
theorem load_step (c : Dev nD) (i : grid0.Coords) (arg1 : Memref sig .tc .smem S96 .i32) (harg1 : arg1.IsWhole) (arg2 : Memref sig .tc .smem S96 .i32) (harg2 : arg2.IsWhole) (arg3 : Memref sig .tc .vmem S512x8x128 .bf16) (harg3 : arg3.IsWhole) (arg4 : Memref sig .tc .vmem S512x8x128 .bf16) (harg4 : arg4.IsWhole) (arg5 : Memref sig .tc .vmem S1x1x2048x1024 .f32) (harg5 : arg5.IsWhole) (arg6 : Memref sig .tc .vmem S1x1x1x512 .f32) (harg6 : arg6.IsWhole) (arg7 : Memref sig .tc .vmem S1x1x1x512 .f32) (harg7 : arg7.IsWhole) (arg8 : Memref sig .tc .vmem S1x1x512x2048 .f32) (harg8 : arg8.IsWhole) (arg9 : Memref sig .tc .vmem S1x1x1x2048 .f32) (harg9 : arg9.IsWhole) (arg10 : Memref sig .tc .vmem S512x8x128 .bf16) (harg10 : arg10.IsWhole) (arg11 : Memref sig .tc .vmem S512x8x128 .bf16) (harg11 : arg11.IsWhole) (arg12 : Memref sig .tc .vmem S2048x512 .bf16) (harg12 : arg12.IsWhole) (arg13 : Memref sig .tc .vmem S2048x512 .bf16) (harg13 : arg13.IsWhole) (arg14 : Memref sig .tc .vmem S512x2048 .bf16) (harg14 : arg14.IsWhole) (f : TbBuf0 (F := F) c arg2) (w : BitVec 32)
    (hw : arg2.view.readAt (Elt F) (Rect.unit (s := S96) (k0_off1 i) S1.size (k0_off1_inb i)).toLoadRect f (Shape.Idx.first (by show 0 < S1.numel; rw [numel1_S1]; decide)) = w)
    (E : Set ℕ) (K : PUnit → sProp 𝕄) :
    iprop(tbPt0 c arg2 f ∗ (tbPt0 c arg2 f -∗ wp frame (wpE (defs₀ (F := F)) Variants.none c none) E (stageW i arg1 harg1 arg2 harg2 arg3 harg3 arg4 harg4 arg5 harg5 arg6 harg6 arg7 harg7 arg8 harg8 arg9 harg9 arg10 harg10 arg11 harg11 arg12 harg12 arg13 harg13 arg14 harg14 w (stageT i arg1 harg1 arg2 harg2 arg3 harg3 arg4 harg4 arg5 harg5 arg6 harg6 arg7 harg7 arg8 harg8 arg9 harg9 arg10 harg10 arg11 harg11 arg12 harg12 arg13 harg13 arg14 harg14 w (stageZ i arg1 harg1 arg2 harg2 arg3 harg3 arg4 harg4 arg5 harg5 arg6 harg6 arg7 harg7 arg8 harg8 arg9 harg9 arg10 harg10 arg11 harg11 arg12 harg12 arg13 harg13 arg14 harg14 w (pure ⟨⟩)))) K))
    ⊢ wp frame (wpE (defs₀ (F := F)) Variants.none c none) E (cc0_moe_experts (F := F) i arg1 harg1 arg2 harg2 arg3 harg3 arg4 harg4 arg5 harg5 arg6 harg6 arg7 harg7 arg8 harg8 arg9 harg9 arg10 harg10 arg11 harg11 arg12 harg12 arg13 harg13 arg14 harg14) K := by
  subst hw
  rw [body_eq]
  iintro ⟨HT, Hk⟩
  sl_exec
  iapply Hk
  iexact HT

set_option maxHeartbeats 2000000 in
/-- The body at any point, from the invariant and the windows' blocks to the invariant and the tile's two halves. -/
theorem sound_body (hP : Planned (tabE m) (tabF m)) (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6]
  rw [show (dats m hO 0 c).owesAt () t.succ = (dats m hO 0 c).owesAt () t.castSucc from rfl,
    after0_0, after0_1, after0_2, after0_3, after0_4, after0_5, after0_6, after0_7, after0_8]
  rw [show (dats m hO 0 c).Φ t.castSucc = inv m hO c t.val from rfl, show (dats m hO 0 c).Φ t.succ = inv m hO c (t.val + 1) from rfl]
  unfold inv
  rw [PhiT0_eq]
  iintro ⟨⟨⟨%g, %u, %d, %hH, Hg, Hu, Hd⟩, Hr, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (load_step c (grid0.coords t) tbM0_0 htbM0_0 tbM0_1 htbM0_1 (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) scM0_2 (Memref.isWhole_whole _) (tbl m 1) (word (tabF m) t.val) ?hw Set.univ _)
  case hw =>
    have := at1_word (F := F) m (grid0.coords t)
    rw [coords_all t] at this
    exact this
  isplitl [HT1]; · iexact HT1
  iintro HT1
  iapply (body_run m hP hO c t g u d hH _)
  isplitl [H2]; · iexact H2
  isplitl [H5]; · iexact H5
  unfold bufs
  isplitl [H0 H1 H3 H4 H6 Hg Hu Hd H7 H8]
  · isplitl [H0]; · iexact H0
    isplitl [H1]; · iexact H1
    isplitl [H3]; · iexact H3
    isplitl [H4]; · iexact H4
    isplitl [H6]; · iexact H6
    isplitl [Hg]; · iexact Hg
    isplitl [Hu]; · iexact Hu
    isplitl [Hd]; · iexact Hd
    isplitl [H7]; · iexists _; iexact H7
    iexists _; iexact H8
  iintro %g' %u' %d' %hH' H2 H5 ⟨H0, H1, H3, H4, H6, Hg, Hu, Hd, H7, H8⟩
  isplitl [Hg Hu Hd Hr HT0 HT1]
  · isplitl [Hg Hu Hd]
    · iexists g'; iexists u'; iexists d'
      isplitr; · ipureintro; exact hH'
      isplitl [Hg]; · iexact Hg
      isplitl [Hu]; · iexact Hu
      iexact Hd
    isplitl [Hr]; · iexact Hr
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at a point is the body there. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- Every tile is run or zeroed: its outputs are never left alone. -/
theorem never_idle (v1 : BitVec 32) : (!(k0_cond2 v1 == 1#1) && !(k0_cond3 v1 == 1#1)) = false := by
  by_cases h : k0_cond2 v1 = 1#1
  · rw [h]; rfl
  · rw [(cond3_iff v1).2 h]; cases k0_cond2 v1 == 1#1 <;> rfl

/-- Window 7 is never idle. -/
theorem idle7 (hO : Ok m) (t : Fin (cfgM m hO).N) : (cfgM m hO).idle 7 ((cfgM m hO).grid.coords t) = false := never_idle _
/-- Window 8 is never idle. -/
theorem idle8 (hO : Ok m) (t : Fin (cfgM m hO).N) : (cfgM m hO).idle 8 ((cfgM m hO).grid.coords t) = false := never_idle _

/-- What a false condition selects. -/
theorem of_false (b : Bool) (h : b = false) (P Q : sProp 𝕄) : P ⊢ bif b then Q else P := by subst h; exact .rfl

/-- The library's body obligation, at every point. -/
theorem body_obligation (hP : Planned (tabE m) (tabF m)) (hO : Ok m) (c : Dev nD) : BodyObligation (dats (F := F) m hO 0 c) (defs₀ (F := F)) Variants.none () Set.univ := fun t => by
  rw [bigSep_W0, bigSep_W0, defs₀_row m hO]
  refine triple_restated (sound_body m hP hO c t) rfl .rfl fun _ => ?_
  unfold bodyPost
  refine sep_mono Entails.rfl (sep_mono Entails.rfl (sep_mono Entails.rfl (sep_mono Entails.rfl (sep_mono Entails.rfl (sep_mono Entails.rfl (sep_mono Entails.rfl (sep_mono Entails.rfl (sep_mono ?_ (sep_mono ?_ ?_)))))))))
  · exact of_false _ (show (cfgM m hO).idle 6 ((cfgM m hO).grid.coords t) = false from rfl) _ iprop(BI.emp)
  · exact of_false _ (idle7 m hO t) _ _
  · exact of_false _ (idle8 m hO t) _ _

/-- The invariant at the first point, from the buffers as the region finds them. -/
theorem inv_enter (hO : Ok m) (c : Dev nD) : iprop(Pipeline.ΦA spec0 c ∗ Pipeline.ΦT pre0 (tbl m) c) ⊢ (dats m hO 0 c).Φ 0 := by
  rw [show (dats m hO 0 c).Φ 0 = inv m hO c 0 from rfl, PhiA0_eq]
  unfold inv
  iintro ⟨⟨⟨⟨%g, Hg⟩, ⟨%u, Hu⟩, ⟨%d, Hd⟩⟩, Hr⟩, HT⟩
  isplitl [Hg Hu Hd]
  · iexists g; iexists u; iexists d
    isplitr
    · ipureintro; exact fun t e _ => absurd e (Nat.succ_ne_zero _)
    isplitl [Hg]; · iexact Hg
    isplitl [Hu]; · iexact Hu
    iexact Hd
  isplitl [Hr]; · iexact Hr
  iexact HT

/-- The invariant given up at the end. -/
theorem inv_leave (hO : Ok m) (c : Dev nD) : (dats m hO 0 c).Φ (Fin.last (cfgM m hO).N) ⊢ Pipeline.ΦA spec0 c := by
  rw [show (dats m hO 0 c).Φ (Fin.last (cfgM m hO).N) = inv m hO c (cfgM m hO).N from rfl, PhiA0_eq]
  unfold inv
  iintro ⟨⟨%g, %u, %d, -, Hg, Hu, Hd⟩, Hr, -⟩
  isplitl [Hg Hu Hd]
  · isplitl [Hg]; · iexists g; iexact Hg
    isplitl [Hu]; · iexists u; iexact Hu
    iexists d; iexact Hd
  iexact Hr

set_option backward.isDefEq.respectTransparency.types false in
/-- The launch: every array at what the proof data say and every counter at zero at every final state. -/
theorem run_main_quiescent (hP : Planned (tabE m) (tabF m)) (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hP hO c).loose) (hshare := fun c => (dats m hO 0 c).share_full fun _ => rfl)
    (howed := fun _ _ => rfl) (V := V m) (hmain := hmain m Variants.none) (hA := A_eq m hO) (hpf := V_pre m)
    (hin := inv_enter m hO) (hout := inv_leave m hO)

/-- … the arrays alone. -/
theorem run_main (hP : Planned (tabE m) (tabF m)) (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hP hO)

/-- THE FRAME: the arguments end unchanged and every counter at zero. -/
theorem frame (hP : Planned (tabE m) (tabF m)) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (ok_of m hP) (dats m (ok_of m hP)) (A_eq m (ok_of m hP)) (run_main m ρ hP (ok_of m hP))) ((θ_run defs _ _).mono (fun _ h => h.2) (run_main_quiescent m ρ hP (ok_of m hP)))

end Cert.Kernel2Ideal.Exp

end
-- ==== Proof.ExpFinal.lean ====
/-
  The experts call's two results after the run, as `result` of its arguments.
-/
module

public import proofs.«01_k».proof.Proof.ExpOut
public import proofs.«01_k».proof.Proof.ExpFrame

@[expose] public section

set_option maxRecDepth 16384

noncomputable section

namespace Cert.Exp

open Idealize.ShloMosaic Idealize.ShloMosaic.TcCoe Idealize.SL.Sem

/-- A row's tokens depend on the row alone. -/
theorem tok_congr {k k' : ℕ} (lo hi : Fin k → Fin 8 → Fin 128 → EReal) (lo' hi' : Fin k' → Fin 8 → Fin 128 → EReal) (r : Fin k) (r' : Fin k')
    (h : ∀ s l, lo r s l = lo' r' s l) (h' : ∀ s l, hi r s l = hi' r' s l) : tok lo hi r = tok lo' hi' r' := by
  funext d
  unfold tok
  by_cases hd : (d : ℕ) < 1024
  · rw [dif_pos hd, dif_pos hd, h]
  · rw [dif_neg hd, dif_neg hd, h']

variable (te fl : IVec ⟨1, ![96]⟩ 32) (lo hi : FVec Ideal ⟨3, ![49152, 8, 128]⟩ .bf16) (W : FVec Ideal ⟨4, ![4, 32, 2048, 1024]⟩ .f32)
  (bg bu : FVec Ideal ⟨4, ![4, 32, 1, 512]⟩ .f32) (D : FVec Ideal ⟨4, ![4, 32, 512, 2048]⟩ .f32) (bd : FVec Ideal ⟨4, ![4, 32, 1, 2048]⟩ .f32)

/-- The result at a row of a tile in use. -/
theorem result_on (e : Fin 32) (t : ℕ) (r : Fin 49152) (n : Fin 2048) (hr : (r : ℕ) / 512 = t) (hOn : On fl t) (he : (word te t).toNat = (e : ℕ)) :
    result te fl lo hi W bg bu D bd r n = rowExpert lo hi W bg bu D bd e r n := by
  subst hr
  unfold result
  rw [if_pos hOn]
  have he' : (⟨(word te ((r : ℕ) / 512)).toNat % 32, by omega⟩ : Fin 32) = e := Fin.ext (by show (word te ((r : ℕ) / 512)).toNat % 32 = _; omega)
  rw [he']

/-- The result at a row of a tile not in use. -/
theorem result_off (t : ℕ) (r : Fin 49152) (n : Fin 2048) (hr : (r : ℕ) / 512 = t) (hOff : ¬On fl t) :
    result te fl lo hi W bg bu D bd r n = 0 := by
  subst hr
  unfold result
  rw [if_neg hOff]

end Cert.Exp

namespace Cert.Kernel2Ideal.Exp

open Cert.Kernel2Ideal Cert.Kernel2Ideal.Gen
open Idealize.ShloMosaic Idealize.ShloMosaic.TcCoe Idealize.ShloMosaic.Tactic Idealize.SL Idealize.SL.Sem
open Idealize.ShloMosaic.Pipeline (Dat Cfg Window)
open Cert.Exp

variable (m : (ℓ : Loc nD τ sig) → Buf (Elt Ideal) ℓ)

/-- The low halves of the rows. -/
def aLo (c : Dev nD) : FVec Ideal S49152x8x128 .bf16 := m ((c.tc : Thread nD τ).loc main_arg2)
/-- The high halves of the rows. -/
def aHi (c : Dev nD) : FVec Ideal S49152x8x128 .bf16 := m ((c.tc : Thread nD τ).loc main_arg3)
/-- The gate and up weights. -/
def aW (c : Dev nD) : FVec Ideal S4x32x2048x1024 .f32 := m ((c.tc : Thread nD τ).loc main_arg4)
/-- The gate biases. -/
def aG (c : Dev nD) : FVec Ideal S4x32x1x512 .f32 := m ((c.tc : Thread nD τ).loc main_arg5)
/-- The up biases. -/
def aU (c : Dev nD) : FVec Ideal S4x32x1x512 .f32 := m ((c.tc : Thread nD τ).loc main_arg6)
/-- The down weights. -/
def aD (c : Dev nD) : FVec Ideal S4x32x512x2048 .f32 := m ((c.tc : Thread nD τ).loc main_arg7)
/-- The down biases. -/
def aB (c : Dev nD) : FVec Ideal S4x32x1x2048 .f32 := m ((c.tc : Thread nD τ).loc main_arg8)

variable (hP : Planned (tabE m) (tabF m)) (hO : Ok m) (c : Dev nD)

/-- The row of a tile's row. -/
def row (t : Fin (cfgM m hO).N) (r : Fin 512) : Fin 49152 :=
  ⟨t.val * 512 + r.val, by have h : r.val < 512 := r.isLt; have h2 : t.val < 96 := t.isLt; omega⟩

/-- A tile's row lies in the tile. -/
theorem row_div (t : Fin (cfgM m hO).N) (r : Fin 512) : (row m hO t r : ℕ) / 512 = t.val := by
  have h : r.val < 512 := r.isLt
  show (t.val * 512 + r.val) / 512 = t.val
  omega

include hP in
/-- The expert of a tile's row, over the blocks the tile reads, is that of the row, over the arguments. -/
theorem expert_blk (t : Fin (cfgM m hO).N) (r : Fin 512) (n : Fin 2048) :
    expert (tok (fun r s l => (iblk m hO c 0 t : Vec Ideal S512x8x128 .bf16) (ix3 r s l)) (fun r s l => (iblk m hO c 1 t : Vec Ideal S512x8x128 .bf16) (ix3 r s l)) r)
        (fun d j => aW m c (ix4 0 (expOf m hP hO t) d j))
        (fun j => (iblk m hO c 3 t : Vec Ideal S1x1x1x512 .f32) (ix4 0 0 0 j)) (fun j => (iblk m hO c 4 t : Vec Ideal S1x1x1x512 .f32) (ix4 0 0 0 j))
        (fun j n => aD m c (ix4 0 (expOf m hP hO t) j n))
        (fun n => (iblk m hO c 6 t : Vec Ideal S1x1x1x2048 .f32) (ix4 0 0 0 n)) n
      = rowExpert (aLo m c) (aHi m c) (aW m c) (aG m c) (aU m c) (aD m c) (aB m c) (expOf m hP hO t) (row m hO t r) n := by
  unfold rowExpert
  have e1 := tok_congr (fun r s l => (iblk m hO c 0 t : Vec Ideal S512x8x128 .bf16) (ix3 r s l)) (fun r s l => (iblk m hO c 1 t : Vec Ideal S512x8x128 .bf16) (ix3 r s l))
    (fun r s l => aLo m c (ix3 r s l)) (fun r s l => aHi m c (ix3 r s l)) r (row m hO t r)
    (fun s l => iblk0 m hO c t (ix3 r s l)) (fun s l => iblk1 m hO c t (ix3 r s l))
  have e2 : (fun j => (iblk m hO c 3 t : Vec Ideal S1x1x1x512 .f32) (ix4 0 0 0 j)) = fun j => aG m c (ix4 0 (expOf m hP hO t) 0 j) :=
    funext fun j => iblk3 m hP hO c t (ix4 0 0 0 j)
  have e3 : (fun j => (iblk m hO c 4 t : Vec Ideal S1x1x1x512 .f32) (ix4 0 0 0 j)) = fun j => aU m c (ix4 0 (expOf m hP hO t) 0 j) :=
    funext fun j => iblk4 m hP hO c t (ix4 0 0 0 j)
  have e4 : (fun n => (iblk m hO c 6 t : Vec Ideal S1x1x1x2048 .f32) (ix4 0 0 0 n)) = fun n => aB m c (ix4 0 (expOf m hP hO t) 0 n) :=
    funext fun n => iblk6 m hP hO c t (ix4 0 0 0 n)
  rw [e1, e2, e3, e4]

include hP in
/-- What a tile leaves of the low half. -/
theorem leftLo_at (t : Fin (cfgM m hO).N) (r : Fin 512) (s : Fin 8) (l : Fin 128) : leftLo m hO c t (ix3 r s l)
    = result (tabE m) (tabF m) (aLo m c) (aHi m c) (aW m c) (aG m c) (aU m c) (aD m c) (aB m c) (row m hO t r) (loCol s l) := by
  unfold leftLo
  by_cases hc : k0_cond2 (word (tabF m) t.val) = 1#1
  · rw [if_pos hc, result_on _ _ _ _ _ _ _ _ _ (expOf m hP hO t) t.val _ _ (row_div m hO t r) ((cond2_iff _).mp hc) rfl]
    unfold tileLo
    refine (outLo_at _ _ _ _ _ _ _ _ (fun d j => aW m c (ix4 0 (expOf m hP hO t) d j)) (fun j n => aD m c (ix4 0 (expOf m hP hO t) j n)) ?_ ?_ ?_ r s l).trans ?_
    · exact fun k j => (newG_at _ (ix2 k j)).trans (iblk2 m hP hO c t _)
    · exact fun k j => (newU_at _ (ix2 k j)).trans (iblk2 m hP hO c t _)
    · exact fun j n => (newD_at _ j n).trans (iblk5 m hP hO c t _)
    · exact expert_blk m hP hO c t r _
  · rw [if_neg hc, result_off _ _ _ _ _ _ _ _ _ t.val _ _ (row_div m hO t r) (fun h => hc ((cond2_iff _).mpr h))]
    exact zeroLo_at _

/-- The array of the low halves. -/
def arrayLo : FVec Ideal S49152x8x128 .bf16 := fun i : S49152x8x128.Idx =>
  result (tabE m) (tabF m) (aLo m c) (aHi m c) (aW m c) (aG m c) (aU m c) (aD m c) (aB m c) (i 0) (loCol (i 1) (i 2))

include hP in
/-- THE LOW HALVES after the run. -/
theorem finalLo : (dats m hO 0 c).arrAt 7 (cfgM m hO).N = arrayLo m c := by
  refine (dats m hO 0 c).arrAt_eq_of_emb 7 _ (fun t hf (y : S512x8x128.Idx) => ?_) (fun (i : S49152x8x128.Idx) => ?_)
  · have ht : (BitVec.ofNat 32 ((grid0.coords t) 0).val).toNat = t.val := by
      rw [coords_val m hO t, BitVec.toNat_ofNat]
      have h2 : t.val < 96 := t.isLt
      exact Nat.mod_eq_of_lt (by omega)
    rw [after0_7]
    have hemb : (((cfgM m hO).win 7).blk t).view.emb y = ix3 (row m hO t (y 0)) (y 1) (y 2) := by
      refine funext fun (a : Fin 3) => Fin.ext ?_
      refine (Pipeline.Window.rect_emb_val ((cfgM m hO).win 7) t y a rfl).trans ?_
      fin_cases a
      · show (BitVec.ofNat 32 ((grid0.coords t) 0).val).toNat * 512 + (y 0).val = t.val * 512 + (y 0).val
        rw [ht]
      · show 0 * 8 + (y 1).val = (y 1).val
        omega
      · show 0 * 128 + (y 2).val = (y 2).val
        omega
    refine Eq.trans ?_ (congrArg (arrayLo m c) hemb.symm)
    refine Eq.trans ?_ (leftLo_at m hP hO c t (y 0) (y 1) (y 2))
    exact congrArg (leftLo m hO c t) (idx3_eq y)
  · have hi : (i 0).val < 49152 := (i 0).isLt
    let t : Fin (cfgM m hO).N := ⟨(i 0).val / 512, by show _ < 96; omega⟩
    have ht : (BitVec.ofNat 32 ((grid0.coords t) 0).val).toNat = t.val := by
      rw [coords_val m hO t, BitVec.toNat_ofNat]
      have h2 : t.val < 96 := t.isLt
      exact Nat.mod_eq_of_lt (by omega)
    refine ⟨t, flush0_7 (adm m hO) t, ?_⟩
    refine (((cfgM m hO).win 7).emb_mem_blk_iff t i rfl).mpr fun (a : Fin 3) => ?_
    have h1 : (i 1).val < 8 := (i 1).isLt
    have h2 : (i 2).val < 128 := (i 2).isLt
    fin_cases a
    · show (BitVec.ofNat 32 ((grid0.coords t) 0).val).toNat * 512 ≤ (i 0).val ∧ (i 0).val < (BitVec.ofNat 32 ((grid0.coords t) 0).val).toNat * 512 + 512
      rw [ht]
      show (i 0).val / 512 * 512 ≤ (i 0).val ∧ (i 0).val < (i 0).val / 512 * 512 + 512
      omega
    · show 0 * 8 ≤ (i 1).val ∧ (i 1).val < 0 * 8 + 8
      omega
    · show 0 * 128 ≤ (i 2).val ∧ (i 2).val < 0 * 128 + 128
      omega

include hP in
/-- What a tile leaves of the high half. -/
theorem leftHi_at (t : Fin (cfgM m hO).N) (r : Fin 512) (s : Fin 8) (l : Fin 128) : leftHi m hO c t (ix3 r s l)
    = result (tabE m) (tabF m) (aLo m c) (aHi m c) (aW m c) (aG m c) (aU m c) (aD m c) (aB m c) (row m hO t r) (hiCol s l) := by
  unfold leftHi
  by_cases hc : k0_cond2 (word (tabF m) t.val) = 1#1
  · rw [if_pos hc, result_on _ _ _ _ _ _ _ _ _ (expOf m hP hO t) t.val _ _ (row_div m hO t r) ((cond2_iff _).mp hc) rfl]
    unfold tileHi
    refine (outHi_at _ _ _ _ _ _ _ _ (fun d j => aW m c (ix4 0 (expOf m hP hO t) d j)) (fun j n => aD m c (ix4 0 (expOf m hP hO t) j n)) ?_ ?_ ?_ r s l).trans ?_
    · exact fun k j => (newG_at _ (ix2 k j)).trans (iblk2 m hP hO c t _)
    · exact fun k j => (newU_at _ (ix2 k j)).trans (iblk2 m hP hO c t _)
    · exact fun j n => (newD_at _ j n).trans (iblk5 m hP hO c t _)
    · exact expert_blk m hP hO c t r _
  · rw [if_neg hc, result_off _ _ _ _ _ _ _ _ _ t.val _ _ (row_div m hO t r) (fun h => hc ((cond2_iff _).mpr h))]
    exact zeroHi_at _

/-- The array of the high halves. -/
def arrayHi : FVec Ideal S49152x8x128 .bf16 := fun i : S49152x8x128.Idx =>
  result (tabE m) (tabF m) (aLo m c) (aHi m c) (aW m c) (aG m c) (aU m c) (aD m c) (aB m c) (i 0) (hiCol (i 1) (i 2))

include hP in
/-- THE HIGH HALVES after the run. -/
theorem finalHi : (dats m hO 0 c).arrAt 8 (cfgM m hO).N = arrayHi m c := by
  refine (dats m hO 0 c).arrAt_eq_of_emb 8 _ (fun t hf (y : S512x8x128.Idx) => ?_) (fun (i : S49152x8x128.Idx) => ?_)
  · have ht : (BitVec.ofNat 32 ((grid0.coords t) 0).val).toNat = t.val := by
      rw [coords_val m hO t, BitVec.toNat_ofNat]
      have h2 : t.val < 96 := t.isLt
      exact Nat.mod_eq_of_lt (by omega)
    rw [after0_8]
    have hemb : (((cfgM m hO).win 8).blk t).view.emb y = ix3 (row m hO t (y 0)) (y 1) (y 2) := by
      refine funext fun (a : Fin 3) => Fin.ext ?_
      refine (Pipeline.Window.rect_emb_val ((cfgM m hO).win 8) t y a rfl).trans ?_
      fin_cases a
      · show (BitVec.ofNat 32 ((grid0.coords t) 0).val).toNat * 512 + (y 0).val = t.val * 512 + (y 0).val
        rw [ht]
      · show 0 * 8 + (y 1).val = (y 1).val
        omega
      · show 0 * 128 + (y 2).val = (y 2).val
        omega
    refine Eq.trans ?_ (congrArg (arrayHi m c) hemb.symm)
    refine Eq.trans ?_ (leftHi_at m hP hO c t (y 0) (y 1) (y 2))
    exact congrArg (leftHi m hO c t) (idx3_eq y)
  · have hi : (i 0).val < 49152 := (i 0).isLt
    let t : Fin (cfgM m hO).N := ⟨(i 0).val / 512, by show _ < 96; omega⟩
    have ht : (BitVec.ofNat 32 ((grid0.coords t) 0).val).toNat = t.val := by
      rw [coords_val m hO t, BitVec.toNat_ofNat]
      have h2 : t.val < 96 := t.isLt
      exact Nat.mod_eq_of_lt (by omega)
    refine ⟨t, flush0_8 (adm m hO) t, ?_⟩
    refine (((cfgM m hO).win 8).emb_mem_blk_iff t i rfl).mpr fun (a : Fin 3) => ?_
    have h1 : (i 1).val < 8 := (i 1).isLt
    have h2 : (i 2).val < 128 := (i 2).isLt
    fin_cases a
    · show (BitVec.ofNat 32 ((grid0.coords t) 0).val).toNat * 512 ≤ (i 0).val ∧ (i 0).val < (BitVec.ofNat 32 ((grid0.coords t) 0).val).toNat * 512 + 512
      rw [ht]
      show (i 0).val / 512 * 512 ≤ (i 0).val ∧ (i 0).val < (i 0).val / 512 * 512 + 512
      omega
    · show 0 * 8 ≤ (i 1).val ∧ (i 1).val < 0 * 8 + 8
      omega
    · show 0 * 128 ≤ (i 2).val ∧ (i 2).val < 0 * 128 + 128
      omega

end Cert.Kernel2Ideal.Exp

end
-- ==== Proof.Ref2Entry.lean ====
/-
  The reference's arrays before its loop over experts: the tokens as one matrix, the expert each row is routed to, and the first
  layer's weights.
-/
module

public import proofs.«01_k».proof.Proof.ExpSpec
public import proofs.«01_k».proof.Proof.Gen.Reference2Ideal.Run
public import Idealize.ShloMosaic.Lib.Pointwise

@[expose] public section

set_option maxRecDepth 16384

noncomputable section

namespace Cert.Reference2Ideal.Exp

open Cert.Reference2Ideal Cert.Reference2Ideal.Gen Cert.Reference2Ideal.Value
open Idealize.ShloMosaic Idealize.ShloMosaic.TcCoe Idealize.ShloMosaic.Tactic Idealize.SL.Sem Idealize.ShloMosaic.StableHlo
open Cert.Exp

/-- The tokens: the low halves, then the high halves. -/
def xT (lo hi : FVec Ideal S49152x8x128 .bf16) : FVec Ideal S49152x2048 .f32 :=
  extf .f32 (concatenate S49152x2048 1 [⟨S49152x1024, shapeCast S49152x1024 lo shapeCasts_S49152x8x128_S49152x1024⟩, ⟨S49152x1024, shapeCast S49152x1024 hi shapeCasts_S49152x8x128_S49152x1024⟩]
    concatenates_S49152x1024_S49152x1024_S49152x2048_d1) bitsLt_bf16_f32
/-- The expert of each tile, or 32 for a tile not in use. -/
def tileT (te fl : IVec S96 32) : IVec S96 32 :=
  select (cmpi .ne (andi fl (broadcastInDim S96 ![] bcast_S_S96 (constantI S_ 32 1#32))) (broadcastInDim S96 ![] bcast_S_S96 (constantI S_ 32 0#32))) te
    (broadcastInDim S96 ![] bcast_S_S96 (id (constantI S_ 32 32#32)))
/-- The expert of each row. -/
def qT (te fl : IVec S96 32) : IVec S49152 32 :=
  shapeCast S49152 (broadcastInDim S96x512 ![0] bcast_S96_S96x512_0 (tileT te fl)) shapeCasts_S96x512_S49152
/-- The gate and up weights of the first layer. -/
def wT (x : FVec Ideal S4x32x2048x1024 .f32) : FVec Ideal S32x2048x1024 .f32 :=
  shapeCast S32x2048x1024 (extractStridedSlice S1x32x2048x1024 ![0, 0, 0, 0] x slices_S4x32x2048x1024_S1x32x2048x1024_0_0_0_0) shapeCasts_S1x32x2048x1024_S32x2048x1024
/-- The gate or up biases of the first layer. -/
def bT (x : FVec Ideal S4x32x1x512 .f32) : FVec Ideal S32x512 .f32 :=
  shapeCast S32x512 (extractStridedSlice S1x32x1x512 ![0, 0, 0, 0] x slices_S4x32x1x512_S1x32x1x512_0_0_0_0) shapeCasts_S1x32x1x512_S32x512
/-- The down weights of the first layer. -/
def dT (x : FVec Ideal S4x32x512x2048 .f32) : FVec Ideal S32x512x2048 .f32 :=
  shapeCast S32x512x2048 (extractStridedSlice S1x32x512x2048 ![0, 0, 0, 0] x slices_S4x32x512x2048_S1x32x512x2048_0_0_0_0) shapeCasts_S1x32x512x2048_S32x512x2048
/-- The down biases of the first layer. -/
def eT (x : FVec Ideal S4x32x1x2048 .f32) : FVec Ideal S32x2048 .f32 :=
  shapeCast S32x2048 (extractStridedSlice S1x32x1x2048 ![0, 0, 0, 0] x slices_S4x32x1x2048_S1x32x1x2048_0_0_0_0) shapeCasts_S1x32x1x2048_S32x2048
/-- The zeros the loop starts from. -/
def zT : FVec Ideal S49152x2048 .f32 := broadcastInDim S49152x2048 ![] bcast_S_S49152x2048 (constant S_ .f32 0x00000000#32)

/-- A row's tokens. -/
theorem xT_at (lo hi : FVec Ideal S49152x8x128 .bf16) (r : Fin 49152) (d : Fin 2048) :
    xT lo hi (ix2 r d) = tok (fun r s l => lo (ix3 r s l)) (fun r s l => hi (ix3 r s l)) r d := by
  unfold tok
  pointwise [xT]

open Classical in
/-- A tile's expert. -/
theorem tileT_at (te fl : IVec S96 32) (t : Fin 96) : tileT te fl (ix1 t) = if On fl (t : ℕ) then word te (t : ℕ) else 32#32 := by
  have hf : word fl (t : ℕ) = fl (ix1 t) := by unfold word; rw [dif_pos t.2]
  have ht : word te (t : ℕ) = te (ix1 t) := by unfold word; rw [dif_pos t.2]
  unfold On
  rw [hf, ht]
  pointwise [tileT]
  rw [WordCmp.cmpi_ne_eq]
  by_cases h : IntOp.andi (fl (ix1 t)) 1#32 = 0#32
  · rw [if_neg (not_not.mpr h)]
    simp only [h, Scalar.select]
    rfl
  · rw [if_pos h]
    simp [h, Scalar.select]

open Classical in
/-- A row's expert. -/
theorem qT_at (te fl : IVec S96 32) (r : Fin 49152) : qT te fl (ix1 r) = if On fl ((r : ℕ) / 512) then word te ((r : ℕ) / 512) else 32#32 := by
  have h : qT te fl (ix1 r) = tileT te fl (ix1 (⟨(r : ℕ) / 512, by omega⟩ : Fin 96)) := by
    pointwise [qT]
  rw [h, tileT_at]

/-- The weights, read. -/
theorem wT_at (x : FVec Ideal S4x32x2048x1024 .f32) (e : Fin 32) (i : Fin 2048) (j : Fin 1024) : wT x (ix3 e i j) = x (ix4 0 e i j) := by
  pointwise [wT]
  try rfl
/-- The biases, read. -/
theorem bT_at (x : FVec Ideal S4x32x1x512 .f32) (e : Fin 32) (j : Fin 512) : bT x (ix2 e j) = x (ix4 0 e 0 j) := by
  pointwise [bT]
  try rfl
/-- The down weights, read. -/
theorem dT_at (x : FVec Ideal S4x32x512x2048 .f32) (e : Fin 32) (i : Fin 512) (j : Fin 2048) : dT x (ix3 e i j) = x (ix4 0 e i j) := by
  pointwise [dT]
  try rfl
/-- The down biases, read. -/
theorem eT_at (x : FVec Ideal S4x32x1x2048 .f32) (e : Fin 32) (j : Fin 2048) : eT x (ix2 e j) = x (ix4 0 e 0 j) := by
  pointwise [eT]
  try rfl
/-- The zeros, read. -/
theorem zT_at (r : Fin 49152) (n : Fin 2048) : zT (ix2 r n) = 0 := by
  pointwise [zT]
  try rfl
/-- The experts' numbers. -/
theorem iota_at (n : Fin 32) : (iotaInDim S32 32 0 : IVec S32 32) (ix1 n) = BitVec.ofNat 32 (n : ℕ) := by
  pointwise []
  try rfl

variable (m : (l : Loc nD τ sig) → Buf (Elt Ideal) l)

/-- The expert table. -/
abbrev aT (c : Dev nD) : IVec S96 32 := m ((c.tc : Thread nD τ).loc main_arg0)
/-- The flag table. -/
abbrev aF (c : Dev nD) : IVec S96 32 := m ((c.tc : Thread nD τ).loc main_arg1)
/-- The low halves of the rows. -/
abbrev aLo (c : Dev nD) : FVec Ideal S49152x8x128 .bf16 := m ((c.tc : Thread nD τ).loc main_arg2)
/-- The high halves of the rows. -/
abbrev aHi (c : Dev nD) : FVec Ideal S49152x8x128 .bf16 := m ((c.tc : Thread nD τ).loc main_arg3)
/-- The gate and up weights. -/
abbrev aW (c : Dev nD) : FVec Ideal S4x32x2048x1024 .f32 := m ((c.tc : Thread nD τ).loc main_arg4)
/-- The gate biases. -/
abbrev aG (c : Dev nD) : FVec Ideal S4x32x1x512 .f32 := m ((c.tc : Thread nD τ).loc main_arg5)
/-- The up biases. -/
abbrev aU (c : Dev nD) : FVec Ideal S4x32x1x512 .f32 := m ((c.tc : Thread nD τ).loc main_arg6)
/-- The down weights. -/
abbrev aD (c : Dev nD) : FVec Ideal S4x32x512x2048 .f32 := m ((c.tc : Thread nD τ).loc main_arg7)
/-- The down biases. -/
abbrev aB (c : Dev nD) : FVec Ideal S4x32x1x2048 .f32 := m ((c.tc : Thread nD τ).loc main_arg8)

/-- The contents at the loop's entry. -/
abbrev E0 (c : Dev nD) := entryContents (preI (F := Ideal)) m c

/-- The experts' numbers at the loop's entry. -/
theorem entry_0 (c : Dev nD) : E0 m c (Proc.devRef .tc main_v23_0) = (iotaInDim S32 32 0 : IVec S32 32) := by
  simp only [E0, entryContents, preI, afterL_cons, afterL_nil]
  after_reads_simp
  rfl
/-- The gate and up weights at the loop's entry. -/
theorem entry_1 (c : Dev nD) : E0 m c (Proc.devRef .tc main_v23_1) = wT (aW m c) := by
  simp only [E0, entryContents, preI, afterL_cons, afterL_nil]
  after_reads_simp
  rfl
/-- The gate biases at the loop's entry. -/
theorem entry_2 (c : Dev nD) : E0 m c (Proc.devRef .tc main_v23_2) = bT (aG m c) := by
  simp only [E0, entryContents, preI, afterL_cons, afterL_nil]
  after_reads_simp
  rfl
/-- The up biases at the loop's entry. -/
theorem entry_3 (c : Dev nD) : E0 m c (Proc.devRef .tc main_v23_3) = bT (aU m c) := by
  simp only [E0, entryContents, preI, afterL_cons, afterL_nil]
  after_reads_simp
  rfl
/-- The down weights at the loop's entry. -/
theorem entry_4 (c : Dev nD) : E0 m c (Proc.devRef .tc main_v23_4) = dT (aD m c) := by
  simp only [E0, entryContents, preI, afterL_cons, afterL_nil]
  after_reads_simp
  rfl
/-- The down biases at the loop's entry. -/
theorem entry_5 (c : Dev nD) : E0 m c (Proc.devRef .tc main_v23_5) = eT (aB m c) := by
  simp only [E0, entryContents, preI, afterL_cons, afterL_nil]
  after_reads_simp
  rfl
/-- The tokens at the loop's entry. -/
theorem entry_6 (c : Dev nD) : E0 m c (Proc.devRef .tc main_v23_6) = xT (aLo m c) (aHi m c) := by
  simp only [E0, entryContents, preI, afterL_cons, afterL_nil]
  after_reads_simp
  rfl
/-- The rows' experts at the loop's entry. -/
theorem entry_7 (c : Dev nD) : E0 m c (Proc.devRef .tc main_v23_7) = qT (aT m c) (aF m c) := by
  simp only [E0, entryContents, preI, afterL_cons, afterL_nil]
  after_reads_simp
  rfl
/-- The zeros at the loop's entry. -/
theorem entry_9 (c : Dev nD) : E0 m c (Proc.devRef .tc main_v23_9) = zT := by
  simp only [E0, entryContents, preI, afterL_cons, afterL_nil]
  after_reads_simp
  rfl

end Cert.Reference2Ideal.Exp

end
-- ==== Proof.Ref2Trip.lean ====
/-
  One trip of the reference's loop over experts, over variables: the expert's weights it takes, and what it adds to the rows routed
  to the expert.
-/
module

public import proofs.«01_k».proof.Proof.ExpSpec
public import proofs.«01_k».proof.Proof.Gen.Reference2Ideal
public import Idealize.ShloMosaic.Lib.Pointwise

@[expose] public section

set_option maxRecDepth 16384

noncomputable section

namespace Cert.Reference2Ideal.Exp

open Cert.Reference2Ideal Cert.Reference2Ideal.Gen
open Idealize.ShloMosaic Idealize.ShloMosaic.TcCoe Idealize.SL.Sem
open Cert.Exp

/-- The counter after `n` trips. -/
def ctr (n : Fin 32) : Vec Ideal S_ .i32 := fun _ => BitVec.ofNat 32 (n : ℕ)

/-- The counter, as an integer. -/
theorem ctr_int (n : Fin 32) : (BitVec.ofNat 32 (n : ℕ)).toInt = ((n : ℕ) : ℤ) := by revert n; decide +kernel

/-- Where a trip's slices start: at the counter on the first of three axes. -/
def start3 (k : Vec Ideal S_ .i32) : Fin 3 → ℤ :=
  fun j => ((![k, constantI S_ 32 0#32, constantI S_ 32 0#32] : Fin 3 → Vec Ideal S_ .i32) j (Shape.Idx.first h_S_)).toInt
/-- … on the first of two axes. -/
def start2 (k : Vec Ideal S_ .i32) : Fin 2 → ℤ :=
  fun j => ((![k, constantI S_ 32 0#32] : Fin 2 → Vec Ideal S_ .i32) j (Shape.Idx.first h_S_)).toInt
/-- … on the only axis. -/
def start1 (k : Vec Ideal S_ .i32) : Fin 1 → ℤ :=
  fun j => ((![k] : Fin 1 → Vec Ideal S_ .i32) j (Shape.Idx.first h_S_)).toInt

/-- The starts at a counter. -/
theorem start3_ctr (n : Fin 32) : start3 (ctr n) = ![((n : ℕ) : ℤ), 0, 0] := by
  funext j
  fin_cases j
  · exact ctr_int n
  · rfl
  · rfl
/-- The starts at a counter. -/
theorem start2_ctr (n : Fin 32) : start2 (ctr n) = ![((n : ℕ) : ℤ), 0] := by
  funext j
  fin_cases j
  · exact ctr_int n
  · rfl
/-- The starts at a counter. -/
theorem start1_ctr (n : Fin 32) : start1 (ctr n) = ![((n : ℕ) : ℤ)] := by
  funext j
  fin_cases j
  exact ctr_int n

/-- The gate and up weights of the expert at the counter. -/
def sliceW (x : FVec Ideal S32x2048x1024 .f32) (k : Vec Ideal S_ .i32) : FVec Ideal S2048x1024 .f32 :=
  shapeCast S2048x1024 (Host.dynamicSlice S1x2048x1024 x (start3 k) sliceFits_S32x2048x1024_S1x2048x1024) shapeCasts_S1x2048x1024_S2048x1024
/-- The first clamped start is the counter. -/
theorem sliceW_0 (n : Fin 32) : Host.clampedStart S32x2048x1024 S1x2048x1024 rfl ![((n : ℕ) : ℤ), 0, 0] 0 = (n : ℕ) := by
  have hn := n.2
  show (min (max ((n : ℕ) : ℤ) 0) ((31 : ℕ) : ℤ)).toNat = (n : ℕ)
  omega
/-- The second is zero. -/
theorem sliceW_1 (n : Fin 32) : Host.clampedStart S32x2048x1024 S1x2048x1024 rfl ![((n : ℕ) : ℤ), 0, 0] 1 = 0 := rfl
/-- The third is zero. -/
theorem sliceW_2 (n : Fin 32) : Host.clampedStart S32x2048x1024 S1x2048x1024 rfl ![((n : ℕ) : ℤ), 0, 0] 2 = 0 := rfl
/-- The gate and up weights of expert `n`. -/
theorem sliceW_at (x : FVec Ideal S32x2048x1024 .f32) (n : Fin 32) (i : Fin 2048) (j : Fin 1024) : sliceW x (ctr n) (ix2 i j) = x (ix3 n i j) := by
  unfold sliceW
  rw [start3_ctr]
  pointwise []
  refine congrArg x ?_
  congr 1
  · exact Fin.ext (sliceW_0 n)
  · exact Fin.ext ((congrArg (· + (i : ℕ)) (sliceW_1 n)).trans (Nat.zero_add _))
  · exact Fin.ext ((congrArg (· + (j : ℕ)) (sliceW_2 n)).trans (Nat.zero_add _))

/-- The down weights of the expert at the counter. -/
def sliceD (x : FVec Ideal S32x512x2048 .f32) (k : Vec Ideal S_ .i32) : FVec Ideal S512x2048 .f32 :=
  shapeCast S512x2048 (Host.dynamicSlice S1x512x2048 x (start3 k) sliceFits_S32x512x2048_S1x512x2048) shapeCasts_S1x512x2048_S512x2048
/-- The first clamped start is the counter. -/
theorem sliceD_0 (n : Fin 32) : Host.clampedStart S32x512x2048 S1x512x2048 rfl ![((n : ℕ) : ℤ), 0, 0] 0 = (n : ℕ) := by
  have hn := n.2
  show (min (max ((n : ℕ) : ℤ) 0) ((31 : ℕ) : ℤ)).toNat = (n : ℕ)
  omega
/-- The second is zero. -/
theorem sliceD_1 (n : Fin 32) : Host.clampedStart S32x512x2048 S1x512x2048 rfl ![((n : ℕ) : ℤ), 0, 0] 1 = 0 := rfl
/-- The third is zero. -/
theorem sliceD_2 (n : Fin 32) : Host.clampedStart S32x512x2048 S1x512x2048 rfl ![((n : ℕ) : ℤ), 0, 0] 2 = 0 := rfl
/-- The down weights of expert `n`. -/
theorem sliceD_at (x : FVec Ideal S32x512x2048 .f32) (n : Fin 32) (i : Fin 512) (j : Fin 2048) : sliceD x (ctr n) (ix2 i j) = x (ix3 n i j) := by
  unfold sliceD
  rw [start3_ctr]
  pointwise []
  refine congrArg x ?_
  congr 1
  · exact Fin.ext (sliceD_0 n)
  · exact Fin.ext ((congrArg (· + (i : ℕ)) (sliceD_1 n)).trans (Nat.zero_add _))
  · exact Fin.ext ((congrArg (· + (j : ℕ)) (sliceD_2 n)).trans (Nat.zero_add _))

/-- The gate or up biases of the expert at the counter. -/
def sliceB (x : FVec Ideal S32x512 .f32) (k : Vec Ideal S_ .i32) : FVec Ideal S512 .f32 :=
  shapeCast S512 (Host.dynamicSlice S1x512 x (start2 k) sliceFits_S32x512_S1x512) shapeCasts_S1x512_S512
/-- The first clamped start is the counter. -/
theorem sliceB_0 (n : Fin 32) : Host.clampedStart S32x512 S1x512 rfl ![((n : ℕ) : ℤ), 0] 0 = (n : ℕ) := by
  have hn := n.2
  show (min (max ((n : ℕ) : ℤ) 0) ((31 : ℕ) : ℤ)).toNat = (n : ℕ)
  omega
/-- The second is zero. -/
theorem sliceB_1 (n : Fin 32) : Host.clampedStart S32x512 S1x512 rfl ![((n : ℕ) : ℤ), 0] 1 = 0 := rfl
/-- The gate or up biases of expert `n`. -/
theorem sliceB_at (x : FVec Ideal S32x512 .f32) (n : Fin 32) (i : Fin 512) : sliceB x (ctr n) (ix1 i) = x (ix2 n i) := by
  unfold sliceB
  rw [start2_ctr]
  pointwise []
  refine congrArg x ?_
  congr 1
  · exact Fin.ext (sliceB_0 n)
  · exact Fin.ext ((congrArg (· + (i : ℕ)) (sliceB_1 n)).trans (Nat.zero_add _))

/-- The down biases of the expert at the counter. -/
def sliceE (x : FVec Ideal S32x2048 .f32) (k : Vec Ideal S_ .i32) : FVec Ideal S2048 .f32 :=
  shapeCast S2048 (Host.dynamicSlice S1x2048 x (start2 k) sliceFits_S32x2048_S1x2048) shapeCasts_S1x2048_S2048
/-- The first clamped start is the counter. -/
theorem sliceE_0 (n : Fin 32) : Host.clampedStart S32x2048 S1x2048 rfl ![((n : ℕ) : ℤ), 0] 0 = (n : ℕ) := by
  have hn := n.2
  show (min (max ((n : ℕ) : ℤ) 0) ((31 : ℕ) : ℤ)).toNat = (n : ℕ)
  omega
/-- The second is zero. -/
theorem sliceE_1 (n : Fin 32) : Host.clampedStart S32x2048 S1x2048 rfl ![((n : ℕ) : ℤ), 0] 1 = 0 := rfl
/-- The down biases of expert `n`. -/
theorem sliceE_at (x : FVec Ideal S32x2048 .f32) (n : Fin 32) (i : Fin 2048) : sliceE x (ctr n) (ix1 i) = x (ix2 n i) := by
  unfold sliceE
  rw [start2_ctr]
  pointwise []
  refine congrArg x ?_
  congr 1
  · exact Fin.ext (sliceE_0 n)
  · exact Fin.ext ((congrArg (· + (i : ℕ)) (sliceE_1 n)).trans (Nat.zero_add _))

/-- The number of the expert at the counter. -/
def sliceI (x : IVec S32 32) (k : Vec Ideal S_ .i32) : IVec S_ 32 :=
  shapeCast S_ (Host.dynamicSlice S1 x (start1 k) sliceFits_S32_S1) shapeCasts_S1_S_
/-- The clamped start is the counter. -/
theorem sliceI_0 (n : Fin 32) : Host.clampedStart S32 S1 rfl ![((n : ℕ) : ℤ)] 0 = (n : ℕ) := by
  have hn := n.2
  show (min (max ((n : ℕ) : ℤ) 0) ((31 : ℕ) : ℤ)).toNat = (n : ℕ)
  omega

/-- Gate and up parts of all rows in one expert. -/
def mmT (x : FVec Ideal S49152x2048 .f32) (w : FVec Ideal S2048x1024 .f32) : FVec Ideal S49152x1024 .f32 :=
  Host.dotGeneral dot_S49152x2048_S2048x1024_S49152x1024_1_0_0_1_n_n none x w
/-- The gate: the even columns, with their bias, clipped from above. -/
def gateT (y : FVec Ideal S49152x1024 .f32) (b : FVec Ideal S512 .f32) : FVec Ideal S49152x512 .f32 :=
  minimumf (addf (Host.slice S49152x512 ![0, 0] ![1, 2] y slicesBy_S49152x1024_S49152x512_0s1_0s2) (broadcastInDim S49152x512 ![0, 1] bcast_S1x512_S49152x512_0_1 (broadcastInDim S1x512 ![1] bcast_S512_S1x512_1 b))) (broadcastInDim S49152x512 ![] bcast_S_S49152x512 (constant S_ .f32 0x40E00000#32))
/-- The up part: the odd columns, with their bias, clipped. -/
def upT (y : FVec Ideal S49152x1024 .f32) (b : FVec Ideal S512 .f32) : FVec Ideal S49152x512 .f32 :=
  minimumf (broadcastInDim S49152x512 ![] bcast_S_S49152x512 (id (constant S_ .f32 0x40E00000#32))) (maximumf (broadcastInDim S49152x512 ![] bcast_S_S49152x512 (id (constant S_ .f32 0xC0E00000#32))) (addf (Host.slice S49152x512 ![0, 1] ![1, 2] y slicesBy_S49152x1024_S49152x512_0s1_1s2) (broadcastInDim S49152x512 ![0, 1] bcast_S1x512_S49152x512_0_1 (broadcastInDim S1x512 ![1] bcast_S512_S1x512_1 b))))
/-- The activation. -/
def actT (u g : FVec Ideal S49152x512 .f32) : FVec Ideal S49152x512 .f32 :=
  mulf (mulf (addf u (broadcastInDim S49152x512 ![] bcast_S_S49152x512 (constant S_ .f32 0x3F800000#32))) g) (Host.divf (broadcastInDim S49152x512 ![] bcast_S_S49152x512 (constant S_ .f32 0x3F800000#32)) (addf (broadcastInDim S49152x512 ![] bcast_S_S49152x512 (constant S_ .f32 0x3F800000#32)) (Host.exp (Host.negf (mulf g (broadcastInDim S49152x512 ![] bcast_S_S49152x512 (constant S_ .f32 0x3FD9DB23#32)))))))
/-- The expert's output. -/
def outT (a : FVec Ideal S49152x512 .f32) (d : FVec Ideal S512x2048 .f32) (b : FVec Ideal S2048 .f32) : FVec Ideal S49152x2048 .f32 :=
  addf (Host.dotGeneral dot_S49152x512_S512x2048_S49152x2048_1_0_0_1_n_n none a d) (broadcastInDim S49152x2048 ![0, 1] bcast_S1x2048_S49152x2048_0_1 (broadcastInDim S1x2048 ![1] bcast_S2048_S1x2048_1 b))
/-- The rows with the expert's added where they are routed to it. -/
def putT (O : FVec Ideal S49152x2048 .f32) (q : IVec S49152 32) (e : IVec S_ 32) (y : FVec Ideal S49152x2048 .f32) : FVec Ideal S49152x2048 .f32 :=
  addf O (select (broadcastInDim S49152x2048 ![0, 1] bcast_S49152x1_S49152x2048_0_1 (broadcastInDim S49152x1 ![0] bcast_S49152_S49152x1_0 (cmpi .eq q (broadcastInDim S49152 ![] bcast_S_S49152 e)))) y (broadcastInDim S49152x2048 ![] bcast_S_S49152x2048 (id (constant S_ .f32 0x00000000#32))))

/-- The number of expert `n`. -/
theorem sliceI_at (x : IVec S32 32) (n : Fin 32) (i : S_.Idx) : sliceI x (ctr n) i = x (ix1 n) := by
  unfold sliceI
  rw [start1_ctr]
  pointwise []
  exact congrArg x (congrArg ix1 (Fin.ext (sliceI_0 n)))

/-- Gate and up parts, read. -/
theorem mmT_at (x : FVec Ideal S49152x2048 .f32) (w : FVec Ideal S2048x1024 .f32) (r : Fin 49152) (j : Fin 1024) :
    mmT x w (ix2 r j) = ∑ d, x (ix2 r d) * w (ix2 d j) := by
  pointwise [mmT]

/-- The gate, read. -/
theorem gateT_at (y : FVec Ideal S49152x1024 .f32) (b : FVec Ideal S512 .f32) (r : Fin 49152) (j : Fin 512) :
    gateT y b (ix2 r j) = min (y (ix2 r (even j)) + b (ix1 j)) (Ideal.ofBits .f32 0x40E00000#32) := by
  pointwise [gateT]
  rfl

/-- The up part, read. -/
theorem upT_at (y : FVec Ideal S49152x1024 .f32) (b : FVec Ideal S512 .f32) (r : Fin 49152) (j : Fin 512) :
    upT y b (ix2 r j) = min (Ideal.ofBits .f32 0x40E00000#32) (max (Ideal.ofBits .f32 0xC0E00000#32) (y (ix2 r (odd j)) + b (ix1 j))) := by
  pointwise [upT]
  have h : (⟨1 + 2 * (j : ℕ), by omega⟩ : Fin 1024) = odd j := Fin.ext (Nat.add_comm 1 _)
  rw [h]
  rfl

/-- The activation, read. -/
theorem actT_at (u g : FVec Ideal S49152x512 .f32) (r : Fin 49152) (j : Fin 512) :
    actT u g (ix2 r j) = (u (ix2 r j) + 1) * g (ix2 r j) * Ideal.div 1 (1 + Ideal.exp (-(g (ix2 r j) * Ideal.ofBits .f32 0x3FD9DB23#32))) := by
  pointwise [actT]

/-- The expert's output, read. -/
theorem outT_at (a : FVec Ideal S49152x512 .f32) (d : FVec Ideal S512x2048 .f32) (b : FVec Ideal S2048 .f32) (r : Fin 49152) (n : Fin 2048) :
    outT a d b (ix2 r n) = (∑ j, a (ix2 r j) * d (ix2 j n)) + b (ix1 n) := by
  pointwise [outT]

/-- The rows, read. -/
theorem putT_at (O : FVec Ideal S49152x2048 .f32) (q : IVec S49152 32) (e : IVec S_ 32) (y : FVec Ideal S49152x2048 .f32) (r : Fin 49152) (n : Fin 2048) :
    putT O q e y (ix2 r n) = O (ix2 r n) + if q (ix1 r) = e ix0 then y (ix2 r n) else 0 := by
  pointwise [putT]
  have h0 : (id (constant S_ .f32 0x00000000#32) : FVec Ideal S_ .f32) ix0 = 0 := by
    show Ideal.ofBits .f32 0x00000000#32 = 0
    simp
  rw [h0, WordCmp.cmpi_eq_eq]
  refine congrArg (O (ix2 r n) + ·) ?_
  by_cases hq : q (ix1 r) = e ix0
  · rw [if_pos hq]
    simp [hq, Scalar.select]
  · rw [if_neg hq]
    simp [hq, Scalar.select]

end Cert.Reference2Ideal.Exp

end
-- ==== Proof.Ref2Loop.lean ====
/-
  The reference's loop over experts: after `k` trips the rows routed to the first `k` experts hold their expert's output, the others
  are zero; and the reference's two results.
-/
module

public import proofs.«01_k».proof.Proof.Ref2Entry
public import proofs.«01_k».proof.Proof.Ref2Trip

@[expose] public section

set_option maxRecDepth 16384

noncomputable section

namespace Cert.Reference2Ideal.Exp

open Cert.Reference2Ideal Cert.Reference2Ideal.Gen Cert.Reference2Ideal.Value
open Idealize.ShloMosaic Idealize.ShloMosaic.TcCoe Idealize.ShloMosaic.Tactic Idealize.SL.Sem Idealize.ShloMosaic.StableHlo
open Cert.Exp

variable (te fl : IVec ⟨1, ![96]⟩ 32) (lo hi : FVec Ideal ⟨3, ![49152, 8, 128]⟩ .bf16) (W : FVec Ideal ⟨4, ![4, 32, 2048, 1024]⟩ .f32)
  (bg bu : FVec Ideal ⟨4, ![4, 32, 1, 512]⟩ .f32) (D : FVec Ideal ⟨4, ![4, 32, 512, 2048]⟩ .f32) (bd : FVec Ideal ⟨4, ![4, 32, 1, 2048]⟩ .f32)

open Classical in
/-- A row after `k` trips: done where its expert is among the first `k`. -/
def upTo (k : ℕ) (r : Fin 49152) (n : Fin 2048) : EReal :=
  if On fl ((r : ℕ) / 512) ∧ (word te ((r : ℕ) / 512)).toNat < k then
    rowExpert lo hi W bg bu D bd ⟨(word te ((r : ℕ) / 512)).toNat % 32, by omega⟩ r n
  else 0

/-- What holds of the carried arrays after `k` trips. -/
structure Inv (k : ℕ) (V : Valuation τ sig (Elt Ideal)) : Prop where
  a0 : V (Proc.devRef .tc main_v23_0) = (iotaInDim S32 32 0 : IVec S32 32)
  a1 : V (Proc.devRef .tc main_v23_1) = wT W
  a2 : V (Proc.devRef .tc main_v23_2) = bT bg
  a3 : V (Proc.devRef .tc main_v23_3) = bT bu
  a4 : V (Proc.devRef .tc main_v23_4) = dT D
  a5 : V (Proc.devRef .tc main_v23_5) = eT bd
  a6 : V (Proc.devRef .tc main_v23_6) = xT lo hi
  a7 : V (Proc.devRef .tc main_v23_7) = qT te fl
  ctr : V (Proc.devRef .tc main_v23_8) = fun _ => BitVec.ofNat 32 k
  out : ∀ (r : Fin 49152) (n : Fin 2048), (V (Proc.devRef .tc main_v23_9) : FVec Ideal S49152x2048 .f32) (ix2 r n) = upTo te fl lo hi W bg bu D bd k r n

variable {te fl lo hi W bg bu D bd} {V : Valuation τ sig (Elt Ideal)}

/-- An expert's output over all rows, of the carried arrays. -/
def expT (lo hi : FVec Ideal ⟨3, ![49152, 8, 128]⟩ .bf16) (W : FVec Ideal ⟨4, ![4, 32, 2048, 1024]⟩ .f32)
    (bg bu : FVec Ideal ⟨4, ![4, 32, 1, 512]⟩ .f32) (D : FVec Ideal ⟨4, ![4, 32, 512, 2048]⟩ .f32) (bd : FVec Ideal ⟨4, ![4, 32, 1, 2048]⟩ .f32) (k : Vec Ideal S_ .i32) :
    FVec Ideal S49152x2048 .f32 :=
  outT (actT (upT (mmT (xT lo hi) (sliceW (wT W) k)) (sliceB (bT bu) k)) (gateT (mmT (xT lo hi) (sliceW (wT W) k)) (sliceB (bT bg) k))) (sliceD (dT D) k) (sliceE (eT bd) k)

/-- It is the expert of each row. -/
theorem expT_at (e : Fin 32) (r : Fin 49152) (n : Fin 2048) : expT lo hi W bg bu D bd (ctr e) (ix2 r n) = rowExpert lo hi W bg bu D bd e r n := by
  unfold expT
  rw [outT_at]
  simp only [actT_at, upT_at, gateT_at, mmT_at, sliceW_at, sliceB_at, sliceD_at, sliceE_at, xT_at, wT_at, bT_at, dT_at, eT_at]
  rfl

/-- A trip's rows, of the carried arrays. -/
theorem step_9_eq (e : Fin 32) (I : Inv te fl lo hi W bg bu D bd (e : ℕ) V) :
    (step_main_v23_9 V : FVec Ideal S49152x2048 .f32)
      = putT (V (Proc.devRef .tc main_v23_9)) (qT te fl) (sliceI (iotaInDim S32 32 0) (ctr e)) (expT lo hi W bg bu D bd (ctr e)) := by
  unfold step_main_v23_9 res_main_while0b_v42 res_main_while0b_v36
  rw [I.a0, I.a1, I.a2, I.a3, I.a4, I.a5, I.a6, I.a7, I.ctr]
  rfl

/-- The counter after a trip. -/
theorem step_8_eq (e : Fin 32) (I : Inv te fl lo hi W bg bu D bd (e : ℕ) V) :
    (step_main_v23_8 V : Vec Ideal S_ .i32) = fun _ => BitVec.ofNat 32 ((e : ℕ) + 1) := by
  unfold step_main_v23_8
  rw [I.ctr]
  funext i
  show BitVec.ofNat 32 (e : ℕ) + 1#32 = BitVec.ofNat 32 ((e : ℕ) + 1)
  rw [BitVec.ofNat_add]

/-- A word is a small number exactly when its natural is. -/
theorem word_iff (x : BitVec 32) (e : Fin 32) : x = BitVec.ofNat 32 (e : ℕ) ↔ x.toNat = (e : ℕ) := by
  have he : (BitVec.ofNat 32 (e : ℕ)).toNat = (e : ℕ) := by
    rw [BitVec.toNat_ofNat]
    exact Nat.mod_eq_of_lt (by omega)
  exact ⟨fun h => by rw [h, he], fun h => BitVec.eq_of_toNat_eq (h.trans he.symm)⟩

/-- One trip adds its expert to the rows routed to it. -/
theorem upTo_succ (e : Fin 32) (r : Fin 49152) (n : Fin 2048) :
    upTo te fl lo hi W bg bu D bd ((e : ℕ) + 1) r n
      = upTo te fl lo hi W bg bu D bd (e : ℕ) r n + if qT te fl (ix1 r) = BitVec.ofNat 32 (e : ℕ) then rowExpert lo hi W bg bu D bd e r n else 0 := by
  unfold upTo
  rw [qT_at]
  by_cases hOn : On fl ((r : ℕ) / 512)
  · rw [if_pos hOn]
    have hw := word_iff (word te ((r : ℕ) / 512)) e
    rcases Nat.lt_trichotomy (word te ((r : ℕ) / 512)).toNat (e : ℕ) with h | h | h
    · rw [if_pos ⟨hOn, by omega⟩, if_pos ⟨hOn, h⟩, if_neg (fun q => by have := hw.mp q; omega), add_zero]
    · rw [if_pos ⟨hOn, by omega⟩, if_neg (fun q => by have := q.2; omega), if_pos (hw.mpr h), zero_add]
      have he : (⟨(word te ((r : ℕ) / 512)).toNat % 32, by omega⟩ : Fin 32) = e := Fin.ext (by show (word te ((r : ℕ) / 512)).toNat % 32 = _; omega)
      rw [he]
    · rw [if_neg (fun q => by have := q.2; omega), if_neg (fun q => by have := q.2; omega), if_neg (fun q => by have := hw.mp q; omega), add_zero]
  · have h32 : (32#32 : BitVec 32) ≠ BitVec.ofNat 32 (e : ℕ) := fun q => by
      have := (word_iff 32#32 e).mp q
      have h2 : (32#32 : BitVec 32).toNat = 32 := rfl
      omega
    rw [if_neg hOn, if_neg (fun q => hOn q.1), if_neg (fun q => hOn q.1), if_neg h32, add_zero]

/-- One trip keeps the invariant. -/
theorem Inv.step (e : Fin 32) (I : Inv te fl lo hi W bg bu D bd (e : ℕ) V) : Inv te fl lo hi W bg bu D bd ((e : ℕ) + 1) (STEP V) where
  a0 := (STEP_main_v23_0 V).trans I.a0
  a1 := (STEP_main_v23_1 V).trans I.a1
  a2 := (STEP_main_v23_2 V).trans I.a2
  a3 := (STEP_main_v23_3 V).trans I.a3
  a4 := (STEP_main_v23_4 V).trans I.a4
  a5 := (STEP_main_v23_5 V).trans I.a5
  a6 := (STEP_main_v23_6 V).trans I.a6
  a7 := (STEP_main_v23_7 V).trans I.a7
  ctr := (STEP_main_v23_8 V).trans (step_8_eq e I)
  out r n := by
    refine (congrFun ((STEP_main_v23_9 V).trans (step_9_eq e I)) _).trans ((putT_at _ _ _ _ r n).trans ?_)
    rw [I.out, sliceI_at, iota_at, expT_at, upTo_succ]

variable (m : (l : Loc nD τ sig) → Buf (Elt Ideal) l)

/-- The invariant at the loop's entry. -/
theorem inv_zero (c : Dev nD) : Inv (aT m c) (aF m c) (aLo m c) (aHi m c) (aW m c) (aG m c) (aU m c) (aD m c) (aB m c) 0 (E0 m c) where
  a0 := entry_0 m c
  a1 := entry_1 m c
  a2 := entry_2 m c
  a3 := entry_3 m c
  a4 := entry_4 m c
  a5 := entry_5 m c
  a6 := entry_6 m c
  a7 := entry_7 m c
  ctr := ctr_entry m c
  out r n := by
    refine (congrFun (entry_9 m c) _).trans ((zT_at r n).trans ?_)
    unfold upTo
    rw [if_neg (fun q => Nat.not_lt_zero _ q.2)]

/-- The invariant after `k` trips. -/
theorem inv_iter (c : Dev nD) : ∀ k, k ≤ 32 →
    Inv (aT m c) (aF m c) (aLo m c) (aHi m c) (aW m c) (aG m c) (aU m c) (aD m c) (aB m c) k (STEP^[k] (E0 m c))
  | 0, _ => inv_zero m c
  | k + 1, hk => by
    rw [Function.iterate_succ_apply']
    exact Inv.step ⟨k, hk⟩ (inv_iter c k (Nat.le_of_succ_le hk))

/-- After all trips the rows are the result, for experts in range. -/
theorem upTo_all (hP : Planned te fl) (r : Fin 49152) (n : Fin 2048) :
    upTo te fl lo hi W bg bu D bd 32 r n = result te fl lo hi W bg bu D bd r n := by
  have h := hP.range ((r : ℕ) / 512) (by omega)
  unfold upTo result
  by_cases hOn : On fl ((r : ℕ) / 512)
  · rw [if_pos ⟨hOn, h⟩, if_pos hOn]
  · rw [if_neg (fun q => hOn q.1), if_neg hOn]

/-- The low halves of the rows. -/
def loT (O : FVec Ideal S49152x2048 .f32) : FVec Ideal S49152x8x128 .bf16 :=
  truncf .bf16 (shapeCast _ (extractStridedSlice S49152x1024 ![0, 0] O slices_S49152x2048_S49152x1024_0_0) shapeCasts_S49152x1024_S49152x8x128) bitsLt_bf16_f32
/-- The high halves of the rows. -/
def hiT (O : FVec Ideal S49152x2048 .f32) : FVec Ideal S49152x8x128 .bf16 :=
  truncf .bf16 (shapeCast _ (extractStridedSlice S49152x1024 ![0, 1024] O slices_S49152x2048_S49152x1024_0_1024) shapeCasts_S49152x1024_S49152x8x128) bitsLt_bf16_f32

/-- The low halves, read. -/
theorem loT_at (O : FVec Ideal S49152x2048 .f32) (r : Fin 49152) (s : Fin 8) (l : Fin 128) : loT O (ix3 r s l) = O (ix2 r (loCol s l)) := by
  pointwise [loT]
  exact congrArg (fun k => O (ix2 r k)) (Fin.ext (congrArg (· + (l : ℕ)) (Nat.mul_comm (s : ℕ) 128)))
/-- The high halves, read. -/
theorem hiT_at (O : FVec Ideal S49152x2048 .f32) (r : Fin 49152) (s : Fin 8) (l : Fin 128) : hiT O (ix3 r s l) = O (ix2 r (hiCol s l)) := by
  pointwise [hiT]
  exact congrArg (fun k => O (ix2 r k)) (Fin.ext (congrArg (fun x => 1024 + (x + (l : ℕ))) (Nat.mul_comm (s : ℕ) 128)))

/-- THE REFERENCE'S LOW HALVES. -/
theorem finalLo (c : Dev nD) (hP : Planned (aT m c) (aF m c)) : (out_main_v26 (STEP^[32] (E0 m c)) : FVec Ideal S49152x8x128 .bf16)
    = fun i : S49152x8x128.Idx => result (aT m c) (aF m c) (aLo m c) (aHi m c) (aW m c) (aG m c) (aU m c) (aD m c) (aB m c) (i 0) (loCol (i 1) (i 2)) := by
  have I := inv_iter m c 32 le_rfl
  funext i
  rw [show i = ix3 (i 0) (i 1) (i 2) from by funext j; fin_cases j <;> rfl]
  exact (loT_at _ (i 0) (i 1) (i 2)).trans ((I.out _ _).trans (upTo_all hP _ _))

/-- THE REFERENCE'S HIGH HALVES. -/
theorem finalHi (c : Dev nD) (hP : Planned (aT m c) (aF m c)) : (out_main_v29 (STEP^[32] (E0 m c)) : FVec Ideal S49152x8x128 .bf16)
    = fun i : S49152x8x128.Idx => result (aT m c) (aF m c) (aLo m c) (aHi m c) (aW m c) (aG m c) (aU m c) (aD m c) (aB m c) (i 0) (hiCol (i 1) (i 2)) := by
  have I := inv_iter m c 32 le_rfl
  funext i
  rw [show i = ix3 (i 0) (i 1) (i 2) from by funext j; fin_cases j <;> rfl]
  exact (hiT_at _ (i 0) (i 1) (i 2)).trans ((I.out _ _).trans (upTo_all hP _ _))

end Cert.Reference2Ideal.Exp

end
-- ==== Proof.Experts.lean ====
/-
  The claims of the experts: the kernel and the reference run, and end with the same two results, for a plan the kernel can follow.
-/
module

public import proofs.«01_k».proof.Defs
public import proofs.«01_k».proof.Proof.ExpFinal
public import proofs.«01_k».proof.Proof.Bits.ExpFrame
public import proofs.«01_k».proof.Proof.Ref2Loop
public import proofs.«01_k».proof.Proof.Gen.Pre_planned
public import Idealize.ShloMosaic.Lib.Quiescent

@[expose] public section

set_option maxRecDepth 16384

noncomputable section

namespace Cert.Proof.Experts

open Idealize.ShloMosaic Idealize.SL.Sem
open Cert.Exp

/-- The plan of the kernel's arguments. -/
theorem planK (m : (ℓ : Loc Cert.Kernel2.nD Cert.Kernel2.τ Cert.Kernel2.sig) → Buf (Elt Bits) ℓ)
    (h : Cert.Pre_Kernel2 (hPre_planned := Cert.Pre_planned.Gen.facts) m) : Planned (Cert.Kernel2.Exp.tabE m) (Cert.Kernel2.Exp.tabF m) :=
  haveI := Cert.Pre_planned.Gen.facts
  planned_of _ _ _ _ _ _ _ _ _ (h 0)

/-- The plan of the arguments at exact arithmetic. -/
theorem planKI (m : (ℓ : Loc Cert.Kernel2Ideal.nD Cert.Kernel2Ideal.τ Cert.Kernel2Ideal.sig) → Buf (Elt Ideal) ℓ)
    (h : Cert.Pre_Kernel2Ideal (hPre_planned := Cert.Pre_planned.Gen.facts) m) : Planned (Cert.Kernel2Ideal.Exp.tabE m) (Cert.Kernel2Ideal.Exp.tabF m) :=
  haveI := Cert.Pre_planned.Gen.facts
  planned_of _ _ _ _ _ _ _ _ _ (h 0)

/-- The kernel runs from every memory whose plan it can follow. -/
theorem frameK : Cert.quiescent_Kernel2 (hKernel2 := Cert.Kernel2.Gen.facts) (hPre_planned := Cert.Pre_planned.Gen.facts) :=
  fun m ρ h => Cert.Kernel2.Exp.frame m ρ (planK m h)

/-- So does the kernel at exact arithmetic. -/
theorem frameKI : Cert.quiescent_Kernel2Ideal (hKernel2Ideal := Cert.Kernel2Ideal.Gen.facts) (hPre_planned := Cert.Pre_planned.Gen.facts) :=
  fun m ρ h => Cert.Kernel2Ideal.Exp.frame m ρ (planKI m h)

/-- The reference at exact arithmetic runs from every memory. -/
theorem frameRI : Cert.quiescent_Reference2Ideal (hReference2Ideal := Cert.Reference2Ideal.Gen.facts) :=
  fun m ρ _ => (θ_run Cert.Reference2Ideal.defs _ _).mono
    (fun r h => ⟨fun c => (h c).2.2, Idealize.ShloMosaic.sem_eq_zero_of_no_sems (by decide) r.2⟩) (Cert.Reference2Ideal.Value.run (F := Ideal) m ρ)

/-- … so also where the plan can be followed. -/
theorem frameRIplanned : Cert.quiescent_Reference2Ideal_pre_planned (hReference2Ideal := Cert.Reference2Ideal.Gen.facts) (hPre_planned := Cert.Pre_planned.Gen.facts) :=
  fun m ρ _ => frameRI m ρ trivial

/-- The kernel at exact arithmetic: its two results and its arguments after the run. -/
theorem runKI (m : (ℓ : Loc Cert.Kernel2Ideal.nD Cert.Kernel2Ideal.τ Cert.Kernel2Ideal.sig) → Buf (Elt Ideal) ℓ) (ρ : Dev Cert.Kernel2Ideal.nD → PrngReg)
    (hP : Planned (Cert.Kernel2Ideal.Exp.tabE m) (Cert.Kernel2Ideal.Exp.tabF m)) :
    θ_run (Cert.Kernel2Ideal.defs (F := Ideal)) (onTc (τ := Cert.Kernel2Ideal.τ) (Cert.Kernel2Ideal.main (F := Ideal))) ⟨m, fun _ => 0, ρ⟩
      (fun r => ∀ c : Dev Cert.Kernel2Ideal.nD,
        r.2.mem ((c.tc : Thread Cert.Kernel2Ideal.nD Cert.Kernel2Ideal.τ).loc Cert.Kernel2Ideal.main_v0_0) = Cert.Kernel2Ideal.Exp.arrayLo m c
        ∧ r.2.mem ((c.tc : Thread Cert.Kernel2Ideal.nD Cert.Kernel2Ideal.τ).loc Cert.Kernel2Ideal.main_v0_1) = Cert.Kernel2Ideal.Exp.arrayHi m c) :=
  (θ_run Cert.Kernel2Ideal.defs _ _).mono
    (fun _ h c => ⟨((h c).1 7).trans (Cert.Kernel2Ideal.Exp.finalLo m hP _ c), ((h c).1 8).trans (Cert.Kernel2Ideal.Exp.finalHi m hP _ c)⟩)
    (Cert.Kernel2Ideal.Exp.run_main m ρ hP (Cert.Kernel2Ideal.Exp.ok_of m hP))

/-- THE VALUE CLAIM: the kernel and the reference end with the same two results. -/
theorem value : Cert.algebraic_Kernel2Ideal_Reference2Ideal (hKernel2Ideal := Cert.Kernel2Ideal.Gen.facts)
    (hReference2Ideal := Cert.Reference2Ideal.Gen.facts) (hPre_planned := Cert.Pre_planned.Gen.facts) := by
  intro m ρ m' ρ' hpre hagree
  have hP := planKI m hpre
  refine ⟨Cert.Kernel2Ideal.Exp.arrayLo m, Cert.Kernel2Ideal.Exp.arrayHi m,
    (θ_run Cert.Kernel2Ideal.defs _ _).mono (fun _ h c => ⟨(h.1 c).1, (h.1 c).2, h.2.1 c⟩)
      (θ_run_and (runKI m ρ hP) (Cert.Kernel2Ideal.Exp.frame m ρ hP)), ?_⟩
  refine (θ_run Cert.Reference2Ideal.defs _ _).mono (fun _ h c => ⟨(h c).1.trans ?_, (h c).2.1.trans ?_, (h c).2.2⟩) (Cert.Reference2Ideal.Value.run (F := Ideal) m' ρ')
  all_goals
    obtain rfl : c = 0 := Subsingleton.elim _ _
    obtain ⟨h0, h1, h2, h3, h4, h5, h6, h7, h8⟩ := hagree 0
    have hP' : Planned (Cert.Reference2Ideal.Exp.aT m' 0) (Cert.Reference2Ideal.Exp.aF m' 0) := by
      unfold Cert.Reference2Ideal.Exp.aT Cert.Reference2Ideal.Exp.aF
      rw [h0, h1]
      exact hP
  · refine (Cert.Reference2Ideal.Exp.finalLo m' 0 hP').trans ?_
    unfold Cert.Reference2Ideal.Exp.aT Cert.Reference2Ideal.Exp.aF Cert.Reference2Ideal.Exp.aLo Cert.Reference2Ideal.Exp.aHi Cert.Reference2Ideal.Exp.aW
      Cert.Reference2Ideal.Exp.aG Cert.Reference2Ideal.Exp.aU Cert.Reference2Ideal.Exp.aD Cert.Reference2Ideal.Exp.aB
    rw [h0, h1, h2, h3, h4, h5, h6, h7, h8]
    rfl
  · refine (Cert.Reference2Ideal.Exp.finalHi m' 0 hP').trans ?_
    unfold Cert.Reference2Ideal.Exp.aT Cert.Reference2Ideal.Exp.aF Cert.Reference2Ideal.Exp.aLo Cert.Reference2Ideal.Exp.aHi Cert.Reference2Ideal.Exp.aW
      Cert.Reference2Ideal.Exp.aG Cert.Reference2Ideal.Exp.aU Cert.Reference2Ideal.Exp.aD Cert.Reference2Ideal.Exp.aB
    rw [h0, h1, h2, h3, h4, h5, h6, h7, h8]
    rfl

end Cert.Proof.Experts

end
-- ==== Proof.InpSpec.lean ====
/-
  The input projection in extended reals: a token's row over the root of its mean square, weighted, scaled and shifted, times a
  column of the weights: the function both the kernel and the reference are shown to compute. No program appears in this module.
-/
module

public import Idealize.ShloMosaic.Lib.Pointwise

@[expose] public section

set_option maxRecDepth 16384

noncomputable section

namespace Cert.Inp

open Idealize.ShloMosaic

/-- A row over the root of its mean square, weighted, scaled and shifted. -/
def hrow (x w sc sh : Fin 2048 → EReal) (k : Fin 2048) : EReal :=
  x k * Ideal.rsqrt (Ideal.div (∑ j, x j * x j) (Ideal.ofBits .f32 0x45000000#32) + Ideal.ofBits .f32 0x3727C5AC#32) * w k * (1 + sc k) + sh k

/-- Row `i` of the tokens, by the shift and scale of batch row `b`. -/
def hAt (X : FVec Ideal ⟨2, ![8192, 2048]⟩ .f32) (M : FVec Ideal ⟨3, ![2, 6, 2048]⟩ .f32) (N : FVec Ideal ⟨2, ![1, 2048]⟩ .f32)
    (i : Fin 8192) (b : Fin 2) (k : Fin 2048) : EReal :=
  hrow (fun k => X (ix2 i k)) (fun k => N (ix2 0 k)) (fun k => M (ix3 b 1 k)) (fun k => M (ix3 b 0 k)) k

/-- The projection of row `i` on column `j`. -/
def result (X : FVec Ideal ⟨2, ![8192, 2048]⟩ .f32) (M : FVec Ideal ⟨3, ![2, 6, 2048]⟩ .f32) (N : FVec Ideal ⟨2, ![1, 2048]⟩ .f32)
    (W : FVec Ideal ⟨2, ![2048, 6144]⟩ .bf16) (i : Fin 8192) (j : Fin 6144) : EReal :=
  ∑ k, hAt X M N i ⟨(i : ℕ) / 4096, by omega⟩ k * W (ix2 k j)

end Cert.Inp

end
-- ==== Proof.InpPoint.lean ====
/-
  One grid point of the input projection: the rows it leaves in the scratch when it starts a block of rows, and its result block,
  as functions of Proof/InpSpec.lean.
-/
module

public import proofs.«01_k».proof.Proof.InpSpec
public import proofs.«01_k».proof.Proof.Gen.Kernel3Ideal.Value
public import Idealize.ShloMosaic.Lib.Pipeline.ValueKit
public import Idealize.ShloMosaic.Lib.Pipeline.ReadBack
public import Idealize.ShloMosaic.Lib.Pointwise
public import Idealize.ShloMosaic.Lib.VecWindow

@[expose] public section

set_option maxRecDepth 16384

noncomputable section

namespace Cert.Kernel3Ideal.Inp

open Cert.Kernel3Ideal Cert.Kernel3Ideal.Gen Idealize.ShloMosaic Idealize.ShloMosaic.TcCoe Idealize.SL.Sem
open Cert.Inp

/-- A product of a point, read. -/
theorem pay1_at (h : Vec Ideal S1024x2048 .bf16) (w : Vec Ideal S2048x1024 .bf16) (r j : Fin 1024) :
    k0_pay1 (F := Ideal) h w (ix2 r j) = ∑ k : Fin 2048, h (ix2 r k) * w (ix2 k j) := by
  pointwise [k0_pay1]

variable (v : Vec Ideal S256x2048 .f32) (n : Vec Ideal S1x2048 .f32) (sc sh : Vec Ideal S1x1x2048 .f32) (r : Fin 256) (k : Fin 2048)

/-- The first 256 rows' norm, scale and shift, read. -/
theorem pay2_at : k0_pay2 (F := Ideal) v n sc sh (ix2 r k)
    = hrow (fun k => v (ix2 r k)) (fun k => n (ix2 0 k)) (fun k => sc (ix3 0 0 k)) (fun k => sh (ix3 0 0 k)) k := by
  pointwise [k0_pay2]
  rfl

/-- The same of the second 256 rows. -/
theorem pay4_at : k0_pay4 (F := Ideal) v n (k0_pay3 sc) sh (ix2 r k)
    = hrow (fun k => v (ix2 r k)) (fun k => n (ix2 0 k)) (fun k => sc (ix3 0 0 k)) (fun k => sh (ix3 0 0 k)) k := by
  pointwise [k0_pay4, k0_pay3]
  rfl

/-- The same of the third 256 rows. -/
theorem pay9_at : k0_pay9 (F := Ideal) (k0_pay5 sc) (k0_pay6 sh) (k0_pay7 v) (k0_pay8 n) (ix2 r k)
    = hrow (fun k => v (ix2 r k)) (fun k => n (ix2 0 k)) (fun k => sc (ix3 0 0 k)) (fun k => sh (ix3 0 0 k)) k := by
  pointwise [k0_pay9, k0_pay5, k0_pay6, k0_pay7, k0_pay8]
  rfl

/-- The same of the last 256 rows. -/
theorem pay10_at : k0_pay10 (F := Ideal) v n sc sh (ix2 r k)
    = hrow (fun k => v (ix2 r k)) (fun k => n (ix2 0 k)) (fun k => sc (ix3 0 0 k)) (fun k => sh (ix3 0 0 k)) k := by
  pointwise [k0_pay10]
  rfl

/-- A row of a point's input blocks after the norm, the scale and the shift. -/
def blkH (x0 : Vec Ideal S1024x2048 .f32) (x1 : Vec Ideal S1x6x2048 .f32) (x2 : Vec Ideal S1x2048 .f32) (r : Fin 1024) (k : Fin 2048) : EReal :=
  hrow (fun k => x0 (ix2 r k)) (fun k => x2 (ix2 0 k)) (fun k => x1 (ix3 0 1 k)) (fun k => x1 (ix3 0 0 k)) k

variable (x0 : Vec Ideal S1024x2048 .f32) (x1 : Vec Ideal S1x6x2048 .f32) (x2 : Vec Ideal S1x2048 .f32) (x3 : Vec Ideal S2048x1024 .bf16)

/-- What a point that starts a block of rows stores into the scratch: four times 256 rows. -/
def rowsL : List (View.Piece (Elt Ideal) S1024x2048 .bf16) :=
  [⟨Rect.unit ![768, 0] ![256, 2048] inb_S1024x2048_S256x2048_768_0,
            k0_pay10 (View.ld x0 (Rect.unit ![768, 0] ![256, 2048] inb_S1024x2048_S256x2048_768_0)) x2
              (View.ld x1 (Rect.unit ![0, 1, 0] ![1, 1, 2048] inb_S1x6x2048_S1x1x2048_0_1_0))
              (View.ld x1 (Rect.unit ![0, 0, 0] ![1, 1, 2048] inb_S1x6x2048_S1x1x2048_0_0_0))⟩,
          ⟨Rect.unit ![512, 0] ![256, 2048] inb_S1024x2048_S256x2048_512_0,
            k0_pay9 (k0_pay5 (View.ld x1 (Rect.unit ![0, 1, 0] ![1, 1, 2048] inb_S1x6x2048_S1x1x2048_0_1_0)))
              (k0_pay6 (View.ld x1 (Rect.unit ![0, 0, 0] ![1, 1, 2048] inb_S1x6x2048_S1x1x2048_0_0_0)))
              (k0_pay7 (View.ld x0 (Rect.unit ![512, 0] ![256, 2048] inb_S1024x2048_S256x2048_512_0))) (k0_pay8 x2)⟩,
          ⟨Rect.unit ![256, 0] ![256, 2048] inb_S1024x2048_S256x2048_256_0,
            k0_pay4 (View.ld x0 (Rect.unit ![256, 0] ![256, 2048] inb_S1024x2048_S256x2048_256_0)) x2
              (k0_pay3 (View.ld x1 (Rect.unit ![0, 1, 0] ![1, 1, 2048] inb_S1x6x2048_S1x1x2048_0_1_0)))
              (View.ld x1 (Rect.unit ![0, 0, 0] ![1, 1, 2048] inb_S1x6x2048_S1x1x2048_0_0_0))⟩,
          ⟨Rect.unit ![0, 0] ![256, 2048] inb_S1024x2048_S256x2048_0_0,
            k0_pay2 (View.ld x0 (Rect.unit ![0, 0] ![256, 2048] inb_S1024x2048_S256x2048_0_0)) x2
              (View.ld x1 (Rect.unit ![0, 1, 0] ![1, 1, 2048] inb_S1x6x2048_S1x1x2048_0_1_0))
              (View.ld x1 (Rect.unit ![0, 0, 0] ![1, 1, 2048] inb_S1x6x2048_S1x1x2048_0_0_0))⟩]

/-- The four stores, read: every row of the block after the norm, the scale and the shift. -/
theorem rows_at (r : Fin 1024) (k : Fin 2048) : View.canon (rowsL x0 x1 x2) (ix2 r k) = blkH x0 x1 x2 r k := by
  unfold rowsL
  canon_tiles y h
  all_goals idx_vars y
  all_goals obtain rfl : k = y1 := Fin.ext h1
  · rw [pay10_at]
    unfold blkH
    congr 1 <;> funext k' <;> pointwise []
    exact congrArg x0 (congrArg (fun r => ix2 r k') (Fin.ext h0.symm))
  · rw [pay9_at]
    unfold blkH
    congr 1 <;> funext k' <;> pointwise []
    exact congrArg x0 (congrArg (fun r => ix2 r k') (Fin.ext h0.symm))
  · rw [pay4_at]
    unfold blkH
    congr 1 <;> funext k' <;> pointwise []
    exact congrArg x0 (congrArg (fun r => ix2 r k') (Fin.ext h0.symm))
  · rw [pay2_at]
    unfold blkH
    congr 1 <;> funext k' <;> pointwise []
    exact congrArg x0 (congrArg (fun r => ix2 r k') (Fin.ext h0.symm))

/-- A point that starts a block of rows: the rows it leaves in the scratch. -/
theorem sout_A (c : Dev nD) (i : grid0.Coords) (arg2 : Memref sig .tc .vmem S1024x2048 .f32) (harg2 : arg2.IsWhole) (arg3 : Memref sig .tc .vmem S1x6x2048 .f32) (harg3 : arg3.IsWhole) (arg4 : Memref sig .tc .vmem S1x2048 .f32) (harg4 : arg4.IsWhole) (arg5 : Memref sig .tc .vmem S2048x1024 .bf16) (harg5 : arg5.IsWhole) (arg6 : Memref sig .tc .vmem S1024x1024 .f32) (harg6 : arg6.IsWhole) (arg7 : Memref sig .tc .vmem S1024x2048 .bf16) (harg7 : arg7.IsWhole) (hc0 : cond0_0 i)
    (r : Fin 1024) (k : Fin 2048) :
    sout0_A_0 c i arg2 harg2 arg3 harg3 arg4 harg4 arg5 harg5 arg6 harg6 arg7 harg7 hc0 x0 x1 x2 x3 (ix2 r k) = blkH x0 x1 x2 r k := by
  frame_out
  exact rows_at x0 x1 x2 r k

/-- A point that starts a block of rows: its result block. -/
theorem out_A (c : Dev nD) (i : grid0.Coords) (arg2 : Memref sig .tc .vmem S1024x2048 .f32) (harg2 : arg2.IsWhole) (arg3 : Memref sig .tc .vmem S1x6x2048 .f32) (harg3 : arg3.IsWhole) (arg4 : Memref sig .tc .vmem S1x2048 .f32) (harg4 : arg4.IsWhole) (arg5 : Memref sig .tc .vmem S2048x1024 .bf16) (harg5 : arg5.IsWhole) (arg6 : Memref sig .tc .vmem S1024x1024 .f32) (harg6 : arg6.IsWhole) (arg7 : Memref sig .tc .vmem S1024x2048 .bf16) (harg7 : arg7.IsWhole) (hc0 : cond0_0 i)
    (r j : Fin 1024) :
    out0_A_4 c i arg2 harg2 arg3 harg3 arg4 harg4 arg5 harg5 arg6 harg6 arg7 harg7 hc0 x0 x1 x2 x3 (ix2 r j) = ∑ k, blkH x0 x1 x2 r k * x3 (ix2 k j) := by
  frame_out
  rw [View.readCov_eq_canon', pay1_at]
  refine Finset.sum_congr rfl fun k _ => ?_
  refine Ideal.mul_congr ?_ rfl
  refine Eq.trans ?_ (rows_at x0 x1 x2 r k)
  refine congrArg (View.canon (rowsL x0 x1 x2)) ?_
  exact Rect.emb_unit_full _ _

/-- A point that goes on with a block of rows: its result block. -/
theorem out_B (c : Dev nD) (i : grid0.Coords) (arg2 : Memref sig .tc .vmem S1024x2048 .f32) (harg2 : arg2.IsWhole) (arg3 : Memref sig .tc .vmem S1x6x2048 .f32) (harg3 : arg3.IsWhole) (arg4 : Memref sig .tc .vmem S1x2048 .f32) (harg4 : arg4.IsWhole) (arg5 : Memref sig .tc .vmem S2048x1024 .bf16) (harg5 : arg5.IsWhole) (arg6 : Memref sig .tc .vmem S1024x1024 .f32) (harg6 : arg6.IsWhole) (arg7 : Memref sig .tc .vmem S1024x2048 .bf16) (harg7 : arg7.IsWhole) (hc0 : ¬cond0_0 i)
    (xs0 : Vec Ideal S1024x2048 .bf16) (r j : Fin 1024) :
    out0_B_4 c i arg2 harg2 arg3 harg3 arg4 harg4 arg5 harg5 arg6 harg6 arg7 harg7 hc0 x0 x1 x2 x3 xs0 (ix2 r j) = ∑ k, xs0 (ix2 r k) * x3 (ix2 k j) := by
  frame_out
  exact pay1_at ..

/-- A point that goes on with a block of rows leaves the scratch as it was. -/
theorem sout_B (c : Dev nD) (i : grid0.Coords) (arg2 : Memref sig .tc .vmem S1024x2048 .f32) (harg2 : arg2.IsWhole) (arg3 : Memref sig .tc .vmem S1x6x2048 .f32) (harg3 : arg3.IsWhole) (arg4 : Memref sig .tc .vmem S1x2048 .f32) (harg4 : arg4.IsWhole) (arg5 : Memref sig .tc .vmem S2048x1024 .bf16) (harg5 : arg5.IsWhole) (arg6 : Memref sig .tc .vmem S1024x1024 .f32) (harg6 : arg6.IsWhole) (arg7 : Memref sig .tc .vmem S1024x2048 .bf16) (harg7 : arg7.IsWhole) (hc0 : ¬cond0_0 i)
    (xs0 : Vec Ideal S1024x2048 .bf16) :
    sout0_B_0 c i arg2 harg2 arg3 harg3 arg4 harg4 arg5 harg5 arg6 harg6 arg7 harg7 hc0 x0 x1 x2 x3 xs0 = xs0 := by
  rfl

end Cert.Kernel3Ideal.Inp

end
-- ==== Proof.InpFinal.lean ====
/-
  The input projection's result array: by induction over the grid, the scratch holds the rows of the current block of rows, and
  every point writes its block of the product, so the array is `Cert.Inp.result` of the four arguments.
-/
module

public import proofs.«01_k».proof.Proof.InpPoint

@[expose] public section

set_option maxRecDepth 16384

noncomputable section

namespace Cert.Kernel3Ideal.Inp

open Cert.Kernel3Ideal Cert.Kernel3Ideal.Gen Idealize.ShloMosaic Idealize.ShloMosaic.TcCoe Idealize.SL.Sem
open Idealize.ShloMosaic.Pipeline
open Cert.Inp

variable (m : (l : Loc nD τ sig) → Buf (Elt Ideal) l)

/-- The windows' block indices: point `t` takes row block `t / 6` and column block `t mod 6`. -/
theorem idx : ∀ t : Fin cfg0.N, win0_0.index t = ![t.val / 6, 0] ∧ win0_1.index t = ![t.val / 24, 0, 0] ∧ win0_2.index t = ![0, 0]
    ∧ win0_3.index t = ![0, t.val % 6] ∧ win0_4.index t = ![t.val / 6, t.val % 6] :=
  (by decide +kernel : ∀ t : Fin grid0.N, _)

/-- The tokens. -/
abbrev aX (c : Dev nD) : FVec Ideal ⟨2, ![8192, 2048]⟩ .f32 := m ((c : Thread nD τ).loc main_arg0)
/-- The shifts and scales. -/
abbrev aM (c : Dev nD) : FVec Ideal ⟨3, ![2, 6, 2048]⟩ .f32 := m ((c : Thread nD τ).loc main_arg1)
/-- The norm's weights. -/
abbrev aN (c : Dev nD) : FVec Ideal ⟨2, ![1, 2048]⟩ .f32 := m ((c : Thread nD τ).loc main_arg2)
/-- The projection's weights. -/
abbrev aW (c : Dev nD) : FVec Ideal ⟨2, ![2048, 6144]⟩ .bf16 := m ((c : Thread nD τ).loc main_arg3)

/-- Row `r` of the block of rows of point `n`. -/
def rowOf (n : ℕ) (hn : n < cfg0.N) (r : Fin 1024) : Fin 8192 :=
  ⟨n / 6 * 1024 + (r : ℕ), by have h : n < 48 := hn; omega⟩

/-- The rows of point `n` after the norm, the scale and the shift. -/
abbrev H (c : Dev nD) (n : ℕ) (hn : n < cfg0.N) (r : Fin 1024) (k : Fin 2048) : EReal :=
  hAt (aX m c) (aM m c) (aN m c) (rowOf n hn r) ⟨n / 24, by have h : n < 48 := hn; omega⟩ k

/-- The rows that a point's blocks give. -/
theorem blkH_eq (c : Dev nD) (t : Fin cfg0.N) (r : Fin 1024) (k : Fin 2048) :
    blkH (iblk m c 0 t) (iblk m c 1 t) (iblk m c 2 t) r k = H m c t.val t.isLt r k := by
  unfold blkH H hAt rowOf
  congr 1
  · funext k
    blk_ext [iblk, V, idx t]
  · funext k
    blk_ext [iblk, V, idx t]
  · funext k
    blk_ext [iblk, V, idx t]
  · funext k
    blk_ext [iblk, V, idx t]

/-- A point's block of the weights. -/
theorem blkW_eq (c : Dev nD) (t : Fin cfg0.N) (k : Fin 2048) (j : Fin 1024) :
    (iblk m c 3 t : Vec Ideal S2048x1024 .bf16) (ix2 k j) = aW m c (ix2 k ⟨t.val % 6 * 1024 + (j : ℕ), by omega⟩) := by
  blk_ext [iblk, V, idx t]

/-- Points of the same block of rows have the same rows. -/
theorem H_succ (c : Dev nD) (n : ℕ) (hn : n + 1 < cfg0.N) (h0 : ¬(n + 1) % 6 = 0) (r : Fin 1024) (k : Fin 2048) :
    H m c n (Nat.lt_of_succ_lt hn) r k = H m c (n + 1) hn r k := by
  have h1 : n / 6 = (n + 1) / 6 := by omega
  have h2 : n / 24 = (n + 1) / 24 := by omega
  unfold H rowOf
  simp only [h1, h2]

/-- What the scratch holds after point `n`: the rows of its block of rows. -/
theorem scr (c : Dev nD) : ∀ (n : ℕ) (hn : n < cfg0.N) (r : Fin 1024) (k : Fin 2048), (outsAt0 m c n hn).2 (ix2 r k) = H m c n hn r k := by
  have hA : ∀ (t : Fin cfg0.N), t.val % 6 = 0 → ∀ (r : Fin 1024) (k : Fin 2048), (outsAt0 m c t.val t.isLt).2 (ix2 r k) = H m c t.val t.isLt r k := by
    intro t h0 r k
    refine (congrFun (congrArg Prod.snd (outsAt0_A m c t h0)) (ix2 r k)).trans ?_
    dsimp only
    exact (sout_A ..).trans (blkH_eq m c t r k)
  intro n
  induction n with
  | zero => exact fun hn => hA ⟨0, hn⟩ rfl
  | succ n ih =>
    intro hn r k
    by_cases h0 : (n + 1) % 6 = 0
    · exact hA ⟨n + 1, hn⟩ h0 r k
    · refine (congrFun (congrArg Prod.snd (outsAt0_B m c ⟨n + 1, hn⟩ h0)) (ix2 r k)).trans ?_
      dsimp only
      refine (congrFun (sout_B ..) (ix2 r k)).trans ?_
      exact (ih (Nat.lt_of_succ_lt hn) r k).trans (H_succ m c n hn h0 r k)

/-- What point `t` writes: its block of the product. -/
theorem outs (c : Dev nD) (t : Fin cfg0.N) (r j : Fin 1024) :
    (outsAt0 m c t.val t.isLt).1 (ix2 r j) = ∑ k, H m c t.val t.isLt r k * aW m c (ix2 k ⟨t.val % 6 * 1024 + (j : ℕ), by omega⟩) := by
  by_cases h0 : t.val % 6 = 0
  · refine (congrFun (congrArg Prod.fst (outsAt0_A m c t h0)) (ix2 r j)).trans ?_
    dsimp only
    refine (out_A ..).trans (Finset.sum_congr rfl fun k _ => ?_)
    exact Ideal.mul_congr (blkH_eq m c t r k) (blkW_eq m c t k j)
  · refine (congrFun (congrArg Prod.fst (outsAt0_B m c t h0)) (ix2 r j)).trans ?_
    dsimp only
    refine (out_B ..).trans (Finset.sum_congr rfl fun k _ => ?_)
    refine Ideal.mul_congr ?_ (blkW_eq m c t k j)
    obtain ⟨n, hn⟩ := t
    cases n with
    | zero => exact absurd rfl h0
    | succ n => exact (scr m c n _ r k).trans (H_succ m c n hn h0 r k)

/-- The result at a point's block. -/
theorem result_at (c : Dev nD) (t : ℕ) (ht : t < cfg0.N) (r j : Fin 1024) (i : Fin 8192) (l : Fin 6144)
    (hi : (i : ℕ) = t / 6 * 1024 + (r : ℕ)) (hl : (l : ℕ) = t % 6 * 1024 + (j : ℕ)) :
    ∑ k, H m c t ht r k * aW m c (ix2 k ⟨t % 6 * 1024 + (j : ℕ), by omega⟩) = result (aX m c) (aM m c) (aN m c) (aW m c) i l := by
  have h1 : (i : ℕ) / 4096 = t / 24 := by omega
  obtain rfl : i = rowOf t ht r := Fin.ext hi
  have h2 : (⟨t % 6 * 1024 + (j : ℕ), by omega⟩ : Fin 6144) = l := Fin.ext hl.symm
  unfold result H
  simp only [h1, h2]

/-- THE ARRAY after the run. -/
theorem final (c : Dev nD) : (dats m 0 c).arrAt 4 cfg0.N = fun i : S8192x6144.Idx => result (aX m c) (aM m c) (aN m c) (aW m c) (i 0) (i 1) := by
  refine (dats m 0 c).arrAt_eq_of_covers 4 _ (by decide +kernel) fun t hf y => ?_
  blk_simp
  rw [after0_4]
  have hy : y = ix2 (y 0) (y 1) := by funext a; fin_cases a <;> rfl
  refine (congrArg (outsAt0 m c t.val t.isLt).1 hy).trans ((outs m c t (y 0) (y 1)).trans ?_)
  refine result_at m c t.val t.isLt (y 0) (y 1) _ _ ?_ ?_
  · blk_simp [idx t]
  · blk_simp [idx t]

end Cert.Kernel3Ideal.Inp

end
-- ==== Proof.InpRef.lean ====
/-
  The input projection's reference, read at an index, as the `result` of Proof/InpSpec.lean.
-/
module

public import proofs.«01_k».proof.Proof.InpSpec
public import proofs.«01_k».proof.Proof.Gen.Reference3Ideal.Run
public import Idealize.ShloMosaic.Lib.Pointwise

@[expose] public section

set_option maxRecDepth 16384

noncomputable section

namespace Cert.Reference3Ideal.Inp

open Cert.Reference3Ideal Cert.Reference3Ideal.Gen
open Idealize.ShloMosaic Idealize.ShloMosaic.TcCoe Idealize.SL.Sem
open Cert.Inp

/-- The tokens by batch row. -/
def xT (X : FVec Ideal S8192x2048 .f32) : FVec Ideal S2x4096x2048 .f32 := shapeCast _ X shapeCasts_S8192x2048_S2x4096x2048

/-- One over the root of each token's mean square. -/
def rT (x : FVec Ideal S2x4096x2048 .f32) : FVec Ideal S2x4096x1 .f32 :=
  Host.rsqrt (addf (Host.divf (broadcastInDim S2x4096x1 ![0, 1] bcast_S2x4096_S2x4096x1_0_1 (Host.reduceAdd (mulf x x) (constant S_ .f32 0x00000000#32) reducesTo_S2x4096x2048_S2x4096_d2 h_S_)) (broadcastInDim S2x4096x1 ![] bcast_S_S2x4096x1 (constant S_ .f32 0x45000000#32))) (broadcastInDim S2x4096x1 ![] bcast_S_S2x4096x1 (constant S_ .f32 0x3727C5AC#32)))

/-- The rows after the norm, the scale and the shift. -/
def hT (X : FVec Ideal S8192x2048 .f32) (M : FVec Ideal S2x6x2048 .f32) (N : FVec Ideal S1x2048 .f32) : FVec Ideal S2x4096x2048 .f32 :=
  addf (mulf (mulf (mulf (xT X) (broadcastInDim S2x4096x2048 ![0, 1, 2] bcast_S2x4096x1_S2x4096x2048_0_1_2 (rT (xT X)))) (broadcastInDim S2x4096x2048 ![0, 1, 2] bcast_S1x1x2048_S2x4096x2048_0_1_2 (broadcastInDim S1x1x2048 ![2] bcast_S2048_S1x1x2048_2 (shapeCast _ N shapeCasts_S1x2048_S2048)))) (broadcastInDim S2x4096x2048 ![0, 1, 2] bcast_S2x1x2048_S2x4096x2048_0_1_2 (addf (broadcastInDim S2x1x2048 ![] bcast_S_S2x1x2048 (constant S_ .f32 0x3F800000#32)) (extractStridedSlice S2x1x2048 ![0, 1, 0] M slices_S2x6x2048_S2x1x2048_0_1_0)))) (broadcastInDim S2x4096x2048 ![0, 1, 2] bcast_S2x1x2048_S2x4096x2048_0_1_2 (extractStridedSlice S2x1x2048 ![0, 0, 0] M slices_S2x6x2048_S2x1x2048_0_0_0))

/-- The reference's result, as a term of its arguments. -/
def outT (X : FVec Ideal S8192x2048 .f32) (M : FVec Ideal S2x6x2048 .f32) (N : FVec Ideal S1x2048 .f32) (W : FVec Ideal S2048x6144 .bf16) :
    FVec Ideal S8192x6144 .f32 :=
  shapeCast _ (Host.dotGeneral dot_S2x4096x2048_S2048x6144_S2x4096x6144_2_0_01_1_n_n none (hT X M N) (extf .f32 W bitsLt_bf16_f32)) shapeCasts_S2x4096x6144_S8192x6144

variable (X : FVec Ideal S8192x2048 .f32) (M : FVec Ideal S2x6x2048 .f32) (N : FVec Ideal S1x2048 .f32) (W : FVec Ideal S2048x6144 .bf16)

/-- Token `t` of batch row `b`. -/
def rw2 (b : Fin 2) (t : Fin 4096) : Fin 8192 := ⟨(b : ℕ) * 4096 + (t : ℕ), by omega⟩

/-- A token's row, read. -/
theorem xT_at (b : Fin 2) (t : Fin 4096) (k : Fin 2048) : xT X (ix3 b t k) = X (ix2 (rw2 b t) k) := by
  unfold rw2
  pointwise [xT]

/-- The reciprocal root, read. -/
theorem rT_at (x : FVec Ideal S2x4096x2048 .f32) (b : Fin 2) (t : Fin 4096) :
    rT x (ix3 b t 0) = Ideal.rsqrt (Ideal.div (∑ j, x (ix3 b t j) * x (ix3 b t j)) (Ideal.ofBits .f32 0x45000000#32) + Ideal.ofBits .f32 0x3727C5AC#32) := by
  pointwise [rT]

/-- The rows, read. -/
theorem hT_at (b : Fin 2) (t : Fin 4096) (k : Fin 2048) : hT X M N (ix3 b t k) = hAt X M N (rw2 b t) b k := by
  pointwise [hT]
  simp only [rT_at, xT_at]
  rfl

/-- THE REFERENCE'S RESULT, read. -/
theorem outT_at (i : Fin 8192) (j : Fin 6144) : outT X M N W (ix2 i j) = result X M N W i j := by
  pointwise [outT]
  simp only [hT_at]
  unfold result
  refine Finset.sum_congr rfl fun k _ => ?_
  congr 2
  exact Fin.ext (by simp only [rw2]; omega)

end Cert.Reference3Ideal.Inp

end
-- ==== Proof.Inproj.lean ====
/-
  The input projection's claims: the frames and the value claim of the kernel against the reference, both of which compute
  `Cert.Inp.result`.
-/
module

public import proofs.«01_k».proof.Defs
public import proofs.«01_k».proof.Proof.InpFinal
public import proofs.«01_k».proof.Proof.InpRef
public import proofs.«01_k».proof.Proof.Gen.Kernel3.Frame
public import Idealize.ShloMosaic.Lib.Quiescent

@[expose] public section

set_option maxRecDepth 16384

noncomputable section

namespace Cert.Proof.Inproj

open Idealize.ShloMosaic Idealize.SL.Sem

/-- The kernel runs from every memory. -/
theorem frameK : Cert.quiescent_Kernel3 (hKernel3 := Cert.Kernel3.Gen.facts) :=
  fun m ρ _ => Cert.Kernel3.Gen.frame m ρ

/-- The kernel at exact arithmetic runs from every memory. -/
theorem frameKI : Cert.quiescent_Kernel3Ideal (hKernel3Ideal := Cert.Kernel3Ideal.Gen.facts) :=
  fun m ρ _ => Cert.Kernel3Ideal.Gen.frame m ρ

/-- The reference at exact arithmetic runs from every memory. -/
theorem frameRI : Cert.quiescent_Reference3Ideal (hReference3Ideal := Cert.Reference3Ideal.Gen.facts) :=
  fun m ρ _ => (θ_run Cert.Reference3Ideal.defs _ _).mono
    (fun r h => ⟨fun c => (h c).2, Idealize.ShloMosaic.sem_eq_zero_of_no_sems (by decide) r.2⟩) (Cert.Reference3Ideal.Value.run (F := Ideal) m ρ)

/-- The reference's array: the `result` of its arguments. -/
theorem ref_final (X : FVec Ideal ⟨2, ![8192, 2048]⟩ .f32) (M : FVec Ideal ⟨3, ![2, 6, 2048]⟩ .f32) (N : FVec Ideal ⟨2, ![1, 2048]⟩ .f32)
    (W : FVec Ideal ⟨2, ![2048, 6144]⟩ .bf16) :
    Cert.Reference3Ideal.Inp.outT X M N W = fun i => Cert.Inp.result X M N W (i 0) (i 1) := by
  funext i
  have hi : i = ix2 (i 0) (i 1) := by funext a; fin_cases a <;> rfl
  exact (congrArg (Cert.Reference3Ideal.Inp.outT X M N W) hi).trans (Cert.Reference3Ideal.Inp.outT_at X M N W (i 0) (i 1))

/-- THE VALUE CLAIM: the kernel and the reference end with the same result. -/
theorem value : Cert.algebraic_Kernel3Ideal_Reference3Ideal (hKernel3Ideal := Cert.Kernel3Ideal.Gen.facts) (hReference3Ideal := Cert.Reference3Ideal.Gen.facts) := by
  intro m ρ m' ρ' _ hagree
  refine ⟨_, Cert.Kernel3Ideal.Value.run_blocks (F := Ideal) m ρ, ?_⟩
  refine (θ_run Cert.Reference3Ideal.defs _ _).mono (fun _ h c => ⟨(h c).1.trans ?_, (h c).2⟩) (Cert.Reference3Ideal.Value.run (F := Ideal) m' ρ')
  refine Eq.trans ?_ (Cert.Kernel3Ideal.Inp.final m c).symm
  have h0 := (hagree c).1
  have h1 := (hagree c).2.1
  have h2 := (hagree c).2.2.1
  have h3 := (hagree c).2.2.2
  rw [h0, h1, h2, h3]
  exact ref_final _ _ _ _

end Cert.Proof.Inproj

end
-- ==== Proof.OutSpec.lean ====
/-
  The output projection in extended reals: a token's row plus the gated product of its mixers' outputs by the weights, and that row
  after the norm, the scale and the shift, by halves of eight sublanes: the functions both the kernel and the reference are shown
  to compute. No program appears in this module.
-/
module

public import proofs.«01_k».proof.Proof.InpSpec

@[expose] public section

set_option maxRecDepth 16384

noncomputable section

namespace Cert.Outp

open Idealize.ShloMosaic

/-- The three mixers' outputs, side by side. -/
def cat (a : Fin 1024 → EReal) (b c : Fin 512 → EReal) (x : Fin 2048) : EReal :=
  if h : (x : ℕ) < 1024 then a ⟨(x : ℕ), h⟩
  else if h : (x : ℕ) - 1024 < 512 then b ⟨(x : ℕ) - 1024, h⟩
  else c ⟨(x : ℕ) - 1024 - 512, by omega⟩

/-- A row plus its gated product. -/
def xrow (x g y : Fin 2048 → EReal) (W : FVec Ideal ⟨2, ![2048, 2048]⟩ .bf16) (k : Fin 2048) : EReal :=
  x k + g k * ∑ j, y j * W (ix2 j k)

/-- Column `l` of sublane `s` of the low half. -/
def loCol (s : Fin 8) (l : Fin 128) : Fin 2048 := ⟨(s : ℕ) * 128 + (l : ℕ), by omega⟩
/-- Column `l` of sublane `s` of the high half. -/
def hiCol (s : Fin 8) (l : Fin 128) : Fin 2048 := ⟨1024 + ((s : ℕ) * 128 + (l : ℕ)), by omega⟩

variable (A : FVec Ideal ⟨2, ![8192, 1024]⟩ .bf16) (B C : FVec Ideal ⟨2, ![8192, 512]⟩ .bf16) (W : FVec Ideal ⟨2, ![2048, 2048]⟩ .bf16)
  (X : FVec Ideal ⟨2, ![8192, 2048]⟩ .f32) (M : FVec Ideal ⟨3, ![2, 6, 2048]⟩ .f32) (N : FVec Ideal ⟨2, ![1, 2048]⟩ .f32)

/-- Row `i` after the output projection, by the gate of batch row `b`. -/
def xAt (i : Fin 8192) (b : Fin 2) (k : Fin 2048) : EReal :=
  xrow (fun k => X (ix2 i k)) (fun k => M (ix3 b 2 k)) (cat (fun k => A (ix2 i k)) (fun k => B (ix2 i k)) (fun k => C (ix2 i k))) W k

/-- Row `i` after the norm, the scale and the shift of batch row `b`. -/
def hAt (i : Fin 8192) (b : Fin 2) (k : Fin 2048) : EReal :=
  Cert.Inp.hrow (xAt A B C W X M i b) (fun k => N (ix2 0 k)) (fun k => M (ix3 b 4 k)) (fun k => M (ix3 b 3 k)) k

/-- The batch row of a token. -/
def bat (i : Fin 8192) : Fin 2 := ⟨(i : ℕ) / 4096, by omega⟩

end Cert.Outp

end
-- ==== Proof.OutPoint.lean ====
/-
  One grid point of the output projection: its three result blocks, as functions of Proof/OutSpec.lean.
-/
module

public import proofs.«01_k».proof.Proof.OutSpec
public import proofs.«01_k».proof.Proof.Gen.Kernel4Ideal.Value
public import Idealize.ShloMosaic.Lib.Pipeline.ValueKit
public import Idealize.ShloMosaic.Lib.Pipeline.ReadBack
public import Idealize.ShloMosaic.Lib.Pointwise
public import Idealize.ShloMosaic.Lib.VecWindow

@[expose] public section

set_option maxRecDepth 16384

noncomputable section

namespace Cert.Kernel4Ideal.Outp

open Cert.Kernel4Ideal Cert.Kernel4Ideal.Gen Idealize.ShloMosaic Idealize.ShloMosaic.TcCoe Idealize.SL.Sem
open Cert.Outp

/-- A row of a point's blocks after the projection, read. -/
theorem pay4_at (a : Vec Ideal S512x1024 .bf16) (b d : Vec Ideal S512x512 .bf16) (x : Vec Ideal S512x2048 .f32) (g : Vec Ideal S1x1x2048 .f32) (w : Vec Ideal S2048x2048 .bf16)
    (r : Fin 512) (k : Fin 2048) :
    k0_pay4 (F := Ideal) a b d x g w (ix2 r k)
      = xrow (fun k => x (ix2 r k)) (fun k => g (ix3 0 0 k)) (cat (fun k => a (ix2 r k)) (fun k => b (ix2 r k)) (fun k => d (ix2 r k))) w k := by
  pointwise [k0_pay4]
  rfl

/-- Its mean square, read. -/
theorem pay7_at (a : Vec Ideal S512x1024 .bf16) (b d : Vec Ideal S512x512 .bf16) (x : Vec Ideal S512x2048 .f32) (g : Vec Ideal S1x1x2048 .f32) (w : Vec Ideal S2048x2048 .bf16)
    (r : Fin 512) :
    k0_pay7 (F := Ideal) a b d x g w (ix2 r 0)
      = Ideal.div (∑ j, k0_pay4 (F := Ideal) a b d x g w (ix2 r j) * k0_pay4 (F := Ideal) a b d x g w (ix2 r j)) (Ideal.ofBits .f32 0x45000000#32) + Ideal.ofBits .f32 0x3727C5AC#32 := by
  pointwise [k0_pay7]

/-- The scale, without its unit axis. -/
theorem pay5_at (x : Vec Ideal S1x1x2048 .f32) (k : Fin 2048) : k0_pay5 (F := Ideal) x (ix2 0 k) = x (ix3 0 0 k) := by
  pointwise [k0_pay5]

/-- The shift, without its unit axis. -/
theorem pay6_at (x : Vec Ideal S1x1x2048 .f32) (k : Fin 2048) : k0_pay6 (F := Ideal) x (ix2 0 k) = x (ix3 0 0 k) := by
  pointwise [k0_pay6]

/-- A row after the norm, the scale and the shift, read. -/
theorem pay8_at (x : FVec Ideal S512x2048 .f32) (n sc sh : FVec Ideal S1x2048 .f32) (q : FVec Ideal S512x1 .f32) (r : Fin 512) (k : Fin 2048) :
    k0_pay8 (F := Ideal) x n sc sh q (ix2 r k) = x (ix2 r k) * Ideal.rsqrt (q (ix2 r 0)) * n (ix2 0 k) * (1 + sc (ix2 0 k)) + sh (ix2 0 k) := by
  pointwise [k0_pay8]

set_option maxHeartbeats 1000000 in
/-- The low half's sublanes. -/
theorem pay9_at (x : FVec Ideal S512x2048 .f32) (n sc sh : FVec Ideal S1x2048 .f32) (q : FVec Ideal S512x1 .f32) (r : Fin 512) (s : Fin 8) (l : Fin 128) :
    k0_pay9 (F := Ideal) x n sc sh q (ix3 r s l) = k0_pay8 (F := Ideal) x n sc sh q (ix2 r (loCol s l)) := by
  unfold loCol
  pointwise [k0_pay9]
  generalize k0_pay8 (F := Ideal) x n sc sh q = y
  have hq : (s : ℕ) = 0 ∨ (s : ℕ) = 1 ∨ (s : ℕ) = 2 ∨ (s : ℕ) = 3 ∨ (s : ℕ) = 4 ∨ (s : ℕ) = 5 ∨ (s : ℕ) = 6 ∨ (s : ℕ) = 7 := by omega
  rcases hq with hq | hq | hq | hq | hq | hq | hq | hq
  · refine (dif_pos (by omega)).trans ?_
    exact congrArg y (congrArg (ix2 r) (Fin.ext (by simp only []; omega)))
  · refine (dif_neg (by omega)).trans ((dif_pos (by omega)).trans ?_)
    exact congrArg y (congrArg (ix2 r) (Fin.ext (by simp only []; omega)))
  · refine (dif_neg (by omega)).trans ((dif_neg (by omega)).trans ((dif_pos (by omega)).trans ?_))
    exact congrArg y (congrArg (ix2 r) (Fin.ext (by simp only []; omega)))
  · refine (dif_neg (by omega)).trans ((dif_neg (by omega)).trans ((dif_neg (by omega)).trans ((dif_pos (by omega)).trans ?_)))
    exact congrArg y (congrArg (ix2 r) (Fin.ext (by simp only []; omega)))
  · refine (dif_neg (by omega)).trans ((dif_neg (by omega)).trans ((dif_neg (by omega)).trans ((dif_neg (by omega)).trans ((dif_pos (by omega)).trans ?_))))
    exact congrArg y (congrArg (ix2 r) (Fin.ext (by simp only []; omega)))
  · refine (dif_neg (by omega)).trans ((dif_neg (by omega)).trans ((dif_neg (by omega)).trans ((dif_neg (by omega)).trans ((dif_neg (by omega)).trans ((dif_pos (by omega)).trans ?_)))))
    exact congrArg y (congrArg (ix2 r) (Fin.ext (by simp only []; omega)))
  · refine (dif_neg (by omega)).trans ((dif_neg (by omega)).trans ((dif_neg (by omega)).trans ((dif_neg (by omega)).trans ((dif_neg (by omega)).trans ((dif_neg (by omega)).trans ((dif_pos (by omega)).trans ?_))))))
    exact congrArg y (congrArg (ix2 r) (Fin.ext (by simp only []; omega)))
  · refine (dif_neg (by omega)).trans ((dif_neg (by omega)).trans ((dif_neg (by omega)).trans ((dif_neg (by omega)).trans ((dif_neg (by omega)).trans ((dif_neg (by omega)).trans ((dif_neg (by omega)).trans (?_)))))))
    exact congrArg y (congrArg (ix2 r) (Fin.ext (by simp only []; omega)))

set_option maxHeartbeats 1000000 in
/-- The high half's sublanes. -/
theorem pay10_at (x : FVec Ideal S512x2048 .f32) (n sc sh : FVec Ideal S1x2048 .f32) (q : FVec Ideal S512x1 .f32) (r : Fin 512) (s : Fin 8) (l : Fin 128) :
    k0_pay10 (F := Ideal) x n sc sh q (ix3 r s l) = k0_pay8 (F := Ideal) x n sc sh q (ix2 r (hiCol s l)) := by
  unfold hiCol
  pointwise [k0_pay10]
  generalize k0_pay8 (F := Ideal) x n sc sh q = y
  have hq : (s : ℕ) = 0 ∨ (s : ℕ) = 1 ∨ (s : ℕ) = 2 ∨ (s : ℕ) = 3 ∨ (s : ℕ) = 4 ∨ (s : ℕ) = 5 ∨ (s : ℕ) = 6 ∨ (s : ℕ) = 7 := by omega
  rcases hq with hq | hq | hq | hq | hq | hq | hq | hq
  · refine (dif_pos (by omega)).trans ?_
    exact congrArg y (congrArg (ix2 r) (Fin.ext (by simp only []; omega)))
  · refine (dif_neg (by omega)).trans ((dif_pos (by omega)).trans ?_)
    exact congrArg y (congrArg (ix2 r) (Fin.ext (by simp only []; omega)))
  · refine (dif_neg (by omega)).trans ((dif_neg (by omega)).trans ((dif_pos (by omega)).trans ?_))
    exact congrArg y (congrArg (ix2 r) (Fin.ext (by simp only []; omega)))
  · refine (dif_neg (by omega)).trans ((dif_neg (by omega)).trans ((dif_neg (by omega)).trans ((dif_pos (by omega)).trans ?_)))
    exact congrArg y (congrArg (ix2 r) (Fin.ext (by simp only []; omega)))
  · refine (dif_neg (by omega)).trans ((dif_neg (by omega)).trans ((dif_neg (by omega)).trans ((dif_neg (by omega)).trans ((dif_pos (by omega)).trans ?_))))
    exact congrArg y (congrArg (ix2 r) (Fin.ext (by simp only []; omega)))
  · refine (dif_neg (by omega)).trans ((dif_neg (by omega)).trans ((dif_neg (by omega)).trans ((dif_neg (by omega)).trans ((dif_neg (by omega)).trans ((dif_pos (by omega)).trans ?_)))))
    exact congrArg y (congrArg (ix2 r) (Fin.ext (by simp only []; omega)))
  · refine (dif_neg (by omega)).trans ((dif_neg (by omega)).trans ((dif_neg (by omega)).trans ((dif_neg (by omega)).trans ((dif_neg (by omega)).trans ((dif_neg (by omega)).trans ((dif_pos (by omega)).trans ?_))))))
    exact congrArg y (congrArg (ix2 r) (Fin.ext (by simp only []; omega)))
  · refine (dif_neg (by omega)).trans ((dif_neg (by omega)).trans ((dif_neg (by omega)).trans ((dif_neg (by omega)).trans ((dif_neg (by omega)).trans ((dif_neg (by omega)).trans ((dif_neg (by omega)).trans (?_)))))))
    exact congrArg y (congrArg (ix2 r) (Fin.ext (by simp only []; omega)))

variable (x0 : Vec Ideal S512x1024 .bf16) (x1 x2 : Vec Ideal S512x512 .bf16) (x3 : Vec Ideal S2048x2048 .bf16) (x4 : Vec Ideal S512x2048 .f32) (x5 : Vec Ideal S1x6x2048 .f32) (x6 : Vec Ideal S1x2048 .f32) (x7 : Vec Ideal S2048x128 .f32) (x8 : Vec Ideal S1x128 .f32)

/-- A row of a point's input blocks after the projection. -/
def blkX (r : Fin 512) (k : Fin 2048) : EReal :=
  xrow (fun k => x4 (ix2 r k)) (fun k => x5 (ix3 0 2 k)) (cat (fun k => x0 (ix2 r k)) (fun k => x1 (ix2 r k)) (fun k => x2 (ix2 r k))) x3 k

/-- A row of a point's input blocks after the norm, the scale and the shift. -/
def blkH (r : Fin 512) (k : Fin 2048) : EReal :=
  Cert.Inp.hrow (blkX x0 x1 x2 x3 x4 x5 r) (fun k => x6 (ix2 0 k)) (fun k => x5 (ix3 0 4 k)) (fun k => x5 (ix3 0 3 k)) k

/-- The rows a point computes after the projection. -/
abbrev pX : FVec Ideal S512x2048 .f32 :=
  k0_pay4 x0 x1 x2 x4 (View.ld x5 (Rect.unit ![0, 2, 0] ![1, 1, 2048] inb_S1x6x2048_S1x1x2048_0_2_0)) x3

/-- They are the block's. -/
theorem pX_at (r : Fin 512) (k : Fin 2048) : pX x0 x1 x2 x3 x4 x5 (ix2 r k) = blkX x0 x1 x2 x3 x4 x5 r k := by
  unfold pX
  rw [pay4_at]
  unfold blkX
  congr 1
  funext k'
  pointwise []

/-- The rows a point computes after the norm, the scale and the shift. -/
theorem pH_at (r : Fin 512) (k : Fin 2048) :
    k0_pay8 (F := Ideal) (pX x0 x1 x2 x3 x4 x5) x6
      (k0_pay5 (View.ld x5 (Rect.unit ![0, 4, 0] ![1, 1, 2048] inb_S1x6x2048_S1x1x2048_0_4_0)))
      (k0_pay6 (View.ld x5 (Rect.unit ![0, 3, 0] ![1, 1, 2048] inb_S1x6x2048_S1x1x2048_0_3_0)))
      (k0_pay7 x0 x1 x2 x4 (View.ld x5 (Rect.unit ![0, 2, 0] ![1, 1, 2048] inb_S1x6x2048_S1x1x2048_0_2_0)) x3) (ix2 r k)
      = blkH x0 x1 x2 x3 x4 x5 x6 r k := by
  rw [pay8_at, pay7_at, pay5_at, pay6_at]
  simp only [pX_at]
  have h4 : (View.ld x5 (Rect.unit ![0, 4, 0] ![1, 1, 2048] inb_S1x6x2048_S1x1x2048_0_4_0) : Vec Ideal S1x1x2048 .f32) (ix3 0 0 k) = x5 (ix3 0 4 k) := by
    pointwise []
  have h3 : (View.ld x5 (Rect.unit ![0, 3, 0] ![1, 1, 2048] inb_S1x6x2048_S1x1x2048_0_3_0) : Vec Ideal S1x1x2048 .f32) (ix3 0 0 k) = x5 (ix3 0 3 k) := by
    pointwise []
  rw [h4, h3]
  rfl

/-- The tokens after the projection, at the first point. -/
theorem out_A_9 (c : Dev nD) (i : grid0.Coords) (arg1 : Memref sig .tc .vmem S512x1024 .bf16) (harg1 : arg1.IsWhole) (arg2 : Memref sig .tc .vmem S512x512 .bf16) (harg2 : arg2.IsWhole) (arg3 : Memref sig .tc .vmem S512x512 .bf16) (harg3 : arg3.IsWhole) (arg4 : Memref sig .tc .vmem S2048x2048 .bf16) (harg4 : arg4.IsWhole) (arg5 : Memref sig .tc .vmem S512x2048 .f32) (harg5 : arg5.IsWhole) (arg6 : Memref sig .tc .vmem S1x6x2048 .f32) (harg6 : arg6.IsWhole) (arg7 : Memref sig .tc .vmem S1x2048 .f32) (harg7 : arg7.IsWhole) (arg8 : Memref sig .tc .vmem S2048x128 .f32) (harg8 : arg8.IsWhole) (arg9 : Memref sig .tc .vmem S1x128 .f32) (harg9 : arg9.IsWhole) (arg10 : Memref sig .tc .vmem S512x2048 .f32) (harg10 : arg10.IsWhole) (arg11 : Memref sig .tc .vmem S512x8x128 .bf16) (harg11 : arg11.IsWhole) (arg12 : Memref sig .tc .vmem S512x8x128 .bf16) (harg12 : arg12.IsWhole) (arg13 : Memref sig .tc .vmem S512x128 .f32) (harg13 : arg13.IsWhole) (arg14 : Memref sig .tc .vmem S1x128 .f32) (harg14 : arg14.IsWhole) (arg15 : Memref sig .tc .vmem S1x128 .f32) (harg15 : arg15.IsWhole) (hc0 : cond0_0 i) (r : Fin 512) (k : Fin 2048) :
    out0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 (ix2 r k) = blkX x0 x1 x2 x3 x4 x5 r k := by
  frame_out
  exact pX_at x0 x1 x2 x3 x4 x5 r k

/-- The low halves of the rows, at the first point. -/
theorem out_A_10 (c : Dev nD) (i : grid0.Coords) (arg1 : Memref sig .tc .vmem S512x1024 .bf16) (harg1 : arg1.IsWhole) (arg2 : Memref sig .tc .vmem S512x512 .bf16) (harg2 : arg2.IsWhole) (arg3 : Memref sig .tc .vmem S512x512 .bf16) (harg3 : arg3.IsWhole) (arg4 : Memref sig .tc .vmem S2048x2048 .bf16) (harg4 : arg4.IsWhole) (arg5 : Memref sig .tc .vmem S512x2048 .f32) (harg5 : arg5.IsWhole) (arg6 : Memref sig .tc .vmem S1x6x2048 .f32) (harg6 : arg6.IsWhole) (arg7 : Memref sig .tc .vmem S1x2048 .f32) (harg7 : arg7.IsWhole) (arg8 : Memref sig .tc .vmem S2048x128 .f32) (harg8 : arg8.IsWhole) (arg9 : Memref sig .tc .vmem S1x128 .f32) (harg9 : arg9.IsWhole) (arg10 : Memref sig .tc .vmem S512x2048 .f32) (harg10 : arg10.IsWhole) (arg11 : Memref sig .tc .vmem S512x8x128 .bf16) (harg11 : arg11.IsWhole) (arg12 : Memref sig .tc .vmem S512x8x128 .bf16) (harg12 : arg12.IsWhole) (arg13 : Memref sig .tc .vmem S512x128 .f32) (harg13 : arg13.IsWhole) (arg14 : Memref sig .tc .vmem S1x128 .f32) (harg14 : arg14.IsWhole) (arg15 : Memref sig .tc .vmem S1x128 .f32) (harg15 : arg15.IsWhole) (hc0 : cond0_0 i) (r : Fin 512) (s : Fin 8) (l : Fin 128) :
    out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 (ix3 r s l) = blkH x0 x1 x2 x3 x4 x5 x6 r (loCol s l) := by
  frame_out
  exact (pay9_at ..).trans (pH_at ..)

/-- The high halves of the rows, at the first point. -/
theorem out_A_11 (c : Dev nD) (i : grid0.Coords) (arg1 : Memref sig .tc .vmem S512x1024 .bf16) (harg1 : arg1.IsWhole) (arg2 : Memref sig .tc .vmem S512x512 .bf16) (harg2 : arg2.IsWhole) (arg3 : Memref sig .tc .vmem S512x512 .bf16) (harg3 : arg3.IsWhole) (arg4 : Memref sig .tc .vmem S2048x2048 .bf16) (harg4 : arg4.IsWhole) (arg5 : Memref sig .tc .vmem S512x2048 .f32) (harg5 : arg5.IsWhole) (arg6 : Memref sig .tc .vmem S1x6x2048 .f32) (harg6 : arg6.IsWhole) (arg7 : Memref sig .tc .vmem S1x2048 .f32) (harg7 : arg7.IsWhole) (arg8 : Memref sig .tc .vmem S2048x128 .f32) (harg8 : arg8.IsWhole) (arg9 : Memref sig .tc .vmem S1x128 .f32) (harg9 : arg9.IsWhole) (arg10 : Memref sig .tc .vmem S512x2048 .f32) (harg10 : arg10.IsWhole) (arg11 : Memref sig .tc .vmem S512x8x128 .bf16) (harg11 : arg11.IsWhole) (arg12 : Memref sig .tc .vmem S512x8x128 .bf16) (harg12 : arg12.IsWhole) (arg13 : Memref sig .tc .vmem S512x128 .f32) (harg13 : arg13.IsWhole) (arg14 : Memref sig .tc .vmem S1x128 .f32) (harg14 : arg14.IsWhole) (arg15 : Memref sig .tc .vmem S1x128 .f32) (harg15 : arg15.IsWhole) (hc0 : cond0_0 i) (r : Fin 512) (s : Fin 8) (l : Fin 128) :
    out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 (ix3 r s l) = blkH x0 x1 x2 x3 x4 x5 x6 r (hiCol s l) := by
  frame_out
  exact (pay10_at ..).trans (pH_at ..)

/-- The tokens after the projection, at a later point. -/
theorem out_B_9 (c : Dev nD) (i : grid0.Coords) (arg1 : Memref sig .tc .vmem S512x1024 .bf16) (harg1 : arg1.IsWhole) (arg2 : Memref sig .tc .vmem S512x512 .bf16) (harg2 : arg2.IsWhole) (arg3 : Memref sig .tc .vmem S512x512 .bf16) (harg3 : arg3.IsWhole) (arg4 : Memref sig .tc .vmem S2048x2048 .bf16) (harg4 : arg4.IsWhole) (arg5 : Memref sig .tc .vmem S512x2048 .f32) (harg5 : arg5.IsWhole) (arg6 : Memref sig .tc .vmem S1x6x2048 .f32) (harg6 : arg6.IsWhole) (arg7 : Memref sig .tc .vmem S1x2048 .f32) (harg7 : arg7.IsWhole) (arg8 : Memref sig .tc .vmem S2048x128 .f32) (harg8 : arg8.IsWhole) (arg9 : Memref sig .tc .vmem S1x128 .f32) (harg9 : arg9.IsWhole) (arg10 : Memref sig .tc .vmem S512x2048 .f32) (harg10 : arg10.IsWhole) (arg11 : Memref sig .tc .vmem S512x8x128 .bf16) (harg11 : arg11.IsWhole) (arg12 : Memref sig .tc .vmem S512x8x128 .bf16) (harg12 : arg12.IsWhole) (arg13 : Memref sig .tc .vmem S512x128 .f32) (harg13 : arg13.IsWhole) (arg14 : Memref sig .tc .vmem S1x128 .f32) (harg14 : arg14.IsWhole) (arg15 : Memref sig .tc .vmem S1x128 .f32) (harg15 : arg15.IsWhole) (hc0 : ¬cond0_0 i) (xs0 : Vec Ideal S1x128 .f32) (r : Fin 512) (k : Fin 2048) :
    out0_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0 (ix2 r k) = blkX x0 x1 x2 x3 x4 x5 r k := by
  frame_out
  exact pX_at x0 x1 x2 x3 x4 x5 r k

/-- The low halves of the rows, at a later point. -/
theorem out_B_10 (c : Dev nD) (i : grid0.Coords) (arg1 : Memref sig .tc .vmem S512x1024 .bf16) (harg1 : arg1.IsWhole) (arg2 : Memref sig .tc .vmem S512x512 .bf16) (harg2 : arg2.IsWhole) (arg3 : Memref sig .tc .vmem S512x512 .bf16) (harg3 : arg3.IsWhole) (arg4 : Memref sig .tc .vmem S2048x2048 .bf16) (harg4 : arg4.IsWhole) (arg5 : Memref sig .tc .vmem S512x2048 .f32) (harg5 : arg5.IsWhole) (arg6 : Memref sig .tc .vmem S1x6x2048 .f32) (harg6 : arg6.IsWhole) (arg7 : Memref sig .tc .vmem S1x2048 .f32) (harg7 : arg7.IsWhole) (arg8 : Memref sig .tc .vmem S2048x128 .f32) (harg8 : arg8.IsWhole) (arg9 : Memref sig .tc .vmem S1x128 .f32) (harg9 : arg9.IsWhole) (arg10 : Memref sig .tc .vmem S512x2048 .f32) (harg10 : arg10.IsWhole) (arg11 : Memref sig .tc .vmem S512x8x128 .bf16) (harg11 : arg11.IsWhole) (arg12 : Memref sig .tc .vmem S512x8x128 .bf16) (harg12 : arg12.IsWhole) (arg13 : Memref sig .tc .vmem S512x128 .f32) (harg13 : arg13.IsWhole) (arg14 : Memref sig .tc .vmem S1x128 .f32) (harg14 : arg14.IsWhole) (arg15 : Memref sig .tc .vmem S1x128 .f32) (harg15 : arg15.IsWhole) (hc0 : ¬cond0_0 i) (xs0 : Vec Ideal S1x128 .f32) (r : Fin 512) (s : Fin 8) (l : Fin 128) :
    out0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0 (ix3 r s l) = blkH x0 x1 x2 x3 x4 x5 x6 r (loCol s l) := by
  frame_out
  exact (pay9_at ..).trans (pH_at ..)

/-- The high halves of the rows, at a later point. -/
theorem out_B_11 (c : Dev nD) (i : grid0.Coords) (arg1 : Memref sig .tc .vmem S512x1024 .bf16) (harg1 : arg1.IsWhole) (arg2 : Memref sig .tc .vmem S512x512 .bf16) (harg2 : arg2.IsWhole) (arg3 : Memref sig .tc .vmem S512x512 .bf16) (harg3 : arg3.IsWhole) (arg4 : Memref sig .tc .vmem S2048x2048 .bf16) (harg4 : arg4.IsWhole) (arg5 : Memref sig .tc .vmem S512x2048 .f32) (harg5 : arg5.IsWhole) (arg6 : Memref sig .tc .vmem S1x6x2048 .f32) (harg6 : arg6.IsWhole) (arg7 : Memref sig .tc .vmem S1x2048 .f32) (harg7 : arg7.IsWhole) (arg8 : Memref sig .tc .vmem S2048x128 .f32) (harg8 : arg8.IsWhole) (arg9 : Memref sig .tc .vmem S1x128 .f32) (harg9 : arg9.IsWhole) (arg10 : Memref sig .tc .vmem S512x2048 .f32) (harg10 : arg10.IsWhole) (arg11 : Memref sig .tc .vmem S512x8x128 .bf16) (harg11 : arg11.IsWhole) (arg12 : Memref sig .tc .vmem S512x8x128 .bf16) (harg12 : arg12.IsWhole) (arg13 : Memref sig .tc .vmem S512x128 .f32) (harg13 : arg13.IsWhole) (arg14 : Memref sig .tc .vmem S1x128 .f32) (harg14 : arg14.IsWhole) (arg15 : Memref sig .tc .vmem S1x128 .f32) (harg15 : arg15.IsWhole) (hc0 : ¬cond0_0 i) (xs0 : Vec Ideal S1x128 .f32) (r : Fin 512) (s : Fin 8) (l : Fin 128) :
    out0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0 (ix3 r s l) = blkH x0 x1 x2 x3 x4 x5 x6 r (hiCol s l) := by
  frame_out
  exact (pay10_at ..).trans (pH_at ..)

end Cert.Kernel4Ideal.Outp

end
-- ==== Proof.OutFinal.lean ====
/-
  The output projection's result arrays: every point writes its block of rows, so the arrays are the functions of Proof/OutSpec.lean of
  the arguments.
-/
module

public import proofs.«01_k».proof.Proof.OutPoint

@[expose] public section

set_option maxRecDepth 16384

noncomputable section

namespace Cert.Kernel4Ideal.Outp

open Cert.Kernel4Ideal Cert.Kernel4Ideal.Gen Idealize.ShloMosaic Idealize.ShloMosaic.TcCoe Idealize.SL.Sem
open Idealize.ShloMosaic.Pipeline
open Cert.Outp

variable (m : (l : Loc nD τ sig) → Buf (Elt Ideal) l)

/-- The windows' block indices: point `t` takes block `t` of the rows. -/
theorem idx : ∀ t : Fin cfg0.N, win0_0.index t = ![t.val, 0] ∧ win0_1.index t = ![t.val, 0] ∧ win0_2.index t = ![t.val, 0]
    ∧ win0_3.index t = ![0, 0] ∧ win0_4.index t = ![t.val, 0] ∧ win0_5.index t = ![t.val / 8, 0, 0] ∧ win0_6.index t = ![0, 0]
    ∧ win0_9.index t = ![t.val, 0] ∧ win0_10.index t = ![t.val, 0, 0] ∧ win0_11.index t = ![t.val, 0, 0] :=
  (by decide +kernel : ∀ t : Fin grid0.N, _)

/-- The SSD's output. -/
abbrev aA (c : Dev nD) : FVec Ideal ⟨2, ![8192, 1024]⟩ .bf16 := m ((c : Thread nD τ).loc main_arg0)
/-- RWKV-7's output. -/
abbrev aB (c : Dev nD) : FVec Ideal ⟨2, ![8192, 512]⟩ .bf16 := m ((c : Thread nD τ).loc main_arg1)
/-- The retention's output. -/
abbrev aC (c : Dev nD) : FVec Ideal ⟨2, ![8192, 512]⟩ .bf16 := m ((c : Thread nD τ).loc main_arg2)
/-- The projection's weights. -/
abbrev aW (c : Dev nD) : FVec Ideal ⟨2, ![2048, 2048]⟩ .bf16 := m ((c : Thread nD τ).loc main_arg3)
/-- The tokens. -/
abbrev aX (c : Dev nD) : FVec Ideal ⟨2, ![8192, 2048]⟩ .f32 := m ((c : Thread nD τ).loc main_arg4)
/-- The gates, shifts and scales. -/
abbrev aM (c : Dev nD) : FVec Ideal ⟨3, ![2, 6, 2048]⟩ .f32 := m ((c : Thread nD τ).loc main_arg5)
/-- The norm's weights. -/
abbrev aN (c : Dev nD) : FVec Ideal ⟨2, ![1, 2048]⟩ .f32 := m ((c : Thread nD τ).loc main_arg6)

/-- The tokens after the projection. -/
abbrev RX (c : Dev nD) (i : Fin 8192) (k : Fin 2048) : EReal := xAt (aA m c) (aB m c) (aC m c) (aW m c) (aX m c) (aM m c) i (bat i) k

/-- The rows after the norm, the scale and the shift. -/
abbrev RH (c : Dev nD) (i : Fin 8192) (k : Fin 2048) : EReal := hAt (aA m c) (aB m c) (aC m c) (aW m c) (aX m c) (aM m c) (aN m c) i (bat i) k

/-- Row `r` of the block of rows of point `t`. -/
def rowOf (t : Fin cfg0.N) (r : Fin 512) : Fin 8192 :=
  ⟨t.val * 512 + (r : ℕ), by have h : t.val < 16 := t.isLt; omega⟩

/-- Its batch row. -/
theorem bat_row (t : Fin cfg0.N) (r : Fin 512) : ((bat (rowOf t r) : Fin 2) : ℕ) = t.val / 8 := by
  simp only [bat, rowOf]
  omega

/-- The weights, whole at every point. -/
theorem blkW_eq (c : Dev nD) (t : Fin cfg0.N) : (iblk m c 3 t : Vec Ideal S2048x2048 .bf16) = aW m c := by
  funext y
  have hy : y = ix2 (y 0) (y 1) := by funext a; fin_cases a <;> rfl
  rw [hy]
  blk_ext [iblk, V, idx t]

/-- The shifts, scales and gates of a point. -/
theorem blkM_eq (c : Dev nD) (t : Fin cfg0.N) (r : Fin 512) (q : Fin 6) (k : Fin 2048) :
    (iblk m c 5 t : Vec Ideal S1x6x2048 .f32) (ix3 0 q k) = aM m c (ix3 (bat (rowOf t r)) q k) := by
  have hb := bat_row t r
  blk_ext [iblk, V, idx t]

/-- The rows that a point's blocks give after the projection. -/
theorem blkX_eq (c : Dev nD) (t : Fin cfg0.N) (r : Fin 512) (k : Fin 2048) :
    blkX (iblk m c 0 t) (iblk m c 1 t) (iblk m c 2 t) (iblk m c 3 t) (iblk m c 4 t) (iblk m c 5 t) r k = RX m c (rowOf t r) k := by
  unfold blkX RX xAt
  rw [blkW_eq]
  congr 1
  · funext k
    unfold rowOf
    blk_ext [iblk, V, idx t]
  · funext k
    exact blkM_eq m c t r 2 k
  · congr 1
    · funext k
      unfold rowOf
      blk_ext [iblk, V, idx t]
    · funext k
      unfold rowOf
      blk_ext [iblk, V, idx t]
    · funext k
      unfold rowOf
      blk_ext [iblk, V, idx t]

/-- The rows that a point's blocks give after the norm, the scale and the shift. -/
theorem blkH_eq (c : Dev nD) (t : Fin cfg0.N) (r : Fin 512) (k : Fin 2048) :
    blkH (iblk m c 0 t) (iblk m c 1 t) (iblk m c 2 t) (iblk m c 3 t) (iblk m c 4 t) (iblk m c 5 t) (iblk m c 6 t) r k = RH m c (rowOf t r) k := by
  unfold blkH RH hAt
  congr 1
  · funext k
    exact blkX_eq m c t r k
  · funext k
    blk_ext [iblk, V, idx t]
  · funext k
    exact blkM_eq m c t r 4 k
  · funext k
    exact blkM_eq m c t r 3 k

/-- What point `t` writes of the tokens. -/
theorem outs9 (c : Dev nD) (t : Fin cfg0.N) (r : Fin 512) (k : Fin 2048) : (outsAt0 m c t.val t.isLt).1 (ix2 r k) = RX m c (rowOf t r) k := by
  by_cases h0 : t.val % 16 = 0
  · refine (congrFun (congrArg Prod.fst (outsAt0_A m c t h0)) (ix2 r k)).trans ?_
    dsimp only
    exact (out_A_9 ..).trans (blkX_eq m c t r k)
  · refine (congrFun (congrArg Prod.fst (outsAt0_B m c t h0)) (ix2 r k)).trans ?_
    dsimp only
    exact (out_B_9 ..).trans (blkX_eq m c t r k)

/-- What point `t` writes of the rows' low halves. -/
theorem outs10 (c : Dev nD) (t : Fin cfg0.N) (r : Fin 512) (s : Fin 8) (l : Fin 128) :
    (outsAt0 m c t.val t.isLt).2.1 (ix3 r s l) = RH m c (rowOf t r) (loCol s l) := by
  by_cases h0 : t.val % 16 = 0
  · refine (congrFun (congrArg (fun p => p.2.1) (outsAt0_A m c t h0)) (ix3 r s l)).trans ?_
    dsimp only
    exact (out_A_10 ..).trans (blkH_eq m c t r (loCol s l))
  · refine (congrFun (congrArg (fun p => p.2.1) (outsAt0_B m c t h0)) (ix3 r s l)).trans ?_
    dsimp only
    exact (out_B_10 ..).trans (blkH_eq m c t r (loCol s l))

/-- What point `t` writes of the rows' high halves. -/
theorem outs11 (c : Dev nD) (t : Fin cfg0.N) (r : Fin 512) (s : Fin 8) (l : Fin 128) :
    (outsAt0 m c t.val t.isLt).2.2.1 (ix3 r s l) = RH m c (rowOf t r) (hiCol s l) := by
  by_cases h0 : t.val % 16 = 0
  · refine (congrFun (congrArg (fun p => p.2.2.1) (outsAt0_A m c t h0)) (ix3 r s l)).trans ?_
    dsimp only
    exact (out_A_11 ..).trans (blkH_eq m c t r (hiCol s l))
  · refine (congrFun (congrArg (fun p => p.2.2.1) (outsAt0_B m c t h0)) (ix3 r s l)).trans ?_
    dsimp only
    exact (out_B_11 ..).trans (blkH_eq m c t r (hiCol s l))

/-- THE FIRST ARRAY after the run. -/
theorem final9 (c : Dev nD) : (dats m 0 c).arrAt 9 cfg0.N = fun i : S8192x2048.Idx => RX m c (i 0) (i 1) := by
  refine (dats m 0 c).arrAt_eq_of_covers 9 _ (by decide +kernel) fun t hf y => ?_
  blk_simp
  rw [after0_9]
  have hy : y = ix2 (y 0) (y 1) := by funext a; fin_cases a <;> rfl
  refine (congrArg (outsAt0 m c t.val t.isLt).1 hy).trans ((outs9 m c t (y 0) (y 1)).trans ?_)
  refine congrArg₂ (RX m c) (Fin.ext ?_) (Fin.ext ?_)
  · unfold rowOf
    blk_simp [idx t]
  · blk_simp [idx t]

/-- THE SECOND ARRAY after the run. -/
theorem final10 (c : Dev nD) : (dats m 0 c).arrAt 10 cfg0.N = fun i : S8192x8x128.Idx => RH m c (i 0) (loCol (i 1) (i 2)) := by
  refine (dats m 0 c).arrAt_eq_of_covers 10 _ (by decide +kernel) fun t hf y => ?_
  blk_simp
  rw [after0_10]
  have hy : y = ix3 (y 0) (y 1) (y 2) := by funext a; fin_cases a <;> rfl
  refine (congrArg (outsAt0 m c t.val t.isLt).2.1 hy).trans ((outs10 m c t (y 0) (y 1) (y 2)).trans ?_)
  refine congrArg₂ (RH m c) (Fin.ext ?_) (congrArg₂ loCol (Fin.ext ?_) (Fin.ext ?_))
  · unfold rowOf
    blk_simp [idx t]
  · blk_simp [idx t]
  · blk_simp [idx t]

/-- THE THIRD ARRAY after the run. -/
theorem final11 (c : Dev nD) : (dats m 0 c).arrAt 11 cfg0.N = fun i : S8192x8x128.Idx => RH m c (i 0) (hiCol (i 1) (i 2)) := by
  refine (dats m 0 c).arrAt_eq_of_covers 11 _ (by decide +kernel) fun t hf y => ?_
  blk_simp
  rw [after0_11]
  have hy : y = ix3 (y 0) (y 1) (y 2) := by funext a; fin_cases a <;> rfl
  refine (congrArg (outsAt0 m c t.val t.isLt).2.2.1 hy).trans ((outs11 m c t (y 0) (y 1) (y 2)).trans ?_)
  refine congrArg₂ (RH m c) (Fin.ext ?_) (congrArg₂ hiCol (Fin.ext ?_) (Fin.ext ?_))
  · unfold rowOf
    blk_simp [idx t]
  · blk_simp [idx t]
  · blk_simp [idx t]

end Cert.Kernel4Ideal.Outp

end
-- ==== Proof.OutRef.lean ====
/-
  The output projection's reference, read at an index, as the functions of Proof/OutSpec.lean.
-/
module

public import proofs.«01_k».proof.Proof.OutSpec
public import proofs.«01_k».proof.Proof.Gen.Reference4Ideal.Run
public import Idealize.ShloMosaic.Lib.Pointwise

@[expose] public section

set_option maxRecDepth 16384

noncomputable section

namespace Cert.Reference4Ideal.Outp

open Cert.Reference4Ideal Cert.Reference4Ideal.Gen
open Idealize.ShloMosaic Idealize.ShloMosaic.TcCoe Idealize.SL.Sem
open Cert.Outp

/-- The mixers' outputs, side by side. -/
def yT (A : FVec Ideal S8192x1024 .bf16) (B C : FVec Ideal S8192x512 .bf16) : FVec Ideal S8192x2048 .bf16 :=
  concatenate S8192x2048 1 [⟨S8192x1024, A⟩, ⟨S8192x512, B⟩, ⟨S8192x512, C⟩] concatenates_S8192x1024_S8192x512_S8192x512_S8192x2048_d1

/-- The tokens after the projection, by batch row. -/
def xT (y : FVec Ideal S8192x2048 .bf16) (W : FVec Ideal S2048x2048 .bf16) (X : FVec Ideal S8192x2048 .f32) (M : FVec Ideal S2x6x2048 .f32) : FVec Ideal S2x4096x2048 .f32 :=
  addf (shapeCast _ X shapeCasts_S8192x2048_S2x4096x2048) (mulf (broadcastInDim S2x4096x2048 ![0, 1, 2] bcast_S2x1x2048_S2x4096x2048_0_1_2 (extractStridedSlice S2x1x2048 ![0, 2, 0] M slices_S2x6x2048_S2x1x2048_0_2_0)) (shapeCast _ (Host.dotGeneral dot_S8192x2048_S2048x2048_S8192x2048_1_0_0_1_n_n none (extf .f32 y bitsLt_bf16_f32) (extf .f32 W bitsLt_bf16_f32)) shapeCasts_S8192x2048_S2x4096x2048))

/-- One over the root of each token's mean square. -/
def rT (x : FVec Ideal S2x4096x2048 .f32) : FVec Ideal S2x4096x1 .f32 :=
  Host.rsqrt (addf (Host.divf (broadcastInDim S2x4096x1 ![0, 1] bcast_S2x4096_S2x4096x1_0_1 (Host.reduceAdd (mulf x x) (constant S_ .f32 0x00000000#32) reducesTo_S2x4096x2048_S2x4096_d2 h_S_)) (broadcastInDim S2x4096x1 ![] bcast_S_S2x4096x1 (constant S_ .f32 0x45000000#32))) (broadcastInDim S2x4096x1 ![] bcast_S_S2x4096x1 (constant S_ .f32 0x3727C5AC#32)))

/-- The rows after the norm, the scale and the shift. -/
def hT (x : FVec Ideal S2x4096x2048 .f32) (M : FVec Ideal S2x6x2048 .f32) (N : FVec Ideal S1x2048 .f32) : FVec Ideal S2x4096x2048 .f32 :=
  addf (mulf (mulf (mulf x (broadcastInDim S2x4096x2048 ![0, 1, 2] bcast_S2x4096x1_S2x4096x2048_0_1_2 (rT x))) (broadcastInDim S2x4096x2048 ![0, 1, 2] bcast_S1x1x2048_S2x4096x2048_0_1_2 (broadcastInDim S1x1x2048 ![2] bcast_S2048_S1x1x2048_2 (shapeCast _ N shapeCasts_S1x2048_S2048)))) (broadcastInDim S2x4096x2048 ![0, 1, 2] bcast_S2x1x2048_S2x4096x2048_0_1_2 (addf (broadcastInDim S2x1x2048 ![] bcast_S_S2x1x2048 (constant S_ .f32 0x3F800000#32)) (extractStridedSlice S2x1x2048 ![0, 4, 0] M slices_S2x6x2048_S2x1x2048_0_4_0)))) (broadcastInDim S2x4096x2048 ![0, 1, 2] bcast_S2x1x2048_S2x4096x2048_0_1_2 (extractStridedSlice S2x1x2048 ![0, 3, 0] M slices_S2x6x2048_S2x1x2048_0_3_0))

/-- The first result, of the tokens after the projection. -/
def outX (x : FVec Ideal S2x4096x2048 .f32) : FVec Ideal S8192x2048 .f32 := shapeCast _ x shapeCasts_S2x4096x2048_S8192x2048

/-- The second result, of the rows. -/
def outLo (h : FVec Ideal S2x4096x2048 .f32) : FVec Ideal S8192x8x128 .bf16 :=
  truncf .bf16 (shapeCast S8192x8x128 (extractStridedSlice S8192x1024 ![0, 0] (shapeCast S8192x2048 h shapeCasts_S2x4096x2048_S8192x2048) slices_S8192x2048_S8192x1024_0_0) shapeCasts_S8192x1024_S8192x8x128) bitsLt_bf16_f32

/-- The third result, of the rows. -/
def outHi (h : FVec Ideal S2x4096x2048 .f32) : FVec Ideal S8192x8x128 .bf16 :=
  truncf .bf16 (shapeCast S8192x8x128 (extractStridedSlice S8192x1024 ![0, 1024] (shapeCast S8192x2048 h shapeCasts_S2x4096x2048_S8192x2048) slices_S8192x2048_S8192x1024_0_1024) shapeCasts_S8192x1024_S8192x8x128) bitsLt_bf16_f32

variable (A : FVec Ideal S8192x1024 .bf16) (B C : FVec Ideal S8192x512 .bf16) (W : FVec Ideal S2048x2048 .bf16)
  (X : FVec Ideal S8192x2048 .f32) (M : FVec Ideal S2x6x2048 .f32) (N : FVec Ideal S1x2048 .f32)

/-- Token `t` of batch row `b`. -/
def rw2 (b : Fin 2) (t : Fin 4096) : Fin 8192 := ⟨(b : ℕ) * 4096 + (t : ℕ), by omega⟩

/-- The mixers' outputs, read. -/
theorem yT_at (i : Fin 8192) (k : Fin 2048) : yT A B C (ix2 i k) = cat (fun k => A (ix2 i k)) (fun k => B (ix2 i k)) (fun k => C (ix2 i k)) k := by
  pointwise [yT]
  rfl

/-- A token's row after the projection, read. -/
theorem xT_at (b : Fin 2) (t : Fin 4096) (k : Fin 2048) : xT (yT A B C) W X M (ix3 b t k) = xAt A B C W X M (rw2 b t) b k := by
  unfold rw2
  pointwise [xT]
  simp only [yT_at]
  rfl

/-- The reciprocal root, read. -/
theorem rT_at (x : FVec Ideal S2x4096x2048 .f32) (b : Fin 2) (t : Fin 4096) :
    rT x (ix3 b t 0) = Ideal.rsqrt (Ideal.div (∑ j, x (ix3 b t j) * x (ix3 b t j)) (Ideal.ofBits .f32 0x45000000#32) + Ideal.ofBits .f32 0x3727C5AC#32) := by
  pointwise [rT]

/-- The rows, read. -/
theorem hT_at (b : Fin 2) (t : Fin 4096) (k : Fin 2048) : hT (xT (yT A B C) W X M) M N (ix3 b t k) = hAt A B C W X M N (rw2 b t) b k := by
  pointwise [hT]
  simp only [rT_at, xT_at]
  rfl

/-- A token's number, from its batch row and its place there. -/
theorem rw2_mod (i : Fin 8192) : rw2 ⟨(i : ℕ) / 4096, by omega⟩ ⟨(i : ℕ) % 4096, by omega⟩ = i :=
  Fin.ext (by simp only [rw2]; omega)

/-- THE FIRST RESULT, read. -/
theorem outX_at (i : Fin 8192) (k : Fin 2048) : outX (xT (yT A B C) W X M) (ix2 i k) = xAt A B C W X M i (bat i) k := by
  pointwise [outX]
  rw [xT_at]
  exact congrArg (fun j => xAt A B C W X M j (bat i) k) (rw2_mod i)

/-- THE SECOND RESULT, read. -/
theorem outLo_at (i : Fin 8192) (s : Fin 8) (l : Fin 128) : outLo (hT (xT (yT A B C) W X M) M N) (ix3 i s l) = hAt A B C W X M N i (bat i) (loCol s l) := by
  pointwise [outLo]
  rw [hT_at]
  exact congrArg (fun j => hAt A B C W X M N j (bat i) (loCol s l)) (rw2_mod i)

/-- THE THIRD RESULT, read. -/
theorem outHi_at (i : Fin 8192) (s : Fin 8) (l : Fin 128) : outHi (hT (xT (yT A B C) W X M) M N) (ix3 i s l) = hAt A B C W X M N i (bat i) (hiCol s l) := by
  pointwise [outHi]
  rw [hT_at]
  exact congrArg (fun j => hAt A B C W X M N j (bat i) (hiCol s l)) (rw2_mod i)

end Cert.Reference4Ideal.Outp

end
-- ==== Proof.Outproj.lean ====
/-
  The output projection's claims: the frames and the value claim of the kernel against the reference, both of which compute the
  functions of Proof/OutSpec.lean.
-/
module

public import proofs.«01_k».proof.Defs
public import proofs.«01_k».proof.Proof.OutFinal
public import proofs.«01_k».proof.Proof.OutRef
public import proofs.«01_k».proof.Proof.Gen.Kernel4.Frame
public import Idealize.ShloMosaic.Lib.Quiescent

@[expose] public section

set_option maxRecDepth 16384

noncomputable section

namespace Cert.Proof.Outproj

open Idealize.ShloMosaic Idealize.ShloMosaic.TcCoe Idealize.SL.Sem
open Cert.Outp

/-- The kernel runs from every memory. -/
theorem frameK : Cert.quiescent_Kernel4 (hKernel4 := Cert.Kernel4.Gen.facts) :=
  fun m ρ _ => Cert.Kernel4.Gen.frame m ρ

/-- The kernel at exact arithmetic runs from every memory. -/
theorem frameKI : Cert.quiescent_Kernel4Ideal (hKernel4Ideal := Cert.Kernel4Ideal.Gen.facts) :=
  fun m ρ _ => Cert.Kernel4Ideal.Gen.frame m ρ

/-- The reference at exact arithmetic runs from every memory. -/
theorem frameRI : Cert.quiescent_Reference4Ideal (hReference4Ideal := Cert.Reference4Ideal.Gen.facts) :=
  fun m ρ _ => (θ_run Cert.Reference4Ideal.defs _ _).mono
    (fun r h => ⟨fun c => (h c).2.2.2, Idealize.ShloMosaic.sem_eq_zero_of_no_sems (by decide) r.2⟩) (Cert.Reference4Ideal.Value.run (F := Ideal) m ρ)

open Cert.Reference4Ideal in
/-- The reference's first array: the tokens after the projection. -/
theorem ref_x (A : FVec Ideal S8192x1024 .bf16) (B C : FVec Ideal S8192x512 .bf16) (W : FVec Ideal S2048x2048 .bf16)
    (X : FVec Ideal S8192x2048 .f32) (M : FVec Ideal S2x6x2048 .f32) :
    Outp.outX (Outp.xT (Outp.yT A B C) W X M) = fun i => xAt A B C W X M (i 0) (bat (i 0)) (i 1) := by
  funext i
  have hi : i = ix2 (i 0) (i 1) := by funext a; fin_cases a <;> rfl
  exact (congrArg (Outp.outX (Outp.xT (Outp.yT A B C) W X M)) hi).trans (Outp.outX_at A B C W X M (i 0) (i 1))

open Cert.Reference4Ideal in
/-- The reference's second array: the low halves of the rows. -/
theorem ref_lo (A : FVec Ideal S8192x1024 .bf16) (B C : FVec Ideal S8192x512 .bf16) (W : FVec Ideal S2048x2048 .bf16)
    (X : FVec Ideal S8192x2048 .f32) (M : FVec Ideal S2x6x2048 .f32) (N : FVec Ideal S1x2048 .f32) :
    Outp.outLo (Outp.hT (Outp.xT (Outp.yT A B C) W X M) M N) = fun i => hAt A B C W X M N (i 0) (bat (i 0)) (loCol (i 1) (i 2)) := by
  funext i
  have hi : i = ix3 (i 0) (i 1) (i 2) := by funext a; fin_cases a <;> rfl
  exact (congrArg (Outp.outLo (Outp.hT (Outp.xT (Outp.yT A B C) W X M) M N)) hi).trans (Outp.outLo_at A B C W X M N (i 0) (i 1) (i 2))

open Cert.Reference4Ideal in
/-- The reference's third array: the high halves of the rows. -/
theorem ref_hi (A : FVec Ideal S8192x1024 .bf16) (B C : FVec Ideal S8192x512 .bf16) (W : FVec Ideal S2048x2048 .bf16)
    (X : FVec Ideal S8192x2048 .f32) (M : FVec Ideal S2x6x2048 .f32) (N : FVec Ideal S1x2048 .f32) :
    Outp.outHi (Outp.hT (Outp.xT (Outp.yT A B C) W X M) M N) = fun i => hAt A B C W X M N (i 0) (bat (i 0)) (hiCol (i 1) (i 2)) := by
  funext i
  have hi : i = ix3 (i 0) (i 1) (i 2) := by funext a; fin_cases a <;> rfl
  exact (congrArg (Outp.outHi (Outp.hT (Outp.xT (Outp.yT A B C) W X M) M N)) hi).trans (Outp.outHi_at A B C W X M N (i 0) (i 1) (i 2))

open Cert.Reference4Ideal in
/-- The reference's second result is that array of its arguments. -/
theorem res_lo (m : (ℓ : Loc nD τ sig) → Buf (Elt Ideal) ℓ) (c : Dev nD) :
    Value.res_out1 m c = Outp.outLo (Outp.hT (Outp.xT (Outp.yT (m ((c.tc : Thread nD τ).loc main_arg0)) (m ((c.tc : Thread nD τ).loc main_arg1)) (m ((c.tc : Thread nD τ).loc main_arg2))) (m ((c.tc : Thread nD τ).loc main_arg3)) (m ((c.tc : Thread nD τ).loc main_arg4)) (m ((c.tc : Thread nD τ).loc main_arg5))) (m ((c.tc : Thread nD τ).loc main_arg5)) (m ((c.tc : Thread nD τ).loc main_arg6))) :=
  rfl

open Cert.Reference4Ideal in
/-- The reference's third result is that array of its arguments. -/
theorem res_hi (m : (ℓ : Loc nD τ sig) → Buf (Elt Ideal) ℓ) (c : Dev nD) :
    Value.res_out2 m c = Outp.outHi (Outp.hT (Outp.xT (Outp.yT (m ((c.tc : Thread nD τ).loc main_arg0)) (m ((c.tc : Thread nD τ).loc main_arg1)) (m ((c.tc : Thread nD τ).loc main_arg2))) (m ((c.tc : Thread nD τ).loc main_arg3)) (m ((c.tc : Thread nD τ).loc main_arg4)) (m ((c.tc : Thread nD τ).loc main_arg5))) (m ((c.tc : Thread nD τ).loc main_arg5)) (m ((c.tc : Thread nD τ).loc main_arg6))) :=
  rfl

/-- THE VALUE CLAIM: the kernel and the reference end with the same tokens and the same halves of the rows. -/
theorem value : Cert.algebraic_Kernel4Ideal_Reference4Ideal (hKernel4Ideal := Cert.Kernel4Ideal.Gen.facts) (hReference4Ideal := Cert.Reference4Ideal.Gen.facts) := by
  intro m ρ m' ρ' _ hagree
  refine ⟨_, _, _, (θ_run Cert.Kernel4Ideal.defs _ _).mono (fun _ h c => ⟨(h c).1, (h c).2.1, (h c).2.2.1, (h c).2.2.2.2.2⟩)
    (Cert.Kernel4Ideal.Value.run_blocks (F := Ideal) m ρ), ?_⟩
  refine (θ_run Cert.Reference4Ideal.defs _ _).mono (fun _ h c => ⟨(h c).1.trans ?_, (h c).2.1.trans ?_, (h c).2.2.1.trans ?_, (h c).2.2.2⟩)
    (Cert.Reference4Ideal.Value.run (F := Ideal) m' ρ')
  all_goals obtain ⟨h0, h1, h2, h3, h4, h5, h6, -, -⟩ := hagree c
  · refine Eq.trans ?_ (Cert.Kernel4Ideal.Outp.final9 m c).symm
    rw [h0, h1, h2, h3, h4, h5]
    exact ref_x ..
  · refine Eq.trans ?_ (Cert.Kernel4Ideal.Outp.final10 m c).symm
    refine (res_lo m' c).trans ?_
    rw [h0, h1, h2, h3, h4, h5, h6]
    exact ref_lo ..
  · refine Eq.trans ?_ (Cert.Kernel4Ideal.Outp.final11 m c).symm
    refine (res_hi m' c).trans ?_
    rw [h0, h1, h2, h3, h4, h5, h6]
    exact ref_hi ..

end Cert.Proof.Outproj

end
-- ==== Proof.Fnorm.lean ====
/-
  The final norm's claims: the frames, and the value claim of the kernel against the reference, both of which compute a token's row
  over the root of its mean square, weighted.
-/
module

public import proofs.«01_k».proof.Defs
public import proofs.«01_k».proof.Proof.Gen.Kernel5.Frame
public import proofs.«01_k».proof.Proof.Gen.Kernel5Ideal.Value
public import proofs.«01_k».proof.Proof.Gen.Reference5Ideal.Run
public import Idealize.ShloMosaic.Lib.Pipeline.ValueKit
public import Idealize.ShloMosaic.Lib.Pointwise
public import Idealize.ShloMosaic.Lib.VecWindow
public import Idealize.ShloMosaic.Lib.Quiescent

@[expose] public section

set_option maxRecDepth 16384

noncomputable section

namespace Cert.Fnorm

open Idealize.ShloMosaic

/-- A row over the root of its mean square, weighted. -/
def nrow (x w : Fin 2048 → EReal) (k : Fin 2048) : EReal :=
  x k * Ideal.rsqrt (Ideal.div (∑ j, x j * x j) (Ideal.ofBits .f32 0x45000000#32) + Ideal.ofBits .f32 0x3727C5AC#32) * w k

/-- The norm of row `i`. -/
def result (X : FVec Ideal ⟨2, ![8192, 2048]⟩ .f32) (N : FVec Ideal ⟨2, ![1, 2048]⟩ .f32) (i : Fin 8192) (k : Fin 2048) : EReal :=
  nrow (fun k => X (ix2 i k)) (fun k => N (ix2 0 k)) k

end Cert.Fnorm

namespace Cert.Reference5Ideal.Fnorm

open Cert.Reference5Ideal Cert.Reference5Ideal.Gen
open Idealize.ShloMosaic Idealize.ShloMosaic.TcCoe Idealize.SL.Sem
open Cert.Fnorm

/-- One over the root of each token's mean square. -/
def rT (x : FVec Ideal S8192x2048 .f32) : FVec Ideal S8192x1 .f32 :=
  Host.rsqrt (addf (Host.divf (broadcastInDim S8192x1 ![0] bcast_S8192_S8192x1_0 (Host.reduceAdd (mulf x x) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x3727C5AC#32)))

/-- The reference's result, as a term of its arguments. -/
def outT (X : FVec Ideal S8192x2048 .f32) (N : FVec Ideal S1x2048 .f32) : FVec Ideal S8192x2048 .f32 :=
  mulf (mulf X (broadcastInDim S8192x2048 ![0, 1] bcast_S8192x1_S8192x2048_0_1 (rT X))) (broadcastInDim S8192x2048 ![0, 1] bcast_S1x2048_S8192x2048_0_1 (broadcastInDim S1x2048 ![1] bcast_S2048_S1x2048_1 (shapeCast _ N shapeCasts_S1x2048_S2048)))

/-- The reciprocal root, read. -/
theorem rT_at (x : FVec Ideal S8192x2048 .f32) (i : Fin 8192) :
    rT x (ix2 i 0) = Ideal.rsqrt (Ideal.div (∑ j, x (ix2 i j) * x (ix2 i j)) (Ideal.ofBits .f32 0x45000000#32) + Ideal.ofBits .f32 0x3727C5AC#32) := by
  pointwise [rT]

/-- THE REFERENCE'S RESULT, read. -/
theorem outT_at (X : FVec Ideal S8192x2048 .f32) (N : FVec Ideal S1x2048 .f32) (i : Fin 8192) (k : Fin 2048) :
    outT X N (ix2 i k) = result X N i k := by
  pointwise [outT]
  simp only [rT_at]
  rfl

end Cert.Reference5Ideal.Fnorm

namespace Cert.Kernel5Ideal.Fnorm

open Cert.Kernel5Ideal Cert.Kernel5Ideal.Gen Idealize.ShloMosaic Idealize.ShloMosaic.TcCoe Idealize.SL.Sem
open Idealize.ShloMosaic.Pipeline
open Cert.Fnorm

/-- A point's result block: the norm of the block's rows. -/
theorem out_at (x0 : Vec Ideal S512x2048 .f32) (x1 : Vec Ideal S1x2048 .f32) (r : Fin 512) (k : Fin 2048) :
    out0_2 (F := Ideal) x0 x1 (ix2 r k) = nrow (fun k => x0 (ix2 r k)) (fun k => x1 (ix2 0 k)) k := by
  frame_out
  pointwise [k0_pay1]
  rfl

variable (m : (l : Loc nD τ sig) → Buf (Elt Ideal) l)

/-- The windows' block indices: point `t` takes block `t` of the rows. -/
theorem idx : ∀ t : Fin cfg0.N, win0_0.index t = ![t.val, 0] ∧ win0_1.index t = ![0, 0] ∧ win0_2.index t = ![t.val, 0] :=
  (by decide +kernel : ∀ t : Fin grid0.N, _)

/-- The tokens. -/
abbrev aX (c : Dev nD) : FVec Ideal ⟨2, ![8192, 2048]⟩ .f32 := m ((c : Thread nD τ).loc main_arg0)
/-- The norm's weights. -/
abbrev aN (c : Dev nD) : FVec Ideal ⟨2, ![1, 2048]⟩ .f32 := m ((c : Thread nD τ).loc main_arg1)

/-- Row `r` of the block of rows of point `t`. -/
def rowOf (t : Fin cfg0.N) (r : Fin 512) : Fin 8192 :=
  ⟨t.val * 512 + (r : ℕ), by have h : t.val < 16 := t.isLt; omega⟩

/-- What point `t` writes: the norm of its rows. -/
theorem outs (c : Dev nD) (t : Fin cfg0.N) (r : Fin 512) (k : Fin 2048) :
    out0_2 (iblk m c 0 t) (iblk m c 1 t) (ix2 r k) = result (aX m c) (aN m c) (rowOf t r) k := by
  rw [out_at]
  unfold result rowOf
  congr 1
  · funext k
    blk_ext [iblk, V, idx t]
  · funext k
    blk_ext [iblk, V, idx t]

/-- THE ARRAY after the run. -/
theorem final (c : Dev nD) : (dats m 0 c).arrAt 2 cfg0.N = fun i : S8192x2048.Idx => result (aX m c) (aN m c) (i 0) (i 1) := by
  refine (dats m 0 c).arrAt_eq_of_covers 2 _ (by decide +kernel) fun t hf y => ?_
  blk_simp
  rw [after0_2]
  have hy : y = ix2 (y 0) (y 1) := by funext a; fin_cases a <;> rfl
  refine (congrArg (out0_2 (iblk m c 0 t) (iblk m c 1 t)) hy).trans ((outs m c t (y 0) (y 1)).trans ?_)
  refine congrArg₂ (result (aX m c) (aN m c)) (Fin.ext ?_) (Fin.ext ?_)
  · unfold rowOf
    blk_simp [idx t]
  · blk_simp [idx t]

end Cert.Kernel5Ideal.Fnorm

namespace Cert.Proof.Fnorm

open Idealize.ShloMosaic Idealize.ShloMosaic.TcCoe Idealize.SL.Sem
open Cert.Fnorm

/-- The kernel runs from every memory. -/
theorem frameK : Cert.quiescent_Kernel5 (hKernel5 := Cert.Kernel5.Gen.facts) :=
  fun m ρ _ => Cert.Kernel5.Gen.frame m ρ

/-- The kernel at exact arithmetic runs from every memory. -/
theorem frameKI : Cert.quiescent_Kernel5Ideal (hKernel5Ideal := Cert.Kernel5Ideal.Gen.facts) :=
  fun m ρ _ => Cert.Kernel5Ideal.Gen.frame m ρ

/-- The reference at exact arithmetic runs from every memory. -/
theorem frameRI : Cert.quiescent_Reference5Ideal (hReference5Ideal := Cert.Reference5Ideal.Gen.facts) :=
  fun m ρ _ => (θ_run Cert.Reference5Ideal.defs _ _).mono
    (fun r h => ⟨fun c => (h c).2, Idealize.ShloMosaic.sem_eq_zero_of_no_sems (by decide) r.2⟩) (Cert.Reference5Ideal.Value.run (F := Ideal) m ρ)

/-- The reference's array: the norm of every row. -/
theorem ref_final (X : FVec Ideal ⟨2, ![8192, 2048]⟩ .f32) (N : FVec Ideal ⟨2, ![1, 2048]⟩ .f32) :
    Cert.Reference5Ideal.Fnorm.outT X N = fun i => result X N (i 0) (i 1) := by
  funext i
  have hi : i = ix2 (i 0) (i 1) := by funext a; fin_cases a <;> rfl
  exact (congrArg (Cert.Reference5Ideal.Fnorm.outT X N) hi).trans (Cert.Reference5Ideal.Fnorm.outT_at X N (i 0) (i 1))

/-- THE VALUE CLAIM: the kernel and the reference end with the same result. -/
theorem value : Cert.algebraic_Kernel5Ideal_Reference5Ideal (hKernel5Ideal := Cert.Kernel5Ideal.Gen.facts) (hReference5Ideal := Cert.Reference5Ideal.Gen.facts) := by
  intro m ρ m' ρ' _ hagree
  refine ⟨_, Cert.Kernel5Ideal.Value.run_blocks (F := Ideal) m ρ, ?_⟩
  refine (θ_run Cert.Reference5Ideal.defs _ _).mono (fun _ h c => ⟨(h c).1.trans ?_, (h c).2⟩) (Cert.Reference5Ideal.Value.run (F := Ideal) m' ρ')
  refine Eq.trans ?_ (Cert.Kernel5Ideal.Fnorm.final m c).symm
  have h0 := (hagree c).1
  have h1 := (hagree c).2
  rw [h0, h1]
  exact ref_final _ _

end Cert.Proof.Fnorm

end
-- ==== Proof.Rope.lean ====
/-
  The rotary tables' claims: the frames, the named constant, and the value claim of the kernel against the reference, both of which
  take the cosine and the signed sine of a token's position times the frequency of a lane.
-/
module

public import proofs.«01_k».proof.Defs
public import proofs.«01_k».proof.Proof.Gen.Kernel6.Frame
public import proofs.«01_k».proof.Proof.Gen.Kernel6Ideal.Value
public import proofs.«01_k».proof.Proof.Gen.Reference6Ideal.Run
public import Idealize.ShloMosaic.Lib.Pipeline.ValueKit
public import Idealize.ShloMosaic.Lib.Pointwise
public import Idealize.ShloMosaic.Lib.VecWindow
public import Idealize.ShloMosaic.Lib.Quiescent

@[expose] public section

set_option maxRecDepth 16384

noncomputable section

namespace Cert.Rope

open Idealize.ShloMosaic

/-- The logarithm of the step from one frequency to the next. -/
def step : ℝ := -(Real.log 10000) * (1 / 32)

/-- The angle of frequency `j` at position `p`. -/
def angle (p : BitVec 32) (j : ℕ) : ℝ := (p.toInt : ℝ) * Real.exp ((j : ℝ) * step)

/-- The position of row `i`. -/
def pos (P : IVec ⟨2, ![2, 4096]⟩ 32) (i : Fin 8192) : BitVec 32 :=
  P (ix2 ⟨(i : ℕ) / 4096, by omega⟩ ⟨(i : ℕ) % 4096, by omega⟩)

/-- A lane of the cosine table. -/
def cosAt (p : BitVec 32) (l : ℕ) : EReal := ((Real.cos (angle p (l % 32)) : ℝ) : EReal)

/-- A lane of the signed sine table: the first half of a head carries the minus sign. -/
def sinAt (p : BitVec 32) (l : ℕ) : EReal :=
  if l % 64 < 32 then ((-(Real.sin (angle p (l % 32))) : ℝ) : EReal) else ((Real.sin (angle p (l % 32)) : ℝ) : EReal)

/-- A converted integer. -/
theorem sitofp_at (b : BitVec 32) : FloatOps.sitofp (F := Ideal) .f32 b = ((b.toInt : ℝ) : EReal) := rfl

/-- A power of the base is an exponential. -/
theorem pow_step (j : ℕ) : Real.rpow 10000 (-(j : ℝ) * (1 / 32)) = Real.exp ((j : ℝ) * step) := by
  show (10000 : ℝ) ^ (-(j : ℝ) * (1 / 32)) = _
  rw [Real.rpow_def_of_pos (by norm_num)]
  congr 1
  unfold step
  ring

/-- `10000.0` denotes 10000. -/
theorem ofBits_10000 : Ideal.ofBits .f32 0x461C4000#32 = ((10000 : ℝ) : EReal) := by
  simp [Ideal.ofBits, Ideal.ieee, -EReal.coe_mul]; norm_num

/-- `32.0` denotes 32. -/
theorem ofBits_32 : Ideal.ofBits .f32 0x42000000#32 = ((32 : ℝ) : EReal) := by
  simp [Ideal.ofBits, Ideal.ieee, -EReal.coe_mul]; norm_num

/-- `-1.0` denotes -1. -/
theorem ofBits_m1 : Ideal.ofBits .f32 0xBF800000#32 = ((-1 : ℝ) : EReal) := by
  simp [Ideal.ofBits, Ideal.ieee, -EReal.coe_mul]; norm_num

end Cert.Rope

namespace Cert.Reference6Ideal.Rope

open Cert.Reference6Ideal Cert.Reference6Ideal.Gen
open Idealize.ShloMosaic Idealize.ShloMosaic.TcCoe Idealize.SL.Sem
open Cert.Rope

/-- The angles. -/
def angT (P : IVec S2x4096 32) : FVec Ideal S8192x32 .f32 :=
  mulf (broadcastInDim S8192x32 ![0, 1] bcast_S8192x1_S8192x32_0_1 (shapeCast _ (sitofp .f32 P) shapeCasts_S2x4096_S8192x1)) (broadcastInDim S8192x32 ![0, 1] bcast_S1x32_S8192x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32))))))

/-- Four heads side by side, each of two tables. -/
def catT (a b : FVec Ideal S8192x32 .f32) : FVec Ideal S8192x256 .f32 :=
  concatenate S8192x256 1 [⟨S8192x32, a⟩, ⟨S8192x32, b⟩, ⟨S8192x32, a⟩, ⟨S8192x32, b⟩, ⟨S8192x32, a⟩, ⟨S8192x32, b⟩, ⟨S8192x32, a⟩, ⟨S8192x32, b⟩] concatenates_S8192x32_S8192x32_S8192x32_S8192x32_S8192x32_S8192x32_S8192x32_S8192x32_S8192x256_d1

/-- The angles, read. -/
theorem angT_at (P : IVec S2x4096 32) (i : Fin 8192) (l : Fin 32) : angT P (ix2 i l) = ((angle (pos P i) l : ℝ) : EReal) := by
  have hl : (((BitVec.ofNat 32 (l : ℕ)).toInt : ℝ)) = ((l : ℕ) : ℝ) := by
    have : (BitVec.ofNat 32 (l : ℕ)).toInt = ((l : ℕ) : ℤ) := by revert l; decide +kernel
    rw [this]; push_cast; rfl
  pointwise [angT, sitofp_at]
  rw [hl, ofBits_10000, ofBits_32, ← EReal.coe_neg, Ideal.div_coe (by norm_num), ← EReal.coe_mul, Ideal.pow_coe_coe, pow_step, ← EReal.coe_mul]
  rfl

/-- The heads, read. -/
theorem catT_at (a b : FVec Ideal S8192x32 .f32) (i : Fin 8192) (l : Fin 256) :
    catT a b (ix2 i l) = if (l : ℕ) % 64 < 32 then a (ix2 i ⟨(l : ℕ) % 32, by omega⟩) else b (ix2 i ⟨(l : ℕ) % 32, by omega⟩) := by
  by_cases h : (l : ℕ) % 64 < 32
  · rw [if_pos h]
    pointwise [catT]
    split_ifs <;> first
      | omega
      | exact congrArg (fun k => a (ix2 i k)) (Fin.ext (by show _ = (l : ℕ) % 32; dsimp only; omega))
  · rw [if_neg h]
    pointwise [catT]
    split_ifs <;> first
      | omega
      | exact congrArg (fun k => b (ix2 i k)) (Fin.ext (by show _ = (l : ℕ) % 32; dsimp only; omega))

/-- The reference's cosines, as a term of its arguments. -/
theorem res0 (m : (ℓ : Loc nD τ sig) → Buf (Elt Ideal) ℓ) (c : Dev nD) :
    Value.res_out0 m c = catT (Host.cos (angT (m ((c.tc : Thread nD τ).loc main_arg0)))) (Host.cos (angT (m ((c.tc : Thread nD τ).loc main_arg0)))) := rfl

/-- The reference's signed sines, as a term of its arguments. -/
theorem res1 (m : (ℓ : Loc nD τ sig) → Buf (Elt Ideal) ℓ) (c : Dev nD) :
    Value.res_out1 m c = catT (Host.negf (Host.sin (angT (m ((c.tc : Thread nD τ).loc main_arg0))))) (Host.sin (angT (m ((c.tc : Thread nD τ).loc main_arg0)))) := rfl

/-- THE REFERENCE'S COSINES, read. -/
theorem cos_at (P : IVec S2x4096 32) (i : Fin 8192) (l : Fin 256) :
    catT (Host.cos (angT P)) (Host.cos (angT P)) (ix2 i l) = cosAt (pos P i) l := by
  rw [catT_at, ite_self]
  show Ideal.cos (angT P (ix2 i _)) = _
  rw [angT_at]
  rfl

/-- THE REFERENCE'S SIGNED SINES, read. -/
theorem sin_at (P : IVec S2x4096 32) (i : Fin 8192) (l : Fin 256) :
    catT (Host.negf (Host.sin (angT P))) (Host.sin (angT P)) (ix2 i l) = sinAt (pos P i) l := by
  rw [catT_at]
  show (if (l : ℕ) % 64 < 32 then -(Ideal.sin (angT P (ix2 i _))) else Ideal.sin (angT P (ix2 i _))) = _
  rw [angT_at]
  rfl

end Cert.Reference6Ideal.Rope

namespace Cert.Kernel6Ideal.Rope

open Cert.Kernel6Ideal Cert.Kernel6Ideal.Gen Idealize.ShloMosaic Idealize.ShloMosaic.TcCoe Idealize.SL.Sem
open Idealize.ShloMosaic.Pipeline
open Cert.Rope

/-- The named constant's value. -/
theorem named_step : Named.named (F := Ideal) κ "log_freq" (φ := .f32) 0xBE935D8E#32 = ((step : ℝ) : EReal) :=
  IdealRules.named_const.ideal_named_scalar _ _ _ _ rfl

/-- The kernel's angles, read. -/
theorem ang_at (x : Vec Ideal S1024x1 .i32) (r : Fin 1024) (l : Fin 256) :
    k0_pay1 (F := Ideal) x (ix2 r l) = ((angle (x (ix2 r 0)) ((l : ℕ) % 32) : ℝ) : EReal) := by
  have hl : (((IntOp.andi (BitVec.ofNat 32 (l : ℕ)) 31#32).toInt : ℝ)) = (((l : ℕ) % 32 : ℕ) : ℝ) := by
    have : (IntOp.andi (BitVec.ofNat 32 (l : ℕ)) 31#32).toInt = (((l : ℕ) % 32 : ℕ) : ℤ) := by revert l; decide +kernel
    rw [this]; push_cast; rfl
  pointwise [k0_pay1, sitofp_at]
  rw [hl, named_step, ← EReal.coe_mul, Ideal.exp_coe, ← EReal.coe_mul]
  rfl

/-- A point's cosines. -/
theorem cos_at (x : Vec Ideal S1024x1 .i32) (r : Fin 1024) (l : Fin 256) : out0_1 (F := Ideal) x (ix2 r l) = cosAt (x (ix2 r 0)) l := by
  frame_out
  pointwise [k0_pay2]
  rw [ang_at]
  rfl

/-- The sign of a lane. -/
theorem sign_at (l : Fin 256) : (IntOp.cmpi .slt (IntOp.andi (BitVec.ofNat 32 (l : ℕ)) 63#32) 32#32) = if (l : ℕ) % 64 < 32 then 1#1 else 0#1 := by
  revert l; decide +kernel

/-- A point's signed sines. -/
theorem sin_at (x : Vec Ideal S1024x1 .i32) (r : Fin 1024) (l : Fin 256) : out0_2 (F := Ideal) x (ix2 r l) = sinAt (x (ix2 r 0)) l := by
  frame_out
  pointwise [k0_pay3]
  rw [ang_at, sign_at, ofBits_m1]
  unfold sinAt
  by_cases h : (l : ℕ) % 64 < 32
  · rw [if_pos h, if_pos h, Ideal.sin_coe]
    show _ * ((-1 : ℝ) : EReal) = _
    rw [← EReal.coe_mul, mul_neg_one]
  · rw [if_neg h, if_neg h, Ideal.sin_coe]
    show _ * (1 : EReal) = _
    rw [mul_one]

variable (m : (l : Loc nD τ sig) → Buf (Elt Ideal) l)

/-- The windows' block indices: point `t` takes block `t` of the rows. -/
theorem idx : ∀ t : Fin cfg0.N, win0_0.index t = ![t.val, 0] ∧ win0_1.index t = ![t.val, 0] ∧ win0_2.index t = ![t.val, 0] :=
  (by decide +kernel : ∀ t : Fin grid0.N, _)

/-- The positions. -/
abbrev aP (c : Dev nD) : IVec ⟨2, ![2, 4096]⟩ 32 := m ((c : Thread nD τ).loc main_arg0)

/-- The column of positions that the kernel reads. -/
theorem vpos (c : Dev nD) : (V m c main_v0 : IVec S8192x1 32) = shapeCast S8192x1 (aP m c : IVec S2x4096 32) shapeCasts_S2x4096_S8192x1 := by
  show StableHlo.after hostOps0 _ (Proc.devRef .tc main_v0) = _
  after_results
  rfl

/-- The column, read. -/
theorem vpos_at (c : Dev nD) (i : Fin 8192) : (V m c main_v0 : IVec S8192x1 32) (ix2 i 0) = pos (aP m c) i := by
  rw [vpos]
  pointwise
  rfl

/-- Row `r` of the block of rows of point `t`. -/
def rowOf (t : Fin cfg0.N) (r : Fin 1024) : Fin 8192 :=
  ⟨t.val * 1024 + (r : ℕ), by have h : t.val < 8 := t.isLt; omega⟩

/-- A point's block of positions, read. -/
theorem blk_at (c : Dev nD) (t : Fin cfg0.N) (r : Fin 1024) : (iblk m c 0 t : Vec Ideal S1024x1 .i32) (ix2 r 0) = pos (aP m c) (rowOf t r) := by
  rw [← vpos_at]
  unfold rowOf
  blk_ext [iblk, idx t]

/-- THE COSINES after the run. -/
theorem final1 (c : Dev nD) : (dats m 0 c).arrAt 1 cfg0.N = fun i : S8192x256.Idx => cosAt (pos (aP m c) (i 0)) (i 1 : ℕ) := by
  refine (dats m 0 c).arrAt_eq_of_covers 1 _ (by decide +kernel) fun t hf y => ?_
  blk_simp
  rw [after0_1]
  have hy : y = ix2 (y 0) (y 1) := by funext a; fin_cases a <;> rfl
  refine (congrArg (out0_1 (F := Ideal) (iblk m c 0 t)) hy).trans ((cos_at (iblk m c 0 t) (y 0) (y 1)).trans ?_)
  refine (congrArg (fun p => cosAt p (y 1 : ℕ)) (blk_at m c t (y 0))).trans ?_
  refine congrArg₂ (fun i l => cosAt (pos (aP m c) i) l) (Fin.ext ?_) ?_
  · unfold rowOf
    blk_simp [idx t]
  · blk_simp [idx t]

/-- THE SIGNED SINES after the run. -/
theorem final2 (c : Dev nD) : (dats m 0 c).arrAt 2 cfg0.N = fun i : S8192x256.Idx => sinAt (pos (aP m c) (i 0)) (i 1 : ℕ) := by
  refine (dats m 0 c).arrAt_eq_of_covers 2 _ (by decide +kernel) fun t hf y => ?_
  blk_simp
  rw [after0_2]
  have hy : y = ix2 (y 0) (y 1) := by funext a; fin_cases a <;> rfl
  refine (congrArg (out0_2 (F := Ideal) (iblk m c 0 t)) hy).trans ((sin_at (iblk m c 0 t) (y 0) (y 1)).trans ?_)
  refine (congrArg (fun p => sinAt p (y 1 : ℕ)) (blk_at m c t (y 0))).trans ?_
  refine congrArg₂ (fun i l => sinAt (pos (aP m c) i) l) (Fin.ext ?_) ?_
  · unfold rowOf
    blk_simp [idx t]
  · blk_simp [idx t]

end Cert.Kernel6Ideal.Rope

namespace Cert.Proof.Rope

open Idealize.ShloMosaic Idealize.ShloMosaic.TcCoe Idealize.SL.Sem
open Cert.Rope

/-- The kernel runs from every memory. -/
theorem frameK : Cert.quiescent_Kernel6 (hKernel6 := Cert.Kernel6.Gen.facts) :=
  fun m ρ _ => Cert.Kernel6.Gen.frame m ρ

/-- The kernel at exact arithmetic runs from every memory. -/
theorem frameKI : Cert.quiescent_Kernel6Ideal (hKernel6Ideal := Cert.Kernel6Ideal.Gen.facts) :=
  fun m ρ _ => Cert.Kernel6Ideal.Gen.frame m ρ

/-- The reference at exact arithmetic runs from every memory. -/
theorem frameRI : Cert.quiescent_Reference6Ideal (hReference6Ideal := Cert.Reference6Ideal.Gen.facts) :=
  fun m ρ _ => (θ_run Cert.Reference6Ideal.defs _ _).mono
    (fun r h => ⟨fun c => (h c).2.2, Idealize.ShloMosaic.sem_eq_zero_of_no_sems (by decide) r.2⟩) (Cert.Reference6Ideal.Value.run (F := Ideal) m ρ)

/-- The named constant stands for the logarithm of the step of the frequencies. -/
theorem named : Cert.preserves_Kernel6_Kernel6Ideal :=
  IdealRules.named_const.statement Cert.Kernel6Ideal.κ "log_freq" .f32 _ _ rfl

/-- The reference's cosines. -/
theorem ref_cos (P : IVec ⟨2, ![2, 4096]⟩ 32) :
    Cert.Reference6Ideal.Rope.catT (Host.cos (Cert.Reference6Ideal.Rope.angT P)) (Host.cos (Cert.Reference6Ideal.Rope.angT P)) = fun i => cosAt (pos P (i 0)) (i 1 : ℕ) := by
  funext i
  have hi : i = ix2 (i 0) (i 1) := by funext a; fin_cases a <;> rfl
  exact (congrArg (Cert.Reference6Ideal.Rope.catT _ _) hi).trans (Cert.Reference6Ideal.Rope.cos_at P (i 0) (i 1))

/-- The reference's signed sines. -/
theorem ref_sin (P : IVec ⟨2, ![2, 4096]⟩ 32) :
    Cert.Reference6Ideal.Rope.catT (Host.negf (Host.sin (Cert.Reference6Ideal.Rope.angT P))) (Host.sin (Cert.Reference6Ideal.Rope.angT P)) = fun i => sinAt (pos P (i 0)) (i 1 : ℕ) := by
  funext i
  have hi : i = ix2 (i 0) (i 1) := by funext a; fin_cases a <;> rfl
  exact (congrArg (Cert.Reference6Ideal.Rope.catT _ _) hi).trans (Cert.Reference6Ideal.Rope.sin_at P (i 0) (i 1))

/-- THE VALUE CLAIM: the kernel and the reference end with the same two tables. -/
theorem value : Cert.algebraic_Kernel6Ideal_Reference6Ideal (hKernel6Ideal := Cert.Kernel6Ideal.Gen.facts) (hReference6Ideal := Cert.Reference6Ideal.Gen.facts) := by
  intro m ρ m' ρ' _ hagree
  refine ⟨_, _, Cert.Kernel6Ideal.Value.run_blocks (F := Ideal) m ρ, ?_⟩
  refine (θ_run Cert.Reference6Ideal.defs _ _).mono (fun _ h c => ⟨(h c).1.trans ?_, (h c).2.1.trans ?_, (h c).2.2⟩) (Cert.Reference6Ideal.Value.run (F := Ideal) m' ρ')
  · refine Eq.trans ?_ (Cert.Kernel6Ideal.Rope.final1 m c).symm
    refine (Cert.Reference6Ideal.Rope.res0 m' c).trans ?_
    rw [hagree c]
    exact ref_cos _
  · refine Eq.trans ?_ (Cert.Kernel6Ideal.Rope.final2 m c).symm
    refine (Cert.Reference6Ideal.Rope.res1 m' c).trans ?_
    rw [hagree c]
    exact ref_sin _

end Cert.Proof.Rope

end
-- ==== Proof.Modulation.lean ====
/-
  The conditioning's claims: the frames, and the value claim of the kernel against the reference, both of which take the conditioning
  vector through `silu`, multiply it by every layer's weights and add the layer's bias. The kernel goes over the 2048 rows in 64 trips
  of 32, keeps eight partial sums apart, and adds them at the end.
-/
module

public import proofs.«01_k».proof.Defs
public import proofs.«01_k».proof.Proof.Gen.Kernel7.Frame
public import proofs.«01_k».proof.Proof.Gen.Kernel7Ideal.Value
public import proofs.«01_k».proof.Proof.Gen.Reference7Ideal.Run
public import Idealize.ShloMosaic.Lib.Pipeline.ValueKit
public import Idealize.ShloMosaic.Lib.Pointwise
public import Idealize.ShloMosaic.Lib.VecWindow
public import Idealize.ShloMosaic.Lib.WholeRead
public import Idealize.ShloMosaic.Lib.Quiescent

@[expose] public section

set_option maxRecDepth 16384

noncomputable section

namespace Cert.Modulation

open Idealize.ShloMosaic

/-- `silu`. -/
def silu (x : EReal) : EReal := x * Ideal.div 1 (1 + Ideal.exp (-x))

/-- The conditioning of sample `b` in layer `l`, column `n`. -/
def result (C : FVec Ideal ⟨2, ![2, 2048]⟩ .f32) (W : FVec Ideal ⟨3, ![4, 2048, 12288]⟩ .f32) (B : FVec Ideal ⟨2, ![4, 12288]⟩ .f32) (l : Fin 4) (b : Fin 2) (n : Fin 12288) : EReal :=
  (∑ r, W (ix3 l r n) * silu (C (ix2 b r))) + B (ix2 l n)

/-- A sum over a product of lengths, by rows. -/
theorem sum_rows (G : ℕ → EReal) (n k : ℕ) : ∑ r ∈ Finset.range (n * k), G r = ∑ a ∈ Finset.range n, ∑ b ∈ Finset.range k, G (a * k + b) := by
  induction n with
  | zero => simp
  | succ n ih => rw [Nat.succ_mul, Finset.sum_range_add, ih, Finset.sum_range_succ]

/-- A sum over 2048 rows, taken as 64 trips of four groups of eight rows, the eight kept apart to the end. -/
theorem sum_trips (G : ℕ → EReal) :
    ∑ s : Fin 8, ∑ k ∈ Finset.range 64, (((G (32 * k + s) + G (32 * k + (8 + s))) + G (32 * k + (16 + s))) + G (32 * k + (24 + s)))
      = ∑ r : Fin 2048, G r := by
  rw [Fin.sum_univ_eq_sum_range G 2048, show 2048 = 64 * 32 from rfl, sum_rows G 64 32,
    Fin.sum_univ_eq_sum_range (fun s => ∑ k ∈ Finset.range 64, (((G (32 * k + s) + G (32 * k + (8 + s))) + G (32 * k + (16 + s))) + G (32 * k + (24 + s)))) 8,
    Finset.sum_comm]
  refine Finset.sum_congr rfl fun k _ => ?_
  rw [show 32 = 4 * 8 from rfl, sum_rows (fun b => G (k * (4 * 8) + b)) 4 8, Finset.sum_comm]
  refine Finset.sum_congr rfl fun s _ => ?_
  rw [Finset.sum_range_succ, Finset.sum_range_succ, Finset.sum_range_succ, Finset.sum_range_one]
  have e : ∀ q : ℕ, 4 * 8 * k + (8 * q + s) = k * (4 * 8) + (q * 8 + s) := fun q => by ring
  rw [← e 0, ← e 1, ← e 2, ← e 3, show 8 * 0 + s = s by omega]

/-- A row's term of the sum, of a block of weights and the conditioning's block, at column `j`. -/
def term (x0 : FVec Ideal ⟨3, ![2, 2048, 128]⟩ .f32) (x1 : FVec Ideal ⟨3, ![1, 2048, 1024]⟩ .f32) (b : Fin 2) (j : Fin 1024) (r : Fin 2048) : EReal :=
  x1 (ix3 0 r j) * silu (x0 (ix3 b r ⟨(j : ℕ) % 128, by omega⟩))

/-- The same by a row's number. -/
def termN (x0 : FVec Ideal ⟨3, ![2, 2048, 128]⟩ .f32) (x1 : FVec Ideal ⟨3, ![1, 2048, 1024]⟩ .f32) (b : Fin 2) (j : Fin 1024) (r : ℕ) : EReal :=
  if h : r < 2048 then term x0 x1 b j ⟨r, h⟩ else 0

/-- The terms summed. -/
theorem sum_termN (x0 : FVec Ideal ⟨3, ![2, 2048, 128]⟩ .f32) (x1 : FVec Ideal ⟨3, ![1, 2048, 1024]⟩ .f32) (b : Fin 2) (j : Fin 1024) :
    ∑ r : Fin 2048, termN x0 x1 b j r = ∑ r, term x0 x1 b j r :=
  Finset.sum_congr rfl fun r _ => dif_pos r.isLt

end Cert.Modulation

namespace Cert.Reference7Ideal.Modulation

open Cert.Reference7Ideal Cert.Reference7Ideal.Gen
open Idealize.ShloMosaic Idealize.ShloMosaic.TcCoe Idealize.SL.Sem
open Cert.Modulation

/-- The conditioning through `silu`. -/
def sT (C : FVec Ideal S2x2048 .f32) : FVec Ideal S2x2048 .f32 :=
  mulf C (Host.divf (broadcastInDim S2x2048 ![] bcast_S_S2x2048 (constant S_ .f32 0x3F800000#32)) (addf (broadcastInDim S2x2048 ![] bcast_S_S2x2048 (constant S_ .f32 0x3F800000#32)) (Host.exp (Host.negf C))))

/-- The reference's result, as a term of its arguments. -/
def outT (C : FVec Ideal S2x2048 .f32) (W : FVec Ideal S4x2048x12288 .f32) (B : FVec Ideal S4x12288 .f32) : FVec Ideal S4x2x12288 .f32 :=
  addf (transpose S4x2x12288 [1, 0, 2] (Host.dotGeneral dot_S2x2048_S4x2048x12288_S2x4x12288_1_1_0_02_n_n none (sT C) W) transposes_S2x4x12288_S4x2x12288_1_0_2) (broadcastInDim S4x2x12288 ![0, 1, 2] bcast_S4x1x12288_S4x2x12288_0_1_2 (broadcastInDim S4x1x12288 ![0, 2] bcast_S4x12288_S4x1x12288_0_2 B))

/-- `silu`, read. -/
theorem sT_at (C : FVec Ideal S2x2048 .f32) (b : Fin 2) (r : Fin 2048) : sT C (ix2 b r) = silu (C (ix2 b r)) := by
  pointwise [sT]
  rfl

/-- THE REFERENCE'S RESULT, read. -/
theorem outT_at (C : FVec Ideal S2x2048 .f32) (W : FVec Ideal S4x2048x12288 .f32) (B : FVec Ideal S4x12288 .f32) (l : Fin 4) (b : Fin 2) (n : Fin 12288) :
    outT C W B (ix3 l b n) = result C W B l b n := by
  pointwise [outT]
  simp only [sT_at]
  unfold result
  congr 1
  exact Finset.sum_congr rfl fun r _ => mul_comm _ _

end Cert.Reference7Ideal.Modulation

namespace Cert.Kernel7Ideal.Modulation

open Cert.Kernel7Ideal Cert.Kernel7Ideal.Gen Idealize.ShloMosaic Idealize.ShloMosaic.TcCoe Idealize.SL.Sem
open Idealize.ShloMosaic.Pipeline
open Cert.Modulation

variable (c : Dev nD) (i : grid0.Coords) (arg2 : Memref sig .tc .vmem S2x2048x128 .f32) (harg2 : arg2.IsWhole) (arg3 : Memref sig .tc .vmem S1x2048x1024 .f32) (harg3 : arg3.IsWhole) (arg4 : Memref sig .tc .vmem S1x1x1024 .f32) (harg4 : arg4.IsWhole) (arg5 : Memref sig .tc .vmem S1x2x1024 .f32) (harg5 : arg5.IsWhole)
    (x0 : Vec Ideal S2x2048x128 .f32) (x1 : Vec Ideal S1x2048x1024 .f32) (x2 : Vec Ideal S1x1x1024 .f32)

/-! ## The first sample's loop -/

/-- The loop has 64 trips. -/
theorem trips1 : k0_t1_loop.trips = 64 := by decide +kernel

/-- A trip reads 32 rows. -/
theorem off1 : ∀ k : Fin k0_t1_loop.trips, k0_off1 k = ![0, 32 * k.val, 0] ∧ k0_off2 k = ![0, 32 * k.val, 0] := by decide +kernel

/-- The rows of the conditioning that a trip loads. -/
def ldC1 (k : Fin k0_t1_loop.trips) : Vec Ideal S1x32x128 .f32 :=
  View.readAt (Elt Ideal) arg2.view (Rect.unit (s := S2x2048x128) (k0_off1 k) S1x32x128.size (k0_off1_inb k)).toLoadRect (harg2.unread x0)

/-- The rows of the weights that a trip loads. -/
def ldW1 (k : Fin k0_t1_loop.trips) : Vec Ideal S1x32x1024 .f32 :=
  View.readAt (Elt Ideal) arg3.view (Rect.unit (s := S1x2048x1024) (k0_off2 k) S1x32x1024.size (k0_off2_inb k)).toLoadRect (harg3.unread x1)

/-- The conditioning's rows, read. -/
theorem ldC1_at (k : Fin k0_t1_loop.trips) (q : Fin 32) (l : Fin 128) (h : 32 * k.val + (q : ℕ) < 2048) :
    ldC1 arg2 harg2 x0 k (ix3 0 q l) = x0 (ix3 0 ⟨32 * k.val + q, h⟩ l) := by
  refine (Memref.IsWhole.readAt_unread harg2 x0 _ _).trans (congrArg x0 ?_)
  funext a
  apply Fin.ext
  show k0_off1 k a + 1 * ((ix3 (0 : Fin 1) q l) a : ℕ) = _
  rw [(off1 k).1]
  fin_cases a
  · rfl
  · show 32 * k.val + 1 * (q : ℕ) = 32 * k.val + q; omega
  · show 0 + 1 * (l : ℕ) = l; omega

/-- The weights' rows, read. -/
theorem ldW1_at (k : Fin k0_t1_loop.trips) (q : Fin 32) (l : Fin 1024) (h : 32 * k.val + (q : ℕ) < 2048) :
    ldW1 arg3 harg3 x1 k (ix3 0 q l) = x1 (ix3 0 ⟨32 * k.val + q, h⟩ l) := by
  refine (Memref.IsWhole.readAt_unread harg3 x1 _ _).trans (congrArg x1 ?_)
  funext a
  apply Fin.ext
  show k0_off2 k a + 1 * ((ix3 (0 : Fin 1) q l) a : ℕ) = _
  rw [(off1 k).2]
  fin_cases a
  · rfl
  · show 32 * k.val + 1 * (q : ℕ) = 32 * k.val + q; omega
  · show 0 + 1 * (l : ℕ) = l; omega

/-- A trip, as a term of what it loads. -/
theorem trip1 (k : Fin k0_t1_loop.trips) (acc : FVec Ideal S8x1024 .f32) :
    tripR_k0_t1 (F := Ideal) Variants.none c none i arg2 harg2 arg3 harg3 arg4 harg4 arg5 harg5 (harg2.unread x0) (harg3.unread x1) k acc
      = k0_pay2 acc (k0_pay7 (ldC1 arg2 harg2 x0 k)) (k0_pay8 (ldW1 arg3 harg3 x1 k)) (k0_pay9 (ldC1 arg2 harg2 x0 k) (ldW1 arg3 harg3 x1 k)) (k0_pay10 (ldC1 arg2 harg2 x0 k) (ldW1 arg3 harg3 x1 k)) (k0_pay11 (ldC1 arg2 harg2 x0 k) (ldW1 arg3 harg3 x1 k)) (k0_pay13 (ldC1 arg2 harg2 x0 k) (ldW1 arg3 harg3 x1 k)) (k0_pay14 (ldC1 arg2 harg2 x0 k) (ldW1 arg3 harg3 x1 k)) := by
  unfold tripR_k0_t1 trip_k0_t1
  rfl

set_option maxHeartbeats 4000000 in
/-- What a trip adds: four rows' terms to each of the eight sums. -/
theorem add1 (acc : FVec Ideal S8x1024 .f32) (v25 : Vec Ideal S1x32x128 .f32) (v36 : Vec Ideal S1x32x1024 .f32) (s : Fin 8) (j : Fin 1024) :
    k0_pay2 (F := Ideal) acc (k0_pay7 v25) (k0_pay8 v36) (k0_pay9 v25 v36) (k0_pay10 v25 v36) (k0_pay11 v25 v36) (k0_pay13 v25 v36) (k0_pay14 v25 v36) (ix2 s j)
      = acc (ix2 s j) + (((v36 (ix3 0 ⟨(s : ℕ), by omega⟩ j) * silu (v25 (ix3 0 ⟨(s : ℕ), by omega⟩ ⟨(j : ℕ) % 128, by omega⟩))
          + v36 (ix3 0 ⟨8 + (s : ℕ), by omega⟩ j) * silu (v25 (ix3 0 ⟨8 + (s : ℕ), by omega⟩ ⟨(j : ℕ) % 128, by omega⟩)))
          + v36 (ix3 0 ⟨16 + (s : ℕ), by omega⟩ j) * silu (v25 (ix3 0 ⟨16 + (s : ℕ), by omega⟩ ⟨(j : ℕ) % 128, by omega⟩)))
          + v36 (ix3 0 ⟨24 + (s : ℕ), by omega⟩ j) * silu (v25 (ix3 0 ⟨24 + (s : ℕ), by omega⟩ ⟨(j : ℕ) % 128, by omega⟩))) := by
  have e : ∀ (l : Fin 128) (n : Fin 1024), (n : ℕ) = j → (l : ℕ) = (j : ℕ) % 128 → ∀ q : Fin 32,
      v36 (ix3 0 q n) * (v25 (ix3 0 q l) * Ideal.div 1 (1 + Ideal.exp (0 - v25 (ix3 0 q l)))) = v36 (ix3 0 q j) * silu (v25 (ix3 0 q ⟨(j : ℕ) % 128, by omega⟩)) := by
    intro l n hn hl q
    have hn' : n = j := Fin.ext hn
    have hl' : l = ⟨(j : ℕ) % 128, by omega⟩ := Fin.ext hl
    rw [hn', hl', zero_sub]
    rfl
  have f : ∀ (l : Fin 128) (n : Fin 1024), (n : ℕ) = j → (l : ℕ) = (j : ℕ) % 128 → ∀ q0 q1 q2 q3 : Fin 32,
      v36 (ix3 0 q0 n) * (v25 (ix3 0 q0 l) * Ideal.div 1 (1 + Ideal.exp (0 - v25 (ix3 0 q0 l))))
        + v36 (ix3 0 q1 n) * (v25 (ix3 0 q1 l) * Ideal.div 1 (1 + Ideal.exp (0 - v25 (ix3 0 q1 l))))
        + v36 (ix3 0 q2 n) * (v25 (ix3 0 q2 l) * Ideal.div 1 (1 + Ideal.exp (0 - v25 (ix3 0 q2 l))))
        + v36 (ix3 0 q3 n) * (v25 (ix3 0 q3 l) * Ideal.div 1 (1 + Ideal.exp (0 - v25 (ix3 0 q3 l))))
      = v36 (ix3 0 q0 j) * silu (v25 (ix3 0 q0 ⟨(j : ℕ) % 128, by omega⟩)) + v36 (ix3 0 q1 j) * silu (v25 (ix3 0 q1 ⟨(j : ℕ) % 128, by omega⟩))
        + v36 (ix3 0 q2 j) * silu (v25 (ix3 0 q2 ⟨(j : ℕ) % 128, by omega⟩)) + v36 (ix3 0 q3 j) * silu (v25 (ix3 0 q3 ⟨(j : ℕ) % 128, by omega⟩)) := by
    intro l n hn hl q0 q1 q2 q3
    rw [e l n hn hl, e l n hn hl, e l n hn hl, e l n hn hl]
  clear e
  pointwise [k0_pay2, k0_pay7, k0_pay8, k0_pay9, k0_pay10, k0_pay11, k0_pay12, k0_pay13, k0_pay14]
  congr 1
  split_ifs <;> (refine f _ _ ?_ ?_ _ _ _ _ <;> dsimp only <;> omega)

/-- THE SUMS before trip `n`. -/
theorem st1_at (s : Fin 8) (j : Fin 1024) : ∀ n : ℕ, n ≤ 64 →
    st_k0_t1 (F := Ideal) Variants.none c none i arg2 harg2 arg3 harg3 arg4 harg4 arg5 harg5 (harg2.unread x0) (harg3.unread x1) k0_pay1 n (ix2 s j)
      = ∑ k ∈ Finset.range n, (((termN x0 x1 0 j (32 * k + s) + termN x0 x1 0 j (32 * k + (8 + s))) + termN x0 x1 0 j (32 * k + (16 + s))) + termN x0 x1 0 j (32 * k + (24 + s))) := by
  intro n
  induction n with
  | zero =>
    intro _
    rw [st_k0_t1_zero, Finset.sum_range_zero]
    pointwise [k0_pay1]
  | succ n ih =>
    intro hn
    have hk : n < k0_t1_loop.trips := by rw [trips1]; omega
    have e : ∀ (q : Fin 32), ldW1 arg3 harg3 x1 ⟨n, hk⟩ (ix3 0 q j) * silu (ldC1 arg2 harg2 x0 ⟨n, hk⟩ (ix3 0 q ⟨(j : ℕ) % 128, by omega⟩)) = termN x0 x1 0 j (32 * n + (q : ℕ)) := by
      intro q
      have h : 32 * n + (q : ℕ) < 2048 := by omega
      rw [ldW1_at arg3 harg3 x1 ⟨n, hk⟩ q j h, ldC1_at arg2 harg2 x0 ⟨n, hk⟩ q _ h]
      unfold termN
      rw [dif_pos h]
      rfl
    refine (congrFun (st_k0_t1_succ (F := Ideal) Variants.none c none i arg2 harg2 arg3 harg3 arg4 harg4 arg5 harg5 (harg2.unread x0) (harg3.unread x1) k0_pay1 ⟨n, hk⟩) (ix2 s j)).trans ?_
    rw [trip1, add1, e, e, e, e, ih (by omega), Finset.sum_range_succ]

/-- The eight sums of the last trip, summed. -/
theorem sum1 (j : Fin 1024) :
    ∑ s : Fin 8, st_k0_t1 (F := Ideal) Variants.none c none i arg2 harg2 arg3 harg3 arg4 harg4 arg5 harg5 (harg2.unread x0) (harg3.unread x1) k0_pay1 64 (ix2 s j)
      = ∑ r, term x0 x1 0 j r := by
  rw [← sum_termN, ← sum_trips]
  exact Finset.sum_congr rfl fun s _ => st1_at c i arg2 harg2 arg3 harg3 arg4 harg4 arg5 harg5 x0 x1 s j 64 le_rfl

/-- The store after the loop: the sums summed, and the bias. -/
theorem pay3_at (a : FVec Ideal S8x1024 .f32) (b : Vec Ideal S1x1x1024 .f32) (j : Fin 1024) :
    k0_pay3 (F := Ideal) a b (ix3 0 0 j) = ∑ s, a (ix2 s j) + b (ix3 0 0 j) := by
  pointwise [k0_pay3]

/-! ## The second sample's loop -/

/-- The loop has 64 trips. -/
theorem trips2 : k0_t2_loop.trips = 64 := by decide +kernel

/-- A trip reads 32 rows. -/
theorem off2 : ∀ k : Fin k0_t2_loop.trips, k0_off3 k = ![1, 32 * k.val, 0] ∧ k0_off4 k = ![0, 32 * k.val, 0] := by decide +kernel

/-- The rows of the conditioning that a trip loads. -/
def ldC2 (k : Fin k0_t2_loop.trips) : Vec Ideal S1x32x128 .f32 :=
  View.readAt (Elt Ideal) arg2.view (Rect.unit (s := S2x2048x128) (k0_off3 k) S1x32x128.size (k0_off3_inb k)).toLoadRect (harg2.unread x0)

/-- The rows of the weights that a trip loads. -/
def ldW2 (k : Fin k0_t2_loop.trips) : Vec Ideal S1x32x1024 .f32 :=
  View.readAt (Elt Ideal) arg3.view (Rect.unit (s := S1x2048x1024) (k0_off4 k) S1x32x1024.size (k0_off4_inb k)).toLoadRect (harg3.unread x1)

/-- The conditioning's rows, read. -/
theorem ldC2_at (k : Fin k0_t2_loop.trips) (q : Fin 32) (l : Fin 128) (h : 32 * k.val + (q : ℕ) < 2048) :
    ldC2 arg2 harg2 x0 k (ix3 0 q l) = x0 (ix3 1 ⟨32 * k.val + q, h⟩ l) := by
  refine (Memref.IsWhole.readAt_unread harg2 x0 _ _).trans (congrArg x0 ?_)
  funext a
  apply Fin.ext
  show k0_off3 k a + 1 * ((ix3 (0 : Fin 1) q l) a : ℕ) = _
  rw [(off2 k).1]
  fin_cases a
  · rfl
  · show 32 * k.val + 1 * (q : ℕ) = 32 * k.val + q; omega
  · show 0 + 1 * (l : ℕ) = l; omega

/-- The weights' rows, read. -/
theorem ldW2_at (k : Fin k0_t2_loop.trips) (q : Fin 32) (l : Fin 1024) (h : 32 * k.val + (q : ℕ) < 2048) :
    ldW2 arg3 harg3 x1 k (ix3 0 q l) = x1 (ix3 0 ⟨32 * k.val + q, h⟩ l) := by
  refine (Memref.IsWhole.readAt_unread harg3 x1 _ _).trans (congrArg x1 ?_)
  funext a
  apply Fin.ext
  show k0_off4 k a + 1 * ((ix3 (0 : Fin 1) q l) a : ℕ) = _
  rw [(off2 k).2]
  fin_cases a
  · rfl
  · show 32 * k.val + 1 * (q : ℕ) = 32 * k.val + q; omega
  · show 0 + 1 * (l : ℕ) = l; omega

/-- A trip, as a term of what it loads. -/
theorem trip2 (k : Fin k0_t2_loop.trips) (acc : FVec Ideal S8x1024 .f32) :
    tripR_k0_t2 (F := Ideal) Variants.none c none i arg2 harg2 arg3 harg3 arg4 harg4 arg5 harg5 (harg2.unread x0) (harg3.unread x1) k acc
      = k0_pay5 acc (k0_pay15 (ldC2 arg2 harg2 x0 k)) (k0_pay16 (ldW2 arg3 harg3 x1 k)) (k0_pay17 (ldC2 arg2 harg2 x0 k) (ldW2 arg3 harg3 x1 k)) (k0_pay18 (ldC2 arg2 harg2 x0 k) (ldW2 arg3 harg3 x1 k)) (k0_pay19 (ldC2 arg2 harg2 x0 k) (ldW2 arg3 harg3 x1 k)) (k0_pay21 (ldC2 arg2 harg2 x0 k) (ldW2 arg3 harg3 x1 k)) (k0_pay22 (ldC2 arg2 harg2 x0 k) (ldW2 arg3 harg3 x1 k)) := by
  unfold tripR_k0_t2 trip_k0_t2
  rfl

set_option maxHeartbeats 4000000 in
/-- What a trip adds: four rows' terms to each of the eight sums. -/
theorem add2 (acc : FVec Ideal S8x1024 .f32) (v25 : Vec Ideal S1x32x128 .f32) (v36 : Vec Ideal S1x32x1024 .f32) (s : Fin 8) (j : Fin 1024) :
    k0_pay5 (F := Ideal) acc (k0_pay15 v25) (k0_pay16 v36) (k0_pay17 v25 v36) (k0_pay18 v25 v36) (k0_pay19 v25 v36) (k0_pay21 v25 v36) (k0_pay22 v25 v36) (ix2 s j)
      = acc (ix2 s j) + (((v36 (ix3 0 ⟨(s : ℕ), by omega⟩ j) * silu (v25 (ix3 0 ⟨(s : ℕ), by omega⟩ ⟨(j : ℕ) % 128, by omega⟩))
          + v36 (ix3 0 ⟨8 + (s : ℕ), by omega⟩ j) * silu (v25 (ix3 0 ⟨8 + (s : ℕ), by omega⟩ ⟨(j : ℕ) % 128, by omega⟩)))
          + v36 (ix3 0 ⟨16 + (s : ℕ), by omega⟩ j) * silu (v25 (ix3 0 ⟨16 + (s : ℕ), by omega⟩ ⟨(j : ℕ) % 128, by omega⟩)))
          + v36 (ix3 0 ⟨24 + (s : ℕ), by omega⟩ j) * silu (v25 (ix3 0 ⟨24 + (s : ℕ), by omega⟩ ⟨(j : ℕ) % 128, by omega⟩))) := by
  have e : ∀ (l : Fin 128) (n : Fin 1024), (n : ℕ) = j → (l : ℕ) = (j : ℕ) % 128 → ∀ q : Fin 32,
      v36 (ix3 0 q n) * (v25 (ix3 0 q l) * Ideal.div 1 (1 + Ideal.exp (0 - v25 (ix3 0 q l)))) = v36 (ix3 0 q j) * silu (v25 (ix3 0 q ⟨(j : ℕ) % 128, by omega⟩)) := by
    intro l n hn hl q
    have hn' : n = j := Fin.ext hn
    have hl' : l = ⟨(j : ℕ) % 128, by omega⟩ := Fin.ext hl
    rw [hn', hl', zero_sub]
    rfl
  have f : ∀ (l : Fin 128) (n : Fin 1024), (n : ℕ) = j → (l : ℕ) = (j : ℕ) % 128 → ∀ q0 q1 q2 q3 : Fin 32,
      v36 (ix3 0 q0 n) * (v25 (ix3 0 q0 l) * Ideal.div 1 (1 + Ideal.exp (0 - v25 (ix3 0 q0 l))))
        + v36 (ix3 0 q1 n) * (v25 (ix3 0 q1 l) * Ideal.div 1 (1 + Ideal.exp (0 - v25 (ix3 0 q1 l))))
        + v36 (ix3 0 q2 n) * (v25 (ix3 0 q2 l) * Ideal.div 1 (1 + Ideal.exp (0 - v25 (ix3 0 q2 l))))
        + v36 (ix3 0 q3 n) * (v25 (ix3 0 q3 l) * Ideal.div 1 (1 + Ideal.exp (0 - v25 (ix3 0 q3 l))))
      = v36 (ix3 0 q0 j) * silu (v25 (ix3 0 q0 ⟨(j : ℕ) % 128, by omega⟩)) + v36 (ix3 0 q1 j) * silu (v25 (ix3 0 q1 ⟨(j : ℕ) % 128, by omega⟩))
        + v36 (ix3 0 q2 j) * silu (v25 (ix3 0 q2 ⟨(j : ℕ) % 128, by omega⟩)) + v36 (ix3 0 q3 j) * silu (v25 (ix3 0 q3 ⟨(j : ℕ) % 128, by omega⟩)) := by
    intro l n hn hl q0 q1 q2 q3
    rw [e l n hn hl, e l n hn hl, e l n hn hl, e l n hn hl]
  clear e
  pointwise [k0_pay5, k0_pay15, k0_pay16, k0_pay17, k0_pay18, k0_pay19, k0_pay20, k0_pay21, k0_pay22]
  congr 1
  split_ifs <;> (refine f _ _ ?_ ?_ _ _ _ _ <;> dsimp only <;> omega)

/-- THE SUMS before trip `n`. -/
theorem st2_at (s : Fin 8) (j : Fin 1024) : ∀ n : ℕ, n ≤ 64 →
    st_k0_t2 (F := Ideal) Variants.none c none i arg2 harg2 arg3 harg3 arg4 harg4 arg5 harg5 (harg2.unread x0) (harg3.unread x1) k0_pay4 n (ix2 s j)
      = ∑ k ∈ Finset.range n, (((termN x0 x1 1 j (32 * k + s) + termN x0 x1 1 j (32 * k + (8 + s))) + termN x0 x1 1 j (32 * k + (16 + s))) + termN x0 x1 1 j (32 * k + (24 + s))) := by
  intro n
  induction n with
  | zero =>
    intro _
    rw [st_k0_t2_zero, Finset.sum_range_zero]
    pointwise [k0_pay4]
  | succ n ih =>
    intro hn
    have hk : n < k0_t2_loop.trips := by rw [trips2]; omega
    have e : ∀ (q : Fin 32), ldW2 arg3 harg3 x1 ⟨n, hk⟩ (ix3 0 q j) * silu (ldC2 arg2 harg2 x0 ⟨n, hk⟩ (ix3 0 q ⟨(j : ℕ) % 128, by omega⟩)) = termN x0 x1 1 j (32 * n + (q : ℕ)) := by
      intro q
      have h : 32 * n + (q : ℕ) < 2048 := by omega
      rw [ldW2_at arg3 harg3 x1 ⟨n, hk⟩ q j h, ldC2_at arg2 harg2 x0 ⟨n, hk⟩ q _ h]
      unfold termN
      rw [dif_pos h]
      rfl
    refine (congrFun (st_k0_t2_succ (F := Ideal) Variants.none c none i arg2 harg2 arg3 harg3 arg4 harg4 arg5 harg5 (harg2.unread x0) (harg3.unread x1) k0_pay4 ⟨n, hk⟩) (ix2 s j)).trans ?_
    rw [trip2, add2, e, e, e, e, ih (by omega), Finset.sum_range_succ]

/-- The eight sums of the last trip, summed. -/
theorem sum2 (j : Fin 1024) :
    ∑ s : Fin 8, st_k0_t2 (F := Ideal) Variants.none c none i arg2 harg2 arg3 harg3 arg4 harg4 arg5 harg5 (harg2.unread x0) (harg3.unread x1) k0_pay4 64 (ix2 s j)
      = ∑ r, term x0 x1 1 j r := by
  rw [← sum_termN, ← sum_trips]
  exact Finset.sum_congr rfl fun s _ => st2_at c i arg2 harg2 arg3 harg3 arg4 harg4 arg5 harg5 x0 x1 s j 64 le_rfl

/-- The store after the loop: the sums summed, and the bias. -/
theorem pay6_at (a : FVec Ideal S8x1024 .f32) (b : Vec Ideal S1x1x1024 .f32) (j : Fin 1024) :
    k0_pay6 (F := Ideal) a b (ix3 0 0 j) = ∑ s, a (ix2 s j) + b (ix3 0 0 j) := by
  pointwise [k0_pay6]

/-! ## A point's block, and the array -/

/-- A point's trip count. -/
theorem trips64 : Scf.trips (0#32) (Scalar.addi 0#32 64#32) 1#32 = 64 := by decide +kernel

/-- An index, by its coordinates. -/
theorem idx3_eq {a b c : ℕ} (x : (⟨3, ![a, b, c]⟩ : Shape).Idx) : x = ix3 (x 0) (x 1) (x 2) := by funext j; fin_cases j <;> rfl

/-- A point's result block. -/
theorem out_at (b : Fin 2) (j : Fin 1024) :
    out0_A_3 (F := Ideal) c i arg2 harg2 arg3 harg3 arg4 harg4 arg5 harg5 x0 x1 x2 (ix3 0 b j) = (∑ r, term x0 x1 b j r) + x2 (ix3 0 0 j) := by
  unfold out0_A_3
  frame_out
  canon_tiles x h
  · have g1 : (b : ℕ) = 1 + ((x 1 : Fin 1) : ℕ) := h1
    have g2 : (j : ℕ) = ((x 2 : Fin 1024) : ℕ) := h2
    have hx : x = ix3 0 0 j := by
      funext a
      fin_cases a
      · exact Subsingleton.elim (α := Fin 1) _ _
      · exact Subsingleton.elim (α := Fin 1) _ _
      · exact Fin.ext g2.symm
    have hb : b = 1 := Fin.ext (by omega)
    rw [hb]
    refine (congrArg _ hx).trans ((pay6_at _ _ j).trans (congrArg (· + x2 (ix3 0 0 j)) ?_))
    rw [trips64]
    exact sum2 c i arg2 harg2 arg3 harg3 arg4 harg4 arg5 harg5 x0 x1 j
  · have g1 : (b : ℕ) = ((x 1 : Fin 1) : ℕ) := h1
    have g2 : (j : ℕ) = ((x 2 : Fin 1024) : ℕ) := h2
    have hx : x = ix3 0 0 j := by
      funext a
      fin_cases a
      · exact Subsingleton.elim (α := Fin 1) _ _
      · exact Subsingleton.elim (α := Fin 1) _ _
      · exact Fin.ext g2.symm
    have hb : b = 0 := Fin.ext (by omega)
    rw [hb]
    refine (congrArg _ hx).trans ((pay3_at _ _ j).trans (congrArg (· + x2 (ix3 0 0 j)) ?_))
    rw [trips64]
    exact sum1 c i arg2 harg2 arg3 harg3 arg4 harg4 arg5 harg5 x0 x1 j

variable (m : (l : Loc nD τ sig) → Buf (Elt Ideal) l)

/-- The layer of a point. -/
def layer (t : Fin cfg0.N) : Fin 4 := ⟨t.val / 12, by have h : t.val < 48 := t.isLt; omega⟩

/-- A column of a point's block, in the array. -/
def col (t : Fin cfg0.N) (j : Fin 1024) : Fin 12288 := ⟨t.val % 12 * 1024 + (j : ℕ), by omega⟩

/-- The windows' block indices: point `t` takes layer `t / 12` and block `t % 12` of the columns. -/
theorem idx : ∀ t : Fin cfg0.N, win0_0.index t = ![0, 0, 0] ∧ win0_1.index t = ![t.val / 12, 0, t.val % 12] ∧ win0_2.index t = ![t.val / 12, 0, t.val % 12] ∧ win0_3.index t = ![t.val / 12, 0, t.val % 12] :=
  (by decide +kernel : ∀ t : Fin grid0.N, _)

/-- The conditioning. -/
abbrev aC : FVec Ideal ⟨2, ![2, 2048]⟩ .f32 := m ((c : Thread nD τ).loc main_arg0)
/-- The weights. -/
abbrev aW : FVec Ideal ⟨3, ![4, 2048, 12288]⟩ .f32 := m ((c : Thread nD τ).loc main_arg1)
/-- The biases. -/
abbrev aB : FVec Ideal ⟨2, ![4, 12288]⟩ .f32 := m ((c : Thread nD τ).loc main_arg2)

/-- The conditioning that the kernel reads, laid along lanes. -/
theorem vC (b : Fin 2) (r : Fin 2048) (l : Fin 128) : (V m c main_v1 : FVec Ideal S2x2048x128 .f32) (ix3 b r l) = aC c m (ix2 b r) := by
  have h : (V m c main_v1 : FVec Ideal S2x2048x128 .f32) = broadcastInDim S2x2048x128 ![0, 1, 2] bcast_S2x2048x1_S2x2048x128_0_1_2
      (broadcastInDim S2x2048x1 ![0, 1] bcast_S2x2048_S2x2048x1_0_1 (aC c m : FVec Ideal S2x2048 .f32)) := by
    show StableHlo.after hostOps0 _ (Proc.devRef .tc main_v1) = _
    after_results
  rw [h]
  pointwise

/-- The biases that the kernel reads, with an axis of length one. -/
theorem vB (l : Fin 4) (n : Fin 12288) : (V m c main_v2 : FVec Ideal S4x1x12288 .f32) (ix3 l 0 n) = aB c m (ix2 l n) := by
  have h : (V m c main_v2 : FVec Ideal S4x1x12288 .f32) = shapeCast S4x1x12288 (aB c m : FVec Ideal S4x12288 .f32) shapeCasts_S4x12288_S4x1x12288 := by
    show StableHlo.after hostOps0 _ (Proc.devRef .tc main_v2) = _
    after_results
    rfl
  rw [h]
  pointwise

/-- A point's block of the conditioning, read. -/
theorem blkC (t : Fin cfg0.N) (b : Fin 2) (r : Fin 2048) (l : Fin 128) : (iblk m c 0 t : Vec Ideal S2x2048x128 .f32) (ix3 b r l) = aC c m (ix2 b r) := by
  rw [← vC c m b r l]
  blk_ext [iblk, idx t]

/-- A point's block of the weights, read. -/
theorem blkW (t : Fin cfg0.N) (r : Fin 2048) (j : Fin 1024) : (iblk m c 1 t : Vec Ideal S1x2048x1024 .f32) (ix3 0 r j) = aW c m (ix3 (layer t) r (col t j)) := by
  unfold layer col
  blk_ext [iblk, V, idx t]

/-- A point's block of the biases, read. -/
theorem blkB (t : Fin cfg0.N) (j : Fin 1024) : (iblk m c 2 t : Vec Ideal S1x1x1024 .f32) (ix3 0 0 j) = aB c m (ix2 (layer t) (col t j)) := by
  rw [← vB]
  unfold layer col
  blk_ext [iblk, idx t]

/-- What point `t` writes. -/
theorem outs (t : Fin cfg0.N) (b : Fin 2) (j : Fin 1024) : outsAt0 m c t (ix3 0 b j) = result (aC c m) (aW c m) (aB c m) (layer t) b (col t j) := by
  unfold outsAt0
  rw [out_at]
  unfold result
  refine congrArg₂ (· + ·) (Finset.sum_congr rfl fun r _ => ?_) (blkB c m t j)
  unfold term
  exact congrArg₂ (· * ·) (blkW c m t r j) (congrArg silu (blkC c m t b r _))

/-- THE ARRAY after the run. -/
theorem final : (dats m 0 c).arrAt 3 cfg0.N = fun i : S4x2x12288.Idx => result (aC c m) (aW c m) (aB c m) (i 0) (i 1) (i 2) := by
  refine (dats m 0 c).arrAt_eq_of_covers 3 _ (by decide +kernel) fun t hf y => ?_
  blk_simp
  rw [after0_3]
  have hy : y = ix3 0 (y 1) (y 2) := by
    funext a
    fin_cases a
    · exact Subsingleton.elim (α := Fin 1) _ _
    · rfl
    · rfl
  refine ((congrArg (outsAt0 m c t) hy).trans (outs c m t (y 1) (y 2))).trans ?_
  have e0 : layer t = (win0_3.blk t).view.emb y 0 := Fin.ext (by unfold layer; blk_simp [idx t])
  have e1 : (y 1 : Fin 2) = (win0_3.blk t).view.emb y 1 := Fin.ext (by blk_simp [idx t])
  have e2 : col t (y 2) = (win0_3.blk t).view.emb y 2 := Fin.ext (by unfold col; blk_simp [idx t])
  exact (congrArg (fun l => result (aC c m) (aW c m) (aB c m) l (y 1) (col t (y 2))) e0).trans (congrArg₂ (fun b n => result (aC c m) (aW c m) (aB c m) _ b n) e1 e2)

end Cert.Kernel7Ideal.Modulation

namespace Cert.Proof.Modulation

open Idealize.ShloMosaic Idealize.ShloMosaic.TcCoe Idealize.SL.Sem
open Cert.Modulation

/-- The kernel runs from every memory. -/
theorem frameK : Cert.quiescent_Kernel7 (hKernel7 := Cert.Kernel7.Gen.facts) :=
  fun m ρ _ => Cert.Kernel7.Gen.frame m ρ

/-- The kernel at exact arithmetic runs from every memory. -/
theorem frameKI : Cert.quiescent_Kernel7Ideal (hKernel7Ideal := Cert.Kernel7Ideal.Gen.facts) :=
  fun m ρ _ => Cert.Kernel7Ideal.Gen.frame m ρ

/-- The reference at exact arithmetic runs from every memory. -/
theorem frameRI : Cert.quiescent_Reference7Ideal (hReference7Ideal := Cert.Reference7Ideal.Gen.facts) :=
  fun m ρ _ => (θ_run Cert.Reference7Ideal.defs _ _).mono
    (fun r h => ⟨fun c => (h c).2, Idealize.ShloMosaic.sem_eq_zero_of_no_sems (by decide) r.2⟩) (Cert.Reference7Ideal.Value.run (F := Ideal) m ρ)

/-- The reference's array. -/
theorem ref_final (C : FVec Ideal ⟨2, ![2, 2048]⟩ .f32) (W : FVec Ideal ⟨3, ![4, 2048, 12288]⟩ .f32) (B : FVec Ideal ⟨2, ![4, 12288]⟩ .f32) :
    Cert.Reference7Ideal.Modulation.outT C W B = fun i => result C W B (i 0) (i 1) (i 2) := by
  funext i
  have hi : i = ix3 (i 0) (i 1) (i 2) := by funext a; fin_cases a <;> rfl
  exact (congrArg (Cert.Reference7Ideal.Modulation.outT C W B) hi).trans (Cert.Reference7Ideal.Modulation.outT_at C W B (i 0) (i 1) (i 2))

/-- THE VALUE CLAIM: the kernel and the reference end with the same result. -/
theorem value : Cert.algebraic_Kernel7Ideal_Reference7Ideal (hKernel7Ideal := Cert.Kernel7Ideal.Gen.facts) (hReference7Ideal := Cert.Reference7Ideal.Gen.facts) := by
  intro m ρ m' ρ' _ hagree
  refine ⟨_, Cert.Kernel7Ideal.Value.run_blocks (F := Ideal) m ρ, ?_⟩
  refine (θ_run Cert.Reference7Ideal.defs _ _).mono (fun _ h c => ⟨(h c).1.trans ?_, (h c).2⟩) (Cert.Reference7Ideal.Value.run (F := Ideal) m' ρ')
  refine Eq.trans ?_ (Cert.Kernel7Ideal.Modulation.final c m).symm
  have h0 := (hagree c).1
  have h1 := (hagree c).2.1
  have h2 := (hagree c).2.2
  rw [h0, h1, h2]
  exact ref_final _ _ _

end Cert.Proof.Modulation

end
-- ==== Proof.lean ====
module

public import proofs.«01_k».proof.Defs
public import proofs.«01_k».proof.Proof.Retention
public import proofs.«01_k».proof.Proof.Experts
public import proofs.«01_k».proof.Proof.Inproj
public import proofs.«01_k».proof.Proof.Outproj
public import proofs.«01_k».proof.Proof.Fnorm
public import proofs.«01_k».proof.Proof.Rope
public import proofs.«01_k».proof.Proof.Modulation

@[expose] public section

noncomputable section

namespace Cert.Proof

/-- Everything claimed. -/
theorem claim : Cert.Claim :=
  ⟨Cert.Kernel.Gen.facts, Cert.KernelIdeal.Gen.facts, Cert.ReferenceIdeal.Gen.facts,
   Cert.Kernel2.Gen.facts, Cert.Kernel2Ideal.Gen.facts, Cert.Reference2Ideal.Gen.facts,
   Cert.Kernel3.Gen.facts, Cert.Kernel3Ideal.Gen.facts, Cert.Reference3Ideal.Gen.facts,
   Cert.Kernel4.Gen.facts, Cert.Kernel4Ideal.Gen.facts, Cert.Reference4Ideal.Gen.facts,
   Cert.Kernel5.Gen.facts, Cert.Kernel5Ideal.Gen.facts, Cert.Reference5Ideal.Gen.facts,
   Cert.Kernel6.Gen.facts, Cert.Kernel6Ideal.Gen.facts, Cert.Reference6Ideal.Gen.facts,
   Cert.Kernel7.Gen.facts, Cert.Kernel7Ideal.Gen.facts, Cert.Reference7Ideal.Gen.facts, Cert.Pre_planned.Gen.facts,
   Retention.frameK, Retention.frameKI, Retention.frameRI, Experts.frameK, Experts.frameKI, Experts.frameRI, Experts.frameRIplanned,
   Inproj.frameK, Inproj.frameKI, Inproj.frameRI, Outproj.frameK, Outproj.frameKI, Outproj.frameRI,
   Fnorm.frameK, Fnorm.frameKI, Fnorm.frameRI, Rope.frameK, Rope.frameKI, Rope.frameRI,
   Modulation.frameK, Modulation.frameKI, Modulation.frameRI,
   Retention.named, Retention.value, trivial, Experts.value, trivial, Inproj.value, trivial, Outproj.value,
   trivial, Fnorm.value, Rope.named, Rope.value, trivial, Modulation.value⟩

end Cert.Proof

end
